-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_NmsIdeal (m : (ℓ : Loc Cert.NmsIdeal.nD Cert.NmsIdeal.τ Cert.NmsIdeal.sig) → Buf (Elt Ideal) ℓ) : Prop :=
  True

def Pre_NmsReferenceIdeal (m : (ℓ : Loc Cert.NmsReferenceIdeal.nD Cert.NmsReferenceIdeal.τ Cert.NmsReferenceIdeal.sig) → Buf (Elt Ideal) ℓ) : Prop :=
  True

def Pre_Sort (m : (ℓ : Loc Cert.Sort.nD Cert.Sort.τ Cert.Sort.sig) → Buf (Elt Bits) ℓ) : Prop :=
  True

def Pre_Sort_sign_clear [hPre_sign_clear : Cert.Pre_sign_clear.Facts] (m : (ℓ : Loc Cert.Sort.nD Cert.Sort.τ Cert.Sort.sig) → Buf (Elt Bits) ℓ) : Prop :=
  ∀ c : Dev Cert.Sort.nD,
    (Cert.Pre_sign_clear.fn (F := Bits) (m ((c.tc : Thread Cert.Sort.nD Cert.Sort.τ).loc Cert.Sort.main_arg0))) = (fun _ => 1#1)

def Pre_SortReference (m : (ℓ : Loc Cert.SortReference.nD Cert.SortReference.τ Cert.SortReference.sig) → Buf (Elt Bits) ℓ) : Prop :=
  True

def Pre_SortReference_sign_clear [hPre_sign_clear : Cert.Pre_sign_clear.Facts] (m : (ℓ : Loc Cert.SortReference.nD Cert.SortReference.τ Cert.SortReference.sig) → Buf (Elt Bits) ℓ) : Prop :=
  ∀ c : Dev Cert.SortReference.nD,
    (Cert.Pre_sign_clear.fn (F := Bits) (m ((c.tc : Thread Cert.SortReference.nD Cert.SortReference.τ).loc Cert.SortReference.main_arg0))) = (fun _ => 1#1)

def Pre_WholeIdeal [hPre_bits_clear : Cert.Pre_bits_clear.Facts] (m : (ℓ : Loc Cert.WholeIdeal.nD Cert.WholeIdeal.τ Cert.WholeIdeal.sig) → Buf (Elt Ideal) ℓ) : Prop :=
  ∀ c : Dev Cert.WholeIdeal.nD,
    (Cert.Pre_bits_clear.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_bits_clear [hPre_bits_clear : Cert.Pre_bits_clear.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_bits_clear.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0))
      ∧ r.2.sem = fun _ => 0)

def quiescent_NmsReferenceIdeal [hNmsReferenceIdeal : Cert.NmsReferenceIdeal.Facts] : Prop :=
  ∀ (m : (ℓ : Loc Cert.NmsReferenceIdeal.nD Cert.NmsReferenceIdeal.τ Cert.NmsReferenceIdeal.sig) → Buf (Elt Ideal) ℓ) (g : Dev Cert.NmsReferenceIdeal.nD → PrngReg), Pre_NmsReferenceIdeal m →
    θ_run (Cert.NmsReferenceIdeal.defs (F := Ideal)) (onTc (τ := Cert.NmsReferenceIdeal.τ) (Cert.NmsReferenceIdeal.main (F := Ideal))) ⟨m, fun _ => 0, g⟩ (fun r => (∀ c : Dev Cert.NmsReferenceIdeal.nD,
      r.2.mem ((c.tc : Thread Cert.NmsReferenceIdeal.nD Cert.NmsReferenceIdeal.τ).loc Cert.NmsReferenceIdeal.main_arg0) = m ((c.tc : Thread Cert.NmsReferenceIdeal.nD Cert.NmsReferenceIdeal.τ).loc Cert.NmsReferenceIdeal.main_arg0))
      ∧ r.2.sem = fun _ => 0)

def quiescent_Sort [hSort : Cert.Sort.Facts] : Prop :=
  ∀ (m : (ℓ : Loc Cert.Sort.nD Cert.Sort.τ Cert.Sort.sig) → Buf (Elt Bits) ℓ) (g : Dev Cert.Sort.nD → PrngReg), Pre_Sort m →
    θ_run (Cert.Sort.defs (F := Bits)) (onTc (τ := Cert.Sort.τ) (Cert.Sort.main (F := Bits))) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0))
      ∧ r.2.sem = fun _ => 0)

def quiescent_Sort_pre_sign_clear [hSort : Cert.Sort.Facts] [hPre_sign_clear : Cert.Pre_sign_clear.Facts] : Prop :=
  ∀ (m : (ℓ : Loc Cert.Sort.nD Cert.Sort.τ Cert.Sort.sig) → Buf (Elt Bits) ℓ) (g : Dev Cert.Sort.nD → PrngReg), Pre_Sort_sign_clear m →
    θ_run (Cert.Sort.defs (F := Bits)) (onTc (τ := Cert.Sort.τ) (Cert.Sort.main (F := Bits))) ⟨m, fun _ => 0, g⟩ (fun r => (∀ c : Dev Cert.Sort.nD,
      r.2.mem ((c.tc : Thread Cert.Sort.nD Cert.Sort.τ).loc Cert.Sort.main_arg0) = m ((c.tc : Thread Cert.Sort.nD Cert.Sort.τ).loc Cert.Sort.main_arg0))
      ∧ r.2.sem = fun _ => 0)

def quiescent_SortReference [hSortReference : Cert.SortReference.Facts] : Prop :=
  ∀ (m : (ℓ : Loc Cert.SortReference.nD Cert.SortReference.τ Cert.SortReference.sig) → Buf (Elt Bits) ℓ) (g : Dev Cert.SortReference.nD → PrngReg), Pre_SortReference m →
    θ_run (Cert.SortReference.defs (F := Bits)) (onTc (τ := Cert.SortReference.τ) (Cert.SortReference.main (F := Bits))) ⟨m, fun _ => 0, g⟩ (fun r => (∀ c : Dev Cert.SortReference.nD,
      r.2.mem ((c.tc : Thread Cert.SortReference.nD Cert.SortReference.τ).loc Cert.SortReference.main_arg0) = m ((c.tc : Thread Cert.SortReference.nD Cert.SortReference.τ).loc Cert.SortReference.main_arg0))
      ∧ r.2.sem = fun _ => 0)

def quiescent_SortReference_pre_sign_clear [hSortReference : Cert.SortReference.Facts] [hPre_sign_clear : Cert.Pre_sign_clear.Facts] : Prop :=
  ∀ (m : (ℓ : Loc Cert.SortReference.nD Cert.SortReference.τ Cert.SortReference.sig) → Buf (Elt Bits) ℓ) (g : Dev Cert.SortReference.nD → PrngReg), Pre_SortReference_sign_clear m →
    θ_run (Cert.SortReference.defs (F := Bits)) (onTc (τ := Cert.SortReference.τ) (Cert.SortReference.main (F := Bits))) ⟨m, fun _ => 0, g⟩ (fun r => (∀ c : Dev Cert.SortReference.nD,
      r.2.mem ((c.tc : Thread Cert.SortReference.nD Cert.SortReference.τ).loc Cert.SortReference.main_arg0) = m ((c.tc : Thread Cert.SortReference.nD Cert.SortReference.τ).loc Cert.SortReference.main_arg0))
      ∧ r.2.sem = fun _ => 0)

def quiescent_WholeIdeal [hWholeIdeal : Cert.WholeIdeal.Facts] [hPre_bits_clear : Cert.Pre_bits_clear.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def quiescent_WholeReferenceIdeal_pre_bits_clear [hWholeReferenceIdeal : Cert.WholeReferenceIdeal.Facts] [hPre_bits_clear : Cert.Pre_bits_clear.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_bits_clear m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_NmsIdeal_NmsReferenceIdeal [hNmsIdeal : Cert.NmsIdeal.Facts] [hNmsReferenceIdeal : Cert.NmsReferenceIdeal.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsReferenceIdeal.nD Cert.NmsReferenceIdeal.τ Cert.NmsReferenceIdeal.sig) → Buf (Elt Ideal) ℓ) (g' : Dev Cert.NmsReferenceIdeal.nD → PrngReg), Pre_NmsIdeal m →
    (∀ c : Dev Cert.NmsIdeal.nD,
      m' ((c.tc : Thread Cert.NmsReferenceIdeal.nD Cert.NmsReferenceIdeal.τ).loc Cert.NmsReferenceIdeal.main_arg0) = m ((c.tc : Thread Cert.NmsIdeal.nD Cert.NmsIdeal.τ).loc Cert.NmsIdeal.main_arg0)) →
    ∃ (v0 : (c : Dev Cert.NmsIdeal.nD) → Buf (Elt Ideal) ((c.tc : Thread Cert.NmsIdeal.nD Cert.NmsIdeal.τ).loc Cert.NmsIdeal.main_v3)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v3) = v0 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0))
      ∧ θ_run (Cert.NmsReferenceIdeal.defs (F := Ideal)) (onTc (τ := Cert.NmsReferenceIdeal.τ) (Cert.NmsReferenceIdeal.main (F := Ideal))) ⟨m', fun _ => 0, g'⟩ (fun r => ∀ c : Dev Cert.NmsReferenceIdeal.nD,
          r.2.mem ((c.tc : Thread Cert.NmsReferenceIdeal.nD Cert.NmsReferenceIdeal.τ).loc Cert.NmsReferenceIdeal.main_v63) = v0 c
          ∧ r.2.mem ((c.tc : Thread Cert.NmsReferenceIdeal.nD Cert.NmsReferenceIdeal.τ).loc Cert.NmsReferenceIdeal.main_arg0) = m' ((c.tc : Thread Cert.NmsReferenceIdeal.nD Cert.NmsReferenceIdeal.τ).loc Cert.NmsReferenceIdeal.main_arg0))

def bitexact_Sort_SortReference_pre_sign_clear [hSort : Cert.Sort.Facts] [hSortReference : Cert.SortReference.Facts] [hPre_sign_clear : Cert.Pre_sign_clear.Facts] : Prop :=
  ∀ (m : (ℓ : Loc Cert.Sort.nD Cert.Sort.τ Cert.Sort.sig) → Buf (Elt Bits) ℓ) (g : Dev Cert.Sort.nD → PrngReg)
    (m' : (ℓ : Loc Cert.SortReference.nD Cert.SortReference.τ Cert.SortReference.sig) → Buf (Elt Bits) ℓ) (g' : Dev Cert.SortReference.nD → PrngReg), Pre_Sort_sign_clear m →
    (∀ c : Dev Cert.Sort.nD,
      m' ((c.tc : Thread Cert.SortReference.nD Cert.SortReference.τ).loc Cert.SortReference.main_arg0) = m ((c.tc : Thread Cert.Sort.nD Cert.Sort.τ).loc Cert.Sort.main_arg0)) →
    ∃ (v0 : (c : Dev Cert.Sort.nD) → Buf (Elt Bits) ((c.tc : Thread Cert.Sort.nD Cert.Sort.τ).loc Cert.Sort.main_v5)),
      θ_run (Cert.Sort.defs (F := Bits)) (onTc (τ := Cert.Sort.τ) (Cert.Sort.main (F := Bits))) ⟨m, fun _ => 0, g⟩ (fun r => ∀ c : Dev Cert.Sort.nD,
          r.2.mem ((c.tc : Thread Cert.Sort.nD Cert.Sort.τ).loc Cert.Sort.main_v5) = v0 c
          ∧ r.2.mem ((c.tc : Thread Cert.Sort.nD Cert.Sort.τ).loc Cert.Sort.main_arg0) = m ((c.tc : Thread Cert.Sort.nD Cert.Sort.τ).loc Cert.Sort.main_arg0))
      ∧ θ_run (Cert.SortReference.defs (F := Bits)) (onTc (τ := Cert.SortReference.τ) (Cert.SortReference.main (F := Bits))) ⟨m', fun _ => 0, g'⟩ (fun r => ∀ c : Dev Cert.SortReference.nD,
          r.2.mem ((c.tc : Thread Cert.SortReference.nD Cert.SortReference.τ).loc Cert.SortReference.main_v1) = v0 c
          ∧ r.2.mem ((c.tc : Thread Cert.SortReference.nD Cert.SortReference.τ).loc Cert.SortReference.main_arg0) = m' ((c.tc : Thread Cert.SortReference.nD Cert.SortReference.τ).loc Cert.SortReference.main_arg0))

def algebraic_WholeIdeal_WholeReferenceIdeal [hWholeIdeal : Cert.WholeIdeal.Facts] [hWholeReferenceIdeal : Cert.WholeReferenceIdeal.Facts] [hPre_bits_clear : Cert.Pre_bits_clear.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)) →
    ∃ (v0 : (c : Dev Cert.WholeIdeal.nD) → Buf (Elt Ideal) ((c.tc : Thread Cert.WholeIdeal.nD Cert.WholeIdeal.τ).loc Cert.WholeIdeal.main_v11)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v11) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v60) = v0 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1))

def Claim : Prop :=
  ∃ (hKernel : Cert.Kernel.Facts) (hKernelIdeal : Cert.KernelIdeal.Facts) (hReferenceIdeal : Cert.ReferenceIdeal.Facts) (hNmsIdeal : Cert.NmsIdeal.Facts) (hNmsReferenceIdeal : Cert.NmsReferenceIdeal.Facts) (hSort : Cert.Sort.Facts) (hSortReference : Cert.SortReference.Facts) (hWholeIdeal : Cert.WholeIdeal.Facts) (hWholeReferenceIdeal : Cert.WholeReferenceIdeal.Facts) (hPre_idx_in_rows : Cert.Pre_idx_in_rows.Facts) (hPre_sign_clear : Cert.Pre_sign_clear.Facts) (hPre_bits_clear : Cert.Pre_bits_clear.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_NmsIdeal (hNmsIdeal := hNmsIdeal)
    ∧ quiescent_NmsReferenceIdeal (hNmsReferenceIdeal := hNmsReferenceIdeal)
    ∧ quiescent_Sort (hSort := hSort)
    ∧ quiescent_Sort_pre_sign_clear (hSort := hSort) (hPre_sign_clear := hPre_sign_clear)
    ∧ quiescent_SortReference (hSortReference := hSortReference)
    ∧ quiescent_SortReference_pre_sign_clear (hSortReference := hSortReference) (hPre_sign_clear := hPre_sign_clear)
    ∧ quiescent_WholeIdeal (hWholeIdeal := hWholeIdeal) (hPre_bits_clear := hPre_bits_clear)
    ∧ quiescent_WholeReferenceIdeal (hWholeReferenceIdeal := hWholeReferenceIdeal)
    ∧ quiescent_WholeReferenceIdeal_pre_bits_clear (hWholeReferenceIdeal := hWholeReferenceIdeal) (hPre_bits_clear := hPre_bits_clear)
    ∧ preserves_Kernel_KernelIdeal
    ∧ algebraic_KernelIdeal_ReferenceIdeal (hKernelIdeal := hKernelIdeal) (hReferenceIdeal := hReferenceIdeal) (hPre_idx_in_rows := hPre_idx_in_rows)
    ∧ algebraic_NmsIdeal_NmsReferenceIdeal (hNmsIdeal := hNmsIdeal) (hNmsReferenceIdeal := hNmsReferenceIdeal)
    ∧ bitexact_Sort_SortReference_pre_sign_clear (hSort := hSort) (hSortReference := hSortReference) (hPre_sign_clear := hPre_sign_clear)
    ∧ algebraic_WholeIdeal_WholeReferenceIdeal (hWholeIdeal := hWholeIdeal) (hWholeReferenceIdeal := hWholeReferenceIdeal) (hPre_bits_clear := hPre_bits_clear)
-- ==== Pre_bits_clear.lean ====
abbrev S4x20000 : Shape := ⟨2, ![4, 20000]⟩
abbrev S4x20000x4 : Shape := ⟨3, ![4, 20000, 4]⟩
abbrev S_ : Shape := ⟨0, ![]⟩

class Facts : Prop where
  bcast_S_S4x20000 : S_.BroadcastsInDim S4x20000 (![] : Fin 0 → Fin S4x20000.rank)
  reducesTo_S4x20000_S_d0_1 : S4x20000.ReducesTo [0, 1] S_
  h_S_ : 0 < S_.numel

variable [Facts]

def fn {F : FTy → Type} [FloatOps F] (main_arg0 : IVec S4x20000 32) (main_arg1 : FVec F S4x20000x4 .f32) : IVec S_ 1 :=
  let main_c : IVec S_ 32 := constantI S_ 32 0#32
  let main_v0 : IVec S4x20000 32 := broadcastInDim S4x20000 ![] bcast_S_S4x20000 main_c
  let main_v1 : IVec S4x20000 1 := cmpi .sge main_arg0 main_v0
  let main_c_0 : IVec S_ 1 := constantI S_ 1 1#1
  let main_v2 : IVec S_ 1 := (fun x v => Host.reduce IntOp.andi x v reducesTo_S4x20000_S_d0_1 h_S_) main_v1 main_c_0
  main_v2
-- ==== Pre_idx_in_rows.lean ====
abbrev S4x40x128 : Shape := ⟨3, ![4, 40, 128]⟩
abbrev S4x20000x4 : Shape := ⟨3, ![4, 20000, 4]⟩
abbrev S_ : Shape := ⟨0, ![]⟩

class Facts : Prop where
  bcast_S_S4x40x128 : S_.BroadcastsInDim S4x40x128 (![] : Fin 0 → Fin S4x40x128.rank)
  reducesTo_S4x40x128_S_d0_1_2 : S4x40x128.ReducesTo [0, 1, 2] S_
  h_S_ : 0 < S_.numel

variable [Facts]

def fn {F : FTy → Type} [FloatOps F] (main_arg0 : IVec S4x40x128 32) (main_arg1 : FVec F S4x20000x4 .f32) : IVec S_ 1 :=
  let main_c : IVec S_ 32 := constantI S_ 32 0#32
  let main_v0 : IVec S4x40x128 32 := broadcastInDim S4x40x128 ![] bcast_S_S4x40x128 main_c
  let main_v1 : IVec S4x40x128 1 := cmpi .sge main_arg0 main_v0
  let main_c_0 : IVec S_ 32 := constantI S_ 32 20000#32
  let main_v2 : IVec S4x40x128 32 := broadcastInDim S4x40x128 ![] bcast_S_S4x40x128 main_c_0
  let main_v3 : IVec S4x40x128 1 := cmpi .slt main_arg0 main_v2
  let main_v4 : IVec S4x40x128 1 := andi main_v1 main_v3
  let main_c_1 : IVec S_ 1 := constantI S_ 1 1#1
  let main_v5 : IVec S_ 1 := (fun x v => Host.reduce IntOp.andi x v reducesTo_S4x40x128_S_d0_1_2 h_S_) main_v4 main_c_1
  main_v5
-- ==== Pre_sign_clear.lean ====
abbrev S4x20000x1 : Shape := ⟨3, ![4, 20000, 1]⟩
abbrev S_ : Shape := ⟨0, ![]⟩

class Facts : Prop where
  bcast_S_S4x20000x1 : S_.BroadcastsInDim S4x20000x1 (![] : Fin 0 → Fin S4x20000x1.rank)
  reducesTo_S4x20000x1_S_d0_1_2 : S4x20000x1.ReducesTo [0, 1, 2] S_
  h_S_ : 0 < S_.numel

variable [Facts]

def fn {F : FTy → Type} [BitOps F] (main_arg0 : FVec F S4x20000x1 .f32) : IVec S_ 1 :=
  let main_v0 : IVec S4x20000x1 32 := bitcastToInt main_arg0
  let main_c : IVec S_ 32 := constantI S_ 32 0#32
  let main_v1 : IVec S4x20000x1 32 := broadcastInDim S4x20000x1 ![] bcast_S_S4x20000x1 main_c
  let main_v2 : IVec S4x20000x1 1 := cmpi .sge main_v0 main_v1
  let main_c_0 : IVec S_ 1 := constantI S_ 1 1#1
  let main_v3 : IVec S_ 1 := (fun x v => Host.reduce IntOp.andi x v reducesTo_S4x20000x1_S_d0_1_2 h_S_) main_v2 main_c_0
  main_v3
-- ==== Kernel.lean ====
abbrev S4x40x128 : Shape := ⟨3, ![4, 40, 128]⟩
abbrev S4x20000x4 : Shape := ⟨3, ![4, 20000, 4]⟩
abbrev S20480 : Shape := ⟨1, ![20480]⟩
abbrev S320000 : Shape := ⟨1, ![320000]⟩
abbrev S81920 : Shape := ⟨1, ![81920]⟩
abbrev S640 : Shape := ⟨1, ![640]⟩
abbrev S80000 : Shape := ⟨1, ![80000]⟩
abbrev S2560 : Shape := ⟨1, ![2560]⟩
abbrev S_ : Shape := ⟨0, ![]⟩
abbrev S16 : Shape := ⟨1, ![16]⟩
abbrev S20480x4 : Shape := ⟨2, ![20480, 4]⟩

abbrev nBuf : Table → Nat
  | .hbm => 6
  | .local .scVector .vmem => 3
  | _ => 0

abbrev bufTy : (tb : Table) → Fin (nBuf tb) → BufTy
  | .hbm, ⟨0, _⟩ => ⟨S4x40x128, .i32⟩
  | .hbm, ⟨1, _⟩ => ⟨S4x20000x4, .f32⟩
  | .hbm, ⟨2, _⟩ => ⟨S20480, .i32⟩
  | .hbm, ⟨3, _⟩ => ⟨S320000, .f32⟩
  | .hbm, ⟨4, _⟩ => ⟨S81920, .f32⟩
  | .hbm, ⟨5, _⟩ => ⟨S20480x4, .f32⟩
  | .local .scVector .vmem, ⟨0, _⟩ => ⟨S640, .i32⟩
  | .local .scVector .vmem, ⟨1, _⟩ => ⟨S80000, .f32⟩
  | .local .scVector .vmem, ⟨2, _⟩ => ⟨S2560, .f32⟩
  | _, _ => ⟨S4x40x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c80000_i32 : BitVec 32 := 80000#32
  let v20 : BitVec 32 := Scalar.muli v19 c80000_i32
  ![v20.toNat]
@[reducible] def k0_t1_loop : Scf.Loop 32 :=
  let c0_i32_5 : BitVec 32 := 0#32
  let c40_i32 : BitVec 32 := 40#32
  let v26 : BitVec 32 := Scalar.addi c0_i32_5 c40_i32
  let c1_i32_6 : BitVec 32 := 1#32
  ⟨c0_i32_5, v26, c1_i32_6⟩
def k0_off3 (k0_t1 : Fin k0_t1_loop.trips) : Fin 1 → Nat :=
  let c0_i32_5 : BitVec 32 := 0#32
  let c1_i32_6 : BitVec 32 := 1#32
  let arg9 : BitVec 32 := Scf.iv c0_i32_5 c1_i32_6 k0_t1
  let c16_i32 : BitVec 32 := 16#32
  let v29 : BitVec 32 := Scalar.muli arg9 c16_i32
  let v30 : Index := Scalar.indexCast v29
  ![v30.toNat]

def k0_chk1 (v35 : IVec S16 32) : Prop :=
  (∀ a x, ((![v35] : Fin 1 → IVec S16 32) a x).toNat < S80000.size a)
theorem k0_idx1_inb : ∀ (v35 : IVec S16 32) (k0_hw1 : k0_chk1 v35), ∀ a x, ((![v35] : Fin 1 → IVec S16 32) a x).toNat < S80000.size a := fun v35 k0_hw1 => k0_hw1

def k0_chk2 (v43 : IVec S16 32) : Prop :=
  (∀ a x, ((![v43] : Fin 1 → IVec S16 32) a x).toNat < S2560.size a)
theorem k0_idx2_inb : ∀ (v43 : IVec S16 32) (k0_hw2 : k0_chk2 v43), ∀ a x, ((![v43] : Fin 1 → IVec S16 32) a x).toNat < S2560.size a := fun v43 k0_hw2 => k0_hw2

def k0_chk3 (v47 : IVec S16 32) : Prop :=
  (∀ a x, ((![v47] : Fin 1 → IVec S16 32) a x).toNat < S80000.size a)
theorem k0_idx3_inb : ∀ (v47 : IVec S16 32) (k0_hw3 : k0_chk3 v47), ∀ a x, ((![v47] : Fin 1 → IVec S16 32) a x).toNat < S80000.size a := fun v47 k0_hw3 => k0_hw3

def k0_chk4 (v55 : IVec S16 32) : Prop :=
  (∀ a x, ((![v55] : Fin 1 → IVec S16 32) a x).toNat < S2560.size a)
theorem k0_idx4_inb : ∀ (v55 : IVec S16 32) (k0_hw4 : k0_chk4 v55), ∀ a x, ((![v55] : Fin 1 → IVec S16 32) a x).toNat < S2560.size a := fun v55 k0_hw4 => k0_hw4

def k0_chk5 (v59 : IVec S16 32) : Prop :=
  (∀ a x, ((![v59] : Fin 1 → IVec S16 32) a x).toNat < S80000.size a)
theorem k0_idx5_inb : ∀ (v59 : IVec S16 32) (k0_hw5 : k0_chk5 v59), ∀ a x, ((![v59] : Fin 1 → IVec S16 32) a x).toNat < S80000.size a := fun v59 k0_hw5 => k0_hw5

def k0_chk6 (v67 : IVec S16 32) : Prop :=
  (∀ a x, ((![v67] : Fin 1 → IVec S16 32) a x).toNat < S2560.size a)
theorem k0_idx6_inb : ∀ (v67 : IVec S16 32) (k0_hw6 : k0_chk6 v67), ∀ a x, ((![v67] : Fin 1 → IVec S16 32) a x).toNat < S2560.size a := fun v67 k0_hw6 => k0_hw6

def k0_chk7 (v71 : IVec S16 32) : Prop :=
  (∀ a x, ((![v71] : Fin 1 → IVec S16 32) a x).toNat < S80000.size a)
theorem k0_idx7_inb : ∀ (v71 : IVec S16 32) (k0_hw7 : k0_chk7 v71), ∀ a x, ((![v71] : Fin 1 → IVec S16 32) a x).toNat < S80000.size a := fun v71 k0_hw7 => k0_hw7

def k0_chk8 (v79 : IVec S16 32) : Prop :=
  (∀ a x, ((![v79] : Fin 1 → IVec S16 32) a x).toNat < S2560.size a)
theorem k0_idx8_inb : ∀ (v79 : IVec S16 32) (k0_hw8 : k0_chk8 v79), ∀ a x, ((![v79] : Fin 1 → IVec S16 32) a x).toNat < S2560.size a := fun v79 k0_hw8 => k0_hw8
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c4_i32 : BitVec 32 := 4#32
  let v28 : BitVec 32 := Scalar.muli v2 c4_i32
  ![v28.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x40x128 : Shape := ⟨3, ![4, 40, 128]⟩
abbrev S4x20000x4 : Shape := ⟨3, ![4, 20000, 4]⟩
abbrev S4x5120 : Shape := ⟨2, ![4, 5120]⟩
abbrev S_ : Shape := ⟨0, ![]⟩
abbrev S4x5120x1 : Shape := ⟨3, ![4, 5120, 1]⟩
abbrev S1 : Shape := ⟨1, ![1]⟩
abbrev S1x1x1 : Shape := ⟨3, ![1, 1, 1]⟩
abbrev S4x5120x4 : Shape := ⟨3, ![4, 5120, 4]⟩
abbrev S20480x4 : Shape := ⟨2, ![20480, 4]⟩

abbrev nBuf : Space → Nat
  | .hbm => 27
  | .vmem => 0
  | .smem => 0
  | _ => 0

abbrev bufTy : (tb : Table) → Fin (tcTables nBuf tb) → BufTy
  | .hbm, ⟨0, _⟩ => ⟨S4x40x128, .i32⟩
  | .hbm, ⟨1, _⟩ => ⟨S4x20000x4, .f32⟩
  | .hbm, ⟨2, _⟩ => ⟨S4x5120, .i32⟩
  | .hbm, ⟨3, _⟩ => ⟨S_, .i32⟩
  | .hbm, ⟨4, _⟩ => ⟨S4x5120, .i32⟩
  | .hbm, ⟨5, _⟩ => ⟨S4x5120, .i1⟩
  | .hbm, ⟨6, _⟩ => ⟨S_, .i32⟩
  | .hbm, ⟨7, _⟩ => ⟨S4x5120, .i32⟩
  | .hbm, ⟨8, _⟩ => ⟨S4x5120, .i32⟩
  | .hbm, ⟨9, _⟩ => ⟨S4x5120, .i32⟩
  | .hbm, ⟨10, _⟩ => ⟨S4x5120x1, .i32⟩
  | .hbm, ⟨11, _⟩ => ⟨S1, .i32⟩
  | .hbm, ⟨12, _⟩ => ⟨S_, .i32⟩
  | .hbm, ⟨13, _⟩ => ⟨S4x5120x1, .i32⟩
  | .hbm, ⟨14, _⟩ => ⟨S4x5120x1, .i1⟩
  | .hbm, ⟨15, _⟩ => ⟨S1x1x1, .i32⟩
  | .hbm, ⟨16, _⟩ => ⟨S4x5120x1, .i32⟩
  | .hbm, ⟨17, _⟩ => ⟨S4x5120x1, .i1⟩
  | .hbm, ⟨18, _⟩ => ⟨S4x5120x1, .i1⟩
  | .hbm, ⟨19, _⟩ => ⟨S_, .i1⟩
  | .hbm, ⟨20, _⟩ => ⟨S4x5120, .i1⟩
  | .hbm, ⟨21, _⟩ => ⟨S4x5120x4, .f32⟩
  | .hbm, ⟨22, _⟩ => ⟨S4x5120x4, .i1⟩
  | .hbm, ⟨23, _⟩ => ⟨S_, .f32⟩
  | .hbm, ⟨24, _⟩ => ⟨S4x5120x4, .f32⟩
  | .hbm, ⟨25, _⟩ => ⟨S4x5120x4, .f32⟩
  | .hbm, ⟨26, _⟩ => ⟨S20480x4, .f32⟩
  | _, _ => ⟨S4x40x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== NmsIdeal.lean ====
abbrev S20480x4 : Shape := ⟨2, ![20480, 4]⟩
abbrev S4x20x256x4 : Shape := ⟨4, ![4, 20, 256, 4]⟩
abbrev S4x20x4x256 : Shape := ⟨4, ![4, 20, 4, 256]⟩
abbrev S4x1024x4 : Shape := ⟨3, ![4, 1024, 4]⟩
abbrev S1x20x256x4 : Shape := ⟨4, ![1, 20, 256, 4]⟩
abbrev S1x20x4x256 : Shape := ⟨4, ![1, 20, 4, 256]⟩
abbrev S1x1024x4 : Shape := ⟨3, ![1, 1024, 4]⟩
abbrev S20x8x256 : Shape := ⟨3, ![20, 8, 256]⟩
abbrev S1024x4 : Shape := ⟨2, ![1024, 4]⟩
abbrev S256x256 : Shape := ⟨2, ![256, 256]⟩
abbrev S256x1 : Shape := ⟨2, ![256, 1]⟩
abbrev S1024x1 : Shape := ⟨2, ![1024, 1]⟩
abbrev S1x1x256x4 : Shape := ⟨4, ![1, 1, 256, 4]⟩
abbrev S256x4 : Shape := ⟨2, ![256, 4]⟩
abbrev S1x1x4x256 : Shape := ⟨4, ![1, 1, 4, 256]⟩
abbrev S4x256 : Shape := ⟨2, ![4, 256]⟩
abbrev S1x256 : Shape := ⟨2, ![1, 256]⟩
abbrev S1x1x256 : Shape := ⟨3, ![1, 1, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1024x256 : Shape := ⟨2, ![1024, 256]⟩
abbrev S1024 : Shape := ⟨1, ![1024]⟩
abbrev S4x1000x4 : Shape := ⟨3, ![4, 1000, 4]⟩

abbrev nBuf : Space → Nat
  | .hbm => 5
  | .vmem => 7
  | .smem => 0
  | _ => 0

abbrev bufTy : (tb : Table) → Fin (tcTables nBuf tb) → BufTy
  | .hbm, ⟨0, _⟩ => ⟨S20480x4, .f32⟩
  | .hbm, ⟨1, _⟩ => ⟨S4x20x256x4, .f32⟩
  | .hbm, ⟨2, _⟩ => ⟨S4x20x4x256, .f32⟩
  | .hbm, ⟨3, _⟩ => ⟨S4x1024x4, .f32⟩
  | .hbm, ⟨4, _⟩ => ⟨S4x1000x4, .f32⟩
  | .local _ .vmem, ⟨0, _⟩ => ⟨S1x20x256x4, .f32⟩
  | .local _ .vmem, ⟨1, _⟩ => ⟨S1x20x256x4, .f32⟩
  | .local _ .vmem, ⟨2, _⟩ => ⟨S1x20x4x256, .f32⟩
  | .local _ .vmem, ⟨3, _⟩ => ⟨S1x20x4x256, .f32⟩
  | .local _ .vmem, ⟨4, _⟩ => ⟨S1x1024x4, .f32⟩
  | .local _ .vmem, ⟨5, _⟩ => ⟨S1x1024x4, .f32⟩
  | .local _ .vmem, ⟨6, _⟩ => ⟨S20x8x256, .f32⟩
  | _, _ => ⟨S20480x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_off1 (arg5 : BitVec 32) : Fin 4 → Nat :=
  let c0_9 : Index := 0#32
  let v21 : Index := Scalar.indexCast arg5
  let c0_10 : Index := 0#32
  let c0_11 : Index := 0#32
  ![0, v21.toNat, 0, 0]

def k0_off2 (arg5 : BitVec 32) : Fin 4 → Nat :=
  let c0_12 : Index := 0#32
  let v24 : Index := Scalar.indexCast arg5
  let c0_13 : Index := 0#32
  let c0_14 : Index := 0#32
  ![0, v24.toNat, 0, 0]
@[reducible] def k0_t1_loop (arg5 : BitVec 32) : Scf.Loop 32 :=
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let c1_i32_17 : BitVec 32 := 1#32
  ⟨c0_i32_16, v39, c1_i32_17⟩
def k0_off3 (arg5 : BitVec 32) (k0_t1 : Fin (k0_t1_loop arg5).trips) : Fin 4 → Nat :=
  let c0_55 : Index := 0#32
  let c0_i32_16 : BitVec 32 := 0#32
  let c1_i32_17 : BitVec 32 := 1#32
  let arg7 : BitVec 32 := Scf.iv c0_i32_16 c1_i32_17 k0_t1
  let v163 : Index := Scalar.indexCast arg7
  let c0_56 : Index := 0#32
  let c0_57 : Index := 0#32
  ![0, v163.toNat, 0, 0]
def k0_off4 (arg5 : BitVec 32) (k0_t1 : Fin (k0_t1_loop arg5).trips) : Fin 3 → Nat :=
  let c0_i32_16 : BitVec 32 := 0#32
  let c1_i32_17 : BitVec 32 := 1#32
  let arg7 : BitVec 32 := Scf.iv c0_i32_16 c1_i32_17 k0_t1
  let v201 : Index := Scalar.indexCast arg7
  let c0_62 : Index := 0#32
  let c0_63 : Index := 0#32
  ![v201.toNat, 0, 0]
@[reducible] def k0_t2_loop (arg5 : BitVec 32) : Scf.Loop 32 :=
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let v36 : BitVec 32 := Scalar.addi c0_i32_16 v35
  let c1_i32_18 : BitVec 32 := 1#32
  ⟨v39, v36, c1_i32_18⟩
def k0_off5 (arg5 : BitVec 32) (k0_t2 : Fin (k0_t2_loop arg5).trips) : Fin 4 → Nat :=
  let c0_55 : Index := 0#32
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let c1_i32_18 : BitVec 32 := 1#32
  let arg7 : BitVec 32 := Scf.iv v39 c1_i32_18 k0_t2
  let v163 : Index := Scalar.indexCast arg7
  let c0_56 : Index := 0#32
  let c0_57 : Index := 0#32
  ![0, v163.toNat, 0, 0]
def k0_off6 (arg5 : BitVec 32) (k0_t2 : Fin (k0_t2_loop arg5).trips) : Fin 3 → Nat :=
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let c1_i32_18 : BitVec 32 := 1#32
  let arg7 : BitVec 32 := Scf.iv v39 c1_i32_18 k0_t2
  let v201 : Index := Scalar.indexCast arg7
  let c0_62 : Index := 0#32
  let c0_63 : Index := 0#32
  ![v201.toNat, 0, 0]
def k0_off7 (arg5 : BitVec 32) : Fin 3 → Nat :=
  let v109 : Index := Scalar.indexCast arg5
  let c0_36 : Index := 0#32
  let c0_37 : Index := 0#32
  ![v109.toNat, 0, 0]

def k0_chk1 (arg5 : BitVec 32) : Prop :=
  (∀ a, (k0_off1 arg5) a + S1x1x256x4.size a ≤ S1x20x256x4.size a) ∧
  (∀ a, (k0_off2 arg5) a + S1x1x4x256.size a ≤ S1x20x4x256.size a) ∧
  ((k0_t1_loop arg5).OK) ∧
  (∀ k0_t1 : Fin (k0_t1_loop arg5).trips, ∀ a, (k0_off3 arg5 k0_t1) a + S1x1x4x256.size a ≤ S1x20x4x256.size a) ∧
  (∀ k0_t1 : Fin (k0_t1_loop arg5).trips, ∀ a, (k0_off4 arg5 k0_t1) a + S1x1x256.size a ≤ S20x8x256.size a) ∧
  ((k0_t2_loop arg5).OK) ∧
  (∀ k0_t2 : Fin (k0_t2_loop arg5).trips, ∀ a, (k0_off5 arg5 k0_t2) a + S1x1x4x256.size a ≤ S1x20x4x256.size a) ∧
  (∀ k0_t2 : Fin (k0_t2_loop arg5).trips, ∀ a, (k0_off6 arg5 k0_t2) a + S1x1x256.size a ≤ S20x8x256.size a) ∧
  (∀ a, (k0_off7 arg5) a + S1x1x256.size a ≤ S20x8x256.size a)
theorem k0_off1_inb : ∀ (arg5 : BitVec 32) (k0_hw1 : k0_chk1 arg5), ∀ a, (k0_off1 arg5) a + S1x1x256x4.size a ≤ S1x20x256x4.size a := fun arg5 k0_hw1 => k0_hw1.1
theorem k0_off2_inb : ∀ (arg5 : BitVec 32) (k0_hw1 : k0_chk1 arg5), ∀ a, (k0_off2 arg5) a + S1x1x4x256.size a ≤ S1x20x4x256.size a := fun arg5 k0_hw1 => k0_hw1.2.1
theorem k0_t1_ok : ∀ (arg5 : BitVec 32) (k0_hw1 : k0_chk1 arg5), (k0_t1_loop arg5).OK := fun arg5 k0_hw1 => k0_hw1.2.2.1
theorem k0_off3_inb : ∀ (arg5 : BitVec 32) (k0_hw1 : k0_chk1 arg5) (k0_t1 : Fin (k0_t1_loop arg5).trips), ∀ a, (k0_off3 arg5 k0_t1) a + S1x1x4x256.size a ≤ S1x20x4x256.size a := fun arg5 k0_hw1 k0_t1 => k0_hw1.2.2.2.1 k0_t1
theorem k0_off4_inb : ∀ (arg5 : BitVec 32) (k0_hw1 : k0_chk1 arg5) (k0_t1 : Fin (k0_t1_loop arg5).trips), ∀ a, (k0_off4 arg5 k0_t1) a + S1x1x256.size a ≤ S20x8x256.size a := fun arg5 k0_hw1 k0_t1 => k0_hw1.2.2.2.2.1 k0_t1
theorem k0_t2_ok : ∀ (arg5 : BitVec 32) (k0_hw1 : k0_chk1 arg5), (k0_t2_loop arg5).OK := fun arg5 k0_hw1 => k0_hw1.2.2.2.2.2.1
theorem k0_off5_inb : ∀ (arg5 : BitVec 32) (k0_hw1 : k0_chk1 arg5) (k0_t2 : Fin (k0_t2_loop arg5).trips), ∀ a, (k0_off5 arg5 k0_t2) a + S1x1x4x256.size a ≤ S1x20x4x256.size a := fun arg5 k0_hw1 k0_t2 => k0_hw1.2.2.2.2.2.2.1 k0_t2
theorem k0_off6_inb : ∀ (arg5 : BitVec 32) (k0_hw1 : k0_chk1 arg5) (k0_t2 : Fin (k0_t2_loop arg5).trips), ∀ a, (k0_off6 arg5 k0_t2) a + S1x1x256.size a ≤ S20x8x256.size a := fun arg5 k0_hw1 k0_t2 => k0_hw1.2.2.2.2.2.2.2.1 k0_t2
theorem k0_off7_inb : ∀ (arg5 : BitVec 32) (k0_hw1 : k0_chk1 arg5), ∀ a, (k0_off7 arg5) a + S1x1x256.size a ≤ S20x8x256.size a := fun arg5 k0_hw1 => k0_hw1.2.2.2.2.2.2.2.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NmsReferenceIdeal.lean ====
abbrev S20480x4 : Shape := ⟨2, ![20480, 4]⟩
abbrev S4x5120x4 : Shape := ⟨3, ![4, 5120, 4]⟩
abbrev S4x5000x4 : Shape := ⟨3, ![4, 5000, 4]⟩
abbrev S4x5000x1 : Shape := ⟨3, ![4, 5000, 1]⟩
abbrev S4x5000 : Shape := ⟨2, ![4, 5000]⟩
abbrev S4x1x5000 : Shape := ⟨3, ![4, 1, 5000]⟩
abbrev S4x5000x5000 : Shape := ⟨3, ![4, 5000, 5000]⟩
abbrev S_ : Shape := ⟨0, ![]⟩
abbrev S5000 : Shape := ⟨1, ![5000]⟩
abbrev S4x1 : Shape := ⟨2, ![4, 1]⟩
abbrev S1x5000 : Shape := ⟨2, ![1, 5000]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1000x4 : Shape := ⟨3, ![4, 1000, 4]⟩

abbrev nBuf : Space → Nat
  | .hbm => 139
  | .vmem => 0
  | .smem => 0
  | _ => 0

abbrev hbmTy0_0 (i : Nat) : BufTy := match i % 128 with
  | 0 => ⟨S20480x4, .f32⟩
  | 1 => ⟨S4x5120x4, .f32⟩
  | 2 => ⟨S4x5000x4, .f32⟩
  | 3 => ⟨S4x5000x1, .f32⟩
  | 4 => ⟨S4x5000, .f32⟩
  | 5 => ⟨S4x5000x1, .f32⟩
  | 6 => ⟨S4x5000, .f32⟩
  | 7 => ⟨S4x5000x1, .f32⟩
  | 8 => ⟨S4x5000, .f32⟩
  | 9 => ⟨S4x5000x1, .f32⟩
  | 10 => ⟨S4x5000, .f32⟩
  | 11 => ⟨S4x5000, .f32⟩
  | 12 => ⟨S4x5000, .f32⟩
  | 13 => ⟨S4x5000, .f32⟩
  | 14 => ⟨S4x5000x1, .f32⟩
  | 15 => ⟨S4x1x5000, .f32⟩
  | 16 => ⟨S4x5000x5000, .f32⟩
  | 17 => ⟨S4x5000x5000, .f32⟩
  | 18 => ⟨S4x5000x5000, .f32⟩
  | 19 => ⟨S4x5000x1, .f32⟩
  | 20 => ⟨S4x1x5000, .f32⟩
  | 21 => ⟨S4x5000x5000, .f32⟩
  | 22 => ⟨S4x5000x5000, .f32⟩
  | 23 => ⟨S4x5000x5000, .f32⟩
  | 24 => ⟨S4x5000x5000, .f32⟩
  | 25 => ⟨S_, .f32⟩
  | 26 => ⟨S4x5000x5000, .f32⟩
  | 27 => ⟨S4x5000x5000, .f32⟩
  | 28 => ⟨S4x5000x1, .f32⟩
  | 29 => ⟨S4x1x5000, .f32⟩
  | 30 => ⟨S4x5000x5000, .f32⟩
  | 31 => ⟨S4x5000x5000, .f32⟩
  | 32 => ⟨S4x5000x5000, .f32⟩
  | 33 => ⟨S4x5000x1, .f32⟩
  | 34 => ⟨S4x1x5000, .f32⟩
  | 35 => ⟨S4x5000x5000, .f32⟩
  | 36 => ⟨S4x5000x5000, .f32⟩
  | 37 => ⟨S4x5000x5000, .f32⟩
  | 38 => ⟨S4x5000x5000, .f32⟩
  | 39 => ⟨S_, .f32⟩
  | 40 => ⟨S4x5000x5000, .f32⟩
  | 41 => ⟨S4x5000x5000, .f32⟩
  | 42 => ⟨S4x5000x5000, .f32⟩
  | 43 => ⟨S4x5000x1, .f32⟩
  | 44 => ⟨S4x1x5000, .f32⟩
  | 45 => ⟨S4x5000x5000, .f32⟩
  | 46 => ⟨S4x5000x5000, .f32⟩
  | 47 => ⟨S4x5000x5000, .f32⟩
  | 48 => ⟨S4x5000x5000, .f32⟩
  | 49 => ⟨S_, .f32⟩
  | 50 => ⟨S4x5000x5000, .f32⟩
  | 51 => ⟨S4x5000x5000, .i1⟩
  | 52 => ⟨S4x5000x5000, .f32⟩
  | 53 => ⟨S_, .f32⟩
  | 54 => ⟨S_, .f32⟩
  | 55 => ⟨S4x5000x5000, .f32⟩
  | 56 => ⟨S4x5000x5000, .f32⟩
  | 57 => ⟨S5000, .i32⟩
  | 58 => ⟨S_, .i1⟩
  | 59 => ⟨S4x5000, .i1⟩
  | 60 => ⟨S_, .i32⟩
  | 61 => ⟨S_, .i32⟩
  | 62 => ⟨S4x5000x5000, .f32⟩
  | 63 => ⟨S5000, .i32⟩
  | 64 => ⟨S_, .i32⟩
  | 65 => ⟨S_, .i32⟩
  | 66 => ⟨S4x5000, .i1⟩
  | 67 => ⟨S_, .i32⟩
  | 68 => ⟨S_, .i1⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S4x1x5000, .f32⟩
  | 80 => ⟨S4x5000, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S4x1, .i1⟩
  | 89 => ⟨S_, .f32⟩
  | 90 => ⟨S4x5000, .f32⟩
  | 91 => ⟨S4x5000, .i1⟩
  | 92 => ⟨S1x5000, .i32⟩
  | 93 => ⟨S_, .i32⟩
  | 94 => ⟨S1x5000, .i32⟩
  | 95 => ⟨S1x5000, .i1⟩
  | 96 => ⟨S4x5000, .i1⟩
  | 97 => ⟨S4x5000, .i1⟩
  | 98 => ⟨S4x5000, .i1⟩
  | 99 => ⟨S4x5000, .i1⟩
  | 100 => ⟨S4x5000, .i1⟩
  | 101 => ⟨S4x5000, .i1⟩
  | 102 => ⟨S_, .i32⟩
  | 103 => ⟨S_, .i32⟩
  | 104 => ⟨S4x5000, .i1⟩
  | 105 => ⟨S4x5000, .i32⟩
  | 106 => ⟨S4x5000, .i32⟩
  | 107 => ⟨S4x5000, .i32⟩
  | 108 => ⟨S4x5000, .i32⟩
  | 109 => ⟨S4x1000, .i32⟩
  | 110 => ⟨S4x5120x4, .f32⟩
  | 111 => ⟨S4x5000x4, .f32⟩
  | 112 => ⟨S4x5000x1, .i1⟩
  | 113 => ⟨S4x5000x1, .f32⟩
  | 114 => ⟨S4x5000x4, .f32⟩
  | 115 => ⟨S4x5000x4, .f32⟩
  | 116 => ⟨S_, .i32⟩
  | 117 => ⟨S4x1000, .i32⟩
  | 118 => ⟨S4x1000, .i1⟩
  | 119 => ⟨S_, .i32⟩
  | 120 => ⟨S4x1000, .i32⟩
  | 121 => ⟨S4x1000, .i32⟩
  | 122 => ⟨S4x1000, .i32⟩
  | 123 => ⟨S4x1000x1, .i32⟩
  | 124 => ⟨S1, .i32⟩
  | 125 => ⟨S_, .i32⟩
  | 126 => ⟨S4x1000x1, .i32⟩
  | 127 => ⟨S4x1000x1, .i1⟩
  | _ => ⟨S20480x4, .f32⟩

abbrev hbmTy0_1 (i : Nat) : BufTy := match i % 128 with
  | 0 => ⟨S1x1x1, .i32⟩
  | 1 => ⟨S4x1000x1, .i32⟩
  | 2 => ⟨S4x1000x1, .i1⟩
  | 3 => ⟨S4x1000x1, .i1⟩
  | 4 => ⟨S_, .i1⟩
  | 5 => ⟨S4x1000, .i1⟩
  | 6 => ⟨S4x1000x4, .f32⟩
  | 7 => ⟨S4x1000x4, .i1⟩
  | 8 => ⟨S_, .f32⟩
  | 9 => ⟨S4x1000x4, .f32⟩
  | 10 => ⟨S4x1000x4, .f32⟩
  | _ => ⟨S20480x4, .f32⟩

abbrev hbmTy (i : Nat) : BufTy := match i / 128 with
  | 0 => hbmTy0_0 i
  | 1 => hbmTy0_1 i
  | _ => ⟨S20480x4, .f32⟩

abbrev bufTy : (tb : Table) → Fin (tcTables nBuf tb) → BufTy
  | .hbm, ⟨i, _⟩ => hbmTy i
  | _, _ => ⟨S20480x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_cst : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_cst_0 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_cst_1 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_cst_2 : Ref sig .tc := ⟨.hbm, 53, rfl⟩
abbrev main_call0_v0 : Ref sig .tc := ⟨.hbm, 54, rfl⟩
abbrev main_call0_v1 : Ref sig .tc := ⟨.hbm, 55, rfl⟩
abbrev main_v49 : Ref sig .tc := ⟨.hbm, 56, rfl⟩
abbrev main_v50 : Ref sig .tc := ⟨.hbm, 57, rfl⟩
abbrev main_c : Ref sig .tc := ⟨.hbm, 58, rfl⟩
abbrev main_v51 : Ref sig .tc := ⟨.hbm, 59, rfl⟩
abbrev main_c_3 : Ref sig .tc := ⟨.hbm, 60, rfl⟩
abbrev main_c_4 : Ref sig .tc := ⟨.hbm, 61, rfl⟩
abbrev main_v52_0 : Ref sig .tc := ⟨.hbm, 62, rfl⟩
abbrev main_v52_1 : Ref sig .tc := ⟨.hbm, 63, rfl⟩
abbrev main_v52_2 : Ref sig .tc := ⟨.hbm, 64, rfl⟩
abbrev main_v52_3 : Ref sig .tc := ⟨.hbm, 65, rfl⟩
abbrev main_v52_4 : Ref sig .tc := ⟨.hbm, 66, rfl⟩
abbrev main_while0c_c_9 : Ref sig .tc := ⟨.hbm, 67, rfl⟩
abbrev main_while0c_v64 : Ref sig .tc := ⟨.hbm, 68, rfl⟩
abbrev main_while0b_c_9 : Ref sig .tc := ⟨.hbm, 69, rfl⟩
abbrev main_while0b_v64 : Ref sig .tc := ⟨.hbm, 70, rfl⟩
abbrev main_while0b_call1_c : Ref sig .tc := ⟨.hbm, 71, rfl⟩
abbrev main_while0b_call1_v0 : Ref sig .tc := ⟨.hbm, 72, rfl⟩
abbrev main_while0b_call1_v1 : Ref sig .tc := ⟨.hbm, 73, rfl⟩
abbrev main_while0b_call1_c_0 : Ref sig .tc := ⟨.hbm, 74, rfl⟩
abbrev main_while0b_call1_v2 : Ref sig .tc := ⟨.hbm, 75, rfl⟩
abbrev main_while0b_call1_v3 : Ref sig .tc := ⟨.hbm, 76, rfl⟩
abbrev main_while0b_call1_c_1 : Ref sig .tc := ⟨.hbm, 77, rfl⟩
abbrev main_while0b_call1_c_2 : Ref sig .tc := ⟨.hbm, 78, rfl⟩
abbrev main_while0b_call1_v4 : Ref sig .tc := ⟨.hbm, 79, rfl⟩
abbrev main_while0b_v65 : Ref sig .tc := ⟨.hbm, 80, rfl⟩
abbrev main_while0b_call2_c : Ref sig .tc := ⟨.hbm, 81, rfl⟩
abbrev main_while0b_call2_v0 : Ref sig .tc := ⟨.hbm, 82, rfl⟩
abbrev main_while0b_call2_v1 : Ref sig .tc := ⟨.hbm, 83, rfl⟩
abbrev main_while0b_call2_c_0 : Ref sig .tc := ⟨.hbm, 84, rfl⟩
abbrev main_while0b_call2_v2 : Ref sig .tc := ⟨.hbm, 85, rfl⟩
abbrev main_while0b_call2_v3 : Ref sig .tc := ⟨.hbm, 86, rfl⟩
abbrev main_while0b_call2_c_1 : Ref sig .tc := ⟨.hbm, 87, rfl⟩
abbrev main_while0b_v66 : Ref sig .tc := ⟨.hbm, 88, rfl⟩
abbrev main_while0b_cst_10 : Ref sig .tc := ⟨.hbm, 89, rfl⟩
abbrev main_while0b_v67 : Ref sig .tc := ⟨.hbm, 90, rfl⟩
abbrev main_while0b_v68 : Ref sig .tc := ⟨.hbm, 91, rfl⟩
abbrev main_while0b_v69 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_v77 : Ref sig .tc := ⟨.hbm, 100, rfl⟩
abbrev main_while0b_v78 : Ref sig .tc := ⟨.hbm, 101, rfl⟩
abbrev main_while0b_c_11 : Ref sig .tc := ⟨.hbm, 102, rfl⟩
abbrev main_while0b_v79 : Ref sig .tc := ⟨.hbm, 103, rfl⟩
abbrev main_v53 : Ref sig .tc := ⟨.hbm, 104, rfl⟩
abbrev main_v54 : Ref sig .tc := ⟨.hbm, 105, rfl⟩
abbrev main_call3_v0 : Ref sig .tc := ⟨.hbm, 106, rfl⟩
abbrev main_call3_v1_0 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v63 : Ref sig .tc := ⟨.hbm, 138, rfl⟩

abbrev nD : Nat := 1
abbrev τ : Topo := Topo.v7x

variable {F : FTy → Type} [FloatOps F]

abbrev main_while0_count : Scf.Loop 32 := ⟨0#32, 5000#32, 1#32⟩
-- ==== Sort.lean ====
abbrev S4x20000x1 : Shape := ⟨3, ![4, 20000, 1]⟩
abbrev S4x20000 : Shape := ⟨2, ![4, 20000]⟩
abbrev S_ : Shape := ⟨0, ![]⟩
abbrev S4x12768 : Shape := ⟨2, ![4, 12768]⟩
abbrev S4x32768 : Shape := ⟨2, ![4, 32768]⟩
abbrev S4x256x128 : Shape := ⟨3, ![4, 256, 128]⟩
abbrev S4x40x128 : Shape := ⟨3, ![4, 40, 128]⟩
abbrev S1x256x128 : Shape := ⟨3, ![1, 256, 128]⟩
abbrev S1x40x128 : Shape := ⟨3, ![1, 40, 128]⟩
abbrev S160x128 : Shape := ⟨2, ![160, 128]⟩
abbrev S256x128 : Shape := ⟨2, ![256, 128]⟩
abbrev S96x128 : Shape := ⟨2, ![96, 128]⟩
abbrev S128x128 : Shape := ⟨2, ![128, 128]⟩
abbrev S64x128 : Shape := ⟨2, ![64, 128]⟩
abbrev S40x128 : Shape := ⟨2, ![40, 128]⟩

abbrev nBuf : Space → Nat
  | .hbm => 8
  | .vmem => 4
  | .smem => 0
  | _ => 0

abbrev bufTy : (tb : Table) → Fin (tcTables nBuf tb) → BufTy
  | .hbm, ⟨0, _⟩ => ⟨S4x20000x1, .f32⟩
  | .hbm, ⟨1, _⟩ => ⟨S4x20000, .f32⟩
  | .hbm, ⟨2, _⟩ => ⟨S4x20000, .i32⟩
  | .hbm, ⟨3, _⟩ => ⟨S_, .i32⟩
  | .hbm, ⟨4, _⟩ => ⟨S4x12768, .i32⟩
  | .hbm, ⟨5, _⟩ => ⟨S4x32768, .i32⟩
  | .hbm, ⟨6, _⟩ => ⟨S4x256x128, .i32⟩
  | .hbm, ⟨7, _⟩ => ⟨S4x40x128, .i32⟩
  | .local _ .vmem, ⟨0, _⟩ => ⟨S1x256x128, .i32⟩
  | .local _ .vmem, ⟨1, _⟩ => ⟨S1x256x128, .i32⟩
  | .local _ .vmem, ⟨2, _⟩ => ⟨S1x40x128, .i32⟩
  | .local _ .vmem, ⟨3, _⟩ => ⟨S1x40x128, .i32⟩
  | _, _ => ⟨S4x20000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x40x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SortReference.lean ====
abbrev S4x20000x1 : Shape := ⟨3, ![4, 20000, 1]⟩
abbrev S4x20000 : Shape := ⟨2, ![4, 20000]⟩
abbrev S4x5120 : Shape := ⟨2, ![4, 5120]⟩
abbrev S4x40x128 : Shape := ⟨3, ![4, 40, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x20000x1, .f32⟩
  | .hbm, ⟨1, _⟩ => ⟨S4x20000, .f32⟩
  | .hbm, ⟨2, _⟩ => ⟨S4x5120, .f32⟩
  | .hbm, ⟨3, _⟩ => ⟨S4x5120, .i32⟩
  | .hbm, ⟨4, _⟩ => ⟨S4x40x128, .i32⟩
  | _, _ => ⟨S4x20000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== WholeIdeal.lean ====
abbrev S4x20000 : Shape := ⟨2, ![4, 20000]⟩
abbrev S4x20000x4 : Shape := ⟨3, ![4, 20000, 4]⟩
abbrev S_ : Shape := ⟨0, ![]⟩
abbrev S4x12768 : Shape := ⟨2, ![4, 12768]⟩
abbrev S4x32768 : Shape := ⟨2, ![4, 32768]⟩
abbrev S4x256x128 : Shape := ⟨3, ![4, 256, 128]⟩
abbrev S4x40x128 : Shape := ⟨3, ![4, 40, 128]⟩
abbrev S1x256x128 : Shape := ⟨3, ![1, 256, 128]⟩
abbrev S1x40x128 : Shape := ⟨3, ![1, 40, 128]⟩
abbrev S160x128 : Shape := ⟨2, ![160, 128]⟩
abbrev S256x128 : Shape := ⟨2, ![256, 128]⟩
abbrev S96x128 : Shape := ⟨2, ![96, 128]⟩
abbrev S128x128 : Shape := ⟨2, ![128, 128]⟩
abbrev S64x128 : Shape := ⟨2, ![64, 128]⟩
abbrev S40x128 : Shape := ⟨2, ![40, 128]⟩
abbrev S20480 : Shape := ⟨1, ![20480]⟩
abbrev S320000 : Shape := ⟨1, ![320000]⟩
abbrev S81920 : Shape := ⟨1, ![81920]⟩
abbrev S640 : Shape := ⟨1, ![640]⟩
abbrev S80000 : Shape := ⟨1, ![80000]⟩
abbrev S2560 : Shape := ⟨1, ![2560]⟩
abbrev S16 : Shape := ⟨1, ![16]⟩
abbrev S20480x4 : Shape := ⟨2, ![20480, 4]⟩
abbrev S4x20x256x4 : Shape := ⟨4, ![4, 20, 256, 4]⟩
abbrev S4x20x4x256 : Shape := ⟨4, ![4, 20, 4, 256]⟩
abbrev S4x1024x4 : Shape := ⟨3, ![4, 1024, 4]⟩
abbrev S1x20x256x4 : Shape := ⟨4, ![1, 20, 256, 4]⟩
abbrev S1x20x4x256 : Shape := ⟨4, ![1, 20, 4, 256]⟩
abbrev S1x1024x4 : Shape := ⟨3, ![1, 1024, 4]⟩
abbrev S20x8x256 : Shape := ⟨3, ![20, 8, 256]⟩
abbrev S1024x4 : Shape := ⟨2, ![1024, 4]⟩
abbrev S256x256 : Shape := ⟨2, ![256, 256]⟩
abbrev S256x1 : Shape := ⟨2, ![256, 1]⟩
abbrev S1024x1 : Shape := ⟨2, ![1024, 1]⟩
abbrev S1x1x256x4 : Shape := ⟨4, ![1, 1, 256, 4]⟩
abbrev S256x4 : Shape := ⟨2, ![256, 4]⟩
abbrev S1x1x4x256 : Shape := ⟨4, ![1, 1, 4, 256]⟩
abbrev S4x256 : Shape := ⟨2, ![4, 256]⟩
abbrev S1x256 : Shape := ⟨2, ![1, 256]⟩
abbrev S1x1x256 : Shape := ⟨3, ![1, 1, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1024x256 : Shape := ⟨2, ![1024, 256]⟩
abbrev S1024 : Shape := ⟨1, ![1024]⟩
abbrev S4x1000x4 : Shape := ⟨3, ![4, 1000, 4]⟩

abbrev nBuf : Table → Nat
  | .hbm => 15
  | .local .tc .vmem => 11
  | .local .scVector .vmem => 3
  | _ => 0

abbrev bufTy : (tb : Table) → Fin (nBuf tb) → BufTy
  | .hbm, ⟨0, _⟩ => ⟨S4x20000, .i32⟩
  | .hbm, ⟨1, _⟩ => ⟨S4x20000x4, .f32⟩
  | .hbm, ⟨2, _⟩ => ⟨S_, .i32⟩
  | .hbm, ⟨3, _⟩ => ⟨S4x12768, .i32⟩
  | .hbm, ⟨4, _⟩ => ⟨S4x32768, .i32⟩
  | .hbm, ⟨5, _⟩ => ⟨S4x256x128, .i32⟩
  | .hbm, ⟨6, _⟩ => ⟨S4x40x128, .i32⟩
  | .hbm, ⟨7, _⟩ => ⟨S20480, .i32⟩
  | .hbm, ⟨8, _⟩ => ⟨S320000, .f32⟩
  | .hbm, ⟨9, _⟩ => ⟨S81920, .f32⟩
  | .hbm, ⟨10, _⟩ => ⟨S20480x4, .f32⟩
  | .hbm, ⟨11, _⟩ => ⟨S4x20x256x4, .f32⟩
  | .hbm, ⟨12, _⟩ => ⟨S4x20x4x256, .f32⟩
  | .hbm, ⟨13, _⟩ => ⟨S4x1024x4, .f32⟩
  | .hbm, ⟨14, _⟩ => ⟨S4x1000x4, .f32⟩
  | .local .tc .vmem, ⟨0, _⟩ => ⟨S1x256x128, .i32⟩
  | .local .tc .vmem, ⟨1, _⟩ => ⟨S1x256x128, .i32⟩
  | .local .tc .vmem, ⟨2, _⟩ => ⟨S1x40x128, .i32⟩
  | .local .tc .vmem, ⟨3, _⟩ => ⟨S1x40x128, .i32⟩
  | .local .tc .vmem, ⟨4, _⟩ => ⟨S1x20x256x4, .f32⟩
  | .local .tc .vmem, ⟨5, _⟩ => ⟨S1x20x256x4, .f32⟩
  | .local .tc .vmem, ⟨6, _⟩ => ⟨S1x20x4x256, .f32⟩
  | .local .tc .vmem, ⟨7, _⟩ => ⟨S1x20x4x256, .f32⟩
  | .local .tc .vmem, ⟨8, _⟩ => ⟨S1x1024x4, .f32⟩
  | .local .tc .vmem, ⟨9, _⟩ => ⟨S1x1024x4, .f32⟩
  | .local .tc .vmem, ⟨10, _⟩ => ⟨S20x8x256, .f32⟩
  | .local .scVector .vmem, ⟨0, _⟩ => ⟨S640, .i32⟩
  | .local .scVector .vmem, ⟨1, _⟩ => ⟨S80000, .f32⟩
  | .local .scVector .vmem, ⟨2, _⟩ => ⟨S2560, .f32⟩
  | _, _ => ⟨S4x20000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v4_scv : Ref sig .scVector := ⟨.hbm, 7, rfl⟩
abbrev main_v5_scv : Ref sig .scVector := ⟨.hbm, 8, rfl⟩
abbrev main_v6_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_scratch0 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x40x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c80000_i32 : BitVec 32 := 80000#32
  let v20 : BitVec 32 := Scalar.muli v19 c80000_i32
  ![v20.toNat]
@[reducible] def k1_t1_loop : Scf.Loop 32 :=
  let c0_i32_5 : BitVec 32 := 0#32
  let c40_i32 : BitVec 32 := 40#32
  let v26 : BitVec 32 := Scalar.addi c0_i32_5 c40_i32
  let c1_i32_6 : BitVec 32 := 1#32
  ⟨c0_i32_5, v26, c1_i32_6⟩
def k1_off3 (k1_t1 : Fin k1_t1_loop.trips) : Fin 1 → Nat :=
  let c0_i32_5 : BitVec 32 := 0#32
  let c1_i32_6 : BitVec 32 := 1#32
  let arg9 : BitVec 32 := Scf.iv c0_i32_5 c1_i32_6 k1_t1
  let c16_i32 : BitVec 32 := 16#32
  let v29 : BitVec 32 := Scalar.muli arg9 c16_i32
  let v30 : Index := Scalar.indexCast v29
  ![v30.toNat]

def k1_chk1 (v35 : IVec S16 32) : Prop :=
  (∀ a x, ((![v35] : Fin 1 → IVec S16 32) a x).toNat < S80000.size a)
theorem k1_idx1_inb : ∀ (v35 : IVec S16 32) (k1_hw1 : k1_chk1 v35), ∀ a x, ((![v35] : Fin 1 → IVec S16 32) a x).toNat < S80000.size a := fun v35 k1_hw1 => k1_hw1

def k1_chk2 (v43 : IVec S16 32) : Prop :=
  (∀ a x, ((![v43] : Fin 1 → IVec S16 32) a x).toNat < S2560.size a)
theorem k1_idx2_inb : ∀ (v43 : IVec S16 32) (k1_hw2 : k1_chk2 v43), ∀ a x, ((![v43] : Fin 1 → IVec S16 32) a x).toNat < S2560.size a := fun v43 k1_hw2 => k1_hw2

def k1_chk3 (v47 : IVec S16 32) : Prop :=
  (∀ a x, ((![v47] : Fin 1 → IVec S16 32) a x).toNat < S80000.size a)
theorem k1_idx3_inb : ∀ (v47 : IVec S16 32) (k1_hw3 : k1_chk3 v47), ∀ a x, ((![v47] : Fin 1 → IVec S16 32) a x).toNat < S80000.size a := fun v47 k1_hw3 => k1_hw3

def k1_chk4 (v55 : IVec S16 32) : Prop :=
  (∀ a x, ((![v55] : Fin 1 → IVec S16 32) a x).toNat < S2560.size a)
theorem k1_idx4_inb : ∀ (v55 : IVec S16 32) (k1_hw4 : k1_chk4 v55), ∀ a x, ((![v55] : Fin 1 → IVec S16 32) a x).toNat < S2560.size a := fun v55 k1_hw4 => k1_hw4

def k1_chk5 (v59 : IVec S16 32) : Prop :=
  (∀ a x, ((![v59] : Fin 1 → IVec S16 32) a x).toNat < S80000.size a)
theorem k1_idx5_inb : ∀ (v59 : IVec S16 32) (k1_hw5 : k1_chk5 v59), ∀ a x, ((![v59] : Fin 1 → IVec S16 32) a x).toNat < S80000.size a := fun v59 k1_hw5 => k1_hw5

def k1_chk6 (v67 : IVec S16 32) : Prop :=
  (∀ a x, ((![v67] : Fin 1 → IVec S16 32) a x).toNat < S2560.size a)
theorem k1_idx6_inb : ∀ (v67 : IVec S16 32) (k1_hw6 : k1_chk6 v67), ∀ a x, ((![v67] : Fin 1 → IVec S16 32) a x).toNat < S2560.size a := fun v67 k1_hw6 => k1_hw6

def k1_chk7 (v71 : IVec S16 32) : Prop :=
  (∀ a x, ((![v71] : Fin 1 → IVec S16 32) a x).toNat < S80000.size a)
theorem k1_idx7_inb : ∀ (v71 : IVec S16 32) (k1_hw7 : k1_chk7 v71), ∀ a x, ((![v71] : Fin 1 → IVec S16 32) a x).toNat < S80000.size a := fun v71 k1_hw7 => k1_hw7

def k1_chk8 (v79 : IVec S16 32) : Prop :=
  (∀ a x, ((![v79] : Fin 1 → IVec S16 32) a x).toNat < S2560.size a)
theorem k1_idx8_inb : ∀ (v79 : IVec S16 32) (k1_hw8 : k1_chk8 v79), ∀ a x, ((![v79] : Fin 1 → IVec S16 32) a x).toNat < S2560.size a := fun v79 k1_hw8 => k1_hw8
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c4_i32 : BitVec 32 := 4#32
  let v28 : BitVec 32 := Scalar.muli v2 c4_i32
  ![v28.toNat]
abbrev grid2 : Pipeline.Grid := ⟨1, ![4], ![false]⟩

def k2_off1 (arg5 : BitVec 32) : Fin 4 → Nat :=
  let c0_9 : Index := 0#32
  let v21 : Index := Scalar.indexCast arg5
  let c0_10 : Index := 0#32
  let c0_11 : Index := 0#32
  ![0, v21.toNat, 0, 0]

def k2_off2 (arg5 : BitVec 32) : Fin 4 → Nat :=
  let c0_12 : Index := 0#32
  let v24 : Index := Scalar.indexCast arg5
  let c0_13 : Index := 0#32
  let c0_14 : Index := 0#32
  ![0, v24.toNat, 0, 0]
@[reducible] def k2_t1_loop (arg5 : BitVec 32) : Scf.Loop 32 :=
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let c1_i32_17 : BitVec 32 := 1#32
  ⟨c0_i32_16, v39, c1_i32_17⟩
def k2_off3 (arg5 : BitVec 32) (k2_t1 : Fin (k2_t1_loop arg5).trips) : Fin 4 → Nat :=
  let c0_55 : Index := 0#32
  let c0_i32_16 : BitVec 32 := 0#32
  let c1_i32_17 : BitVec 32 := 1#32
  let arg7 : BitVec 32 := Scf.iv c0_i32_16 c1_i32_17 k2_t1
  let v163 : Index := Scalar.indexCast arg7
  let c0_56 : Index := 0#32
  let c0_57 : Index := 0#32
  ![0, v163.toNat, 0, 0]
def k2_off4 (arg5 : BitVec 32) (k2_t1 : Fin (k2_t1_loop arg5).trips) : Fin 3 → Nat :=
  let c0_i32_16 : BitVec 32 := 0#32
  let c1_i32_17 : BitVec 32 := 1#32
  let arg7 : BitVec 32 := Scf.iv c0_i32_16 c1_i32_17 k2_t1
  let v201 : Index := Scalar.indexCast arg7
  let c0_62 : Index := 0#32
  let c0_63 : Index := 0#32
  ![v201.toNat, 0, 0]
@[reducible] def k2_t2_loop (arg5 : BitVec 32) : Scf.Loop 32 :=
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let v36 : BitVec 32 := Scalar.addi c0_i32_16 v35
  let c1_i32_18 : BitVec 32 := 1#32
  ⟨v39, v36, c1_i32_18⟩
def k2_off5 (arg5 : BitVec 32) (k2_t2 : Fin (k2_t2_loop arg5).trips) : Fin 4 → Nat :=
  let c0_55 : Index := 0#32
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let c1_i32_18 : BitVec 32 := 1#32
  let arg7 : BitVec 32 := Scf.iv v39 c1_i32_18 k2_t2
  let v163 : Index := Scalar.indexCast arg7
  let c0_56 : Index := 0#32
  let c0_57 : Index := 0#32
  ![0, v163.toNat, 0, 0]
def k2_off6 (arg5 : BitVec 32) (k2_t2 : Fin (k2_t2_loop arg5).trips) : Fin 3 → Nat :=
  let c0_i32_16 : BitVec 32 := 0#32
  let v35 : BitVec 32 := Scalar.subi arg5 c0_i32_16
  let c1_i32 : BitVec 32 := 1#32
  let v37 : BitVec 32 := Scalar.divsi v35 c1_i32
  let v38 : BitVec 32 := Scalar.muli v37 c1_i32
  let v39 : BitVec 32 := Scalar.addi c0_i32_16 v38
  let c1_i32_18 : BitVec 32 := 1#32
  let arg7 : BitVec 32 := Scf.iv v39 c1_i32_18 k2_t2
  let v201 : Index := Scalar.indexCast arg7
  let c0_62 : Index := 0#32
  let c0_63 : Index := 0#32
  ![v201.toNat, 0, 0]
def k2_off7 (arg5 : BitVec 32) : Fin 3 → Nat :=
  let v109 : Index := Scalar.indexCast arg5
  let c0_36 : Index := 0#32
  let c0_37 : Index := 0#32
  ![v109.toNat, 0, 0]

def k2_chk1 (arg5 : BitVec 32) : Prop :=
  (∀ a, (k2_off1 arg5) a + S1x1x256x4.size a ≤ S1x20x256x4.size a) ∧
  (∀ a, (k2_off2 arg5) a + S1x1x4x256.size a ≤ S1x20x4x256.size a) ∧
  ((k2_t1_loop arg5).OK) ∧
  (∀ k2_t1 : Fin (k2_t1_loop arg5).trips, ∀ a, (k2_off3 arg5 k2_t1) a + S1x1x4x256.size a ≤ S1x20x4x256.size a) ∧
  (∀ k2_t1 : Fin (k2_t1_loop arg5).trips, ∀ a, (k2_off4 arg5 k2_t1) a + S1x1x256.size a ≤ S20x8x256.size a) ∧
  ((k2_t2_loop arg5).OK) ∧
  (∀ k2_t2 : Fin (k2_t2_loop arg5).trips, ∀ a, (k2_off5 arg5 k2_t2) a + S1x1x4x256.size a ≤ S1x20x4x256.size a) ∧
  (∀ k2_t2 : Fin (k2_t2_loop arg5).trips, ∀ a, (k2_off6 arg5 k2_t2) a + S1x1x256.size a ≤ S20x8x256.size a) ∧
  (∀ a, (k2_off7 arg5) a + S1x1x256.size a ≤ S20x8x256.size a)
theorem k2_off1_inb : ∀ (arg5 : BitVec 32) (k2_hw1 : k2_chk1 arg5), ∀ a, (k2_off1 arg5) a + S1x1x256x4.size a ≤ S1x20x256x4.size a := fun arg5 k2_hw1 => k2_hw1.1
theorem k2_off2_inb : ∀ (arg5 : BitVec 32) (k2_hw1 : k2_chk1 arg5), ∀ a, (k2_off2 arg5) a + S1x1x4x256.size a ≤ S1x20x4x256.size a := fun arg5 k2_hw1 => k2_hw1.2.1
theorem k2_t1_ok : ∀ (arg5 : BitVec 32) (k2_hw1 : k2_chk1 arg5), (k2_t1_loop arg5).OK := fun arg5 k2_hw1 => k2_hw1.2.2.1
theorem k2_off3_inb : ∀ (arg5 : BitVec 32) (k2_hw1 : k2_chk1 arg5) (k2_t1 : Fin (k2_t1_loop arg5).trips), ∀ a, (k2_off3 arg5 k2_t1) a + S1x1x4x256.size a ≤ S1x20x4x256.size a := fun arg5 k2_hw1 k2_t1 => k2_hw1.2.2.2.1 k2_t1
theorem k2_off4_inb : ∀ (arg5 : BitVec 32) (k2_hw1 : k2_chk1 arg5) (k2_t1 : Fin (k2_t1_loop arg5).trips), ∀ a, (k2_off4 arg5 k2_t1) a + S1x1x256.size a ≤ S20x8x256.size a := fun arg5 k2_hw1 k2_t1 => k2_hw1.2.2.2.2.1 k2_t1
theorem k2_t2_ok : ∀ (arg5 : BitVec 32) (k2_hw1 : k2_chk1 arg5), (k2_t2_loop arg5).OK := fun arg5 k2_hw1 => k2_hw1.2.2.2.2.2.1
theorem k2_off5_inb : ∀ (arg5 : BitVec 32) (k2_hw1 : k2_chk1 arg5) (k2_t2 : Fin (k2_t2_loop arg5).trips), ∀ a, (k2_off5 arg5 k2_t2) a + S1x1x4x256.size a ≤ S1x20x4x256.size a := fun arg5 k2_hw1 k2_t2 => k2_hw1.2.2.2.2.2.2.1 k2_t2
theorem k2_off6_inb : ∀ (arg5 : BitVec 32) (k2_hw1 : k2_chk1 arg5) (k2_t2 : Fin (k2_t2_loop arg5).trips), ∀ a, (k2_off6 arg5 k2_t2) a + S1x1x256.size a ≤ S20x8x256.size a := fun arg5 k2_hw1 k2_t2 => k2_hw1.2.2.2.2.2.2.2.1 k2_t2
theorem k2_off7_inb : ∀ (arg5 : BitVec 32) (k2_hw1 : k2_chk1 arg5), ∀ a, (k2_off7 arg5) a + S1x1x256.size a ≤ S20x8x256.size a := fun arg5 k2_hw1 => k2_hw1.2.2.2.2.2.2.2.2

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x20x256x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x20x4x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S4x20000 : Shape := ⟨2, ![4, 20000]⟩
abbrev S4x20000x4 : Shape := ⟨3, ![4, 20000, 4]⟩
abbrev S4x5000 : Shape := ⟨2, ![4, 5000]⟩
abbrev S_ : Shape := ⟨0, ![]⟩
abbrev S4x5000x1 : Shape := ⟨3, ![4, 5000, 1]⟩
abbrev S1 : Shape := ⟨1, ![1]⟩
abbrev S1x1x1 : Shape := ⟨3, ![1, 1, 1]⟩
abbrev S4x5000x4 : Shape := ⟨3, ![4, 5000, 4]⟩
abbrev S4x1x5000 : Shape := ⟨3, ![4, 1, 5000]⟩
abbrev S4x5000x5000 : Shape := ⟨3, ![4, 5000, 5000]⟩
abbrev S5000 : Shape := ⟨1, ![5000]⟩
abbrev S4x1 : Shape := ⟨2, ![4, 1]⟩
abbrev S1x5000 : Shape := ⟨2, ![1, 5000]⟩
abbrev S4x1000 : Shape := ⟨2, ![4, 1000]⟩
abbrev S4x1000x1 : Shape := ⟨3, ![4, 1000, 1]⟩
abbrev S4x1000x4 : Shape := ⟨3, ![4, 1000, 4]⟩

abbrev nBuf : Space → Nat
  | .hbm => 161
  | .vmem => 0
  | .smem => 0
  | _ => 0

abbrev hbmTy0_0 (i : Nat) : BufTy := match i % 128 with
  | 0 => ⟨S4x20000, .i32⟩
  | 1 => ⟨S4x20000x4, .f32⟩
  | 2 => ⟨S4x5000, .i32⟩
  | 3 => ⟨S4x5000, .i32⟩
  | 4 => ⟨S_, .i32⟩
  | 5 => ⟨S4x5000, .i32⟩
  | 6 => ⟨S4x5000, .i1⟩
  | 7 => ⟨S_, .i32⟩
  | 8 => ⟨S4x5000, .i32⟩
  | 9 => ⟨S4x5000, .i32⟩
  | 10 => ⟨S4x5000, .i32⟩
  | 11 => ⟨S4x5000x1, .i32⟩
  | 12 => ⟨S1, .i32⟩
  | 13 => ⟨S_, .i32⟩
  | 14 => ⟨S4x5000x1, .i32⟩
  | 15 => ⟨S4x5000x1, .i1⟩
  | 16 => ⟨S1x1x1, .i32⟩
  | 17 => ⟨S4x5000x1, .i32⟩
  | 18 => ⟨S4x5000x1, .i1⟩
  | 19 => ⟨S4x5000x1, .i1⟩
  | 20 => ⟨S_, .i1⟩
  | 21 => ⟨S4x5000, .i1⟩
  | 22 => ⟨S4x5000x4, .f32⟩
  | 23 => ⟨S4x5000x4, .i1⟩
  | 24 => ⟨S_, .f32⟩
  | 25 => ⟨S4x5000x4, .f32⟩
  | 26 => ⟨S4x5000x4, .f32⟩
  | 27 => ⟨S4x5000x1, .f32⟩
  | 28 => ⟨S4x5000, .f32⟩
  | 29 => ⟨S4x5000x1, .f32⟩
  | 30 => ⟨S4x5000, .f32⟩
  | 31 => ⟨S4x5000x1, .f32⟩
  | 32 => ⟨S4x5000, .f32⟩
  | 33 => ⟨S4x5000x1, .f32⟩
  | 34 => ⟨S4x5000, .f32⟩
  | 35 => ⟨S4x5000, .f32⟩
  | 36 => ⟨S4x5000, .f32⟩
  | 37 => ⟨S4x5000, .f32⟩
  | 38 => ⟨S4x5000x1, .f32⟩
  | 39 => ⟨S4x1x5000, .f32⟩
  | 40 => ⟨S4x5000x5000, .f32⟩
  | 41 => ⟨S4x5000x5000, .f32⟩
  | 42 => ⟨S4x5000x5000, .f32⟩
  | 43 => ⟨S4x5000x1, .f32⟩
  | 44 => ⟨S4x1x5000, .f32⟩
  | 45 => ⟨S4x5000x5000, .f32⟩
  | 46 => ⟨S4x5000x5000, .f32⟩
  | 47 => ⟨S4x5000x5000, .f32⟩
  | 48 => ⟨S4x5000x5000, .f32⟩
  | 49 => ⟨S_, .f32⟩
  | 50 => ⟨S4x5000x5000, .f32⟩
  | 51 => ⟨S4x5000x5000, .f32⟩
  | 52 => ⟨S4x5000x1, .f32⟩
  | 53 => ⟨S4x1x5000, .f32⟩
  | 54 => ⟨S4x5000x5000, .f32⟩
  | 55 => ⟨S4x5000x5000, .f32⟩
  | 56 => ⟨S4x5000x5000, .f32⟩
  | 57 => ⟨S4x5000x1, .f32⟩
  | 58 => ⟨S4x1x5000, .f32⟩
  | 59 => ⟨S4x5000x5000, .f32⟩
  | 60 => ⟨S4x5000x5000, .f32⟩
  | 61 => ⟨S4x5000x5000, .f32⟩
  | 62 => ⟨S4x5000x5000, .f32⟩
  | 63 => ⟨S_, .f32⟩
  | 64 => ⟨S4x5000x5000, .f32⟩
  | 65 => ⟨S4x5000x5000, .f32⟩
  | 66 => ⟨S4x5000x5000, .f32⟩
  | 67 => ⟨S4x5000x1, .f32⟩
  | 68 => ⟨S4x1x5000, .f32⟩
  | 69 => ⟨S4x5000x5000, .f32⟩
  | 70 => ⟨S4x5000x5000, .f32⟩
  | 71 => ⟨S4x5000x5000, .f32⟩
  | 72 => ⟨S4x5000x5000, .f32⟩
  | 73 => ⟨S_, .f32⟩
  | 74 => ⟨S4x5000x5000, .f32⟩
  | 75 => ⟨S4x5000x5000, .i1⟩
  | 76 => ⟨S4x5000x5000, .f32⟩
  | 77 => ⟨S_, .f32⟩
  | 78 => ⟨S_, .f32⟩
  | 79 => ⟨S4x5000x5000, .f32⟩
  | 80 => ⟨S4x5000x5000, .f32⟩
  | 81 => ⟨S5000, .i32⟩
  | 82 => ⟨S_, .i1⟩
  | 83 => ⟨S4x5000, .i1⟩
  | 84 => ⟨S_, .i32⟩
  | 85 => ⟨S_, .i32⟩
  | 86 => ⟨S4x5000x5000, .f32⟩
  | 87 => ⟨S5000, .i32⟩
  | 88 => ⟨S_, .i32⟩
  | 89 => ⟨S_, .i32⟩
  | 90 => ⟨S4x5000, .i1⟩
  | 91 => ⟨S_, .i32⟩
  | 92 => ⟨S_, .i1⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S4x1x5000, .f32⟩
  | 104 => ⟨S4x5000, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S4x1, .i1⟩
  | 113 => ⟨S_, .f32⟩
  | 114 => ⟨S4x5000, .f32⟩
  | 115 => ⟨S4x5000, .i1⟩
  | 116 => ⟨S1x5000, .i32⟩
  | 117 => ⟨S_, .i32⟩
  | 118 => ⟨S1x5000, .i32⟩
  | 119 => ⟨S1x5000, .i1⟩
  | 120 => ⟨S4x5000, .i1⟩
  | 121 => ⟨S4x5000, .i1⟩
  | 122 => ⟨S4x5000, .i1⟩
  | 123 => ⟨S4x5000, .i1⟩
  | 124 => ⟨S4x5000, .i1⟩
  | 125 => ⟨S4x5000, .i1⟩
  | 126 => ⟨S_, .i32⟩
  | 127 => ⟨S_, .i32⟩
  | _ => ⟨S4x20000, .i32⟩

abbrev hbmTy0_1 (i : Nat) : BufTy := match i % 128 with
  | 0 => ⟨S4x5000, .i1⟩
  | 1 => ⟨S4x5000, .i32⟩
  | 2 => ⟨S4x5000, .i32⟩
  | 3 => ⟨S4x5000, .i32⟩
  | 4 => ⟨S4x5000, .i32⟩
  | 5 => ⟨S4x1000, .i32⟩
  | 6 => ⟨S4x5000x1, .i1⟩
  | 7 => ⟨S4x5000x1, .f32⟩
  | 8 => ⟨S4x5000x4, .f32⟩
  | 9 => ⟨S4x5000x4, .f32⟩
  | 10 => ⟨S_, .i32⟩
  | 11 => ⟨S4x1000, .i32⟩
  | 12 => ⟨S4x1000, .i1⟩
  | 13 => ⟨S_, .i32⟩
  | 14 => ⟨S4x1000, .i32⟩
  | 15 => ⟨S4x1000, .i32⟩
  | 16 => ⟨S4x1000, .i32⟩
  | 17 => ⟨S4x1000x1, .i32⟩
  | 18 => ⟨S1, .i32⟩
  | 19 => ⟨S_, .i32⟩
  | 20 => ⟨S4x1000x1, .i32⟩
  | 21 => ⟨S4x1000x1, .i1⟩
  | 22 => ⟨S1x1x1, .i32⟩
  | 23 => ⟨S4x1000x1, .i32⟩
  | 24 => ⟨S4x1000x1, .i1⟩
  | 25 => ⟨S4x1000x1, .i1⟩
  | 26 => ⟨S_, .i1⟩
  | 27 => ⟨S4x1000, .i1⟩
  | 28 => ⟨S4x1000x4, .f32⟩
  | 29 => ⟨S4x1000x4, .i1⟩
  | 30 => ⟨S_, .f32⟩
  | 31 => ⟨S4x1000x4, .f32⟩
  | 32 => ⟨S4x1000x4, .f32⟩
  | _ => ⟨S4x20000, .i32⟩

abbrev hbmTy (i : Nat) : BufTy := match i / 128 with
  | 0 => hbmTy0_0 i
  | 1 => hbmTy0_1 i
  | _ => ⟨S4x20000, .i32⟩

abbrev bufTy : (tb : Table) → Fin (tcTables nBuf tb) → BufTy
  | .hbm, ⟨i, _⟩ => hbmTy i
  | _, _ => ⟨S4x20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_1 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_2 : Ref sig .tc := ⟨.hbm, 77, rfl⟩
abbrev main_call1_v0 : Ref sig .tc := ⟨.hbm, 78, rfl⟩
abbrev main_call1_v1 : Ref sig .tc := ⟨.hbm, 79, rfl⟩
abbrev main_v48 : Ref sig .tc := ⟨.hbm, 80, rfl⟩
abbrev main_v49 : Ref sig .tc := ⟨.hbm, 81, rfl⟩
abbrev main_c : Ref sig .tc := ⟨.hbm, 82, rfl⟩
abbrev main_v50 : Ref sig .tc := ⟨.hbm, 83, rfl⟩
abbrev main_c_3 : Ref sig .tc := ⟨.hbm, 84, rfl⟩
abbrev main_c_4 : Ref sig .tc := ⟨.hbm, 85, rfl⟩
abbrev main_v51_0 : Ref sig .tc := ⟨.hbm, 86, rfl⟩
abbrev main_v51_1 : Ref sig .tc := ⟨.hbm, 87, rfl⟩
abbrev main_v51_2 : Ref sig .tc := ⟨.hbm, 88, rfl⟩
abbrev main_v51_3 : Ref sig .tc := ⟨.hbm, 89, rfl⟩
abbrev main_v51_4 : Ref sig .tc := ⟨.hbm, 90, rfl⟩
abbrev main_while0c_c_9 : Ref sig .tc := ⟨.hbm, 91, rfl⟩
abbrev main_while0c_v61 : Ref sig .tc := ⟨.hbm, 92, rfl⟩
abbrev main_while0b_c_9 : Ref sig .tc := ⟨.hbm, 93, rfl⟩
abbrev main_while0b_v61 : Ref sig .tc := ⟨.hbm, 94, rfl⟩
abbrev main_while0b_call2_c : Ref sig .tc := ⟨.hbm, 95, rfl⟩
abbrev main_while0b_call2_v0 : Ref sig .tc := ⟨.hbm, 96, rfl⟩
abbrev main_while0b_call2_v1 : Ref sig .tc := ⟨.hbm, 97, rfl⟩
abbrev main_while0b_call2_c_0 : Ref sig .tc := ⟨.hbm, 98, rfl⟩
abbrev main_while0b_call2_v2 : Ref sig .tc := ⟨.hbm, 99, rfl⟩
abbrev main_while0b_call2_v3 : Ref sig .tc := ⟨.hbm, 100, rfl⟩
abbrev main_while0b_call2_c_1 : Ref sig .tc := ⟨.hbm, 101, rfl⟩
abbrev main_while0b_call2_c_2 : Ref sig .tc := ⟨.hbm, 102, rfl⟩
abbrev main_while0b_call2_v4 : Ref sig .tc := ⟨.hbm, 103, rfl⟩
abbrev main_while0b_v62 : Ref sig .tc := ⟨.hbm, 104, rfl⟩
abbrev main_while0b_call3_c : Ref sig .tc := ⟨.hbm, 105, rfl⟩
abbrev main_while0b_call3_v0 : Ref sig .tc := ⟨.hbm, 106, rfl⟩
abbrev main_while0b_call3_v1 : Ref sig .tc := ⟨.hbm, 107, rfl⟩
abbrev main_while0b_call3_c_0 : Ref sig .tc := ⟨.hbm, 108, rfl⟩
abbrev main_while0b_call3_v2 : Ref sig .tc := ⟨.hbm, 109, rfl⟩
abbrev main_while0b_call3_v3 : Ref sig .tc := ⟨.hbm, 110, rfl⟩
abbrev main_while0b_call3_c_1 : Ref sig .tc := ⟨.hbm, 111, rfl⟩
abbrev main_while0b_v63 : Ref sig .tc := ⟨.hbm, 112, rfl⟩
abbrev main_while0b_cst_10 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_c_11 : Ref sig .tc := ⟨.hbm, 126, rfl⟩
abbrev main_while0b_v76 : Ref sig .tc := ⟨.hbm, 127, rfl⟩
abbrev main_v52 : Ref sig .tc := ⟨.hbm, 128, rfl⟩
abbrev main_v53 : Ref sig .tc := ⟨.hbm, 129, rfl⟩
abbrev main_call4_v0 : Ref sig .tc := ⟨.hbm, 130, rfl⟩
abbrev main_call4_v1_0 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_v14 : Ref sig .tc := ⟨.hbm, 157, rfl⟩
abbrev main_call5_cst : Ref sig .tc := ⟨.hbm, 158, rfl⟩
abbrev main_call5_v15 : Ref sig .tc := ⟨.hbm, 159, rfl⟩
abbrev main_v60 : Ref sig .tc := ⟨.hbm, 160, rfl⟩

abbrev nD : Nat := 1
abbrev τ : Topo := Topo.v7x

variable {F : FTy → Type} [FloatOps F]

abbrev main_while0_count : Scf.Loop 32 := ⟨0#32, 5000#32, 1#32⟩
-- ==== Proof.GatherVals.lean ====
/-
  The values of the row gather, apart from the machine: what an indexed store leaves of a scratch that is being filled
  towards a known content, what the index vectors of one trip name, and the array the thirty-two tasks write together.
-/
module

public import proofs.«01_k».proof.Defs
public import Idealize.ShloMosaic.Lib.SparseCore.Ops
public import Idealize.ShloMosaic.Lib.Pointwise.Index
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

variable {F : FTy → Type}

/-- Element `n` of a flat array, the position taken modulo the array's length. -/
def at1 {α : Type} {N : ℕ} (hN : 0 < N) (f : (⟨1, ![N]⟩ : Shape).Idx → α) (n : ℕ) : α := f (ix1 ⟨n % N, Nat.mod_lt _ hN⟩)

/-- At a position the array has, that element is the array's own. -/
theorem at1_eq {α : Type} {N : ℕ} (hN : 0 < N) (f : (⟨1, ![N]⟩ : Shape).Idx → α) (j : (⟨1, ![N]⟩ : Shape).Idx) (n : ℕ) (h : n = (j 0).val) :
    at1 hN f n = f j := by
  unfold at1; congr 1; funext a
  match a with
  | ⟨0, _⟩ => apply Fin.ext; subst h; exact Nat.mod_eq_of_lt (j 0).isLt

/-- An indexed store whose every lane carries the value a target content `w` has where the lane lands leaves the
    scratch agreeing with `w` wherever it agreed before, and at every place a lane lands. -/
theorem storeIdx_target {F : FTy → Type} [FloatOps F] {s : Shape} {e : EltTy} {d : Fin 1 → ℕ} (f w : Vec F s e) (idxs : Fin s.rank → IVec ⟨1, d⟩ 32) (v : Vec F ⟨1, d⟩ e)
    (h : ∀ a x, (idxs a x).toNat < s.size a) (hv : ∀ x, v x = w (idxAt idxs h x)) (j : s.Idx)
    (hj : f j = w j ∨ ∃ k : Fin (d 0), ∀ a, (j a).val = (idxs a (Shape.ofLane k)).toNat) :
    storeIdx f idxs v (fun _ => 1#1) false h j = w j := by
  have key : ∀ (step : Vec F s e → Fin (d 0) → Vec F s e)
      (_ : ∀ g k, (∀ a, (j a).val = (idxs a (Shape.ofLane k)).toNat) → step g k j = w j)
      (_ : ∀ g k, ¬ (∀ a, (j a).val = (idxs a (Shape.ofLane k)).toNat) → step g k j = g j)
      (l : List (Fin (d 0))) (g : Vec F s e),
      (g j = w j ∨ ∃ k ∈ l, ∀ a, (j a).val = (idxs a (Shape.ofLane k)).toNat) → l.foldl step g j = w j := by
    intro step hhit hmiss l
    induction l with
    | nil =>
      intro g hg
      rcases hg with hg | ⟨k, hk, _⟩
      · exact hg
      · exact absurd hk List.not_mem_nil
    | cons k l ih =>
      intro g hg
      rw [List.foldl_cons]
      apply ih
      by_cases hk : ∀ a, (j a).val = (idxs a (Shape.ofLane k)).toNat
      · exact .inl (hhit g k hk)
      · rcases hg with hg | ⟨k', hk', hjk⟩
        · exact .inl ((hmiss g k hk).trans hg)
        · rcases List.mem_cons.mp hk' with rfl | hm
          · exact absurd hjk hk
          · exact .inr ⟨k', hm, hjk⟩
  unfold storeIdx
  refine key _ ?_ ?_ (List.finRange (d 0)) f ?_
  · intro g k hk
    have hj' : j = idxAt idxs h (Shape.ofLane k) := funext fun a => Fin.ext (hk a)
    rw [hj', ← hv]
    simp
  · intro g k hk
    have hk' : ¬ ∀ a, (j a).val = (idxAt idxs h (Shape.ofLane k) a).val := hk
    simp [hk']
  · rcases hj with hj | ⟨k, hk⟩
    · exact .inl hj
    · exact .inr ⟨k, List.mem_finRange k, hk⟩

/-! ## What the index vectors of one trip name -/

theorem trips_eq : k0_t1_loop.trips = 40 := by decide +kernel

/-- The lanes' numbers. -/
abbrev lanes : IVec S16 32 := iota .scVector S16 32 [0] iota_S16_d0_w32_scVector

theorem lanes_val (x : S16.Idx) : lanes x = BitVec.ofNat 32 (x 0).val := by
  show BitVec.ofNat 32 (0 * _ + (x 0).val) = _
  rw [Nat.zero_mul, Nat.zero_add]

/-- The word a trip's counter holds. -/
theorem iv_val (t : Fin k0_t1_loop.trips) : Scf.iv 0#32 1#32 t = BitVec.ofNat 32 t.val := by
  revert t; decide +kernel

/-- A lane's source word: four times its index and the column. -/
theorem src_val (w c : BitVec 32) (hw : w.toNat < 20000) (hc : c.toNat < 4) : (w * 4#32 + c).toNat = 4 * w.toNat + c.toNat := by
  have h4 : (4#32).toNat = 4 := rfl
  rw [BitVec.toNat_add, BitVec.toNat_mul, h4]
  omega

/-- A lane's target word: the trip's sixty-four words, four to a lane, and the column. -/
theorem dst_val (t l : ℕ) (c : BitVec 32) (ht : t < 40) (hl : l < 16) (hc : c.toNat < 4) :
    (BitVec.ofNat 32 t * 64#32 + BitVec.ofNat 32 l * 4#32 + c).toNat = 64 * t + 4 * l + c.toNat := by
  have h4 : (4#32).toNat = 4 := rfl
  have h64 : (64#32).toNat = 64 := rfl
  simp only [BitVec.toNat_add, BitVec.toNat_mul, BitVec.toNat_ofNat, h4, h64]
  omega

variable [FloatOps F]

theorem pay1_val (v : Vec F S16 .i32) (x : S16.Idx) : k0_pay1 v x = v x * 4#32 + 0#32 := rfl
theorem pay3_val (v : Vec F S16 .i32) (x : S16.Idx) : k0_pay3 v x = v x * 4#32 + 1#32 := rfl
theorem pay5_val (v : Vec F S16 .i32) (x : S16.Idx) : k0_pay5 v x = v x * 4#32 + 2#32 := rfl
theorem pay8_val (v : Vec F S16 .i32) (x : S16.Idx) : k0_pay8 v x = v x * 4#32 + 3#32 := rfl

theorem pay2_val (t : Fin k0_t1_loop.trips) (x : S16.Idx) :
    k0_pay2 lanes 0#32 1#32 t x = BitVec.ofNat 32 t.val * 64#32 + BitVec.ofNat 32 (x 0).val * 4#32 + 0#32 := by
  rw [← iv_val, ← lanes_val]; rfl
theorem pay4_val (t : Fin k0_t1_loop.trips) (x : S16.Idx) :
    k0_pay4 lanes 0#32 1#32 t x = BitVec.ofNat 32 t.val * 64#32 + BitVec.ofNat 32 (x 0).val * 4#32 + 1#32 := by
  rw [← iv_val, ← lanes_val]; rfl
theorem pay7_val (t : Fin k0_t1_loop.trips) (x : S16.Idx) :
    k0_pay7 (k0_pay6 lanes 0#32 1#32 t) x = BitVec.ofNat 32 t.val * 64#32 + BitVec.ofNat 32 (x 0).val * 4#32 + 2#32 := by
  rw [← iv_val, ← lanes_val]; rfl
theorem pay9_val (t : Fin k0_t1_loop.trips) (x : S16.Idx) :
    k0_pay9 (Scf.iv 0#32 1#32 t) x = BitVec.ofNat 32 t.val * 64#32 + BitVec.ofNat 32 (x 0).val * 4#32 + 3#32 := by
  rw [← iv_val, ← lanes_val]; rfl

/-! ## The content a task works towards, and the array the tasks leave -/

/-- A task's rows scratch when it is done: word `p` is word `p % 4` of the row of its table named by index `p / 4`. -/
def rowsOf (ix : Vec F S640 .i32) (tb : Vec F S80000 .f32) : Vec F S2560 .f32 :=
  fun p => at1 (N := 80000) (by decide) tb (4 * (at1 (N := 640) (by decide) ix ((p 0).val / 4)).toNat + (p 0).val % 4)

/-- The gathered rows: word `p` is word `p % 4` of the row of image `p / 20480`'s table named by index `p / 4`. -/
def gathered (ix : Vec F S20480 .i32) (tb : Vec F S320000 .f32) : Vec F S81920 .f32 :=
  fun p => at1 (N := 320000) (by decide) tb
    (80000 * ((p 0).val / 20480) + 4 * (at1 (N := 20480) (by decide) ix ((p 0).val / 4)).toNat + (p 0).val % 4)

/-- One column's store moves the scratch towards the task's content: `src` names the lanes' source words, `dst` their
    target words, `v` is what the indexed load read at the former. Where the scratch agreed with the task's content it
    still does, and it does now at the column's sixteen words as well. -/
theorem column_store (ix : Vec F S640 .i32) (tb : Vec F S80000 .f32) (hix : ∀ j, (ix j).toNat < 20000) (t : ℕ) (ht : t < 40) (c : ℕ) (hc : c < 4)
    (src dst : IVec S16 32) (hs : ∀ a x, ((![src] : Fin 1 → IVec S16 32) a x).toNat < S80000.size a)
    (hd : ∀ a x, ((![dst] : Fin 1 → IVec S16 32) a x).toNat < S2560.size a)
    (hsrc : ∀ x : S16.Idx, (src x).toNat = 4 * (at1 (N := 640) (by decide) ix (16 * t + (x 0).val)).toNat + c)
    (hdst : ∀ x : S16.Idx, (dst x).toNat = 64 * t + 4 * (x 0).val + c)
    (f : Vec F S2560 .f32) (p : S2560.Idx)
    (hp : f p = rowsOf ix tb p ∨ ∃ l : ℕ, l < 16 ∧ (p 0).val = 64 * t + 4 * l + c) :
    storeIdx f ![dst] (loadIdx tb ![src] hs) (fun _ => 1#1) false hd p = rowsOf ix tb p := by
  refine storeIdx_target f (rowsOf ix tb) ![dst] _ hd ?_ p ?_
  · intro x
    have hl : (x 0).val < 16 := (x 0).isLt
    unfold loadIdx rowsOf
    have e : ((idxAt (s := S2560) ![dst] hd x) 0).val = 64 * t + 4 * (x 0).val + c := hdst x
    rw [e, show (64 * t + 4 * (x 0).val + c) / 4 = 16 * t + (x 0).val by omega, show (64 * t + 4 * (x 0).val + c) % 4 = c by omega]
    exact (at1_eq _ _ _ _ (hsrc x).symm).symm
  · rcases hp with hp | ⟨l, hl, hp⟩
    · exact .inl hp
    · right
      refine ⟨⟨l, hl⟩, fun a => ?_⟩
      obtain rfl : a = 0 := Subsingleton.elim _ _
      exact hp.trans (hdst (Shape.ofLane (d := ![16]) ⟨l, hl⟩)).symm

end Cert.Proof.Gather

end
-- ==== Proof.GatherTile.lean ====
/-
  One task of the row gather: on vector subcore `(c, s)` the six hundred and forty indices of task `2 s + c` and its
  image's table are fetched, forty trips gather sixteen rows each into the rows scratch, and the scratch is written out.
  The task is run from any contents of the index array and the table with every index below 20000, and leaves its part
  of the result at the gathered rows.
-/
module

public import proofs.«01_k».proof.Proof.GatherVals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, and each task's part of them -/

/-- The indices, the tables and the result, as locations of device `d`. -/
abbrev iLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

local notation "iV" => (Memref.whole Cert.KernelIdeal.main_v0_scv : Memref Cert.KernelIdeal.sig Kind.scVector Space.hbm Cert.KernelIdeal.S20480 EltTy.i32)
local notation "xV" => (Memref.whole Cert.KernelIdeal.main_v1_scv : Memref Cert.KernelIdeal.sig Kind.scVector Space.hbm Cert.KernelIdeal.S320000 EltTy.f32)
local notation "oV" => (Memref.whole Cert.KernelIdeal.main_v2_scv : Memref Cert.KernelIdeal.sig Kind.scVector Space.hbm Cert.KernelIdeal.S81920 EltTy.f32)
local notation "sI" => (Memref.whole Cert.KernelIdeal.cc0_scratch0 : Memref Cert.KernelIdeal.sig Kind.scVector Space.vmem Cert.KernelIdeal.S640 EltTy.i32)
local notation "sX" => (Memref.whole Cert.KernelIdeal.cc0_scratch1 : Memref Cert.KernelIdeal.sig Kind.scVector Space.vmem Cert.KernelIdeal.S80000 EltTy.f32)
local notation "sR" => (Memref.whole Cert.KernelIdeal.cc0_scratch2 : Memref Cert.KernelIdeal.sig Kind.scVector Space.vmem Cert.KernelIdeal.S2560 EltTy.f32)

abbrev cV (L : grid0.Coords) : Fin τ.nSC := (L 0).castLE hcore0
abbrev jV (L : grid0.Coords) : Fin τ.nSub := (L 1).castLE hsub0

section Trip

variable (d : Dev nD) (L : grid0.Coords)

/-- The task's own index, table and rows scratches, as locations. -/
abbrev siLoc : Loc nD τ sig := (V d (cV L) (jV L)).loc cc0_scratch0
abbrev sxLoc : Loc nD τ sig := (V d (cV L) (jV L)).loc cc0_scratch1
abbrev srLoc : Loc nD τ sig := (V d (cV L) (jV L)).loc cc0_scratch2

variable [FloatOps F]

/-- What holds between trips: the fetched indices and table, and a rows scratch that agrees with the task's content on
    the words of the trips already made. -/
def tripInv (fI : Buf (Elt F) (siLoc d L)) (fT : Buf (Elt F) (sxLoc d L)) (k : ℕ) (_ : BitVec 32) : sProp 𝕄 :=
  iprop(((sI).view.loc (V d (cV L) (jV L)) ↦{fullShare} fI) ∗ ((sX).view.loc (V d (cV L) (jV L)) ↦{fullShare} fT)
    ∗ ∃ fr : Buf (Elt F) (srLoc d L), ⌜∀ p : S2560.Idx, (p 0).val < 64 * k → fr p = rowsOf fI fT p⌝ ∗ ((sR).view.loc (V d (cV L) (jV L)) ↦{fullShare} fr))

/-- The sixteen indices a trip loads. -/
theorem load_val (fI : Buf (Elt F) (siLoc d L)) (t : Fin k0_t1_loop.trips) (x : S16.Idx) :
    (sI).view.readAt (Elt F) (Rect.unit (s := S640) (k0_off3 t) S16.size (k0_off3_inb t)).toLoadRect fI x
      = at1 (N := 640) (by decide) fI (16 * t.val + (x 0).val) := by
  simp only [View.readAt_apply, Memref.view_whole, View.read_whole]
  symm
  refine at1_eq (N := 640) (by decide) fI _ _ ?_
  rw [LoadRect.idx_apply]
  show _ = k0_off3 t 0 + 1 * (x 0).val
  rw [k0_off3_eq]
  simp

/-- A load of the whole table scratch reads its content. -/
theorem table_load {α : Type} {Q : α → sProp 𝕄} (fT : Buf (Elt F) (sxLoc d L)) {hl}
    {k : (S80000.Idx → Elt F .f32) → Prog (TpuEff nD τ sig (Elt F) Λ₀ (Proc.scVector (cV L) (jV L))) α} :
    ((sX).view.loc (V d (cV L) (jV L)) ↦{fullShare} fT : sProp 𝕄)
      ⊢ iprop((((sX).view.loc (V d (cV L) (jV L)) ↦{fullShare} fT) -∗ wp frame (wpE (defs₀ (F := F)) 𝒱₀ (V d (cV L) (jV L)) none) Set.univ (k fT) Q)
        -∗ wp frame (wpE (defs₀ (F := F)) 𝒱₀ (V d (cV L) (jV L)) none) Set.univ (.op (.load sX (.whole S80000) hl) k) Q) := by
  have h := wp_load_rect (defs := defs₀ (F := F)) 𝒱₀ (V d (cV L) (jV L)) none (Γ := PendingWaitsCtx.empty) Set.univ (m := sX) (r := .whole S80000) (hl := hl) (S := Finset.univ) (q := fullShare)
    (f := fT) (k := k) (Q := Q) (Finset.subset_univ _)
  rw [show ((sX).access (Rect.whole S80000)).read (Elt F) fT = fT from Memref.read_access_whole (Elt F) cc0_scratch1 fT] at h
  exact h

/-- A load of the whole rows scratch reads its content, -/
theorem rows_load {α : Type} {Q : α → sProp 𝕄} (fR : Buf (Elt F) (srLoc d L)) {hl}
    {k : (S2560.Idx → Elt F .f32) → Prog (TpuEff nD τ sig (Elt F) Λ₀ (Proc.scVector (cV L) (jV L))) α} :
    ((sR).view.loc (V d (cV L) (jV L)) ↦{fullShare} fR : sProp 𝕄)
      ⊢ iprop((((sR).view.loc (V d (cV L) (jV L)) ↦{fullShare} fR) -∗ wp frame (wpE (defs₀ (F := F)) 𝒱₀ (V d (cV L) (jV L)) none) Set.univ (k fR) Q)
        -∗ wp frame (wpE (defs₀ (F := F)) 𝒱₀ (V d (cV L) (jV L)) none) Set.univ (.op (.load sR (.whole S2560) hl) k) Q) := by
  have h := wp_load_rect (defs := defs₀ (F := F)) 𝒱₀ (V d (cV L) (jV L)) none (Γ := PendingWaitsCtx.empty) Set.univ (m := sR) (r := .whole S2560) (hl := hl) (S := Finset.univ) (q := fullShare)
    (f := fR) (k := k) (Q := Q) (Finset.subset_univ _)
  rw [show ((sR).access (Rect.whole S2560)).read (Elt F) fR = fR from Memref.read_access_whole (Elt F) cc0_scratch2 fR] at h
  exact h

/-- and a store over the whole of it leaves what is stored. -/
theorem rows_store {α : Type} {Q : α → sProp 𝕄} (fR w : Buf (Elt F) (srLoc d L)) {hx hm}
    {k : PUnit → Prog (TpuEff nD τ sig (Elt F) Λ₀ (Proc.scVector (cV L) (jV L))) α} :
    ((sR).view.loc (V d (cV L) (jV L)) ↦{fullShare} fR : sProp 𝕄)
      ⊢ iprop((((sR).view.loc (V d (cV L) (jV L)) ↦{fullShare} w) -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.store sR (.whole S2560) w Finset.univ hx hm) k) Q) := by
  have h := wp_store (defs := defs₀ (F := F)) 𝒱₀ (V d (cV L) (jV L)) none (Γ := PendingWaitsCtx.empty) Set.univ (m := sR) (r := .whole S2560) (w := w) (hx := hx) (hm := hm) (S := Finset.univ)
    (f := fR) (k := k) (Q := Q) (Finset.subset_univ _)
  rw [show ((sR).access (Rect.whole S2560)).write (Elt F) fR w Finset.univ = w from Memref.write_access_whole_univ (Elt F) cc0_scratch2 fR w] at h
  exact h

/-- The source words of a trip are inside the table, -/
theorem src_ok (v : IVec S16 32) (ix : Vec F S640 .i32) (hI : ∀ j : S640.Idx, (ix j).toNat < 20000) (t c : ℕ) (hc : c < 4)
    (hv : ∀ x : S16.Idx, (v x).toNat = 4 * (at1 (N := 640) (by decide) ix (16 * t + (x 0).val)).toNat + c) :
    ∀ a x, ((![v] : Fin 1 → IVec S16 32) a x).toNat < S80000.size a := by
  intro a x
  obtain rfl := Subsingleton.elim a 0
  show (v x).toNat < 80000
  rw [hv]
  have h : (at1 (N := 640) (by decide) ix (16 * t + (x 0).val)).toNat < 20000 := hI _
  omega

/-- the target words inside the rows. -/
theorem dst_ok (v : IVec S16 32) (t c : ℕ) (ht : t < 40) (hc : c < 4) (hv : ∀ x : S16.Idx, (v x).toNat = 64 * t + 4 * (x 0).val + c) :
    ∀ a x, ((![v] : Fin 1 → IVec S16 32) a x).toNat < S2560.size a := by
  intro a x
  obtain rfl := Subsingleton.elim a 0
  have hl : (x 0).val < 16 := (x 0).isLt
  show (v x).toNat < 2560
  rw [hv]; omega

/-- One trip: sixteen indices loaded, and for each of the four columns the lanes' words gathered out of the table and
    scattered into the rows scratch, every index in range. -/
theorem trip (fI : Buf (Elt F) (siLoc d L)) (fT : Buf (Elt F) (sxLoc d L)) (hI : ∀ j : S640.Idx, (fI j).toNat < 20000)
    (t : Fin k0_t1_loop.trips) (acc : BitVec 32) :
    tripInv d L fI fT t.val acc ⊢ wp frame (wpE (defs₀ (F := F)) 𝒱₀ (V d (cV L) (jV L)) none) Set.univ
      (k0_t1_body L iV (Memref.isWhole_whole _) xV (Memref.isWhole_whole _) oV (Memref.isWhole_whole _)
        sI (Memref.isWhole_whole _) sX (Memref.isWhole_whole _) sR (Memref.isWhole_whole _) cc0_scratch3 cc0_scoped0 cc0_scoped1 lanes t acc)
      fun r => tripInv d L fI fT (t.val + 1) r := by
  have ht : t.val < 40 := trips_eq ▸ t.isLt
  unfold k0_t1_body
  simp only [k0_part1_eq_skeleton]; unfold k0_part1_skel
  simp only [Prog.lift, Prog.bind_op, Prog.bind_ret, Prog.pure_eq_ret, SparseCore.vectorLoadIdx, SparseCore.vectorStoreIdx]
  unfold tripInv
  iintro ⟨HI, HX, %fr, %hfr, HR⟩
  iapply (wp_load 𝒱₀ (V d (cV L) (jV L)) none Set.univ (m := sI) (S := Finset.univ) (Finset.subset_univ _)) $$ HI; iintro HI
  have hv := load_val d L fI t
  generalize (sI).view.readAt (Elt F) (Rect.unit (s := S640) (k0_off3 t) S16.size (k0_off3_inb t)).toLoadRect fI = v at hv ⊢
  have hw : ∀ x : S16.Idx, (v x).toNat < 20000 := fun x => by rw [hv]; exact hI _
  have s0 : ∀ x : S16.Idx, (k0_pay1 v x).toNat = 4 * (at1 (N := 640) (by decide) fI (16 * t.val + (x 0).val)).toNat + 0 := fun x => by
    rw [pay1_val, src_val _ _ (hw x) (by decide), hv]; rfl
  have s1 : ∀ x : S16.Idx, (k0_pay3 v x).toNat = 4 * (at1 (N := 640) (by decide) fI (16 * t.val + (x 0).val)).toNat + 1 := fun x => by
    rw [pay3_val, src_val _ _ (hw x) (by decide), hv]; rfl
  have s2 : ∀ x : S16.Idx, (k0_pay5 v x).toNat = 4 * (at1 (N := 640) (by decide) fI (16 * t.val + (x 0).val)).toNat + 2 := fun x => by
    rw [pay5_val, src_val _ _ (hw x) (by decide), hv]; rfl
  have s3 : ∀ x : S16.Idx, (k0_pay8 v x).toNat = 4 * (at1 (N := 640) (by decide) fI (16 * t.val + (x 0).val)).toNat + 3 := fun x => by
    rw [pay8_val, src_val _ _ (hw x) (by decide), hv]; rfl
  have d0 : ∀ x : S16.Idx, (k0_pay2 lanes 0#32 1#32 t x).toNat = 64 * t.val + 4 * (x 0).val + 0 := fun x => by
    rw [pay2_val, dst_val _ _ _ ht (x 0).isLt (by decide)]; rfl
  have d1 : ∀ x : S16.Idx, (k0_pay4 lanes 0#32 1#32 t x).toNat = 64 * t.val + 4 * (x 0).val + 1 := fun x => by
    rw [pay4_val, dst_val _ _ _ ht (x 0).isLt (by decide)]; rfl
  have d2 : ∀ x : S16.Idx, (k0_pay7 (k0_pay6 lanes 0#32 1#32 t) x).toNat = 64 * t.val + 4 * (x 0).val + 2 := fun x => by
    rw [pay7_val, dst_val _ _ _ ht (x 0).isLt (by decide)]; rfl
  have d3 : ∀ x : S16.Idx, (k0_pay9 (Scf.iv 0#32 1#32 t) x).toNat = 64 * t.val + 4 * (x 0).val + 3 := fun x => by
    rw [pay9_val, dst_val _ _ _ ht (x 0).isLt (by decide)]; rfl
  iapply (wp_assume _ _ _ _ (src_ok _ fI hI t.val 0 (by decide) s0))
  iapply (table_load d L fT) $$ HX; iintro HX
  iapply (wp_assume _ _ _ _ (dst_ok _ t.val 0 ht (by decide) d0))
  iapply (rows_load d L _) $$ HR; iintro HR
  iapply (rows_store d L _ _) $$ HR; iintro HR
  iapply (wp_assume _ _ _ _ (src_ok _ fI hI t.val 1 (by decide) s1))
  iapply (table_load d L fT) $$ HX; iintro HX
  iapply (wp_assume _ _ _ _ (dst_ok _ t.val 1 ht (by decide) d1))
  iapply (rows_load d L _) $$ HR; iintro HR
  iapply (rows_store d L _ _) $$ HR; iintro HR
  iapply (wp_assume _ _ _ _ (src_ok _ fI hI t.val 2 (by decide) s2))
  iapply (table_load d L fT) $$ HX; iintro HX
  iapply (wp_assume _ _ _ _ (dst_ok _ t.val 2 ht (by decide) d2))
  iapply (rows_load d L _) $$ HR; iintro HR
  iapply (rows_store d L _ _) $$ HR; iintro HR
  iapply (wp_assume _ _ _ _ (src_ok _ fI hI t.val 3 (by decide) s3))
  iapply (table_load d L fT) $$ HX; iintro HX
  iapply (wp_assume _ _ _ _ (dst_ok _ t.val 3 ht (by decide) d3))
  iapply (rows_load d L _) $$ HR; iintro HR
  iapply (rows_store d L _ _) $$ HR; iintro HR
  rw [wp_ret]; imodintro
  isplitl [HI]; · iexact HI
  isplitl [HX]; · iexact HX
  iexists _
  isplitr; rotate_left
  · iexact HR
  ipureintro
  intro p hp
  have col : ∀ c : ℕ, (p 0).val % 4 = c → ¬ (p 0).val < 64 * t.val →
      ∃ l : ℕ, l < 16 ∧ (p 0).val = 64 * t.val + 4 * l + c := fun c hc hp' => ⟨((p 0).val - 64 * t.val) / 4, by omega, by omega⟩
  by_cases hlt : (p 0).val < 64 * t.val
  · exact column_store fI fT hI t.val ht 3 (by decide) _ _ _ _ s3 d3 _ p (.inl (column_store fI fT hI t.val ht 2 (by decide) _ _ _ _ s2 d2 _ p (.inl
      (column_store fI fT hI t.val ht 1 (by decide) _ _ _ _ s1 d1 _ p (.inl (column_store fI fT hI t.val ht 0 (by decide) _ _ _ _ s0 d0 _ p (.inl (hfr p hlt))))))))
  · have h4 : (p 0).val % 4 = 0 ∨ (p 0).val % 4 = 1 ∨ (p 0).val % 4 = 2 ∨ (p 0).val % 4 = 3 := by omega
    rcases h4 with h | h | h | h
    · exact column_store fI fT hI t.val ht 3 (by decide) _ _ _ _ s3 d3 _ p (.inl (column_store fI fT hI t.val ht 2 (by decide) _ _ _ _ s2 d2 _ p (.inl
        (column_store fI fT hI t.val ht 1 (by decide) _ _ _ _ s1 d1 _ p (.inl (column_store fI fT hI t.val ht 0 (by decide) _ _ _ _ s0 d0 _ p (.inr (col 0 h hlt))))))))
    · exact column_store fI fT hI t.val ht 3 (by decide) _ _ _ _ s3 d3 _ p (.inl (column_store fI fT hI t.val ht 2 (by decide) _ _ _ _ s2 d2 _ p (.inl
        (column_store fI fT hI t.val ht 1 (by decide) _ _ _ _ s1 d1 _ p (.inr (col 1 h hlt))))))
    · exact column_store fI fT hI t.val ht 3 (by decide) _ _ _ _ s3 d3 _ p (.inl (column_store fI fT hI t.val ht 2 (by decide) _ _ _ _ s2 d2 _ p (.inr (col 2 h hlt))))
    · exact column_store fI fT hI t.val ht 3 (by decide) _ _ _ _ s3 d3 _ p (.inr (col 3 h hlt))

end Trip

end Cert.Proof.Gather

end
-- ==== Proof.GatherBody.lean ====
/-
  One task of the row gather, run whole: what its fetches land, its program from the operands the launch hands it, and
  what it hands back. Task `2 s + c` is vector subcore `(c, s)`'s.
-/
module

public import proofs.«01_k».proof.Proof.GatherTile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.KernelIdeal.main_v0_scv : Memref Cert.KernelIdeal.sig Kind.scVector Space.hbm Cert.KernelIdeal.S20480 EltTy.i32)
local notation "xV" => (Memref.whole Cert.KernelIdeal.main_v1_scv : Memref Cert.KernelIdeal.sig Kind.scVector Space.hbm Cert.KernelIdeal.S320000 EltTy.f32)
local notation "oV" => (Memref.whole Cert.KernelIdeal.main_v2_scv : Memref Cert.KernelIdeal.sig Kind.scVector Space.hbm Cert.KernelIdeal.S81920 EltTy.f32)
local notation "sI" => (Memref.whole Cert.KernelIdeal.cc0_scratch0 : Memref Cert.KernelIdeal.sig Kind.scVector Space.vmem Cert.KernelIdeal.S640 EltTy.i32)
local notation "sX" => (Memref.whole Cert.KernelIdeal.cc0_scratch1 : Memref Cert.KernelIdeal.sig Kind.scVector Space.vmem Cert.KernelIdeal.S80000 EltTy.f32)
local notation "sR" => (Memref.whole Cert.KernelIdeal.cc0_scratch2 : Memref Cert.KernelIdeal.sig Kind.scVector Space.vmem Cert.KernelIdeal.S2560 EltTy.f32)

/-! ## The tasks' parts of the arrays -/

theorem idiv : 32 ∣ S20480.size 0 := ⟨640, rfl⟩
theorem odiv : 32 ∣ S81920.size 0 := ⟨2560, rfl⟩
/-- Task `w`'s six hundred and forty indices, and its two thousand five hundred and sixty words of the result. -/
abbrev ipart (w : Fin 32) : Rect S20480 := Rect.part (s := S20480) (a₀ := 0) idiv w
abbrev opart (w : Fin 32) : Rect S81920 := Rect.part (s := S81920) (a₀ := 0) odiv w
abbrev iSet (w : Fin 32) : Finset S20480.Idx := (ipart w).set
abbrev oSet (w : Fin 32) : Finset S81920.Idx := (opart w).set

/-- The task of a pair of coordinates. -/
def wL (L : grid0.Coords) : Fin 32 := ⟨2 * (L 1).val + (L 0).val, by
  have h0 : (L 0).val < 2 := (L 0).isLt
  have h1 : (L 1).val < 16 := (L 1).isLt
  omega⟩

section Body

variable (d : Dev nD) (L : grid0.Coords)

/-- The parts as the task addresses them. -/
abbrev iRectK (L : grid0.Coords) : Rect S20480 := Rect.unit (s := S20480) (k0_off1 L) S640.size (k0_off1_inb L)
abbrev xRectK (L : grid0.Coords) : Rect S320000 := Rect.unit (s := S320000) (k0_off2 L) S80000.size (k0_off2_inb L)
abbrev oRectK (L : grid0.Coords) : Rect S81920 := Rect.unit (s := S81920) (k0_off4 L) S2560.size (k0_off4_inb L)
abbrev iRowK (L : grid0.Coords) : Memref sig .scVector .hbm S640 .i32 := (iV).slice (iRectK L) (fun _ => rfl)
abbrev xRowK (L : grid0.Coords) : Memref sig .scVector .hbm S80000 .f32 := (xV).slice (xRectK L) (fun _ => rfl)
abbrev oRowK (L : grid0.Coords) : Memref sig .scVector .hbm S2560 .f32 := (oV).slice (oRectK L) (fun _ => rfl)

theorem ioff (L : grid0.Coords) : k0_off1 L 0 = 640 * (wL L).val := by
  rw [k0_off1_eq]
  show 1280 * (L 1).val + 640 * (L 0).val = 640 * (2 * (L 1).val + (L 0).val)
  omega
theorem ooff (L : grid0.Coords) : k0_off4 L 0 = 2560 * (wL L).val := by
  rw [k0_off4_eq]
  show 5120 * (L 1).val + 2560 * (L 0).val = 2560 * (2 * (L 1).val + (L 0).val)
  omega
theorem xoff_pair : ∀ (c : Fin 2) (s : Fin 16), k0_off2 (fun | 0 => c | 1 => s) 0 = 80000 * ((2 * s.val + c.val) / 8) := by
  decide +kernel
theorem xoff (L : grid0.Coords) : k0_off2 L 0 = 80000 * ((wL L).val / 8) := by
  have h := xoff_pair (L 0) (L 1)
  rw [show (fun | 0 => L 0 | 1 => L 1 : grid0.Coords) = L from funext fun a => match a with | 0 => rfl | 1 => rfl] at h
  exact h

theorem iRectK_eq : iRectK L = ipart (wL L) := by
  unfold iRectK ipart Rect.part Rect.block
  congr 1 <;> funext a
  · match a with
    | 0 => rw [ioff]; simp [Shape.partIx, Shape.partSize]; omega
  · match a with
    | 0 => simp [Shape.partSize]
theorem oRectK_eq : oRectK L = opart (wL L) := by
  unfold oRectK opart Rect.part Rect.block
  congr 1 <;> funext a
  · match a with
    | 0 => rw [ooff]; simp [Shape.partIx, Shape.partSize]; omega
  · match a with
    | 0 => simp [Shape.partSize]

theorem set_iRowK : (iRowK L).view.set = iSet (wL L) := by
  show ((iV).view.slice (iRectK L)).set = _
  rw [View.set_slice_whole, iRectK_eq]
theorem set_oRowK : (oRowK L).view.set = oSet (wL L) := by
  show ((oV).view.slice (oRectK L)).set = _
  rw [View.set_slice_whole, oRectK_eq]

theorem pts_iRowK (f : Buf (Elt F) (iLoc d)) :
    ((iRowK L).view.loc (V d (cV L) (jV L)) ↦[(iRowK L).view.set]{fullShare} f : sProp 𝕄) = iLoc d ↦[iSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl

/-! ## What the fetches land -/

/-- The indices the task fetches, and the table. -/
abbrev landI (cI : Buf (Elt F) (iLoc d)) : Vec F S640 .i32 := (iRowK L).view.read (Elt F) cI
abbrev landX (cX : Buf (Elt F) (xLoc d)) : Vec F S80000 .f32 := (xRowK L).view.read (Elt F) cX

theorem landI_at (cI : Buf (Elt F) (iLoc d)) (x : S640.Idx) : landI d L cI x = at1 (N := 20480) (by decide) cI (640 * (wL L).val + (x 0).val) := by
  refine ((View.read_apply _ _).trans (cast_eq _ _)).trans ?_
  refine (at1_eq (N := 20480) (by decide) cI _ _ ?_).symm
  show _ = k0_off1 L 0 + 1 * (x 0).val
  rw [ioff, one_mul]
theorem landX_at (cX : Buf (Elt F) (xLoc d)) (x : S80000.Idx) :
    landX d L cX x = at1 (N := 320000) (by decide) cX (80000 * ((wL L).val / 8) + (x 0).val) := by
  refine ((View.read_apply _ _).trans (cast_eq _ _)).trans ?_
  refine (at1_eq (N := 320000) (by decide) cX _ _ ?_).symm
  show _ = k0_off2 L 0 + 1 * (x 0).val
  rw [xoff, one_mul]

/-- What the task's rows come to is its part of the gathered rows. -/
theorem rows_part (cI : Buf (Elt F) (iLoc d)) (cX : Buf (Elt F) (xLoc d)) (hI : ∀ j : S20480.Idx, (cI j).toNat < 20000) (p : S2560.Idx) :
    rowsOf (landI d L cI) (landX d L cX) p = gathered cI cX ((oRowK L).view.emb p) := by
  have hp : (p 0).val < 2560 := (p 0).isLt
  have hw : (wL L).val < 32 := (wL L).isLt
  have e : (((oRowK L).view.emb p) 0).val = 2560 * (wL L).val + (p 0).val := by
    show k0_off4 L 0 + 1 * (p 0).val = _
    rw [ooff, one_mul]
  unfold gathered rowsOf
  rw [e]
  have ei : at1 (N := 640) (by decide) (landI d L cI) ((p 0).val / 4) = at1 (N := 20480) (by decide) cI ((2560 * (wL L).val + (p 0).val) / 4) := by
    unfold at1
    rw [landI_at]
    show at1 (N := 20480) _ cI (640 * (wL L).val + ((p 0).val / 4) % 640) = _
    rw [show (2560 * (wL L).val + (p 0).val) / 4 = 640 * (wL L).val + ((p 0).val / 4) % 640 by omega]
    rfl
  rw [ei]
  have hn : (at1 (N := 20480) (by decide) cI ((2560 * (wL L).val + (p 0).val) / 4)).toNat < 20000 := hI _
  generalize (at1 (N := 20480) (by decide) cI ((2560 * (wL L).val + (p 0).val) / 4)).toNat = n at hn
  unfold at1
  rw [landX_at]
  show at1 (N := 320000) _ cX (80000 * ((wL L).val / 8) + (4 * n + (p 0).val % 4) % 80000) = _
  rw [show 80000 * ((2560 * (wL L).val + (p 0).val) / 20480) + 4 * n + (2560 * (wL L).val + (p 0).val) % 4
      = 80000 * ((wL L).val / 8) + (4 * n + (p 0).val % 4) % 80000 by omega]
  rfl

/-! ## The task's own semaphores and scratches -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scoped1.sem)

/-- The three semaphores are among the subcore's own: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- So are the three scratches, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The task -/

variable [FloatOps F]

set_option maxHeartbeats 4000000 in
/-- The task on vector subcore `(L 0, L 1)` of device `d`: its indices and its table fetched, the forty trips, and the
    rows written out, every index being below 20000. -/
theorem tile_body (cI : Buf (Elt F) (iLoc d)) (cX : Buf (Elt F) (xLoc d)) (cO : Buf (Elt F) (oLoc d)) (q : PosShare TreeShare)
    (hF : (K (F := F)).Facts) (hI : ∀ j : S20480.Idx, (cI j).toNat < 20000)
    (O : CellTallies nD τ sig (HIx 1)) (W : Waits sig (HIx 1)) (hO : ∀ g, O g none = 0) :
    (iprop(levAts (K (F := F)).L (K (F := F)).lev ∗ emp
        ∗ ((iLoc d ↦[iSet (wL L)]{fullShare} cI) ∗ (xLoc d ↦{q} cX) ∗ (oLoc d ↦[oSet (wL L)]{fullShare} cO))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__gather_body L iV (Memref.isWhole_whole _) xV (Memref.isWhole_whole _) oV (Memref.isWhole_whole _)
            sI (Memref.isWhole_whole _) sX (Memref.isWhole_whole _) sR (Memref.isWhole_whole _) cc0_scratch3 cc0_scoped0 cc0_scoped1)
          fun _ => iprop(((iLoc d ↦[iSet (wL L)]{fullShare} cI) ∗ (xLoc d ↦{q} cX) ∗ (oLoc d ↦[oSet (wL L)]{fullShare} gathered cI cX))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fx, Hsx⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (show ((V d (cV L) (jV L)).loc cc0_scratch0 ↦{fullShare} fs : sProp 𝕄) = (sI).view.loc (V d (cV L) (jV L)) ↦{fullShare} fs from rfl)) $$ Hs
  ihave Hsx' := (Entails.of_eq (show ((V d (cV L) (jV L)).loc cc0_scratch1 ↦{fullShare} fx : sProp 𝕄) = (sX).view.loc (V d (cV L) (jV L)) ↦{fullShare} fx from rfl)) $$ Hsx
  ihave Hr' := (Entails.of_eq (show ((V d (cV L) (jV L)).loc cc0_scratch2 ↦{fullShare} fr : sProp 𝕄) = (sR).view.loc (V d (cV L) (jV L)) ↦{fullShare} fr from rfl)) $$ Hr
  sl_exec
  have eI : View.write (Elt F) (sI).view fs (tile_body.sl.dma0 d L cI) Finset.univ = landI d L cI := View.write_whole_univ _ _ _
  have eX : View.write (Elt F) (sX).view fx (tile_body.sl.dma0_1 d L cX) Finset.univ = landX d L cX := View.write_whole_univ _ _ _
  have hland : ∀ j : S640.Idx, (landI d L cI j).toNat < 20000 := fun j => by rw [landI_at]; exact hI _
  rw [eI, eX]
  rw [bind_assoc]
  sl_for (tripInv d L (landI d L cI) (landX d L cX)) $$ [Hs' Hsx' Hr']
  case region =>
    intro k acc
    exact trip d L _ _ hland k acc
  · unfold tripInv
    isplitl [Hs']; · iexact Hs'
    isplitl [Hsx']; · iexact Hsx'
    iexists _; isplitr; rotate_left
    · iexact Hr'
    ipureintro; intro p hp
    exact absurd hp (by omega)
  iintro %acc HT; unfold tripInv
  icases HT with ⟨Hs', Hsx', %fe, %hfe, Hr'⟩
  have hfull : fe = rowsOf (landI d L cI) (landX d L cX) := funext fun p => hfe p (by
    have h : (p 0).val < 2560 := (p 0).isLt
    rw [show Scf.trips k0_t1_loop.lb k0_t1_loop.ub k0_t1_loop.st = 40 from trips_eq]; omega)
  subst hfull
  sl_exec
  sl_step
  have eo : ∀ i ∈ (oRowK L).view.set, (oRowK L).view.writes (Elt F) cO [⟨Rect.whole S2560, tile_body.sl.dma0_2 d L cI cX⟩] i = gathered cI cX i := by
    intro i hi
    obtain ⟨y, -, rfl⟩ := Finset.mem_map.mp hi
    have h := congrFun (View.read_writes_whole (oRowK L).view cO (tile_body.sl.dma0_2 d L cI cX)) y
    rw [View.read_apply] at h
    exact ((cast_eq _ _).symm.trans h).trans (rows_part d L cI cX hI y)
  ihave Ho2 := (Entails.of_eq (pointsTo_congr (ℓ := (oRowK L).view.loc (V d (cV L) (jV L))) (q := fullShare) eo)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs' Hsx' Hr' Hbufs]
  · isplitl [Hs']; · iexists _; iexact Hs'
    isplitl [Hsx']; · iexists _; iexact Hsx'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Body

end Cert.Proof.Gather

end
-- ==== Proof.GatherRun.lean ====
/-
  The run of the row gather's program: two host reshapes, the SparseCore call on its thirty-two vector subcores, and a
  reshape of what it leaves. From a launch memory whose indices are all below 20000 every weakly fair execution of the
  device's threads terminates with the arguments unchanged, every semaphore at zero and the result at the gathered rows.
-/
module

public import proofs.«01_k».proof.Proof.GatherBody

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} (m : (ℓ : Loc nD τ sig) → Buf (Elt F) ℓ) (ρ : Dev nD → PrngReg)

local notation "𝕄" => MT nD τ sig (HIx 1) (Elt F) ℕ UU ℕ
local notation "iV" => (Memref.whole Cert.KernelIdeal.main_v0_scv : Memref Cert.KernelIdeal.sig Kind.scVector Space.hbm Cert.KernelIdeal.S20480 EltTy.i32)
local notation "xV" => (Memref.whole Cert.KernelIdeal.main_v1_scv : Memref Cert.KernelIdeal.sig Kind.scVector Space.hbm Cert.KernelIdeal.S320000 EltTy.f32)
local notation "oV" => (Memref.whole Cert.KernelIdeal.main_v2_scv : Memref Cert.KernelIdeal.sig Kind.scVector Space.hbm Cert.KernelIdeal.S81920 EltTy.f32)
local notation "sI" => (Memref.whole Cert.KernelIdeal.cc0_scratch0 : Memref Cert.KernelIdeal.sig Kind.scVector Space.vmem Cert.KernelIdeal.S640 EltTy.i32)
local notation "sX" => (Memref.whole Cert.KernelIdeal.cc0_scratch1 : Memref Cert.KernelIdeal.sig Kind.scVector Space.vmem Cert.KernelIdeal.S80000 EltTy.f32)
local notation "sR" => (Memref.whole Cert.KernelIdeal.cc0_scratch2 : Memref Cert.KernelIdeal.sig Kind.scVector Space.vmem Cert.KernelIdeal.S2560 EltTy.f32)

/-! ## What the handshakes carry -/

theorem nCore_zero : (K (F := F)).nCore 0 = 2 := rfl
theorem nSub_zero : (K (F := F)).nSub 0 = 16 := rfl

/-- The task of subcore `i` of SparseCore `c`. -/
def tk (c : Fin ((K (F := F)).nCore 0)) (i : Fin ((K (F := F)).nSub 0)) : Fin 32 := ⟨2 * i.val + c.val, by
  have h0 : c.val < 2 := c.isLt
  have h1 : i.val < 16 := i.isLt
  omega⟩

section Pay

variable (cI : (d : Dev nD) → Buf (Elt F) (iLoc d)) (cX : (d : Dev nD) → Buf (Elt F) (xLoc d)) (cO : (d : Dev nD) → Buf (Elt F) (oLoc d))

/-- Task `w`'s operands: its indices, a share of the tables, its part of the result at `g`. -/
abbrev taskPts (g : (d : Dev nD) → Buf (Elt F) (oLoc d)) (d : Dev nD) (w : Fin 32) : sProp 𝕄 :=
  iprop((iLoc d ↦[iSet w]{fullShare} cI d) ∗ (xLoc d ↦{Transfers.shareTok fullShare 32 w} cX d) ∗ (oLoc d ↦[oSet w]{fullShare} g d))

/-- The rows the call leaves. -/
abbrev outs (d : Dev nD) : Buf (Elt F) (oLoc d) := gathered (cI d) (cX d)

/-- Each SparseCore takes its sixteen tasks' operands, each task its own; they come back with the result's parts gathered. -/
def P : (K (F := F)).Pay (nD := nD) (Val := Elt F) (Name := ℕ) (U := UU) where
  st := fun q d c => match q with | 0 => bigSep Finset.univ fun i => taskPts cI cX cO d (tk c i)
  dn := fun q d c => match q with | 0 => bigSep Finset.univ fun i => taskPts cI cX (outs cI cX) d (tk c i)
  go := fun q d c i => match q with | 0 => taskPts cI cX cO d (tk c i)
  td := fun q d c i => match q with | 0 => taskPts cI cX (outs cI cX) d (tk c i)
  x := fun _ _ => iprop(emp)

instance P_storable : (P cI cX cO).IsStorable where
  st q d c := match q with
    | 0 => (inferInstance : BI.Storable (upEmb : UEmb _ 𝕄) (bigSep Finset.univ fun i => taskPts cI cX cO d (tk c i)))
  dn q d c := match q with
    | 0 => (inferInstance : BI.Storable (upEmb : UEmb _ 𝕄) (bigSep Finset.univ fun i => taskPts cI cX (outs cI cX) d (tk c i)))
  go q d c i := match q with
    | 0 => (inferInstance : BI.Storable (upEmb : UEmb _ 𝕄) (taskPts cI cX cO d (tk c i)))
  td q d c i := match q with
    | 0 => (inferInstance : BI.Storable (upEmb : UEmb _ 𝕄) (taskPts cI cX (outs cI cX) d (tk c i)))

/-! ## The parts split and join -/

theorem iparts_disjoint : ∀ i ∈ (Finset.univ : Finset (Fin 32)), ∀ j ∈ (Finset.univ : Finset (Fin 32)), i ≠ j → Disjoint (iSet i) (iSet j) :=
  fun _ _ _ _ h => Rect.part_disjoint idiv h
theorem oparts_disjoint : ∀ i ∈ (Finset.univ : Finset (Fin 32)), ∀ j ∈ (Finset.univ : Finset (Fin 32)), i ≠ j → Disjoint (oSet i) (oSet j) :=
  fun _ _ _ _ h => Rect.part_disjoint odiv h

theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iparts_disjoint, show (Finset.univ : Finset (Fin 32)).biUnion iSet = Finset.univ from Rect.biUnion_part idiv]
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oparts_disjoint, show (Finset.univ : Finset (Fin 32)).biUnion oSet = Finset.univ from Rect.biUnion_part odiv]

/-- The thirty-two tasks are the two SparseCores' sixteen. -/
theorem bigSep_tasks (Φ : Fin 32 → sProp 𝕄) :
    (bigSep Finset.univ fun c : Fin ((K (F := F)).nCore 0) => bigSep Finset.univ fun i : Fin ((K (F := F)).nSub 0) => Φ (tk c i)) = bigSep Finset.univ Φ := by
  let e : Fin 2 × Fin 16 ≃ Fin 32 := (Equiv.prodComm _ _).trans finProdFinEquiv
  refine Eq.trans ?_ (bigSep_univ_equiv e Φ).symm
  refine Eq.trans ?_ (bigSep_univ_prod fun x : Fin 2 × Fin 16 => Φ (e x)).symm
  refine bigSep_congr fun c _ => bigSep_congr fun i _ => congrArg Φ (Fin.ext ?_)
  show 2 * i.val + c.val = c.val + 2 * i.val
  omega

/-- The three arrays are the tasks' operands and what is left of the tables' share. -/
theorem tasks_split (g : (d : Dev nD) → Buf (Elt F) (oLoc d)) (d : Dev nD) :
    iprop((iLoc d ↦{fullShare} cI d) ∗ (xLoc d ↦{fullShare} cX d) ∗ (oLoc d ↦{fullShare} g d))
      ⊢ (iprop((xLoc d ↦{Transfers.shareDrop fullShare 32} cX d) ∗ bigSep Finset.univ fun c : Fin ((K (F := F)).nCore 0) => bigSep Finset.univ fun i => taskPts cI cX g d (tk c i)) : sProp 𝕄) := by
  rw [bigSep_tasks (taskPts cI cX g d), bigSep_sep', bigSep_sep', iPts_parts, oPts_parts]
  iintro ⟨Hi, Hx, Ho⟩
  ihave Hx := (Transfers.pointsTo_toks_split (ℓ := xLoc d) (S := Finset.univ) (f := cX d) fullShare 32) $$ Hx
  icases Hx with ⟨Hr, Hx⟩
  isplitl [Hr]; · iexact Hr
  isplitl [Hi]; · iexact Hi
  isplitl [Hx]; · iexact Hx
  iexact Ho
theorem tasks_join (g : (d : Dev nD) → Buf (Elt F) (oLoc d)) (d : Dev nD) :
    (iprop((xLoc d ↦{Transfers.shareDrop fullShare 32} cX d) ∗ bigSep Finset.univ fun c : Fin ((K (F := F)).nCore 0) => bigSep Finset.univ fun i => taskPts cI cX g d (tk c i)) : sProp 𝕄)
      ⊢ iprop((iLoc d ↦{fullShare} cI d) ∗ (xLoc d ↦{fullShare} cX d) ∗ (oLoc d ↦{fullShare} g d)) := by
  rw [bigSep_tasks (taskPts cI cX g d), bigSep_sep', bigSep_sep', iPts_parts, oPts_parts]
  iintro ⟨Hr, Hi, Hx, Ho⟩
  isplitl [Hi]; · iexact Hi
  isplitl [Hr Hx]
  · iapply (Transfers.pointsTo_toks_join (ℓ := xLoc d) (S := Finset.univ) (f := cX d) fullShare 32)
    isplitl [Hr] <;> iassumption
  iexact Ho

variable [FloatOps F]

theorem vecSplit : (K (F := F)).VecSplit' (P cI cX cO) 0 := by
  intro d c
  show (bigSep Finset.univ fun i => taskPts cI cX cO d (tk c i)) ⊢ |={Set.univ}=> iprop(
      (bigSep Finset.univ fun i => taskPts cI cX cO d (tk c i))
      ∗ ((bigSep Finset.univ fun i => taskPts cI cX (outs cI cX) d (tk c i)) -∗ (bigSep Finset.univ fun i => taskPts cI cX (outs cI cX) d (tk c i))))
  iintro H; imodintro
  isplitl [H]; · iexact H
  iintro H; iexact H

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) xV (Memref.isWhole_whole _) oV (Memref.isWhole_whole _)
          sI (Memref.isWhole_whole _) sX (Memref.isWhole_whole _) sR (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d, ∀ j : S20480.Idx, (cI d j).toNat < 20000) :
    (K (F := F)).TileObl (D (F := F)) 𝒱 (P cI cX cO) v₀ 0 := by
  intro d c i O W hO _ _
  simp only [show (P cI cX cO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (cI d) (cX d) (cO d) (Transfers.shareTok fullShare 32 (tk c i)) hF (hI d) O W hO).trans
    (wp_mono frame _ _ fun _ => obl_post)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P cI cX cO).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P cI cX cO).x q thr) = bigSep Finset.univ fun _ => iprop(emp) from
    bigSep_congr fun _ _ => bigSep_univ_of_subsingleton (0 : Fin 1), bigSep_emp']
  iempintro

end Pay

/-! ## @main on the TensorCore -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v3

variable [FloatOps F]

abbrev opI : HloOp τ sig (Elt F) := StableHlo.reshape main_arg0 main_v0 (rfl : (.i32 : EltTy) = .i32) shapeCasts_S4x40x128_S20480
abbrev opX : HloOp τ sig (Elt F) := StableHlo.reshape main_arg1 main_v1 (rfl : (.f32 : EltTy) = .f32) shapeCasts_S4x20000x4_S320000
abbrev opR : HloOp τ sig (Elt F) := StableHlo.reshape main_v2 main_v3 (rfl : (.f32 : EltTy) = .f32) shapeCasts_S81920_S20480x4

/-- The TensorCore's arrays. -/
abbrev S6 : Finset (DevRef τ sig) := {a0', a1', i', x', o', r'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (iLoc d ↦{fullShare} W i')
      ∗ (xLoc d ↦{fullShare} W x') ∗ (oLoc d ↦{fullShare} W o') ∗ (rLoc d ↦{fullShare} W r')) := by
  unfold held S6
  rw [SparseCore.bigSep_insert' (by decide), SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_v0)
      ∗ (xLoc d ↦{fullShare} W main_v1) ∗ (oLoc d ↦{fullShare} W main_v2) ∗ (rLoc d ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The arrays at the launch, after the two reshapes, after the call, and at the end. -/
def V0 (d : Dev nD) : Valuation τ sig (Elt F) := fun b => m (d, b)
def V2 (d : Dev nD) : Valuation τ sig (Elt F) := opX.result (opI.result (V0 m d))
def cI (d : Dev nD) : Buf (Elt F) (iLoc d) := V2 m d i'
def cX (d : Dev nD) : Buf (Elt F) (xLoc d) := V2 m d x'
def cO (d : Dev nD) : Buf (Elt F) (oLoc d) := V2 m d o'
def V3 (d : Dev nD) : Valuation τ sig (Elt F) := Function.update (V2 m d) o' (outs (cI m) (cX m) d)
def V4 (d : Dev nD) : Valuation τ sig (Elt F) := opR.result (V3 m d)

theorem unscoped_held (d : Dev nD) : (unscopedBufs d (fun b => m ((SparseCore.T d).loc b)) : sProp 𝕄) = held (T d) S6 (V0 m d) := by
  rw [unscopedBufs_eq, held_S6]; rfl

theorem V2_a0 (d : Dev nD) : V2 m d a0' = m (a0Loc d) := by
  unfold V2
  rw [HloOp.result_of_not_mem _ _ (show a0' ∉ ({x'} : Finset (DevRef τ sig)) by decide), HloOp.result_of_not_mem _ _ (show a0' ∉ ({i'} : Finset (DevRef τ sig)) by decide)]
  rfl
theorem V2_a1 (d : Dev nD) : V2 m d a1' = m (a1Loc d) := by
  unfold V2
  rw [HloOp.result_of_not_mem _ _ (show a1' ∉ ({x'} : Finset (DevRef τ sig)) by decide), HloOp.result_of_not_mem _ _ (show a1' ∉ ({i'} : Finset (DevRef τ sig)) by decide)]
  rfl
theorem V3_ne (d : Dev nD) (b : DevRef τ sig) (h : b ≠ o') : V3 m d b = V2 m d b := Function.update_of_ne h _ _
theorem V4_a0 (d : Dev nD) : V4 m d a0' = m (a0Loc d) := by
  unfold V4
  rw [HloOp.result_of_not_mem _ _ (show a0' ∉ ({r'} : Finset (DevRef τ sig)) by decide), V3_ne m d _ (by decide), V2_a0]
theorem V4_a1 (d : Dev nD) : V4 m d a1' = m (a1Loc d) := by
  unfold V4
  rw [HloOp.result_of_not_mem _ _ (show a1' ∉ ({r'} : Finset (DevRef τ sig)) by decide), V3_ne m d _ (by decide), V2_a1]

/-- The result the program leaves. -/
def res (d : Dev nD) : Buf (Elt F) (rLoc d) := V4 m d r'

/-- What @main leaves the claim: the arguments at their launch contents, the result at the gathered rows. -/
abbrev FIN (d : Dev nD) : sProp 𝕄 := iprop((a0Loc d ↦{fullShare} m (a0Loc d)) ∗ (a1Loc d ↦{fullShare} m (a1Loc d)) ∗ (rLoc d ↦{fullShare} res m d))

theorem hI_sub : (opI (F := F)).bufs ⊆ S6 := show ({a0', i'} : Finset (DevRef τ sig)) ⊆ S6 by decide
theorem hX_sub : (opX (F := F)).bufs ⊆ S6 := show ({a1', x'} : Finset (DevRef τ sig)) ⊆ S6 by decide
theorem hR_sub : (opR (F := F)).bufs ⊆ S6 := show ({o', r'} : Finset (DevRef τ sig)) ⊆ S6 by decide

theorem hmain (κ : GSem nD τ sig → ℕ) (d : Dev nD) :
    iprop((K (F := F)).ctx EH (P (cI m) (cX m) (cO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S6) hI_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opX) (S := S6) hX_sub (V := (opI (F := F)).result (V0 m d))) $$ [Hb Hheld]
  · isplitl [Hb]; · iexact Hb
    iexact Hheld
  iintro ⟨Hb, Hheld⟩
  rw [wp_ret]; imodintro
  ihave Hh := (Entails.of_eq (show (held (T d) S6 (opX.result (opI.result (V0 m d))) : sProp 𝕄) = _ from held_S6 (F := F) d (V2 m d))) $$ Hheld
  icases Hh with ⟨Ha0, Ha1, Hi, Hx, Ho, Hr⟩
  ihave Hs := (tasks_split (cI m) (cX m) (cO m) d) $$ [Hi Hx Ho]
  · isplitl [Hi]; · iexact Hi
    isplitl [Hx]; · iexact Hx
    iexact Ho
  icases Hs with ⟨Hrest, Htasks⟩
  iapply ((K (F := F)).wp_run (D (F := F)) 𝒱 (EH := EH) (P := P (cI m) (cX m) (cO m)) κ d 0) $$ [Hst Htasks Ha0 Ha1 Hr Hrest Hb Hts]
  isplitr; · iexact Hctx
  isplitl [Hst]; · iexact Hst
  isplitl [Htasks]; · iexact Htasks
  iintro ⟨Hst, Hdn⟩
  ihave Hj := (tasks_join (cI m) (cX m) (outs (cI m) (cX m)) d) $$ [Hrest Hdn]
  · isplitl [Hrest]; · iexact Hrest
    iexact Hdn
  icases Hj with ⟨Hi, Hx, Ho⟩
  iapply (wp_hlo_within 𝒱 (SparseCore.T d) none Set.univ (op := opR) (S := S6) hR_sub (V := V3 m d)) $$ [Hb Ha0 Ha1 Hi Hx Ho Hr]
  · isplitl [Hb]; · iexact Hb
    rw [held_S6, V3_ne m d a0' (by decide), V3_ne m d a1' (by decide), V3_ne m d i' (by decide), V3_ne m d x' (by decide), V3_ne m d r' (by decide),
      show V3 m d o' = outs (cI m) (cX m) d from Function.update_self _ _ _]
    isplitl [Ha0]; · iexact Ha0
    isplitl [Ha1]; · iexact Ha1
    isplitl [Hi]; · iexact Hi
    isplitl [Hx]; · iexact Hx
    isplitl [Ho]; · iexact Ho
    iexact Hr
  iintro ⟨Hb, Hheld⟩
  ihave Hh := (Entails.of_eq (show (held (T d) S6 (opR.result (V3 m d)) : sProp 𝕄) = _ from held_S6 (F := F) d (V4 m d))) $$ Hheld
  rw [V4_a0, V4_a1]
  icases Hh with ⟨Ha0, Ha1, -, -, -, Hr⟩
  rw [wp_ret]; imodintro; imodintro
  isplitl [Hst]; · iexact Hst
  isplitr [Hb Hts]
  · isplitl [Ha0]; · iexact Ha0
    isplitl [Ha1]; · iexact Ha1
    iexact Hr
  isplitl [Hb] <;> iassumption

def fq (d : Dev nD) (s' : Phys nD τ sig (Elt F)) : Prop :=
  s'.mem.mem (a0Loc d) = m (a0Loc d) ∧ s'.mem.mem (a1Loc d) = m (a1Loc d) ∧ s'.mem.mem (rLoc d) = res m d

set_option maxRecDepth 16384 in
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := res m d)) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-! ## The run -/

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

def QC : PUnit × MemSt nD τ sig (Elt F) → Prop := fun r => (∀ d : Dev nD, r.2.mem (a0Loc d) = m (a0Loc d) ∧ r.2.mem (a1Loc d) = m (a1Loc d) ∧ r.2.mem (rLoc d) = res m d) ∧ r.2.sem = fun _ => 0

/-- The whole program's run. -/
theorem run_main [∀ e, Nonempty (Elt F e)] (hI : ∀ d, ∀ j : S20480.Idx, (cI m d j).toNat < 20000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (cI m) (cX m) (cO m)) (A := ∅) facts v₀
    (fun q hq => match q with | 0 => nomatch hq)
    (fun q _ => match q with | 0 => tileObl _ _ _ facts hI)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Proof.Gather

end
-- ==== Proof.GatherValue.lean ====
/-
  What the row gather's two programs leave, entry by entry: the kernel's composed result and the reference's are the
  same function of the indices and the table wherever every index is a row number.
-/
module

public import proofs.«01_k».proof.Proof.GatherRun
public import proofs.«01_k».proof.Defs
public import proofs.«01_k».proof.Proof.Gen.Pre_idx_in_rows
public import proofs.«01_k».proof.Proof.Gen.ReferenceIdeal
public import proofs.«01_k».proof.Proof.Gen.ReferenceIdeal.Run
public import Idealize.ShloMosaic.Lib.ValueIdxCore
public import Idealize.ShloMosaic.Lib.ReduceAll
public import Idealize.ShloMosaic.Lib.Pipeline.Value

@[expose] public section

noncomputable section

namespace Cert.Proof.Gather

open Cert.KernelIdeal Cert.KernelIdeal.Gen
open Idealize.ShloMosaic Idealize.SL.Sem Idealize.ShloMosaic.ValueIdx

variable {F : FTy → Type} [FloatOps F]

/-- A word that the two comparisons of the precondition let through is below the number of rows. -/
theorem below_of_bits (w : BitVec 32) (h0 : IntOp.cmpi .sge w 0#32 = 1#1) (h1 : IntOp.cmpi .slt w 20000#32 = 1#1) : w.toNat < 20000 := by
  unfold IntOp.cmpi at h0 h1
  simp only [BitVec.sle_eq_decide, BitVec.slt_eq_decide, BitVec.toInt_eq_toNat_cond] at h0 h1
  have e0 : (0#32 : BitVec 32).toNat = 0 := rfl
  have e1 : (20000#32 : BitVec 32).toNat = 20000 := rfl
  have hb := w.isLt
  have bit : ∀ b : Bool, BitVec.ofBool b = 1#1 → b = true := by decide
  have h0 := of_decide_eq_true (bit _ h0)
  have h1 := of_decide_eq_true (bit _ h1)
  rw [e0] at h0; rw [e1] at h1
  split_ifs at h0 h1 <;> omega

/-- The precondition's bit says every index is a row number. -/
theorem below_of_pre (ix : IVec S4x40x128 32) (tb : FVec F S4x20000x4 .f32)
    (h : Cert.Pre_idx_in_rows.fn (F := F) ix tb = fun _ => 1#1) (j : S4x40x128.Idx) : (ix j).toNat < 20000 := by
  haveI : Subsingleton Cert.Pre_idx_in_rows.S_.Idx := ⟨fun a b => funext fun k => k.elim0⟩
  have hj := Host.reduce_andi_all _ _ _ _ ValueIdx.ix0 (congrFun h ValueIdx.ix0) j
  have both : ∀ a b : BitVec 1, IntOp.andi a b = 1#1 → a = 1#1 ∧ b = 1#1 := by decide
  obtain ⟨h0, h1⟩ := both _ _ hj
  exact below_of_bits _ h0 h1

/-- The flat indices are the array's, so all of them are row numbers when the array's are. -/
theorem flat_below (ix : IVec S4x40x128 32) (h : ∀ j, (ix j).toNat < 20000) (j : S20480.Idx) :
    (shapeCast S20480 ix shapeCasts_S4x40x128_S20480 j).toNat < 20000 := h _

variable (m : (ℓ : Loc nD τ sig) → Buf (Elt F) ℓ)

/-- The list the SparseCore call reads is the argument's array, flat. -/
theorem cI_eq (d : Dev nD) : cI m d = shapeCast S20480 (m (a0Loc d)) shapeCasts_S4x40x128_S20480 := by
  unfold cI V2
  rw [HloOp.result_of_not_mem _ _ (show i' ∉ ({x'} : Finset (DevRef τ sig)) by decide)]
  exact StableHlo.reshape_result main_arg0 main_v0 rfl shapeCasts_S4x40x128_S20480 _ _ (V0 m d)

/-- The table the SparseCore call reads is the argument's array, flat. -/
theorem cX_eq (d : Dev nD) : cX m d = shapeCast S320000 (m (a1Loc d)) shapeCasts_S4x20000x4_S320000 := by
  unfold cX V2
  refine (StableHlo.reshape_result main_arg1 main_v1 rfl shapeCasts_S4x20000x4_S320000 _ _ (opI.result (V0 m d))).trans ?_
  rw [show (opI (F := F)).result (V0 m d) (Proc.devRef .tc main_arg1) = V0 m d a1' from HloOp.result_of_not_mem _ _ (show a1' ∉ ({i'} : Finset (DevRef τ sig)) by decide)]
  rfl

/-- The result is the gathered words in rows of four. -/
theorem res_eq (d : Dev nD) : res m d = shapeCast S20480x4 (gathered (cI m d) (cX m d)) shapeCasts_S81920_S20480x4 := by
  unfold res V4
  refine (StableHlo.reshape_result main_v2 main_v3 rfl shapeCasts_S81920_S20480x4 _ _ (V3 m d)).trans ?_
  rw [show V3 m d (Proc.devRef .tc main_v2) = outs (cI m) (cX m) d from Function.update_self ..]
  rfl

/-- The kernel's result at row `r`, column `k`: the table of the row's image, at the row's index. -/
theorem res_apply (d : Dev nD) (hI : ∀ j, (m (a0Loc d) j).toNat < 20000) (q : S20480x4.Idx) (j : S4x40x128.Idx) (i : S4x20000x4.Idx)
    (hj : (((j 0).val * 40 + (j 1).val) * 128 + (j 2).val) = (q 0).val) (hi0 : (i 0).val = (q 0).val / 5120)
    (hi1 : (i 1).val = (m (a0Loc d) j).toNat) (hi2 : (i 2).val = (q 1).val) :
    res m d q = m (a1Loc d) i := by
  have hq0 : (q 0).val < 20480 := (q 0).isLt
  have hq1 : (q 1).val < 4 := (q 1).isLt
  have hn : (m (a0Loc d) j).toNat < 20000 := hI j
  rw [res_eq, shapeCast_apply _ _ q (ValueIdx.ix1 ⟨4 * (q 0).val + (q 1).val, by omega⟩ : S81920.Idx)
    (by rw [Shape.rowMajor_val_one, Shape.rowMajor_val_two]; show 4 * (q 0).val + (q 1).val = (q 0).val * 4 + (q 1).val; omega)]
  unfold gathered
  have e0 : at1 (N := 20480) (by decide) (cI m d) ((4 * (q 0).val + (q 1).val) / 4) = m (a0Loc d) j := by
    rw [at1_eq _ _ (ValueIdx.ix1 ⟨(q 0).val, hq0⟩ : S20480.Idx) _ (by show (4 * (q 0).val + (q 1).val) / 4 = (q 0).val; omega), cI_eq]
    refine shapeCast_apply _ _ _ j ?_
    rw [Shape.rowMajor_val_one, Shape.rowMajor_val_three]
    exact hj
  have hk : 80000 * ((4 * (q 0).val + (q 1).val) / 20480) + 4 * (m (a0Loc d) j).toNat + (4 * (q 0).val + (q 1).val) % 4 < 320000 := by omega
  show at1 (N := 320000) _ (cX m d) (80000 * ((4 * (q 0).val + (q 1).val) / 20480) + 4 * (at1 (N := 20480) _ (cI m d) ((4 * (q 0).val + (q 1).val) / 4)).toNat + (4 * (q 0).val + (q 1).val) % 4) = _
  rw [e0, at1_eq _ _ (ValueIdx.ix1 ⟨_, hk⟩ : S320000.Idx) _ rfl, cX_eq]
  refine shapeCast_apply _ _ _ i ?_
  rw [Shape.rowMajor_val_one, Shape.rowMajor_val_three]
  show ((i 0).val * 20000 + (i 1).val) * 4 + (i 2).val = 80000 * ((4 * (q 0).val + (q 1).val) / 20480) + 4 * (m (a0Loc d) j).toNat + (4 * (q 0).val + (q 1).val) % 4
  rw [hi0, hi1, hi2]; omega

end Cert.Proof.Gather

namespace Cert.Proof.Gather.Ref

open Cert.ReferenceIdeal Cert.ReferenceIdeal.Gen
open Idealize.ShloMosaic Idealize.SL.Sem

variable {F : FTy → Type} [FloatOps F]

/-- The batched gather at `(b, k, c)`: the operand of batch `b` at the row the start index names, where it names one. -/
theorem take_apply (x : FVec F S4x20000x4 .f32) (s : IVec S4x5120x1 32) (j : S4x5120x4.Idx) (js : S4x5120x1.Idx) (i : S4x20000x4.Idx)
    (h0 : (js 0).val = (j 0).val) (h1 : (js 1).val = (j 1).val) (hs : (s js).toNat < 20000)
    (hi0 : (i 0).val = (j 0).val) (hi1 : (i 1).val = (s js).toNat) (hi2 : (i 2).val = (j 2).val) :
    Host.gather gather_S4x20000x4_S4x5120x1_S4x5120x4_2_1_0_0_1_2_114 x s j = x i := by
  unfold Host.gather
  refine congrArg x (funext fun a => Fin.ext ?_)
  show GatherDims.start _ j s a + GatherDims.batchCoord _ j a + GatherDims.offCoord _ j a = _
  have hlt : (js 2).val < 1 := (js 2).isLt
  have ha : a = 0 ∨ a = 1 ∨ a = 2 := match a with
    | ⟨0, _⟩ => .inl rfl
    | ⟨1, _⟩ => .inr (.inl rfl)
    | ⟨2, _⟩ => .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S4x20000x4_S4x5120x1_S4x5120x4_2_1_0_0_1_2_114 from List.mem_singleton.mpr rfl)]
    exact hi0.symm
  · rw [GatherDims.batchCoord_eq_zero _ _ _ (fun h => by simp [gather_S4x20000x4_S4x5120x1_S4x5120x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S4x20000x4_S4x5120x1_S4x5120x4_2_1_0_0_1_2_114 from List.mem_singleton.mpr rfl)]
    rw [show GatherDims.siIdx gather_S4x20000x4_S4x5120x1_S4x5120x4_2_1_0_0_1_2_114 j ⟨List.idxOf (1 : Fin 3) (GatherDims.startIndexMap gather_S4x20000x4_S4x5120x1_S4x5120x4_2_1_0_0_1_2_114), List.idxOf_lt_length_iff.2 (List.mem_singleton.mpr rfl)⟩ = js from
      funext fun b => Fin.ext (match b with
      | ⟨0, _⟩ => h0.symm
      | ⟨1, _⟩ => h1.symm
      | ⟨2, _⟩ => by show (0 : ℕ) = (js 2).val; omega)]
    show min (s js).toInt.toNat (20000 - 1) = (i 1).val
    rw [hi1, BitVec.toInt_eq_toNat_of_lt (by omega)]
    omega
  · rw [GatherDims.batchCoord_eq_zero _ _ _ (fun h => by simp [gather_S4x20000x4_S4x5120x1_S4x5120x4_2_1_0_0_1_2_114] at h)]
    refine Eq.trans ?_ hi2.symm
    rw [show GatherDims.start gather_S4x20000x4_S4x5120x1_S4x5120x4_2_1_0_0_1_2_114 j s (2 : Fin 3) = 0 from by
      unfold GatherDims.start; rw [dif_neg (by decide)]]
    simp only [Nat.zero_add]
    unfold GatherDims.offCoord
    rw [dif_pos (show (2 : Fin 3) ∈ GatherDims.sKept gather_S4x20000x4_S4x5120x1_S4x5120x4_2_1_0_0_1_2_114 from (GatherDims.mem_sKept _ _).mpr ⟨by decide, by decide⟩)]
    rfl

/-- A word below the number of rows passes the two comparisons of `take` and is not moved by its wrap of negative indices. -/
theorem bits_of_below (w : BitVec 32) (h : w.toNat < 20000) :
    IntOp.cmpi .slt w 0#32 = 0#1 ∧ IntOp.cmpi .sge w 0#32 = 1#1 ∧ IntOp.cmpi .sle w 19999#32 = 1#1 := by
  have e0 : (0#32 : BitVec 32).toInt = 0 := rfl
  have e1 : (19999#32 : BitVec 32).toInt = 19999 := rfl
  have ew : w.toInt = w.toNat := BitVec.toInt_eq_toNat_of_lt (by omega)
  unfold IntOp.cmpi
  simp only [BitVec.sle_eq_decide, BitVec.slt_eq_decide, e0, e1, ew]
  rw [decide_eq_false (by omega), decide_eq_true (by omega), decide_eq_true (by omega)]
  exact ⟨rfl, rfl, rfl⟩

/-- The indices of `take` with the negative ones wrapped. -/
abbrev wrapped (ix : IVec S4x40x128 32) : IVec S4x5120 32 :=
  select (cmpi .slt (shapeCast S4x5120 ix shapeCasts_S4x40x128_S4x5120) (broadcastInDim S4x5120 ![] bcast_S_S4x5120 (constantI S_ 32 0#32)))
    (addi (shapeCast S4x5120 ix shapeCasts_S4x40x128_S4x5120) (broadcastInDim S4x5120 ![] bcast_S_S4x5120 (constantI S_ 32 20000#32)))
    (shapeCast S4x5120 ix shapeCasts_S4x40x128_S4x5120)

/-- No index is negative, so none is wrapped. -/
theorem wrapped_eq (ix : IVec S4x40x128 32) (h : ∀ j, (ix j).toNat < 20000) : wrapped ix = shapeCast S4x5120 ix shapeCasts_S4x40x128_S4x5120 := by
  funext j
  show Scalar.select (IntOp.cmpi .slt (shapeCast S4x5120 ix shapeCasts_S4x40x128_S4x5120 j) 0#32) _ _ = _
  rw [(bits_of_below (shapeCast S4x5120 ix shapeCasts_S4x40x128_S4x5120 j) (h _)).1]
  rfl

/-- The wrapped indices with the unit axis the gather's start indices have. -/
abbrev starts (ix : IVec S4x40x128 32) : IVec S4x5120x1 32 := broadcastInDim S4x5120x1 ![0, 1] bcast_S4x5120_S4x5120x1_0_1 (wrapped ix)

/-- What the reference's rows are, as its operations compose. -/
abbrev takeRows (ix : IVec S4x40x128 32) (tb : FVec F S4x20000x4 .f32) : FVec F S20480x4 .f32 :=
  shapeCast _ (select (broadcastInDim S4x5120x4 ![0, 1] bcast_S4x5120_S4x5120x4_0_1 (Host.reduce IntOp.andi (andi (cmpi .sge (starts ix) (broadcastInDim S4x5120x1 ![] bcast_S_S4x5120x1 (constantI S_ 32 0#32)))
      (cmpi .sle (starts ix) (broadcastInDim S4x5120x1 ![0, 1, 2] bcast_S1x1x1_S4x5120x1_0_1_2 (broadcastInDim S1x1x1 ![2] bcast_S1_S1x1x1_2 (constantI S1 32 19999#32))))) (constantI S_ 1 1#1) reducesTo_S4x5120x1_S4x5120_d2 h_S_))
    (Host.gather gather_S4x20000x4_S4x5120x1_S4x5120x4_2_1_0_0_1_2_114 tb (starts ix))
    (broadcastInDim S4x5120x4 ![] bcast_S_S4x5120x4 (constant S_ .f32 0x7FC00000#32))) shapeCasts_S4x5120x4_S20480x4

/-- The reference's result at row `r`, column `k`. -/
theorem takeRows_apply (ix : IVec S4x40x128 32) (tb : FVec F S4x20000x4 .f32) (h : ∀ j, (ix j).toNat < 20000)
    (q : S20480x4.Idx) (j : S4x40x128.Idx) (i : S4x20000x4.Idx)
    (hj : (((j 0).val * 40 + (j 1).val) * 128 + (j 2).val) = (q 0).val) (hi0 : (i 0).val = (q 0).val / 5120)
    (hi1 : (i 1).val = (ix j).toNat) (hi2 : (i 2).val = (q 1).val) : takeRows ix tb q = tb i := by
  have hq0 : (q 0).val < 20480 := (q 0).isLt
  have hq1 : (q 1).val < 4 := (q 1).isLt
  unfold takeRows
  rw [shapeCast_apply _ _ q (ValueIdx.ix3 ⟨(q 0).val / 5120, by omega⟩ ⟨(q 0).val % 5120, by omega⟩ ⟨(q 1).val, hq1⟩ : S4x5120x4.Idx)
    (by rw [Shape.rowMajor_val_three, Shape.rowMajor_val_two]; show ((q 0).val / 5120 * 5120 + (q 0).val % 5120) * 4 + (q 1).val = (q 0).val * 4 + (q 1).val; omega)]
  have hst : ∀ k, (starts ix k).toNat < 20000 := fun k => by
    show (wrapped ix _).toNat < 20000
    rw [wrapped_eq ix h]; exact h _
  show Scalar.select (Host.reduce IntOp.andi _ _ reducesTo_S4x5120x1_S4x5120_d2 h_S_ _) _ _ = _
  rw [Host.reduce_andi_one _ _ _ _ _ rfl fun k => by
    show IntOp.andi (IntOp.cmpi .sge (starts ix k) 0#32) (IntOp.cmpi .sle (starts ix k) 19999#32) = 1#1
    rw [(bits_of_below _ (hst k)).2.1, (bits_of_below _ (hst k)).2.2]; rfl]
  rw [ValueIdx.select_one]
  have hs : starts ix (ValueIdx.ix3 ⟨(q 0).val / 5120, by omega⟩ ⟨(q 0).val % 5120, by omega⟩ ⟨0, by omega⟩ : S4x5120x1.Idx) = ix j := by
    unfold starts
    rw [broadcastInDim_apply _ _ _ _ (ValueIdx.ix2 ⟨(q 0).val / 5120, by omega⟩ ⟨(q 0).val % 5120, by omega⟩ : S4x5120.Idx) (fun a => match a with | ⟨0, _⟩ => rfl | ⟨1, _⟩ => rfl), wrapped_eq ix h]
    refine shapeCast_apply _ _ _ j ?_
    rw [Shape.rowMajor_val_three, Shape.rowMajor_val_two]
    show ((j 0).val * 40 + (j 1).val) * 128 + (j 2).val = (q 0).val / 5120 * 5120 + (q 0).val % 5120
    omega
  exact take_apply tb (starts ix) _ (ValueIdx.ix3 ⟨(q 0).val / 5120, by omega⟩ ⟨(q 0).val % 5120, by omega⟩ ⟨0, by omega⟩ : S4x5120x1.Idx) i
    rfl rfl (hst _) hi0 (by rw [hs]; exact hi1) hi2

end Cert.Proof.Gather.Ref

namespace Cert.Proof.Gather

open Cert.KernelIdeal Cert.KernelIdeal.Gen
open Idealize.ShloMosaic Idealize.SL.Sem

variable {F : FTy → Type} [FloatOps F]

/-- The two programs' rows are the same. -/
theorem res_eq_takeRows (m : (ℓ : Loc nD τ sig) → Buf (Elt F) ℓ) (d : Dev nD) (h : ∀ j, (m (a0Loc d) j).toNat < 20000) :
    res m d = Ref.takeRows (m (a0Loc d)) (m (a1Loc d)) := by
  funext q
  have hq0 : (q 0).val < 20480 := (q 0).isLt
  have hq1 : (q 1).val < 4 := (q 1).isLt
  let j : S4x40x128.Idx := ValueIdx.ix3 ⟨(q 0).val / 5120, by omega⟩ ⟨(q 0).val % 5120 / 128, by omega⟩ ⟨(q 0).val % 128, by omega⟩
  have hj : (((j 0).val * 40 + (j 1).val) * 128 + (j 2).val) = (q 0).val := by
    show ((q 0).val / 5120 * 40 + (q 0).val % 5120 / 128) * 128 + (q 0).val % 128 = (q 0).val
    omega
  let i : S4x20000x4.Idx := ValueIdx.ix3 ⟨(q 0).val / 5120, by omega⟩ ⟨(m (a0Loc d) j).toNat, h j⟩ ⟨(q 1).val, hq1⟩
  exact (res_apply m d h q j i hj rfl rfl rfl).trans (Ref.takeRows_apply (m (a0Loc d)) (m (a1Loc d)) h q j i hj rfl rfl rfl).symm

end Cert.Proof.Gather

end
-- ==== Proof.NmsMath.lean ====
/-
  The mathematics of greedy suppression, apart from any program: which positions are kept, how a tile's kept positions are the
  one fixed point of the suppression inside the tile, how many kept positions precede a position, the column of kept entries in
  their order, and the stable sort that brings the kept positions to the front.
-/
module

public import Mathlib.Data.EReal.Basic
public import Mathlib.Data.EReal.Operations
public import Mathlib.Data.Nat.Count
public import Idealize.ShloMosaic.Lib.PlanTiles.StableSort

@[expose] public section

noncomputable section

namespace Cert.Proof.Nms

open Idealize.ShloMosaic

section Greedy

open scoped Classical

variable (S : ℕ → ℕ → Prop)

/-- What is still kept once the positions below the first argument have had their say: a position is dropped by an earlier
    position that is kept and suppresses it. -/
def keepAt : ℕ → ℕ → Prop
  | 0, _ => True
  | k + 1, j => keepAt k j ∧ ¬(S k j ∧ k < j ∧ keepAt k k)

/-- A position is kept when no earlier kept position suppresses it. -/
def kept (j : ℕ) : Prop := keepAt S j j

/-- The state after some steps, in terms of the kept positions. -/
theorem keepAt_iff (k j : ℕ) : keepAt S k j ↔ ∀ i < k, ¬(S i j ∧ i < j ∧ kept S i) := by
  induction k with
  | zero => simp [keepAt]
  | succ k ih =>
    rw [keepAt, ih]
    constructor
    · rintro ⟨h1, h2⟩ i hi
      rcases Nat.lt_succ_iff_lt_or_eq.mp hi with h | rfl
      · exact h1 i h
      · exact h2
    · intro h
      exact ⟨fun i hi => h i (by omega), h k (by omega)⟩

/-- The defining equation of the kept positions. -/
theorem kept_iff (j : ℕ) : kept S j ↔ ∀ i < j, ¬(S i j ∧ kept S i) := by
  rw [kept, keepAt_iff]
  constructor
  · intro h i hi hc; exact h i hi ⟨hc.1, hi, hc.2⟩
  · intro h i hi hc; exact h i hi ⟨hc.1, hc.2.2⟩

/-- Once every earlier position has had its say the state no longer changes. -/
theorem keepAt_of_le {k j : ℕ} (h : j ≤ k) : keepAt S k j ↔ kept S j := by
  rw [keepAt_iff, kept_iff]
  constructor
  · intro H i hi hc; exact H i (by omega) ⟨hc.1, hi, hc.2⟩
  · intro H i _ hc; exact H i hc.2.1 ⟨hc.1, hc.2.2⟩

/-- A kept position among the first 5000. -/
def K (j : ℕ) : Prop := j < 5000 ∧ kept S j

/-- The defining equation of those. -/
theorem K_iff (j : ℕ) : K S j ↔ j < 5000 ∧ ∀ i < j, ¬(S i j ∧ K S i) := by
  unfold K
  refine and_congr_right fun hj => ?_
  rw [kept_iff]
  refine forall_congr' fun i => forall_congr' fun hi => not_congr (and_congr_right fun _ => ?_)
  exact ⟨fun h => ⟨by omega, h⟩, fun h => h.2⟩

/-- What a tile starts from: the positions among the first 5000 that no kept position of an earlier tile suppresses. -/
def base (r a : ℕ) : Prop := 256 * r + a < 5000 ∧ ∀ i < 256 * r, ¬(S i (256 * r + a) ∧ K S i)

/-- Inside a tile the kept positions satisfy the tile's own equation. -/
theorem K_tile (r a : ℕ) :
    K S (256 * r + a) ↔ base S r a ∧ ¬∃ c < a, S (256 * r + c) (256 * r + a) ∧ K S (256 * r + c) := by
  rw [K_iff, base, and_assoc]
  refine and_congr_right fun _ => ?_
  constructor
  · intro h
    refine ⟨fun i hi => h i (by omega), ?_⟩
    rintro ⟨c, hc, h'⟩
    exact h (256 * r + c) (by omega) h'
  · rintro ⟨h1, h2⟩ i hi hc
    by_cases hir : i < 256 * r
    · exact h1 i hir hc
    · refine h2 ⟨i - 256 * r, by omega, ?_⟩
      rwa [show 256 * r + (i - 256 * r) = i from by omega]

/-- How many kept positions precede a position. -/
def cnt (n : ℕ) : ℕ := Nat.count (K S) n

theorem cnt_add (n m : ℕ) : cnt S (n + m) = cnt S n + Nat.count (fun k => K S (n + k)) m := Nat.count_add _ _ _

theorem cnt_mono {n m : ℕ} (h : n ≤ m) : cnt S n ≤ cnt S m := Nat.count_monotone _ h

variable (box : ℕ → EReal)

/-- The entry that comes at place `p` among the kept ones of the first `n` positions, and zero when there is none. -/
def outv (n p : ℕ) : EReal := ∑ j ∈ Finset.range n, if K S j ∧ cnt S j = p then box j else 0

/-- One more tile adds the tile's own entry at that place. -/
theorem outv_tile (r p : ℕ) :
    outv S box (256 * (r + 1)) p
      = outv S box (256 * r) p + ∑ a : Fin 256, if K S (256 * r + a) ∧ cnt S (256 * r + a) = p then box (256 * r + a) else 0 := by
  unfold outv
  rw [show 256 * (r + 1) = 256 * r + 256 from by ring, Finset.sum_range_add]
  exact congrArg (_ + ·) (Finset.sum_range (fun x => if K S (256 * r + x) ∧ cnt S (256 * r + x) = p then box (256 * r + x) else 0))

/-- Past the place asked for, further positions add nothing. -/
theorem outv_stop {n m p : ℕ} (hnm : n ≤ m) (hp : p < cnt S n) : outv S box m p = outv S box n p := by
  unfold outv
  refine (Finset.sum_subset (Finset.range_subset_range.mpr hnm) fun j _ hj => ?_).symm
  rw [Finset.mem_range, not_lt] at hj
  rw [if_neg]
  rintro ⟨_, h⟩
  have := cnt_mono S hj
  omega

/-- The entry of a kept position comes at the place that counts the kept ones before it. -/
theorem outv_of_kept {n q p : ℕ} (hq : q < n) (hK : K S q) (hc : cnt S q = p) : outv S box n p = box q := by
  unfold outv
  rw [Finset.sum_eq_single q]
  · rw [if_pos ⟨hK, hc⟩]
  · intro j _ hj
    rw [if_neg]
    rintro ⟨h1, h2⟩
    exact hj (Nat.count_injective h1 hK (h2.trans hc.symm))
  · intro h; exact absurd (Finset.mem_range.mpr hq) h

/-- With no kept position at a place there is zero there. -/
theorem outv_of_none {n p : ℕ} (h : ∀ j < n, ¬(K S j ∧ cnt S j = p)) : outv S box n p = 0 :=
  Finset.sum_eq_zero fun j hj => if_neg (h j (Finset.mem_range.mp hj))

/-! ## The stable sort -/

/-- One for a kept position and zero for another. -/
def G (a : Fin 5000) : ℕ := if K S a then 1 else 0

theorem G_eq_one {a : Fin 5000} : G S a = 1 ↔ K S a := by unfold G; split <;> simp_all

theorem G_le (a : Fin 5000) : G S a ≤ 1 := by unfold G; split <;> omega

/-- The positions with the kept ones first, in their order otherwise. -/
def order : List (Fin 5000) := sortPositions 5000 fun a b => decide (G S b < G S a)

theorem order_pairwise : (order S).Pairwise fun a b => G S b < G S a ∨ (G S a = G S b ∧ a < b) := by
  unfold order
  have := PlanTiles.pairwise_stableSort_lex (G S) (· < ·) (List.finRange 5000) (List.pairwise_lt_finRange 5000)
  exact this.imp fun {a b} h => by
    rcases h with h | ⟨h, h'⟩
    · exact Or.inl h
    · exact Or.inr ⟨by first | exact h | exact h.symm, h'⟩

theorem order_perm : (order S).Perm (List.finRange 5000) := by unfold order; exact perm_sortPositions _ _

theorem order_length : (order S).length = 5000 := by unfold order; exact length_sortPositions _ _

/-- Reading the sorted order at a place. -/
theorem sortedFrom_eq (p : Fin 5000) (h : p.val < (order S).length) :
    sortedFrom (fun a b => decide (G S b < G S a)) p = (order S)[p.val] := by
  unfold order at h ⊢; unfold sortedFrom; rfl

/-- The place of a kept position in the sorted order counts the kept ones before it. -/
theorem cnt_order (p : Fin 5000) (hK : K S (sortedFrom (fun a b => decide (G S b < G S a)) p : Fin 5000)) :
    cnt S (sortedFrom (fun a b => decide (G S b < G S a)) p : Fin 5000) = p := by
  have hlen := order_length S
  have hpw := List.pairwise_iff_getElem.mp (order_pairwise S)
  have hget : sortedFrom (fun a b => decide (G S b < G S a)) p = (order S)[p.val]'(by rw [hlen]; exact p.isLt) := sortedFrom_eq S p _
  rw [hget] at hK ⊢
  have hnd : (order S).Nodup := (order_perm S).nodup_iff.mpr (List.nodup_finRange 5000)
  unfold cnt
  rw [Nat.count_eq_card_filter_range]
  refine Eq.trans ?_ (Finset.card_range p.val)
  symm
  have hG1 := (G_eq_one S).mpr hK
  refine Finset.card_bij (fun a ha => ((order S)[a]'(by rw [hlen]; exact lt_trans (Finset.mem_range.mp ha) p.isLt)).val) ?_ ?_ ?_
  · intro a ha
    have hap := Finset.mem_range.mp ha
    have h := hpw a p.val (by rw [hlen]; exact lt_trans hap p.isLt) (by rw [hlen]; exact p.isLt) hap
    have hle := G_le S ((order S)[a]'(by rw [hlen]; exact lt_trans hap p.isLt))
    rcases h with h | ⟨h, h'⟩
    · omega
    · exact Finset.mem_filter.mpr ⟨Finset.mem_range.mpr h', (G_eq_one S).mp (by omega)⟩
  · intro a ha b hb hab
    exact (List.Nodup.getElem_inj_iff hnd).mp (Fin.ext hab)
  · intro i hi
    obtain ⟨hi1, hi2⟩ := Finset.mem_filter.mp hi
    have hiq := Finset.mem_range.mp hi1
    have hmem : (⟨i, hi2.1⟩ : Fin 5000) ∈ order S := (order_perm S).mem_iff.mpr (List.mem_finRange _)
    obtain ⟨b, hb, hbi⟩ := List.mem_iff_getElem.mp hmem
    have hbp : b < p.val := by
      rcases Nat.lt_trichotomy b p.val with h | h | h
      · exact h
      · subst h; rw [hbi] at hiq; exact absurd hiq (by simp)
      · have hh := hpw p.val b (by rw [hlen]; exact p.isLt) hb h
        have hgi := (congrArg (G S) hbi).trans ((G_eq_one S).mpr hi2)
        rcases hh with hh | ⟨_, hh⟩
        · omega
        · exact absurd (lt_trans hiq (Fin.lt_def.mp (lt_of_lt_of_eq hh hbi))) (lt_irrefl _)
    exact ⟨b, Finset.mem_range.mpr hbp, by rw [hbi]⟩

/-- Reading the kept entries, zero elsewhere, in the sorted order gives the column of kept entries. -/
theorem outv_order (p : Fin 5000) :
    (if K S (sortedFrom (fun a b => decide (G S b < G S a)) p : Fin 5000) then
        box (sortedFrom (fun a b => decide (G S b < G S a)) p : Fin 5000) else 0) = outv S box 5120 p := by
  split
  · next h => exact (outv_of_kept S box (by have := (sortedFrom (fun a b => decide (G S b < G S a)) p).isLt; omega) h (cnt_order S p h)).symm
  · next h =>
    refine (outv_of_none S box fun j _ hj => h ?_).symm
    have hlen := order_length S
    have hmem : (⟨j, hj.1.1⟩ : Fin 5000) ∈ order S := (order_perm S).mem_iff.mpr (List.mem_finRange _)
    obtain ⟨b, hb, hbi⟩ := List.mem_iff_getElem.mp hmem
    have hget : sortedFrom (fun a b => decide (G S b < G S a)) (⟨b, by rw [← hlen]; exact hb⟩ : Fin 5000) = ⟨j, hj.1.1⟩ := by
      rw [← hbi]; exact sortedFrom_eq S _ _
    have hcb := cnt_order S ⟨b, by rw [← hlen]; exact hb⟩ (by rw [hget]; exact hj.1)
    rw [hget] at hcb
    have : b = p.val := hcb.symm.trans hj.2
    have hp : (⟨b, by rw [← hlen]; exact hb⟩ : Fin 5000) = p := Fin.ext this
    rw [hp] at hget
    rw [hget]; exact hj.1

end Greedy

/-! ## The tile's fixed point -/

section Fixed

variable (M : Fin 256 → Fin 256 → Prop) (b : Fin 256 → Prop)

/-- One round of suppression inside a tile. -/
def stepP (x : Fin 256 → Prop) (a : Fin 256) : Prop := b a ∧ ¬∃ c, (c < a ∧ M a c) ∧ x c

/-- A round settles one more row: what agrees with the fixed point on the rows below `t` agrees after the round on the next row too. -/
theorem stepP_agree {y : Fin 256 → Prop} (hy : ∀ a, y a ↔ stepP M b y a) {x : Fin 256 → Prop} {t : ℕ}
    (h : ∀ a : Fin 256, a.val < t → (x a ↔ y a)) (a : Fin 256) (ha : a.val < t + 1) : stepP M b x a ↔ y a := by
  rw [hy a]
  unfold stepP
  refine and_congr_right fun _ => not_congr (exists_congr fun c => and_congr_right fun hc => h c ?_)
  have : c.val < a.val := hc.1
  omega

/-- The fixed point is one. -/
theorem stepP_unique {y : Fin 256 → Prop} (hy : ∀ a, y a ↔ stepP M b y a) {x : Fin 256 → Prop}
    (hx : ∀ a, x a ↔ stepP M b x a) (a : Fin 256) : x a ↔ y a := by
  have : ∀ t, ∀ a : Fin 256, a.val < t → (x a ↔ y a) := by
    intro t
    induction t with
    | zero => intro a ha; omega
    | succ t ih => intro a ha; rw [hx a]; exact stepP_agree M b hy ih a ha
  exact this 256 a a.isLt

end Fixed

end Cert.Proof.Nms

end
-- ==== Proof.NmsVal.lean ====
/-
  What the suppression kernel's named values are, entry by entry, at the exact reals: the overlap ratio of two boxes, the
  indicator of the pairs that suppress, the tile's starting set, one round of suppression, the running count and the rows the
  kept boxes are added to.
-/
module

public import proofs.«01_k».proof.Proof.NmsMath
public import proofs.«01_k».proof.Proof.Gen.NmsIdeal.Skeleton
public import Idealize.ShloMosaic.Lib.ValueIdx
public import Idealize.ShloMosaic.Lib.ValueLayout
public import Idealize.ShloMosaic.Lib.ValueLayoutCasts
public import Idealize.ShloMosaic.Lib.Pointwise.ElementwiseCore
public import Idealize.ShloMosaic.Lib.WordCmp
public import Idealize.ShloMosaic.PureOps.Ideal.Laws

@[expose] public section

noncomputable section

namespace Cert.Proof.Nms

open Idealize.ShloMosaic Idealize.ShloMosaic.ValueIdx Idealize.ShloMosaic.WordCmp Cert.NmsIdeal Cert.NmsIdeal.Gen
open scoped Classical

/-! ## The overlap of two boxes -/

/-- The area of a box. -/
def area (b : Fin 4 → EReal) : EReal := (b 2 - b 0) * (b 3 - b 1)

/-- The clipped overlap along the first axis. -/
def overA (p q : Fin 4 → EReal) : EReal := max 0 (min (p 2) (q 2) - max (p 0) (q 0))

/-- The clipped overlap along the second axis. -/
def overB (p q : Fin 4 → EReal) : EReal := max 0 (min (p 3) (q 3) - max (p 1) (q 1))

/-- The overlap ratio, from the two areas and the two clipped overlaps. -/
def ratio (s t u v : EReal) : EReal := if 0 < s + t - u * v then Ideal.div (u * v) (s + t - u * v) else 0

/-- The overlap ratio of two boxes. -/
def iou (p q : Fin 4 → EReal) : EReal := ratio (area p) (area q) (overA p q) (overB p q)

/-- Two boxes overlap so much that the earlier one suppresses the later one. -/
def Sup (B : ℕ → Fin 4 → EReal) (i j : ℕ) : Prop := Ideal.ofBits .f32 0x3F333333#32 < iou (B i) (B j)

/-- The overlap ratio does not depend on the order of the two. -/
theorem iou_comm (p q : Fin 4 → EReal) : iou p q = iou q p := by
  unfold iou ratio overA overB
  rw [min_comm (p 2), max_comm (p 0), min_comm (p 3), max_comm (p 1), add_comm (area p)]

theorem Sup_comm (B : ℕ → Fin 4 → EReal) (i j : ℕ) : Sup B i j ↔ Sup B j i := by unfold Sup; rw [iou_comm]

/-! ## Indicators -/

/-- One where a condition holds and zero elsewhere. -/
def ind (p : Prop) : EReal := if p then 1 else 0

theorem ind_pos {p : Prop} : 0 < ind p ↔ p := by unfold ind; split <;> simp_all

theorem ind_nonneg (p : Prop) : 0 ≤ ind p := by unfold ind; split <;> simp

theorem ind_mul_ind (p q : Prop) : ind p * ind q = ind (p ∧ q) := by
  unfold ind; by_cases hp : p <;> by_cases hq : q <;> simp [hp, hq]

theorem ind_congr {p q : Prop} (h : p ↔ q) : ind p = ind q := by unfold ind; simp only [h]

theorem ind_inj {p q : Prop} (h : ind p = ind q) : p ↔ q := by rw [← ind_pos (p := p), h, ind_pos]

/-- A sum of entries that are not negative is positive when one of them is. -/
theorem sum_pos_iff {ι : Type} (s : Finset ι) (f : ι → EReal) (h : ∀ i, 0 ≤ f i) : 0 < ∑ i ∈ s, f i ↔ ∃ i ∈ s, 0 < f i := by
  have h0 : 0 ≤ ∑ i ∈ s, f i := Finset.sum_nonneg fun i _ => h i
  rw [lt_iff_le_and_ne, and_iff_right h0]
  constructor
  · intro hne
    by_contra hc
    refine hne (Finset.sum_eq_zero fun i hi => ?_).symm
    by_contra hi0
    exact hc ⟨i, hi, lt_of_le_of_ne (h i) (Ne.symm hi0)⟩
  · rintro ⟨i, hi, hpos⟩ heq
    have := (Finset.sum_eq_zero_iff_of_nonneg fun i _ => h i).mp heq.symm i hi
    exact absurd hpos (by rw [this]; exact lt_irrefl _)

/-- A sum of indicators counts. -/
theorem sum_ind {n : ℕ} (p : Fin n → Prop) : ∑ a, ind (p a) = ((Finset.univ.filter p).card : ℝ) := by
  unfold ind
  rw [Finset.sum_boole]
  exact EReal.coe_natCast.symm

/-- A small count read as a word. -/
theorem fptosi_nat (n : ℕ) (h : n < 2 ^ 20) : Ideal.fptosi 32 ((n : ℝ) : EReal) = BitVec.ofNat 32 n := by
  have e : Ideal.toIntClamped (-(2 ^ (32 - 1) : Nat)) ((2 ^ (32 - 1) : Nat) - 1) ((n : ℝ) : EReal)
      = max (-(2 ^ (32 - 1) : Nat) : ℤ) (min (((2 ^ (32 - 1) : Nat) : ℤ) - 1) (if 0 ≤ (n : ℝ) then ⌊(n : ℝ)⌋ else ⌈(n : ℝ)⌉)) := rfl
  unfold Ideal.fptosi
  rw [e, if_pos (Nat.cast_nonneg n), Int.floor_natCast, min_eq_right (by omega), max_eq_right (by omega)]
  exact BitVec.ofInt_natCast 32 n

/-! ## Single entries -/

theorem ofBits_one : Ideal.ofBits .f32 0x3F800000#32 = 1 := by
  have h : Ideal.ofBits .f32 0x3F800000#32 = ((8388608 : ℝ) : EReal) * (((2 : ℝ) ^ 23)⁻¹ : ℝ) := by simp [Ideal.ofBits, Ideal.ieee]
  rw [h, ← EReal.coe_mul]
  norm_num

/-- A greater-than of two numbers is set when it holds. -/
theorem ogt_eq_one {x y : EReal} : FloatOps.cmpf (F := Ideal) (φ := .f32) .ogt x y = 1#1 ↔ y < x := by
  show BitVec.ofBool (decide (y < x)) = 1#1 ↔ _
  by_cases h : y < x <;> simp [h]

/-- A comparison for being different is set when the two differ. -/
theorem one_eq_one {x y : EReal} : FloatOps.cmpf (F := Ideal) (φ := .f32) .one x y = 1#1 ↔ x ≠ y := by
  show BitVec.ofBool (decide (x ≠ y)) = 1#1 ↔ _
  by_cases h : x = y <;> simp [h]

/-- The conjunction of two bits. -/
theorem andi_eq_one {x y : BitVec 1} : IntOp.andi x y = 1#1 ↔ x = 1#1 ∧ y = 1#1 := by
  revert x y; decide

/-- A choice on a bit. -/
theorem sel_if {α : Type} (c : BitVec 1) (a b : α) : Scalar.select c a b = if c = 1#1 then a else b := by
  by_cases h : c = 1#1
  · rw [if_pos h, h]; rfl
  · rw [if_neg h, ValueIdx.eq_zero_of_ne_one h]; rfl

/-- A choice of one or zero on a bit is the bit's indicator. -/
theorem sel_ind (c : BitVec 1) : Scalar.select c (Scalar.ofBits (F := Ideal) .f32 0x3F800000#32) (Scalar.ofBits (F := Ideal) .f32 0x00000000#32) = ind (c = 1#1) := by
  rw [sel_if]
  show (if c = 1#1 then Ideal.ofBits .f32 0x3F800000#32 else Ideal.ofBits .f32 0x00000000#32) = _
  rw [ofBits_one, Ideal.ofBits_zero_f32]; unfold ind; split <;> rfl

/-- The opposite choice is the indicator of the bit being clear. -/
theorem sel_not (c : BitVec 1) : Scalar.select c (Scalar.ofBits (F := Ideal) .f32 0x00000000#32) (Scalar.ofBits (F := Ideal) .f32 0x3F800000#32) = ind (¬c = 1#1) := by
  rw [sel_if]
  show (if c = 1#1 then Ideal.ofBits .f32 0x00000000#32 else Ideal.ofBits .f32 0x3F800000#32) = _
  rw [ofBits_one, Ideal.ofBits_zero_f32]; unfold ind
  by_cases h : c = 1#1
  · rw [if_pos h, if_neg (not_not.mpr h)]
  · rw [if_neg h, if_pos h]

/-- Small words compare as their numbers. -/
theorem slt_nat {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [ofBool_eq_one_iff, BitVec.slt_iff_toInt_lt, toInt_ofNat_of_lt ha, toInt_ofNat_of_lt hb, Int.ofNat_lt]

theorem sgt_nat {a b : ℕ} (ha : a < 2 ^ 31) (hb : b < 2 ^ 31) : IntOp.cmpi .sgt (BitVec.ofNat 32 a) (BitVec.ofNat 32 b) = 1#1 ↔ b < a :=
  slt_nat hb ha

theorem sle_nat {a b : ℕ} (ha : a < 2 ^ 31) (hb : b < 2 ^ 31) : IntOp.cmpi .sle (BitVec.ofNat 32 a) (BitVec.ofNat 32 b) = 1#1 ↔ a ≤ b := by
  show BitVec.ofBool ((BitVec.ofNat 32 a).sle (BitVec.ofNat 32 b)) = 1#1 ↔ _
  rw [ofBool_eq_one_iff, BitVec.sle_iff_toInt_le, toInt_ofNat_of_lt ha, toInt_ofNat_of_lt hb, Int.ofNat_le]

theorem eq_nat {a b : ℕ} (ha : a < 2 ^ 31) (hb : b < 2 ^ 31) : IntOp.cmpi .eq (BitVec.ofNat 32 a) (BitVec.ofNat 32 b) = 1#1 ↔ a = b := by
  show BitVec.ofBool (BitVec.ofNat 32 a == BitVec.ofNat 32 b) = 1#1 ↔ _
  rw [ofBool_eq_one_iff, beq_iff_eq, ofNat_eq_ofNat_iff (by omega) (by omega)]

/-- A column broadcast over many columns reads the column. -/
theorem bcol {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; rw [if_neg ha]
  | ⟨1, _⟩ => rfl

/-- Two leading unit axes dropped. -/
theorem cast11 {α : Type} {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

variable {B : ℕ → Fin 4 → EReal} {r t : ℕ}

theorem pay13_apply (v : Vec Ideal S1x1x256x4 .f32) (a : Fin 256) : k0_pay13 (F := Ideal) v (ix2 a (0 : Fin 1)) = v (ix4 (0 : Fin 1) (0 : Fin 1) a (0 : Fin 4)) :=
  (slice2_axis1_apply 0 _ slices_S256x4_o0_0_S256x1 a (0 : Fin 1) (0 : Fin 4) rfl).trans (cast11 v _ a _)
theorem pay14_apply (v : Vec Ideal S1x1x256x4 .f32) (a : Fin 256) : k0_pay14 (F := Ideal) v (ix2 a (0 : Fin 1)) = v (ix4 (0 : Fin 1) (0 : Fin 1) a (1 : Fin 4)) :=
  (slice2_axis1_apply 1 _ slices_S256x4_o0_1_S256x1 a (0 : Fin 1) (1 : Fin 4) rfl).trans (cast11 v _ a _)
theorem pay15_apply (v : Vec Ideal S1x1x256x4 .f32) (a : Fin 256) : k0_pay15 (F := Ideal) v (ix2 a (0 : Fin 1)) = v (ix4 (0 : Fin 1) (0 : Fin 1) a (2 : Fin 4)) :=
  (slice2_axis1_apply 2 _ slices_S256x4_o0_2_S256x1 a (0 : Fin 1) (2 : Fin 4) rfl).trans (cast11 v _ a _)
theorem pay16_apply (v : Vec Ideal S1x1x256x4 .f32) (a : Fin 256) : k0_pay16 (F := Ideal) v (ix2 a (0 : Fin 1)) = v (ix4 (0 : Fin 1) (0 : Fin 1) a (3 : Fin 4)) :=
  (slice2_axis1_apply 3 _ slices_S256x4_o0_3_S256x1 a (0 : Fin 1) (3 : Fin 4) rfl).trans (cast11 v _ a _)

/-- One coordinate's row of a transposed tile. -/
theorem row_apply (k : ℕ) (hk : k < 4) (v : Vec Ideal S1x1x4x256 .f32) (hs : S4x256.Slices ![k, 0] S1x256) (a : Fin 256) :
    extractStridedSlice S1x256 ![k, 0] (k0_pay12 (F := Ideal) v) hs (ix2 (0 : Fin 1) a) = v (ix4 (0 : Fin 1) (0 : Fin 1) (⟨k, hk⟩ : Fin 4) a) :=
  (slice2_axis0_apply k _ hs (0 : Fin 1) a (⟨k, hk⟩ : Fin 4) rfl).trans (cast11 v _ _ a)

theorem brow {α : Type} {a b : ℕ} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 (0 : Fin 1) c) := broadcastTo_1b_ab_apply v h p c

/-- The area of each box of the row tile. -/
theorem pay17_apply (v : Vec Ideal S1x1x256x4 .f32) (hv : ∀ (a : Fin 256) (c : Fin 4), v (ix4 (0 : Fin 1) (0 : Fin 1) a c) = B (256 * r + a) c)
    (a : Fin 256) : k0_pay17 (F := Ideal) v (ix2 a (0 : Fin 1)) = area (B (256 * r + a)) := by
  show (k0_pay15 (F := Ideal) v (ix2 a (0 : Fin 1)) - k0_pay13 (F := Ideal) v (ix2 a (0 : Fin 1)))
    * (k0_pay16 (F := Ideal) v (ix2 a (0 : Fin 1)) - k0_pay14 (F := Ideal) v (ix2 a (0 : Fin 1))) = _
  rw [pay13_apply, pay14_apply, pay15_apply, pay16_apply, hv, hv, hv, hv]; rfl

/-- The area of each box of the column tile. -/
theorem pay25_apply (w : Vec Ideal S1x1x4x256 .f32) (hw : ∀ (c : Fin 4) (a : Fin 256), w (ix4 (0 : Fin 1) (0 : Fin 1) c a) = B (256 * t + a) c)
    (a : Fin 256) : k0_pay25 (F := Ideal) w (ix2 (0 : Fin 1) a) = area (B (256 * t + a)) := by
  show (k0_pay23 (F := Ideal) w (ix2 (0 : Fin 1) a) - k0_pay21 (F := Ideal) w (ix2 (0 : Fin 1) a))
    * (k0_pay24 (F := Ideal) w (ix2 (0 : Fin 1) a) - k0_pay22 (F := Ideal) w (ix2 (0 : Fin 1) a)) = _
  unfold k0_pay21 k0_pay22 k0_pay23 k0_pay24
  rw [row_apply 2 (by omega), row_apply 0 (by omega), row_apply 3 (by omega), row_apply 1 (by omega), hw, hw, hw, hw]; rfl

/-- The clipped overlaps along the first axis. -/
theorem pay26_apply (v : Vec Ideal S1x1x256x4 .f32) (hv : ∀ (a : Fin 256) (c : Fin 4), v (ix4 (0 : Fin 1) (0 : Fin 1) a c) = B (256 * r + a) c)
    (w : Vec Ideal S1x1x4x256 .f32) (hw : ∀ (c : Fin 4) (a : Fin 256), w (ix4 (0 : Fin 1) (0 : Fin 1) c a) = B (256 * t + a) c)
    (a b : Fin 256) : k0_pay26 (F := Ideal) v w (ix2 a b) = overA (B (256 * r + a)) (B (256 * t + b)) := by
  unfold k0_pay26 k0_pay23 k0_pay21
  simp only [maximumf_apply, minimumf_apply, subf_apply, broadcast_apply]
  rw [bcol (by omega), bcol (by omega), brow, brow, row_apply 2 (by omega), row_apply 0 (by omega), pay15_apply, pay13_apply, hv, hv, hw, hw]
  show max (Ideal.ofBits .f32 0x00000000#32) _ = _
  rw [Ideal.ofBits_zero_f32]; rfl

/-- The clipped overlaps along the second axis. -/
theorem pay27_apply (v : Vec Ideal S1x1x256x4 .f32) (hv : ∀ (a : Fin 256) (c : Fin 4), v (ix4 (0 : Fin 1) (0 : Fin 1) a c) = B (256 * r + a) c)
    (w : Vec Ideal S1x1x4x256 .f32) (hw : ∀ (c : Fin 4) (a : Fin 256), w (ix4 (0 : Fin 1) (0 : Fin 1) c a) = B (256 * t + a) c)
    (a b : Fin 256) : k0_pay27 (F := Ideal) v w (ix2 a b) = overB (B (256 * r + a)) (B (256 * t + b)) := by
  unfold k0_pay27 k0_pay24 k0_pay22
  simp only [maximumf_apply, minimumf_apply, subf_apply, broadcast_apply]
  rw [bcol (by omega), bcol (by omega), brow, brow, row_apply 3 (by omega), row_apply 1 (by omega), pay16_apply, pay14_apply, hv, hv, hw, hw]
  show max (Ideal.ofBits .f32 0x00000000#32) _ = _
  rw [Ideal.ofBits_zero_f32]; rfl

/-- The threshold test on two areas and two clipped overlaps. -/
def test (v33 : FVec Ideal S256x1 .f32) (v48 : FVec Ideal S1x256 .f32) (v57 v66 : FVec Ideal S256x256 .f32) : IVec S256x256 1 :=
  let v67 : FVec Ideal S256x256 .f32 := mulf v57 v66
  let v71 : FVec Ideal S256x256 .f32 := subf (addf (broadcastTo S256x256 v33 broadcasts_S256x1_S256x256) (broadcastTo S256x256 v48 broadcasts_S1x256_S256x256)) v67
  cmpf .ogt (select (cmpf .ogt v71 (broadcast S256x256 (Scalar.ofBits .f32 0x00000000#32))) (divf v67 v71) (broadcast S256x256 (Scalar.ofBits .f32 0x00000000#32)))
    (broadcast S256x256 (Scalar.ofBits .f32 0x3F333333#32))

/-- The test at a pair says that the pair's ratio is above the threshold. -/
theorem test_apply (v33 : FVec Ideal S256x1 .f32) (v48 : FVec Ideal S1x256 .f32) (v57 v66 : FVec Ideal S256x256 .f32) (a b : Fin 256) :
    test v33 v48 v57 v66 (ix2 a b) = 1#1
      ↔ Ideal.ofBits .f32 0x3F333333#32 < ratio (v33 (ix2 a (0 : Fin 1))) (v48 (ix2 (0 : Fin 1) b)) (v57 (ix2 a b)) (v66 (ix2 a b)) := by
  unfold test
  simp only [cmpf_apply, ogt_eq_one, select_apply, sel_if, mulf_apply, subf_apply, addf_apply, divf_apply, broadcast_apply]
  rw [bcol (by omega), brow]
  have hz : (FloatOps.ofBits (F := Ideal) .f32 0x00000000#32 : EReal) = 0 := Ideal.ofBits_zero_f32
  simp only [Scalar.ofBits, hz, Ideal.ofBits_zero_f32]
  exact Iff.rfl

/-- The pairs of a tile that suppress, the earlier one on the column. -/
theorem pay28_apply (v : Vec Ideal S1x1x256x4 .f32) (hv : ∀ (a : Fin 256) (c : Fin 4), v (ix4 (0 : Fin 1) (0 : Fin 1) a c) = B (256 * r + a) c)
    (w : Vec Ideal S1x1x4x256 .f32) (hw : ∀ (c : Fin 4) (a : Fin 256), w (ix4 (0 : Fin 1) (0 : Fin 1) c a) = B (256 * r + a) c) (a b : Fin 256) :
    k0_pay28 (F := Ideal) k0_pay2 (k0_pay17 v) (k0_pay25 w) (k0_pay26 v w) (k0_pay27 v w) (ix2 a b)
      = ind (b < a ∧ Sup B (256 * r + b) (256 * r + a)) := by
  show select (test (k0_pay17 v) (k0_pay25 w) (k0_pay26 v w) (k0_pay27 v w)) (broadcast S256x256 (Scalar.ofBits (F := Ideal) .f32 0x3F800000#32))
      (broadcast S256x256 (Scalar.ofBits (F := Ideal) .f32 0x00000000#32)) (ix2 a b)
    * select (cmpi .sgt (iota .tc S256x256 32 [0] iota_S256x256_d0_w32) (iota .tc S256x256 32 [1] iota_S256x256_d1_w32)) (broadcast S256x256 (Scalar.ofBits (F := Ideal) .f32 0x3F800000#32))
      (broadcast S256x256 (Scalar.ofBits (F := Ideal) .f32 0x00000000#32)) (ix2 a b) = _
  simp only [select_apply, broadcast_apply, sel_ind]
  rw [ind_mul_ind]
  refine ind_congr ?_
  rw [test_apply, pay17_apply v hv, pay25_apply w hw, pay26_apply v hv w hw, pay27_apply v hv w hw, and_comm, Sup_comm]
  refine and_congr ?_ Iff.rfl
  show IntOp.cmpi .sgt (iota .tc S256x256 32 [0] iota_S256x256_d0_w32 (ix2 a b)) (iota .tc S256x256 32 [1] iota_S256x256_d1_w32 (ix2 a b)) = 1#1 ↔ _
  rw [iota_single_apply, iota_single_apply]
  exact sgt_nat (by have := a.isLt; show a.val < 2 ^ 31; omega) (by have := b.isLt; show b.val < 2 ^ 31; omega)

/-- A row tile's test against a column tile's boxes that are kept. -/
theorem pay9_apply (v : Vec Ideal S1x1x256x4 .f32) (hv : ∀ (a : Fin 256) (c : Fin 4), v (ix4 (0 : Fin 1) (0 : Fin 1) a c) = B (256 * r + a) c)
    (w : Vec Ideal S1x1x4x256 .f32) (hw : ∀ (c : Fin 4) (a : Fin 256), w (ix4 (0 : Fin 1) (0 : Fin 1) c a) = B (256 * t + a) c)
    (k : Vec Ideal S1x1x256 .f32) (a b : Fin 256) :
    k0_pay9 (F := Ideal) (k0_pay13 v) (k0_pay14 v) (k0_pay15 v) (k0_pay16 v) (k0_pay17 v) w k (ix2 a b) = 1#1
      ↔ Sup B (256 * r + a) (256 * t + b) ∧ 0 < k (ix3 (0 : Fin 1) (0 : Fin 1) b) := by
  show IntOp.andi (test (k0_pay17 v) (k0_pay25 w) (k0_pay26 v w) (k0_pay27 v w) (ix2 a b))
    (broadcastTo S256x256 (cmpf .ogt (shapeCast S1x256 k shapeCasts_S1x1x256_S1x256) (broadcast S1x256 (Scalar.ofBits (F := Ideal) .f32 0x00000000#32))) broadcasts_S1x256_S256x256 (ix2 a b)) = 1#1 ↔ _
  rw [andi_eq_one, test_apply, pay17_apply v hv, pay25_apply w hw, pay26_apply v hv w hw, pay27_apply v hv w hw, brow, cmpf_apply, ogt_eq_one,
    shapeCast_1ab_ab_apply]
  show _ ∧ Ideal.ofBits .f32 0x00000000#32 < _ ↔ _
  rw [Ideal.ofBits_zero_f32]; rfl

/-- One tile's share of a row's hits. -/
theorem pay19_apply (acc : FVec Ideal S256x1 .f32) (q : IVec S256x256 1) (a : Fin 256) :
    k0_pay19 (F := Ideal) acc q (Scalar.ofBits .f32 0x3F800000#32) (ix2 a (0 : Fin 1)) = acc (ix2 a (0 : Fin 1)) + ∑ b : Fin 256, ind (q (ix2 a b) = 1#1) := by
  show acc (ix2 a (0 : Fin 1)) + shapeCast S256x1 (multiReduction .add [1] S256 (select q (broadcast S256x256 (Scalar.ofBits (F := Ideal) .f32 0x3F800000#32))
    (broadcast S256x256 (Scalar.ofBits (F := Ideal) .f32 0x00000000#32))) 0x00000000#32 reduces_S256x256_S256 (.inl rfl) rfl) shapeCasts_S256_S256x1 (ix2 a (0 : Fin 1)) = _
  refine congrArg (acc (ix2 a (0 : Fin 1)) + ·) (((shapeCast_a_a1_apply _ _ a (0 : Fin 1)).trans (Ideal.multiReduction_add_single _ _ _ _ _ _)).trans
    (Finset.sum_congr rfl fun b _ => ?_))
  have hj : reduces_S256x256_S256.lift (ix1 a) b = ix2 a b := by
    funext d; match d with | ⟨0, _⟩ => rfl | ⟨1, _⟩ => rfl
  rw [hj]
  exact sel_ind _

/-- A tile starts from the positions below 5000 that were not hit. -/
theorem pay29_apply (hr : r < 20) (x : FVec Ideal S256x1 .f32) (a : Fin 256) :
    k0_pay29 (F := Ideal) (iota .tc S256x1 32 [0] iota_S256x1_d0_w32) (BitVec.ofNat 32 r) x (ix2 a (0 : Fin 1))
      = ind (256 * r + a < 5000 ∧ ¬0 < x (ix2 a (0 : Fin 1))) := by
  show select (cmpi .slt (addi (broadcast S256x1 (Scalar.muli (BitVec.ofNat 32 r) 256#32)) (iota .tc S256x1 32 [0] iota_S256x1_d0_w32)) (broadcast S256x1 5000#32))
      (broadcast S256x1 (Scalar.ofBits (F := Ideal) .f32 0x3F800000#32)) (broadcast S256x1 (Scalar.ofBits (F := Ideal) .f32 0x00000000#32)) (ix2 a (0 : Fin 1))
    * select (cmpf .ogt x (broadcast S256x1 (Scalar.ofBits (F := Ideal) .f32 0x00000000#32)))
      (broadcast S256x1 (Scalar.ofBits (F := Ideal) .f32 0x00000000#32)) (broadcast S256x1 (Scalar.ofBits (F := Ideal) .f32 0x3F800000#32)) (ix2 a (0 : Fin 1)) = _
  simp only [select_apply, broadcast_apply, sel_ind, sel_not]
  rw [ind_mul_ind]
  refine ind_congr (and_congr ?_ (not_congr ?_))
  · show IntOp.cmpi .slt (BitVec.ofNat 32 r * 256#32 + iota .tc S256x1 32 [0] iota_S256x1_d0_w32 (ix2 a (0 : Fin 1))) 5000#32 = 1#1 ↔ _
    rw [iota_single_apply]
    have e : BitVec.ofNat 32 r * 256#32 + BitVec.ofNat 32 ((ix2 a (0 : Fin 1)) 0).val = BitVec.ofNat 32 (256 * r + a.val) := by
      rw [BitVec.ofNat_add, BitVec.ofNat_mul, BitVec.mul_comm]
    have := a.isLt
    exact (iff_of_eq (congrArg (fun z => IntOp.cmpi .slt z 5000#32 = 1#1) e)).trans (slt_nat (by omega) (by omega))
  · rw [cmpf_apply, ogt_eq_one]
    show Ideal.ofBits .f32 0x00000000#32 < _ ↔ _
    rw [Ideal.ofBits_zero_f32]

/-- One round of suppression inside a tile. -/
theorem pay8_apply (M : Fin 256 → Fin 256 → Prop) (b x : Fin 256 → Prop) (vM : FVec Ideal S256x256 .f32) (vb vx : FVec Ideal S256x1 .f32)
    (hM : ∀ a c, vM (ix2 a c) = ind (c < a ∧ M a c)) (hb : ∀ a, vb (ix2 a (0 : Fin 1)) = ind (b a)) (hx : ∀ a, vx (ix2 a (0 : Fin 1)) = ind (x a)) (a : Fin 256) :
    k0_pay8 (F := Ideal) vM vb vx (ix2 a (0 : Fin 1)) = ind (stepP M b x a) := by
  show vb (ix2 a (0 : Fin 1)) * select (cmpf .ogt (matmul dot_S256x256_S256x1_S256x1_1_0_0_1_n_n none vM vx (constant S256x1 .f32 0x00000000#32))
    (broadcast S256x1 (Scalar.ofBits (F := Ideal) .f32 0x00000000#32)))
    (broadcast S256x1 (Scalar.ofBits (F := Ideal) .f32 0x00000000#32)) (broadcast S256x1 (Scalar.ofBits (F := Ideal) .f32 0x3F800000#32)) (ix2 a (0 : Fin 1)) = _
  simp only [select_apply, broadcast_apply, sel_not]
  rw [hb, ind_mul_ind]
  refine ind_congr (and_congr Iff.rfl (not_congr ?_))
  rw [cmpf_apply, ogt_eq_one]
  refine (iff_of_eq (congrArg₂ (fun u w : EReal => u < w) Ideal.ofBits_zero_f32 ((Ideal.matmul_constant_zero_apply dot_S256x256_S256x1_S256x1_1_0_0_1_n_n none vM vx (ix2 a (0 : Fin 1))).trans
    (Equiv.sum_comp (contrEquiv1 dot_S256x256_S256x1_S256x1_1_0_0_1_n_n 256 rfl rfl).symm _).symm))).trans ?_
  have ht : ∀ c : Fin 256, vM (dot_S256x256_S256x1_S256x1_1_0_0_1_n_n.lhsIdx (ix2 a (0 : Fin 1)) ((contrEquiv1 dot_S256x256_S256x1_S256x1_1_0_0_1_n_n 256 rfl rfl).symm c))
      * vx (dot_S256x256_S256x1_S256x1_1_0_0_1_n_n.rhsIdx (ix2 a (0 : Fin 1)) ((contrEquiv1 dot_S256x256_S256x1_S256x1_1_0_0_1_n_n 256 rfl rfl).symm c))
      = ind ((c < a ∧ M a c) ∧ x c) := by
    intro c
    have hl : dot_S256x256_S256x1_S256x1_1_0_0_1_n_n.lhsIdx (ix2 a (0 : Fin 1)) ((contrEquiv1 dot_S256x256_S256x1_S256x1_1_0_0_1_n_n 256 rfl rfl).symm c) = ix2 a c := by
      funext d; match d with | ⟨0, _⟩ => rfl | ⟨1, _⟩ => rfl
    have hr : dot_S256x256_S256x1_S256x1_1_0_0_1_n_n.rhsIdx (ix2 a (0 : Fin 1)) ((contrEquiv1 dot_S256x256_S256x1_S256x1_1_0_0_1_n_n 256 rfl rfl).symm c) = ix2 c (0 : Fin 1) := by
      funext d; match d with | ⟨0, _⟩ => rfl | ⟨1, _⟩ => rfl
    rw [hl, hr, hM, hx, ind_mul_ind]
  rw [Finset.sum_congr rfl fun c _ => ht c, sum_pos_iff _ _ fun c => ind_nonneg _]
  simp only [Finset.mem_univ, true_and, ind_pos]

/-- The pattern of minus infinity is the least number. -/
theorem ofBits_bot : Ideal.ofBits .f32 0xFF800000#32 = ⊥ := by
  simp [Ideal.ofBits, Ideal.ieee]

/-- The test that two columns differ. -/
theorem pay7_iff (x y : FVec Ideal S256x1 .f32) :
    Scalar.cmpf .ogt (k0_pay7 (F := Ideal) x y) (Scalar.ofBits (F := Ideal) .f32 0x00000000#32) = 1#1 ↔ ∃ a : Fin 256, x (ix2 a (0 : Fin 1)) ≠ y (ix2 a (0 : Fin 1)) := by
  let src : FVec Ideal S1x256x1 .f32 := shapeCast S1x256x1 (select (cmpf .one x y) (broadcast S256x1 (Scalar.ofBits (F := Ideal) .f32 0x3F800000#32))
    (broadcast S256x1 (Scalar.ofBits (F := Ideal) .f32 0x00000000#32))) shapeCasts_S256x1_S1x256x1
  have hsrc : ∀ a : Fin 256, src (ix3 (0 : Fin 1) a (0 : Fin 1)) = ind (x (ix2 a (0 : Fin 1)) ≠ y (ix2 a (0 : Fin 1))) := by
    intro a
    refine (shapeCast_ab_1ab_apply _ _ (0 : Fin 1) a (0 : Fin 1)).trans ?_
    refine (sel_ind _).trans (ind_congr ?_)
    exact one_eq_one
  have hp : ∃ j : S1.Idx, k0_pay7 (F := Ideal) x y = multiReduction .maximumf [1, 2] S1 src 0xFF800000#32 reduces_S1x256x1_S1 (.inl rfl) rfl j := ⟨_, rfl⟩
  obtain ⟨j, hp⟩ := hp
  have hsub : ∀ j' : S1.Idx, j' = j := by
    intro j'; funext d
    match d with
    | ⟨0, _⟩ => exact Subsingleton.elim (α := Fin 1) _ _
  refine ogt_eq_one.trans ?_
  show Ideal.ofBits .f32 0x00000000#32 < _ ↔ _
  rw [Ideal.ofBits_zero_f32, hp.trans (multiReduction_maximumf_eq_fold _ _ _ _ _ _), Finset.filter_true_of_mem fun i _ => hsub _]
  refine (Finset.lt_fold_max (c := (0 : EReal))).trans ?_
  constructor
  · rintro (h | ⟨i, -, hi⟩)
    · exact absurd (show (0 : EReal) < Ideal.ofBits .f32 0xFF800000#32 from h) (by rw [ofBits_bot]; exact not_lt_bot)
    · refine ⟨i 1, ?_⟩
      have e : i = ix3 (0 : Fin 1) (i 1) (0 : Fin 1) := by
        funext d
        match d with
        | ⟨0, _⟩ => exact Subsingleton.elim (α := Fin 1) _ _
        | ⟨1, _⟩ => rfl
        | ⟨2, _⟩ => exact Subsingleton.elim (α := Fin 1) _ _
      exact ind_pos.mp (lt_of_lt_of_eq hi ((congrArg src e).trans (hsrc (i 1))))
  · rintro ⟨a, ha⟩
    exact Or.inr ⟨ix3 (0 : Fin 1) a (0 : Fin 1), Finset.mem_univ _, by rw [hsrc]; exact ind_pos.mpr ha⟩

/-- The kept column turned into a row. -/
theorem pay31_apply (x : FVec Ideal S256x1 .f32) (a : Fin 256) : k0_pay31 (F := Ideal) k0_pay4 x (ix2 (0 : Fin 1) a) = x (ix2 a (0 : Fin 1)) := by
  refine ((shapeCast_a_1a_apply _ _ (0 : Fin 1) a).trans (Ideal.multiReduction_add_single _ _ _ _ _ _)).trans ?_
  have ht : ∀ c : Fin 256, mulf (F := Ideal) (broadcastTo S256x256 x broadcasts_S256x1_S256x256) k0_pay4 (reduces_S256x256_S256_2.lift (ix1 a) c)
      = x (ix2 c (0 : Fin 1)) * ind (c = a) := by
    intro c
    have hj : reduces_S256x256_S256_2.lift (ix1 a) c = ix2 c a := by
      funext d; match d with | ⟨0, _⟩ => rfl | ⟨1, _⟩ => rfl
    rw [hj, mulf_apply]
    refine congrArg₂ (fun u w : EReal => u * w) (bcol (by omega) x _ c a) ((sel_ind _).trans (ind_congr ?_))
    show IntOp.cmpi .eq (iota .tc S256x256 32 [0] iota_S256x256_d0_w32 (ix2 c a)) (iota .tc S256x256 32 [1] iota_S256x256_d1_w32 (ix2 c a)) = 1#1 ↔ _
    rw [iota_single_apply, iota_single_apply]
    exact (eq_nat (by have := c.isLt; show c.val < 2 ^ 31; omega) (by have := a.isLt; show a.val < 2 ^ 31; omega)).trans Fin.ext_iff.symm
  refine (Finset.sum_congr rfl fun c _ => ht c).trans ?_
  have hs : ∑ c : Fin 256, x (ix2 c (0 : Fin 1)) * ind (c = a) = x (ix2 a (0 : Fin 1)) := by
    rw [Finset.sum_eq_single a]
    · rw [ind, if_pos rfl, mul_one]
    · intro c _ hc; rw [ind, if_neg hc, mul_zero]
    · intro h; exact absurd (Finset.mem_univ a) h
  exact hs

/-- How many a row keeps. -/
theorem pay6_apply (p : Fin 256 → Prop) (x : FVec Ideal S1x256 .f32) (hx : ∀ a, x (ix2 (0 : Fin 1) a) = ind (p a)) :
    Scalar.fptosi 32 (k0_pay6 (F := Ideal) x) = BitVec.ofNat 32 (Finset.univ.filter p).card := by
  have hp : ∃ j : S1.Idx, k0_pay6 (F := Ideal) x = multiReduction .add [1, 2] S1 (shapeCast S1x1x256 x shapeCasts_S1x256_S1x1x256) 0x00000000#32 reduces_S1x1x256_S1 (.inl rfl) rfl j := ⟨_, rfl⟩
  obtain ⟨j, hp⟩ := hp
  have e : k0_pay6 (F := Ideal) x = ((Finset.univ.filter p).card : ℝ) := by
    rw [hp]
    refine (Ideal.multiReduction_add_total _ _ _ (fun b => by match b with | ⟨0, _⟩ => rfl) _ _ _).trans ?_
    rw [← sum_ind]
    refine Finset.sum_bij (fun i _ => i 2) (fun _ _ => Finset.mem_univ _) ?_ ?_ ?_
    · intro i _ i' _ h
      funext d
      match d with
      | ⟨0, _⟩ => exact Subsingleton.elim (α := Fin 1) _ _
      | ⟨1, _⟩ => exact Subsingleton.elim (α := Fin 1) _ _
      | ⟨2, _⟩ => exact h
    · intro a _
      exact ⟨ix3 (0 : Fin 1) (0 : Fin 1) a, Finset.mem_univ _, rfl⟩
    · intro i _
      have e : i = ix3 (0 : Fin 1) (0 : Fin 1) (i 2) := by
        funext d
        match d with
        | ⟨0, _⟩ => exact Subsingleton.elim (α := Fin 1) _ _
        | ⟨1, _⟩ => exact Subsingleton.elim (α := Fin 1) _ _
        | ⟨2, _⟩ => rfl
      rw [e]
      exact (shapeCast_ab_1ab_apply _ _ (0 : Fin 1) (0 : Fin 1) _).trans (hx _)
  show Ideal.fptosi 32 (k0_pay6 (F := Ideal) x) = _
  rw [e]
  refine fptosi_nat _ ?_
  have := Finset.card_filter_le (Finset.univ : Finset (Fin 256)) p
  rw [Finset.card_univ, Fintype.card_fin] at this
  omega

/-- Counting the places of a tile below a bound. -/
theorem card_count (P : ℕ → Prop) {n : ℕ} (hn : n ≤ 256) : (Finset.univ.filter fun b : Fin 256 => P b ∧ b.val < n).card = Nat.count P n := by
  rw [Nat.count_eq_card_filter_range]
  refine Finset.card_bij (fun b _ => b.val) ?_ (fun _ _ _ _ h => Fin.ext h) ?_
  · intro b hb
    have h := (Finset.mem_filter.mp hb).2
    exact Finset.mem_filter.mpr ⟨Finset.mem_range.mpr h.2, h.1⟩
  · intro k hk
    obtain ⟨h1, h2⟩ := Finset.mem_filter.mp hk
    have := Finset.mem_range.mp h1
    exact ⟨⟨k, by omega⟩, Finset.mem_filter.mpr ⟨Finset.mem_univ _, h2, this⟩, rfl⟩

/-- The running count of the kept ones along a row, this one included. -/
theorem cum_apply (P : ℕ → Prop) (x : FVec Ideal S1x256 .f32) (hx : ∀ a : Fin 256, x (ix2 (0 : Fin 1) a) = ind (P a)) (a : Fin 256) :
    matmul dot_S1x256_S256x256_S1x256_1_0_0_1_n_n none x (k0_pay3 (F := Ideal)) (constant S1x256 .f32 0x00000000#32) (ix2 (0 : Fin 1) a)
      = ((Nat.count P (a.val + 1) : ℝ) : EReal) := by
  refine ((Ideal.matmul_constant_zero_apply dot_S1x256_S256x256_S1x256_1_0_0_1_n_n none x (k0_pay3 (F := Ideal)) (ix2 (0 : Fin 1) a)).trans
    (Equiv.sum_comp (contrEquiv1 dot_S1x256_S256x256_S1x256_1_0_0_1_n_n 256 rfl rfl).symm _).symm).trans ?_
  have ht : ∀ c : Fin 256, x (dot_S1x256_S256x256_S1x256_1_0_0_1_n_n.lhsIdx (ix2 (0 : Fin 1) a) ((contrEquiv1 dot_S1x256_S256x256_S1x256_1_0_0_1_n_n 256 rfl rfl).symm c))
      * (k0_pay3 (F := Ideal)) (dot_S1x256_S256x256_S1x256_1_0_0_1_n_n.rhsIdx (ix2 (0 : Fin 1) a) ((contrEquiv1 dot_S1x256_S256x256_S1x256_1_0_0_1_n_n 256 rfl rfl).symm c))
      = ind (P c ∧ c.val < a.val + 1) := by
    intro c
    have hl : dot_S1x256_S256x256_S1x256_1_0_0_1_n_n.lhsIdx (ix2 (0 : Fin 1) a) ((contrEquiv1 dot_S1x256_S256x256_S1x256_1_0_0_1_n_n 256 rfl rfl).symm c) = ix2 (0 : Fin 1) c := by
      funext d; match d with | ⟨0, _⟩ => rfl | ⟨1, _⟩ => rfl
    have hr : dot_S1x256_S256x256_S1x256_1_0_0_1_n_n.rhsIdx (ix2 (0 : Fin 1) a) ((contrEquiv1 dot_S1x256_S256x256_S1x256_1_0_0_1_n_n 256 rfl rfl).symm c) = ix2 c a := by
      funext d; match d with | ⟨0, _⟩ => rfl | ⟨1, _⟩ => rfl
    rw [hl, hr, hx, ← ind_mul_ind]
    refine congrArg (ind (P c) * ·) ((sel_ind _).trans (ind_congr ?_))
    show IntOp.cmpi .sle (iota .tc S256x256 32 [0] iota_S256x256_d0_w32 (ix2 c a)) (iota .tc S256x256 32 [1] iota_S256x256_d1_w32 (ix2 c a)) = 1#1 ↔ _
    rw [iota_single_apply, iota_single_apply]
    exact (sle_nat (by have := c.isLt; show c.val < 2 ^ 31; omega) (by have := a.isLt; show a.val < 2 ^ 31; omega)).trans Nat.lt_succ_iff.symm
  rw [Finset.sum_congr rfl fun c _ => ht c, sum_ind]
  refine congrArg (fun n : ℕ => ((n : ℝ) : EReal)) ?_
  rw [← card_count P (n := a.val + 1) (by omega)]
  congr

/-- Which place of the result each kept position of a tile goes to. -/
def oneHot (arg6 : BitVec 32) (v108 : FVec Ideal S1x256 .f32) : FVec Ideal S1024x256 .f32 :=
  select (andi (cmpi .eq (broadcastTo S1024x256 (iota .tc S1024x1 32 [0] iota_S1024x1_d0_w32) broadcasts_S1024x1_S1024x256)
      (broadcastTo S1024x256 (subi (addi (broadcast S1x256 arg6) (fptosi 32 (matmul dot_S1x256_S256x256_S1x256_1_0_0_1_n_n none v108 (k0_pay3 (F := Ideal)) (constant S1x256 .f32 0x00000000#32))))
        (broadcast S1x256 1#32)) broadcasts_S1x256_S1024x256))
      (broadcastTo S1024x256 (cmpf .ogt v108 (broadcast S1x256 (Scalar.ofBits (F := Ideal) .f32 0x00000000#32))) broadcasts_S1x256_S1024x256))
    (broadcast S1024x256 (Scalar.ofBits (F := Ideal) .f32 0x3F800000#32)) (broadcast S1024x256 (Scalar.ofBits (F := Ideal) .f32 0x00000000#32))

/-- A kept position goes to the place that counts the kept ones before it. -/
theorem oneHot_apply (P : ℕ → Prop) (x : FVec Ideal S1x256 .f32) (hx : ∀ a : Fin 256, x (ix2 (0 : Fin 1) a) = ind (P a)) (n : ℕ) (hn : n < 10000)
    (p : Fin 1024) (a : Fin 256) : oneHot (BitVec.ofNat 32 n) x (ix2 p a) = ind (P a ∧ n + Nat.count P a = p) := by
  refine (sel_ind _).trans (ind_congr ?_)
  refine andi_eq_one.trans ?_
  rw [and_comm]
  have h2 : (broadcastTo S1024x256 (cmpf .ogt x (broadcast S1x256 (Scalar.ofBits (F := Ideal) .f32 0x00000000#32))) broadcasts_S1x256_S1024x256 (ix2 p a)) = 1#1 ↔ P a := by
    rw [brow, cmpf_apply, ogt_eq_one]
    show Ideal.ofBits .f32 0x00000000#32 < _ ↔ _
    rw [Ideal.ofBits_zero_f32, hx, ind_pos]
  refine (and_congr_left' h2).trans (and_congr_right fun hP => ?_)
  show IntOp.cmpi .eq (broadcastTo S1024x256 (iota .tc S1024x1 32 [0] iota_S1024x1_d0_w32) broadcasts_S1024x1_S1024x256 (ix2 p a))
    (broadcastTo S1024x256 (subi (addi (broadcast S1x256 (BitVec.ofNat 32 n)) (fptosi 32 (matmul dot_S1x256_S256x256_S1x256_1_0_0_1_n_n none x (k0_pay3 (F := Ideal)) (constant S1x256 .f32 0x00000000#32))))
        (broadcast S1x256 1#32)) broadcasts_S1x256_S1024x256 (ix2 p a)) = 1#1 ↔ _
  rw [bcol (by omega), brow, iota_single_apply]
  have hc : Nat.count P (a.val + 1) = Nat.count P a + 1 := by rw [Nat.count_succ, if_pos hP]
  have hle : Nat.count P a ≤ a.val := Nat.count_le _
  have ha := a.isLt
  have hp := p.isLt
  have e : subi (addi (broadcast S1x256 (BitVec.ofNat 32 n)) (fptosi 32 (matmul dot_S1x256_S256x256_S1x256_1_0_0_1_n_n none x (k0_pay3 (F := Ideal)) (constant S1x256 .f32 0x00000000#32))))
        (broadcast S1x256 1#32) (ix2 (0 : Fin 1) a) = BitVec.ofNat 32 (n + Nat.count P a) := by
    show BitVec.ofNat 32 n + Ideal.fptosi 32 (matmul dot_S1x256_S256x256_S1x256_1_0_0_1_n_n none x (k0_pay3 (F := Ideal)) (constant S1x256 .f32 0x00000000#32) (ix2 (0 : Fin 1) a)) - 1#32 = _
    rw [cum_apply P x hx a, fptosi_nat _ (by omega), hc, ← BitVec.ofNat_add, ← Nat.add_assoc, BitVec.ofNat_add (n + Nat.count P a) 1]
    exact BitVec.add_sub_cancel _ _
  rw [e]
  exact (eq_nat (by show p.val < 2 ^ 31; omega) (by omega)).trans eq_comm

/-- One coordinate's column of the rows a tile adds. -/
theorem col_apply (P : ℕ → Prop) (x : FVec Ideal S1x256 .f32) (hx : ∀ a : Fin 256, x (ix2 (0 : Fin 1) a) = ind (P a)) (n : ℕ) (hn : n < 10000)
    (w : Vec Ideal S1x1x4x256 .f32) (k : ℕ) (hk : k < 4) (hs : S4x256.Slices ![k, 0] S1x256) (p : Fin 1024) :
    shapeCast S1024x1 (multiReduction .add [1] S1024 (mulf (oneHot (BitVec.ofNat 32 n) x) (broadcastTo S1024x256 (extractStridedSlice S1x256 ![k, 0] (k0_pay12 (F := Ideal) w) hs)
      broadcasts_S1x256_S1024x256)) 0x00000000#32 reduces_S1024x256_S1024 (.inl rfl) rfl) shapeCasts_S1024_S1024x1 (ix2 p (0 : Fin 1))
      = ∑ a : Fin 256, if P a ∧ n + Nat.count P a = p then w (ix4 (0 : Fin 1) (0 : Fin 1) (⟨k, hk⟩ : Fin 4) a) else 0 := by
  refine ((shapeCast_a_a1_apply _ _ p (0 : Fin 1)).trans (Ideal.multiReduction_add_single _ _ _ _ _ _)).trans (Finset.sum_congr rfl fun a _ => ?_)
  have hj : reduces_S1024x256_S1024.lift (ix1 p) a = ix2 p a := by
    funext d; match d with | ⟨0, _⟩ => rfl | ⟨1, _⟩ => rfl
  rw [hj]
  refine (congrArg₂ (fun u w : EReal => u * w) (oneHot_apply P x hx n hn p a) ((brow _ _ p a).trans (row_apply k hk w hs a))).trans ?_
  unfold ind
  split
  · rw [one_mul]
  · rw [zero_mul]

/-- The rows of the result after a tile: the old ones and, at its place, each kept box of the tile. -/
theorem pay33_apply (P : ℕ → Prop) (x : FVec Ideal S1x256 .f32) (hx : ∀ a : Fin 256, x (ix2 (0 : Fin 1) a) = ind (P a)) (n : ℕ) (hn : n < 10000)
    (w : Vec Ideal S1x1x4x256 .f32) (old : Vec Ideal S1x1024x4 .f32) (p : Fin 1024) (c : Fin 4) :
    k0_pay33 (F := Ideal) k0_pay3 (iota .tc S1024x1 32 [0] iota_S1024x1_d0_w32) (BitVec.ofNat 32 n) (k0_pay12 w) x old (ix2 p c)
      = old (ix3 (0 : Fin 1) p c) + ∑ a : Fin 256, if P a ∧ n + Nat.count P a = p then w (ix4 (0 : Fin 1) (0 : Fin 1) c a) else 0 := by
  refine congrArg₂ (fun u w : EReal => u + w) (shapeCast_1ab_ab_apply old _ p c) ?_
  match c with
  | ⟨0, h0⟩ => exact (concatenate_apply_piece (t := S1024x4) 1 _ _ (ix2 p (⟨0, h0⟩ : Fin 4)) 0 (by show 0 < 4; decide) S1024x1 _ rfl rfl 0 rfl (ix2 p (0 : Fin 1))
      (fun b hb => by match b with | ⟨0, _⟩ => rfl | ⟨1, _⟩ => exact absurd rfl hb) rfl).trans (col_apply P x hx n hn w 0 _ slices_S4x256_o0_0_S1x256 p)
  | ⟨1, h1⟩ => exact (concatenate_apply_piece (t := S1024x4) 1 _ _ (ix2 p (⟨1, h1⟩ : Fin 4)) 1 (by show 1 < 4; decide) S1024x1 _ rfl rfl 1 rfl (ix2 p (0 : Fin 1))
      (fun b hb => by match b with | ⟨0, _⟩ => rfl | ⟨1, _⟩ => exact absurd rfl hb) rfl).trans (col_apply P x hx n hn w 1 _ slices_S4x256_o1_0_S1x256 p)
  | ⟨2, h2⟩ => exact (concatenate_apply_piece (t := S1024x4) 1 _ _ (ix2 p (⟨2, h2⟩ : Fin 4)) 2 (by show 2 < 4; decide) S1024x1 _ rfl rfl 2 rfl (ix2 p (0 : Fin 1))
      (fun b hb => by match b with | ⟨0, _⟩ => rfl | ⟨1, _⟩ => exact absurd rfl hb) rfl).trans (col_apply P x hx n hn w 2 _ slices_S4x256_o2_0_S1x256 p)
  | ⟨3, h3⟩ => exact (concatenate_apply_piece (t := S1024x4) 1 _ _ (ix2 p (⟨3, h3⟩ : Fin 4)) 3 (by show 3 < 4; decide) S1024x1 _ rfl rfl 3 rfl (ix2 p (0 : Fin 1))
      (fun b hb => by match b with | ⟨0, _⟩ => rfl | ⟨1, _⟩ => exact absurd rfl hb) rfl).trans (col_apply P x hx n hn w 3 _ slices_S4x256_o3_0_S1x256 p)

/-- The word a tile adds to the running count. -/
theorem pay6_count (P : ℕ → Prop) (x : FVec Ideal S1x256 .f32) (hx : ∀ a : Fin 256, x (ix2 (0 : Fin 1) a) = ind (P a)) :
    Scalar.fptosi 32 (k0_pay6 (F := Ideal) x) = BitVec.ofNat 32 (Nat.count P 256) := by
  refine (pay6_apply (fun a : Fin 256 => P a) x hx).trans (congrArg (BitVec.ofNat 32) ?_)
  rw [← card_count P (n := 256) le_rfl]
  congr 1
  ext a
  simp

/-- The kept row as it is stored. -/
theorem pay32_apply (x : FVec Ideal S1x256 .f32) (a : Fin 256) : k0_pay32 (F := Ideal) x (ix3 (0 : Fin 1) (0 : Fin 1) a) = x (ix2 (0 : Fin 1) a) :=
  shapeCast_ab_1ab_apply x _ _ _ _

/-- The result's rows as they are stored. -/
theorem pay5_apply (x : FVec Ideal S1024x4 .f32) (p : Fin 1024) (c : Fin 4) : k0_pay5 (F := Ideal) x (ix3 (0 : Fin 1) p c) = x (ix2 p c) :=
  shapeCast_ab_1ab_apply x _ _ _ _

/-- The result's rows at the start. -/
theorem pay1_apply (p : Fin 1024) (c : Fin 4) : k0_pay1 (F := Ideal) (ix3 (0 : Fin 1) p c) = 0 :=
  (shapeCast_ab_1ab_apply (broadcast S1024x4 (Scalar.ofBits (F := Ideal) .f32 0x00000000#32)) shapeCasts_S1024x4_S1x1024x4 (0 : Fin 1) p c).trans Ideal.ofBits_zero_f32

/-- The hit counts at the start. -/
theorem pay18_apply (a : Fin 256) : k0_pay18 (F := Ideal) (ix2 a (0 : Fin 1)) = 0 := Ideal.ofBits_zero_f32

/-- The first step is the plain one. -/
theorem pay30_eq (v9 : FVec Ideal S256x256 .f32) (v18 : IVec S256x1 32) (q : BitVec 32) (v33 v41 : FVec Ideal S256x1 .f32) (v48 : FVec Ideal S1x256 .f32)
    (v57 v66 : FVec Ideal S256x256 .f32) :
    k0_pay30 (F := Ideal) v9 v18 q v33 v41 v48 v57 v66 = k0_pay8 (k0_pay28 v9 v33 v48 v57 v66) (k0_pay29 v18 q v41) (k0_pay29 v18 q v41) := rfl

end Cert.Proof.Nms

end
-- ==== Proof.NmsLoop.lean ====
/-
  The inner loop of the suppression kernel, which settles one tile: entered with a round and the round after it, it comes
  back with the tile's kept positions. Each round settles at least one more row, so it ends within 257 rounds. Before it:
  the proof's resource algebra and the words the outer loop computes from its counter.
-/
module

public import proofs.«01_k».proof.Proof.NmsVal
public import proofs.«01_k».proof.Proof.Gen.NmsIdeal.Points
public import proofs.«01_k».proof.Proof.Gen.NmsIdeal.Launch
public import Idealize.ShloMosaic.Lib.Pipeline.Sound
public import Idealize.ShloMosaic.Lib.Tactic
public import Idealize.ShloMosaic.Lib.VecWindow

@[expose] public section

noncomputable section

namespace Cert.Proof.Nms

open Cert.NmsIdeal Cert.NmsIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost algebra of the pipeline's cells. -/
abbrev NR : Type := URounds (GSem nD τ sig) Unit

local notation "𝕄" => MT nD τ sig Unit (Elt Ideal) ℕ NR ℕ

/-- Loops are bounded by natural numbers. -/
abbrev 𝒱₁ : Variants := Variants.nat

/-! ## Words computed from the counter -/

theorem off1_eq : ∀ i < 20, k0_off1 (BitVec.ofNat 32 i) = ![0, i, 0, 0] := by decide

theorem off2_eq : ∀ i < 20, k0_off2 (BitVec.ofNat 32 i) = ![0, i, 0, 0] := by decide

theorem off7_eq : ∀ i < 20, k0_off7 (BitVec.ofNat 32 i) = ![i, 0, 0] := by decide

theorem iv_toNat : ∀ t < 20, (Scf.iv 0#32 1#32 t).toNat = t := by decide

theorem trips1_eq : ∀ i < 20, (k0_t1_loop (BitVec.ofNat 32 i)).trips = i := by decide

theorem trips2_eq : ∀ i < 20, (k0_t2_loop (BitVec.ofNat 32 i)).trips = 0 := by decide

theorem ok1 : ∀ i < 20, (k0_t1_loop (BitVec.ofNat 32 i)).OK := by decide

theorem ok2 : ∀ i < 20, (k0_t2_loop (BitVec.ofNat 32 i)).OK := by decide

theorem off3_eq {i : ℕ} (hi : i < 20) (t : Fin (k0_t1_loop (BitVec.ofNat 32 i)).trips) : k0_off3 (BitVec.ofNat 32 i) t = ![0, t.val, 0, 0] := by
  have h := lt_of_lt_of_eq t.isLt (trips1_eq i hi)
  show ![0, (Scf.iv 0#32 1#32 t.val).toNat, 0, 0] = _
  rw [iv_toNat t.val (by omega)]

theorem off4_eq {i : ℕ} (hi : i < 20) (t : Fin (k0_t1_loop (BitVec.ofNat 32 i)).trips) : k0_off4 (BitVec.ofNat 32 i) t = ![t.val, 0, 0] := by
  have h := lt_of_lt_of_eq t.isLt (trips1_eq i hi)
  show ![(Scf.iv 0#32 1#32 t.val).toNat, 0, 0] = _
  rw [iv_toNat t.val (by omega)]

theorem inbA {i : ℕ} (hi : i < 20) : ∀ a, (![0, i, 0, 0] : Fin 4 → ℕ) a + S1x1x256x4.size a ≤ S1x20x256x4.size a := by
  intro a
  match a with
  | ⟨0, _⟩ => show 0 + 1 ≤ 1; omega
  | ⟨1, _⟩ => show i + 1 ≤ 20; omega
  | ⟨2, _⟩ => show 0 + 256 ≤ 256; omega
  | ⟨3, _⟩ => show 0 + 4 ≤ 4; omega

theorem inbB {i : ℕ} (hi : i < 20) : ∀ a, (![0, i, 0, 0] : Fin 4 → ℕ) a + S1x1x4x256.size a ≤ S1x20x4x256.size a := by
  intro a
  match a with
  | ⟨0, _⟩ => show 0 + 1 ≤ 1; omega
  | ⟨1, _⟩ => show i + 1 ≤ 20; omega
  | ⟨2, _⟩ => show 0 + 4 ≤ 4; omega
  | ⟨3, _⟩ => show 0 + 256 ≤ 256; omega

theorem inbS {i : ℕ} (hi : i < 20) : ∀ a, (![i, 0, 0] : Fin 3 → ℕ) a + S1x1x256.size a ≤ S20x8x256.size a := by
  intro a
  match a with
  | ⟨0, _⟩ => show i + 1 ≤ 20; omega
  | ⟨1, _⟩ => show 0 + 1 ≤ 8; omega
  | ⟨2, _⟩ => show 0 + 256 ≤ 256; omega

/-- Every offset the counter names lies inside its array. -/
theorem chk_of_lt {i : ℕ} (hi : i < 20) : k0_chk1 (BitVec.ofNat 32 i) := by
  have hn : ∀ t : Fin (k0_t2_loop (BitVec.ofNat 32 i)).trips, False := fun t => by
    have h := lt_of_lt_of_eq t.isLt (trips2_eq i hi)
    exact absurd h (Nat.not_lt_zero _)
  have hl : ∀ t : Fin (k0_t1_loop (BitVec.ofNat 32 i)).trips, t.val < 20 := fun t => by
    have h := lt_of_lt_of_eq t.isLt (trips1_eq i hi)
    omega
  refine ⟨?_, ?_, ok1 i hi, ?_, ?_, ok2 i hi, fun t => (hn t).elim, fun t => (hn t).elim, ?_⟩
  · rw [off1_eq i hi]; exact inbA hi
  · rw [off2_eq i hi]; exact inbB hi
  · intro t; rw [off3_eq hi t]; exact inbB (hl t)
  · intro t; rw [off4_eq hi t]; exact inbS (hl t)
  · rw [off7_eq i hi]; exact inbS hi

/-! ## The inner loop -/

theorem while2_le (c : Dev nD) (E : Set ℕ) (i : grid0.Coords) (q : BitVec 32) (hw : k0_chk1 q)
    (M : Fin 256 → Fin 256 → Prop) (b y : Fin 256 → Prop) (hy : ∀ a, y a ↔ stepP M b y a)
    (vM : FVec Ideal S256x256 .f32) (vb : FVec Ideal S256x1 .f32)
    (hM : ∀ a c, vM (ix2 a c) = ind (c < a ∧ M a c)) (hb : ∀ a, vb (ix2 a (0 : Fin 1)) = ind (b a)) :
    ∀ n t, t + n = 257 → ∀ (x : Fin 256 → Prop) (vx vx' : FVec Ideal S256x1 .f32),
      (∀ a, vx (ix2 a (0 : Fin 1)) = ind (x a)) → (∀ a, vx' (ix2 a (0 : Fin 1)) = ind (stepP M b x a)) →
      (∀ a : Fin 256, a.val < t → (x a ↔ y a)) → ∀ Q : FVec Ideal S256x1 .f32 × FVec Ideal S256x1 .f32 → sProp 𝕄,
      iprop(∀ r : FVec Ideal S256x1 .f32 × FVec Ideal S256x1 .f32, ⌜∀ a, r.2 (ix2 a (0 : Fin 1)) = ind (y a)⌝ -∗ Q r)
        ⊢ wp frame (wpE (defs₀ (F := Ideal)) 𝒱₁ (c : Thread nD τ) (some n)) E (defs₀ (F := Ideal) .tc 2 ⟨i, q, hw, vM, vb, vx, vx'⟩) Q := by
  intro n
  induction n with
  | zero =>
    intro t ht x vx vx' hx hx' hag Q
    have hall : ∀ a, x a ↔ y a := fun a => hag a (by have := a.isLt; have h0 : t = 257 := ht; omega)
    have hxy : x = y := funext fun a => propext (hall a)
    subst hxy
    show _ ⊢ wp frame (wpE (defs₀ (F := Ideal)) 𝒱₁ (c : Thread nD τ) (some 0)) E (cc0_while2 i q hw vM vb vx vx') Q
    simp only [cc0_while2_eq_skeleton]; unfold cc0_while2_skel
    have htest : ¬Scalar.cmpf .ogt (k0_pay7 (F := Ideal) vx vx') (Scalar.ofBits .f32 0x00000000#32) = 1#1 := by
      rw [pay7_iff]
      rintro ⟨a, ha⟩
      exact ha (by rw [hx, hx']; exact ind_congr (hy a))
    simp only [htest, ↓reduceIte, Prog.pure_eq_ret]
    iintro Hk
    rw [wp_ret]; imodintro
    iapply Hk
    ipureintro
    intro a
    exact (hx' a).trans (ind_congr (hy a)).symm
  | succ n ih =>
    intro t ht x vx vx' hx hx' hag Q
    show _ ⊢ wp frame (wpE (defs₀ (F := Ideal)) 𝒱₁ (c : Thread nD τ) (some (n + 1))) E (cc0_while2 i q hw vM vb vx vx') Q
    simp only [cc0_while2_eq_skeleton]; unfold cc0_while2_skel
    by_cases htest : Scalar.cmpf .ogt (k0_pay7 (F := Ideal) vx vx') (Scalar.ofBits .f32 0x00000000#32) = 1#1
    · simp only [htest, ↓reduceIte, Prog.lift]
      iintro Hk
      iapply (wp_call 𝒱₁ (c : Thread nD τ) (some (n + 1)) E n (fun u hu => by cases hu; exact Nat.lt_succ_self n))
      iapply (ih (t + 1) (by omega) (stepP M b x) vx' (k0_pay8 vM vb vx') hx' (pay8_apply M b (stepP M b x) vM vb vx' hM hb hx') (stepP_agree M b hy hag))
      iintro %r %hr
      rw [wp_ret]; imodintro
      iapply Hk
      ipureintro
      exact hr
    · simp only [htest, ↓reduceIte, Prog.pure_eq_ret]
      have hfix : ∀ a, x a ↔ stepP M b x a := by
        intro a
        by_contra hne
        refine htest ((pay7_iff vx vx').mpr ⟨a, fun h => hne ?_⟩)
        rw [hx, hx'] at h
        exact ind_inj h
      iintro Hk
      rw [wp_ret]; imodintro
      iapply Hk
      ipureintro
      intro a
      exact (hx' a).trans (ind_congr ((hfix a).symm.trans (stepP_unique M b hy hfix a)))

end Cert.Proof.Nms

end
-- ==== Proof.NmsBody.lean ====
/-
  The outer loop and the body of the suppression kernel at one batch: tile by tile the kept positions are written to the
  scratch rows and the kept boxes added at their places of the result, until a thousand are placed or the tiles run out.
-/
module

public import proofs.«01_k».proof.Proof.NmsLoop

@[expose] public section

noncomputable section

namespace Cert.Proof.Nms

open Cert.NmsIdeal Cert.NmsIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ NR ℕ

open scoped Classical in
/-- The tile the outer loop stops at, from tile `i` with `k` tiles left. -/
def stopFrom (S : ℕ → ℕ → Prop) : ℕ → ℕ → ℕ
  | 0, i => i
  | k + 1, i => if cnt S (256 * i) < 1000 then stopFrom S k (i + 1) else i

/-! ## Reading the tiles -/

section Tiles

variable (B : ℕ → Fin 4 → EReal) (arg1 : Memref sig .tc .vmem S1x20x256x4 .f32) (arg2 : Memref sig .tc .vmem S1x20x4x256 .f32)
  (arg3 : Memref sig .tc .vmem S1x1024x4 .f32) (arg4 : Memref sig .tc .vmem S20x8x256 .f32)

/-- The box rows as the first window holds them. -/
def RowsA (f : arg1.view.ty.Contents (Elt Ideal)) : Prop :=
  ∀ (t : Fin 20) (a : Fin 256) (c : Fin 4), arg1.view.read (Elt Ideal) f (ix4 (0 : Fin 1) t a c) = B (256 * t + a) c

/-- The boxes with the coordinate outside, as the second window holds them. -/
def RowsB (f : arg2.view.ty.Contents (Elt Ideal)) : Prop :=
  ∀ (t : Fin 20) (c : Fin 4) (a : Fin 256), arg2.view.read (Elt Ideal) f (ix4 (0 : Fin 1) t c a) = B (256 * t + a) c

/-- The result's rows after the first `n` positions. -/
def RowsO (n : ℕ) (f : arg3.view.ty.Contents (Elt Ideal)) : Prop :=
  ∀ (p : Fin 1024) (c : Fin 4), arg3.view.read (Elt Ideal) f (ix3 (0 : Fin 1) p c) = outv (Sup B) (fun j => B j c) n p

/-- The kept positions of the tiles before tile `i`, in the scratch rows. -/
def RowsK (i : ℕ) (f : arg4.view.ty.Contents (Elt Ideal)) : Prop :=
  ∀ (t : Fin 20) (a : Fin 256), t.val < i → arg4.view.read (Elt Ideal) f (ix3 t (0 : Fin 8) a) = ind (K (Sup B) (256 * t + a))

variable {B arg1 arg2 arg3 arg4}

theorem tileA {f : arg1.view.ty.Contents (Elt Ideal)} (h : RowsA B arg1 f) {off : Fin 4 → ℕ} {i : ℕ} (hi : i < 20) (e : off = ![0, i, 0, 0])
    (inb : ∀ a, off a + S1x1x256x4.size a ≤ S1x20x256x4.size a) (a : Fin 256) (c : Fin 4) :
    arg1.view.readAt (Elt Ideal) (Rect.unit (s := S1x20x256x4) off S1x1x256x4.size inb).toLoadRect f (ix4 (0 : Fin 1) (0 : Fin 1) a c) = B (256 * i + a) c := by
  rw [View.readAt_unit _ f inb e (inbA hi)]
  refine Eq.trans ?_ (h ⟨i, hi⟩ a c)
  refine congrArg (arg1.view.read (Elt Ideal) f) (funext fun d => Fin.ext ?_)
  match d with
  | ⟨0, _⟩ => rfl
  | ⟨1, _⟩ => show i + 1 * 0 = i; omega
  | ⟨2, _⟩ => show 0 + 1 * a.val = a.val; omega
  | ⟨3, _⟩ => show 0 + 1 * c.val = c.val; omega

theorem tileB {f : arg2.view.ty.Contents (Elt Ideal)} (h : RowsB B arg2 f) {off : Fin 4 → ℕ} {i : ℕ} (hi : i < 20) (e : off = ![0, i, 0, 0])
    (inb : ∀ a, off a + S1x1x4x256.size a ≤ S1x20x4x256.size a) (c : Fin 4) (a : Fin 256) :
    arg2.view.readAt (Elt Ideal) (Rect.unit (s := S1x20x4x256) off S1x1x4x256.size inb).toLoadRect f (ix4 (0 : Fin 1) (0 : Fin 1) c a) = B (256 * i + a) c := by
  rw [View.readAt_unit _ f inb e (inbB hi)]
  refine Eq.trans ?_ (h ⟨i, hi⟩ c a)
  refine congrArg (arg2.view.read (Elt Ideal) f) (funext fun d => Fin.ext ?_)
  match d with
  | ⟨0, _⟩ => rfl
  | ⟨1, _⟩ => show i + 1 * 0 = i; omega
  | ⟨2, _⟩ => show 0 + 1 * c.val = c.val; omega
  | ⟨3, _⟩ => show 0 + 1 * a.val = a.val; omega

theorem tileK {i : ℕ} {f : arg4.view.ty.Contents (Elt Ideal)} (h : RowsK B arg4 i f) {off : Fin 3 → ℕ} {t : ℕ} (hi : i < 20) (ht : t < i) (e : off = ![t, 0, 0])
    (inb : ∀ a, off a + S1x1x256.size a ≤ S20x8x256.size a) (a : Fin 256) :
    arg4.view.readAt (Elt Ideal) (Rect.unit (s := S20x8x256) off S1x1x256.size inb).toLoadRect f (ix3 (0 : Fin 1) (0 : Fin 1) a) = ind (K (Sup B) (256 * t + a)) := by
  rw [View.readAt_unit _ f inb e (inbS (by omega))]
  refine Eq.trans ?_ (h ⟨t, by omega⟩ a ht)
  refine congrArg (arg4.view.read (Elt Ideal) f) (funext fun d => Fin.ext ?_)
  match d with
  | ⟨0, _⟩ => show t + 1 * 0 = t; omega
  | ⟨1, _⟩ => rfl
  | ⟨2, _⟩ => show 0 + 1 * a.val = a.val; omega

/-- Storing a tile's kept row keeps those before it and adds the tile's own. -/
theorem rowsK_store {i : ℕ} (hi : i < 20) {f : arg4.view.ty.Contents (Elt Ideal)} (h : RowsK B arg4 i f) {off : Fin 3 → ℕ} (e : off = ![i, 0, 0])
    (inb : ∀ a, off a + S1x1x256.size a ≤ S20x8x256.size a) (w : Vec Ideal S1x1x256 .f32)
    (hw : ∀ a : Fin 256, w (ix3 (0 : Fin 1) (0 : Fin 1) a) = ind (K (Sup B) (256 * i + a))) :
    RowsK B arg4 (i + 1) (arg4.view.writes (Elt Ideal) f [⟨Rect.unit (s := S20x8x256) off S1x1x256.size inb, w⟩]) := by
  intro t a ht
  rw [View.read_writes_cons_put _ f inb w [] e, View.writes_nil]
  unfold VecWindow.put
  by_cases hti : t.val = i
  · have hm : ∀ d, (![i, 0, 0] : Fin 3 → ℕ) d ≤ ((ix3 t (0 : Fin 8) a : S20x8x256.Idx) d).val
        ∧ ((ix3 t (0 : Fin 8) a : S20x8x256.Idx) d).val < (![i, 0, 0] : Fin 3 → ℕ) d + S1x1x256.size d := by
      intro d
      match d with
      | ⟨0, _⟩ => show i ≤ t.val ∧ t.val < i + 1; omega
      | ⟨1, _⟩ => show 0 ≤ 0 ∧ 0 < 0 + 1; omega
      | ⟨2, _⟩ => show 0 ≤ a.val ∧ a.val < 0 + 256; have := a.isLt; omega
    rw [dif_pos hm]
    refine Eq.trans (congrArg w ?_) ((hw a).trans (by rw [hti]))
    funext d
    refine Fin.ext ?_
    match d with
    | ⟨0, _⟩ => show t.val - i = 0; omega
    | ⟨1, _⟩ => rfl
    | ⟨2, _⟩ => show a.val - 0 = a.val; omega
  · rw [dif_neg]
    · exact h t a (by omega)
    · intro hall
      have := (hall 0).1
      have h0 : i ≤ t.val := this
      omega

end Tiles

/-! ## The hits from the earlier tiles -/

section Outer

variable (B : ℕ → Fin 4 → EReal) (c : Dev nD) (g : grid0.Coords)
  (arg1 : Memref sig .tc .vmem S1x20x256x4 .f32) (harg1 : arg1.IsWhole) (arg2 : Memref sig .tc .vmem S1x20x4x256 .f32) (harg2 : arg2.IsWhole)
  (arg3 : Memref sig .tc .vmem S1x1024x4 .f32) (harg3 : arg3.IsWhole) (arg4 : Memref sig .tc .vmem S20x8x256 .f32) (harg4 : arg4.IsWhole)

/-- A memref's buffer at contents `f`, held whole. -/
abbrev held {s : Shape} (m : Memref sig .tc .vmem s .f32) (f : Buf (Elt Ideal) (m.view.loc (c : Thread nD τ))) : sProp 𝕄 :=
  (m.view.loc (c : Thread nD τ) ↦[m.view.set]{fullShare} f)

/-- What the hit counts say before column tile `k`. -/
def Hits (i k : ℕ) (acc : FVec Ideal S256x1 .f32) : Prop :=
  ∀ a : Fin 256, 0 ≤ acc (ix2 a (0 : Fin 1)) ∧ (0 < acc (ix2 a (0 : Fin 1)) ↔ ∃ j < 256 * k, Sup B j (256 * i + a) ∧ K (Sup B) j)

theorem hits_zero (i : ℕ) : Hits B i 0 (k0_pay18 (F := Ideal)) := by
  intro a
  rw [pay18_apply]
  exact ⟨le_rfl, ⟨fun h => absurd h (lt_irrefl _), fun ⟨j, hj, _⟩ => absurd hj (by omega)⟩⟩

theorem hits_succ (i k : ℕ) (acc : FVec Ideal S256x1 .f32) (h : Hits B i k acc) (q : IVec S256x256 1)
    (hq : ∀ a b : Fin 256, q (ix2 a b) = 1#1 ↔ Sup B (256 * i + a) (256 * k + b) ∧ K (Sup B) (256 * k + b)) :
    Hits B i (k + 1) (k0_pay19 acc q (Scalar.ofBits .f32 0x3F800000#32)) := by
  intro a
  rw [pay19_apply]
  have h0 : (0 : EReal) ≤ ∑ b : Fin 256, ind (q (ix2 a b) = 1#1) := Finset.sum_nonneg fun b _ => ind_nonneg _
  have hs := sum_pos_iff Finset.univ (fun b : Fin 256 => ind (q (ix2 a b) = 1#1)) fun b => ind_nonneg _
  refine ⟨add_nonneg (h a).1 h0, ?_⟩
  constructor
  · intro hp
    rcases lt_or_eq_of_le (h a).1 with hpos | hz
    · obtain ⟨j, hj, hr⟩ := (h a).2.mp hpos
      exact ⟨j, by omega, hr⟩
    · rw [← hz, zero_add] at hp
      obtain ⟨b, _, hb⟩ := hs.mp hp
      obtain ⟨h1, h2⟩ := (hq a b).mp (ind_pos.mp hb)
      exact ⟨256 * k + b, by have := b.isLt; omega, (Sup_comm B _ _).mp h1, h2⟩
  · rintro ⟨j, hj, h1, h2⟩
    by_cases hjk : j < 256 * k
    · exact lt_of_lt_of_le ((h a).2.mpr ⟨j, hjk, h1, h2⟩) (le_add_of_nonneg_right h0)
    · refine lt_of_lt_of_le (hs.mpr ⟨⟨j - 256 * k, by omega⟩, Finset.mem_univ _, ind_pos.mpr ((hq a _).mpr ?_)⟩) (le_add_of_nonneg_left (h a).1)
      show Sup B (256 * i + a) (256 * k + (j - 256 * k)) ∧ K (Sup B) (256 * k + (j - 256 * k))
      rw [show 256 * k + (j - 256 * k) = j by omega]
      exact ⟨(Sup_comm B _ _).mp h1, h2⟩

/-- What the hit loop holds before column tile `k`. -/
def hitInv (f2 : Buf (Elt Ideal) (arg2.view.loc (c : Thread nD τ))) (f4 : Buf (Elt Ideal) (arg4.view.loc (c : Thread nD τ))) (i k : ℕ) (acc : FVec Ideal S256x1 .f32) : sProp 𝕄 :=
  iprop(⌜Hits B i k acc⌝ ∗ held c arg2 f2 ∗ held c arg4 f4)

theorem hit_trip (E : Set ℕ) (bd : Option ℕ) {i : ℕ} (hi : i < 20) (hw : k0_chk1 (BitVec.ofNat 32 i))
    (v9 : FVec Ideal S256x256 .f32) (v18 : IVec S256x1 32) (v17 v13 : FVec Ideal S256x256 .f32) (v19 : IVec S1024x1 32) (arg6 : BitVec 32)
    (v : Vec Ideal S1x1x256x4 .f32) (hv : ∀ (a : Fin 256) (c : Fin 4), v (ix4 (0 : Fin 1) (0 : Fin 1) a c) = B (256 * i + a) c)
    (f2 : Buf (Elt Ideal) (arg2.view.loc (c : Thread nD τ))) (h2 : RowsB B arg2 f2) (f4 : Buf (Elt Ideal) (arg4.view.loc (c : Thread nD τ))) (h4 : RowsK B arg4 i f4)
    (k : Fin (k0_t1_loop (BitVec.ofNat 32 i)).trips) (acc : FVec Ideal S256x1 .f32) :
    hitInv B c arg2 arg4 f2 f4 i k acc
      ⊢ wp frame (wpE (defs₀ (F := Ideal)) 𝒱₁ (c : Thread nD τ) bd) E
          (k0_t1_body g arg1 harg1 arg2 harg2 arg4 harg4 v9 v18 v17 v13 v19 arg3 harg3 (BitVec.ofNat 32 i) arg6 hw v k acc)
          (hitInv B c arg2 arg4 f2 f4 i (k.val + 1)) := by
  have hk : k.val < i := lt_of_lt_of_eq k.isLt (trips1_eq i hi)
  unfold k0_t1_body
  simp only [k0_part1_eq_skeleton]; unfold k0_part1_skel
  simp only [Prog.lift, Prog.bind_op, Prog.bind_ret, Prog.pure_eq_ret]
  unfold hitInv
  iintro ⟨%hh, H2, H4⟩
  iapply (wp_load 𝒱₁ (c : Thread nD τ) bd E (m := arg2) (View.setOn_subset_set _ _)) $$ H2; iintro H2
  iapply (wp_load 𝒱₁ (c : Thread nD τ) bd E (m := arg4) (View.setOn_subset_set _ _)) $$ H4; iintro H4
  rw [wp_ret]; imodintro
  isplitr
  · ipureintro
    refine hits_succ B i k acc hh _ fun a b => ?_
    refine (pay9_apply v hv _ (tileB h2 (by omega) (off3_eq hi k) _) _ a b).trans (and_congr_right fun _ => ?_)
    rw [tileK h4 hi hk (off4_eq hi k)]
    exact ind_pos
  isplitl [H2]; · iexact H2
  iexact H4

end Outer

end Cert.Proof.Nms

end
-- ==== Proof.NmsOuter.lean ====
/-
  The outer loop of the suppression kernel, by induction on the tiles left, and the body that starts it.
-/
module

public import proofs.«01_k».proof.Proof.NmsBody

@[expose] public section

noncomputable section

namespace Cert.Proof.Nms

open Cert.NmsIdeal Cert.NmsIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ NR ℕ

variable (B : ℕ → Fin 4 → EReal) (c : Dev nD) (g : grid0.Coords)
  (arg1 : Memref sig .tc .vmem S1x20x256x4 .f32) (harg1 : arg1.IsWhole) (arg2 : Memref sig .tc .vmem S1x20x4x256 .f32) (harg2 : arg2.IsWhole)
  (arg3 : Memref sig .tc .vmem S1x1024x4 .f32) (harg3 : arg3.IsWhole) (arg4 : Memref sig .tc .vmem S20x8x256 .f32) (harg4 : arg4.IsWhole)

/-- Inside a tile the kept positions are the fixed point of a round. -/
theorem tile_fixed (S : ℕ → ℕ → Prop) (i : ℕ) (a : Fin 256) :
    K S (256 * i + a) ↔ stepP (fun a c : Fin 256 => S (256 * i + c) (256 * i + a)) (fun a => base S i a) (fun a => K S (256 * i + a)) a := by
  rw [K_tile]
  unfold stepP
  refine and_congr_right fun _ => not_congr ⟨?_, ?_⟩
  · rintro ⟨c, hc, h1, h2⟩
    exact ⟨⟨c, by have := a.isLt; omega⟩, ⟨Fin.lt_def.mpr hc, h1⟩, h2⟩
  · rintro ⟨c, ⟨hc, h1⟩, h2⟩
    exact ⟨c.val, Fin.lt_def.mp hc, h1, h2⟩

/-- The tile's starting set from the hit counts. -/
theorem base_hits {i : ℕ} (hi : i < 20) (acc : FVec Ideal S256x1 .f32) (h : Hits B i i acc) (a : Fin 256) :
    k0_pay29 (F := Ideal) (iota .tc S256x1 32 [0] iota_S256x1_d0_w32) (BitVec.ofNat 32 i) acc (ix2 a (0 : Fin 1)) = ind (base (Sup B) i a) := by
  rw [pay29_apply hi]
  refine ind_congr (and_congr_right fun _ => ?_)
  rw [(h a).2]
  exact ⟨fun hn j hj hr => hn ⟨j, hj, hr⟩, fun hn ⟨j, hj, hr⟩ => hn j hj hr⟩

open scoped Classical in
/-- At most so many are kept as there are positions. -/
theorem cnt_le (S : ℕ → ℕ → Prop) (n : ℕ) : cnt S n ≤ n := by
  unfold cnt; exact Nat.count_le _

/-- The result's rows after a tile. -/
theorem rowsO_store {i : ℕ} (w : Vec Ideal S1x1x4x256 .f32) (hw : ∀ (c : Fin 4) (a : Fin 256), w (ix4 (0 : Fin 1) (0 : Fin 1) c a) = B (256 * i + a) c)
    (hi : i < 20) (x : FVec Ideal S1x256 .f32) (hx : ∀ a : Fin 256, x (ix2 (0 : Fin 1) a) = ind (K (Sup B) (256 * i + a)))
    {f : arg3.view.ty.Contents (Elt Ideal)} (h : RowsO B arg3 (256 * i) f) {off off' : Fin 3 → ℕ} (inb : ∀ a, off a + S1x1024x4.size a ≤ S1x1024x4.size a)
    (inb' : ∀ a, off' a + S1x1024x4.size a ≤ S1x1024x4.size a) :
    RowsO B arg3 (256 * (i + 1)) (arg3.view.writes (Elt Ideal) f [⟨Rect.unit (s := S1x1024x4) off S1x1024x4.size inb,
      k0_pay5 (k0_pay33 (F := Ideal) k0_pay3 (iota .tc S1024x1 32 [0] iota_S1024x1_d0_w32) (BitVec.ofNat 32 (cnt (Sup B) (256 * i))) (k0_pay12 w) x
        (arg3.view.readAt (Elt Ideal) (Rect.unit (s := S1x1024x4) off' S1x1024x4.size inb').toLoadRect f))⟩]) := by
  intro p c
  rw [View.read_writes_full _ f inb _ []]
  have hc : cnt (Sup B) (256 * i) ≤ 256 * i := cnt_le _ _
  refine (pay5_apply _ p c).trans ((pay33_apply (fun a => K (Sup B) (256 * i + a)) x hx (cnt (Sup B) (256 * i)) (by omega) w _ p c).trans ?_)
  rw [View.readAt_full, h p c, outv_tile]
  refine congrArg (_ + ·) (Finset.sum_congr rfl fun a _ => ?_)
  rw [hw, cnt_add]

open scoped Classical in
theorem while1_le (E : Set ℕ)
    (f1 : Buf (Elt Ideal) (arg1.view.loc (c : Thread nD τ))) (h1 : RowsA B arg1 f1)
    (f2 : Buf (Elt Ideal) (arg2.view.loc (c : Thread nD τ))) (h2 : RowsB B arg2 f2) :
    ∀ r i, i + r = 20 → ∀ (f3 : Buf (Elt Ideal) (arg3.view.loc (c : Thread nD τ))) (f4 : Buf (Elt Ideal) (arg4.view.loc (c : Thread nD τ))),
      RowsO B arg3 (256 * i) f3 → RowsK B arg4 i f4 → ∀ Q : BitVec 32 × BitVec 32 → sProp 𝕄,
      iprop((held c arg1 f1 ∗ held c arg2 f2 ∗ held c arg3 f3 ∗ held c arg4 f4)
        ∗ ∀ (z : BitVec 32 × BitVec 32) (f3' : Buf (Elt Ideal) (arg3.view.loc (c : Thread nD τ))) (f4' : Buf (Elt Ideal) (arg4.view.loc (c : Thread nD τ))),
            ⌜RowsO B arg3 (256 * stopFrom (Sup B) r i) f3'⌝ -∗ (held c arg1 f1 ∗ held c arg2 f2 ∗ held c arg3 f3' ∗ held c arg4 f4') -∗ Q z)
      ⊢ wp frame (wpE (defs₀ (F := Ideal)) 𝒱₁ (c : Thread nD τ) (some (r * 300 + 299))) E
          (defs₀ (F := Ideal) .tc 1 ⟨g, arg1, harg1, arg2, harg2, arg4, harg4, k0_pay2, iota .tc S256x1 32 [0] iota_S256x1_d0_w32, k0_pay4, k0_pay3,
            iota .tc S1024x1 32 [0] iota_S1024x1_d0_w32, arg3, harg3, BitVec.ofNat 32 i, BitVec.ofNat 32 (cnt (Sup B) (256 * i))⟩) Q := by
  have hcnt : ∀ i, cnt (Sup B) (256 * i) ≤ 256 * i := fun i => cnt_le _ _
  have htest : ∀ i ≤ 20, Scalar.andi (Scalar.cmpi .slt (BitVec.ofNat 32 i) 20#32) (Scalar.cmpi .slt (BitVec.ofNat 32 (cnt (Sup B) (256 * i))) 1000#32) = 1#1
      ↔ i < 20 ∧ cnt (Sup B) (256 * i) < 1000 := by
    intro i hi
    have := hcnt i
    exact andi_eq_one.trans (and_congr (slt_nat (by omega) (by omega)) (slt_nat (by omega) (by omega)))
  intro r
  induction r with
  | zero =>
    intro i hir f3 f4 h3 h4 Q
    have hi : i = 20 := hir
    show _ ⊢ wp frame (wpE (defs₀ (F := Ideal)) 𝒱₁ (c : Thread nD τ) (some 299)) E
      (cc0_while1 g arg1 harg1 arg2 harg2 arg4 harg4 k0_pay2 (iota .tc S256x1 32 [0] iota_S256x1_d0_w32) k0_pay4 k0_pay3
            (iota .tc S1024x1 32 [0] iota_S1024x1_d0_w32) arg3 harg3 (BitVec.ofNat 32 i) (BitVec.ofNat 32 (cnt (Sup B) (256 * i)))) Q
    simp only [cc0_while1_eq_skeleton]; unfold cc0_while1_skel
    have ht : ¬Scalar.andi (Scalar.cmpi .slt (BitVec.ofNat 32 i) 20#32) (Scalar.cmpi .slt (BitVec.ofNat 32 (cnt (Sup B) (256 * i))) 1000#32) = 1#1 := by
      rw [htest i (by omega)]; omega
    simp only [ht, ↓reduceIte, Prog.pure_eq_ret]
    iintro ⟨H, Hk⟩
    rw [wp_ret]; imodintro
    iapply Hk
    · ipureintro; exact h3
    · iexact H
  | succ r ih =>
    intro i hir f3 f4 h3 h4 Q
    have hi : i < 20 := by omega
    have hw := chk_of_lt hi
    show _ ⊢ wp frame (wpE (defs₀ (F := Ideal)) 𝒱₁ (c : Thread nD τ) (some ((r + 1) * 300 + 299))) E
      (cc0_while1 g arg1 harg1 arg2 harg2 arg4 harg4 k0_pay2 (iota .tc S256x1 32 [0] iota_S256x1_d0_w32) k0_pay4 k0_pay3
            (iota .tc S1024x1 32 [0] iota_S1024x1_d0_w32) arg3 harg3 (BitVec.ofNat 32 i) (BitVec.ofNat 32 (cnt (Sup B) (256 * i)))) Q
    simp only [cc0_while1_eq_skeleton]; unfold cc0_while1_skel
    by_cases ht : Scalar.andi (Scalar.cmpi .slt (BitVec.ofNat 32 i) 20#32) (Scalar.cmpi .slt (BitVec.ofNat 32 (cnt (Sup B) (256 * i))) 1000#32) = 1#1
    · have hstop : stopFrom (Sup B) (r + 1) i = stopFrom (Sup B) r (i + 1) := by
        rw [stopFrom, if_pos ((htest i (by omega)).mp ht).2]
      rw [hstop]
      simp only [k0_part3_eq_skeleton, k0_part4_eq_skeleton, k0_part5_eq_skeleton]; unfold k0_part3_skel k0_part4_skel k0_part5_skel
      simp only [ht, ↓reduceIte, Prog.lift, Prog.bind_op, Prog.bind_ret, Prog.pure_eq_ret]
      iintro ⟨⟨H1, H2, H3, H4⟩, Hk⟩
      iapply (wp_assume 𝒱₁ (c : Thread nD τ) _ E hw)
      iapply (wp_load 𝒱₁ (c : Thread nD τ) _ E (m := arg1) (View.setOn_subset_set _ _)) $$ H1; iintro H1
      iapply (wp_load 𝒱₁ (c : Thread nD τ) _ E (m := arg2) (View.setOn_subset_set _ _)) $$ H2; iintro H2
      rw [bind_assoc]
      sl_for (hitInv B c arg2 arg4 f2 f4 i) $$ [H2 H4]
      case region =>
        intro k acc
        exact hit_trip B c g arg1 harg1 arg2 harg2 arg3 harg3 arg4 harg4 E _ hi hw _ _ _ _ _ _ _ (tileA h1 hi (off1_eq i hi) _) f2 h2 f4 h4 k acc
      · unfold hitInv
        isplitr
        · ipureintro; exact hits_zero B i
        isplitl [H2]; · iexact H2
        iexact H4
      iintro %acc HT; unfold hitInv
      icases HT with ⟨%hacc, H2, H4⟩
      have hacc' : Hits B i i acc := by
        have e : Scf.trips (k0_t1_loop (BitVec.ofNat 32 i)).lb (k0_t1_loop (BitVec.ofNat 32 i)).ub (k0_t1_loop (BitVec.ofNat 32 i)).st = i := trips1_eq i hi
        rwa [e] at hacc
      unfold while1_le.sl.prog.cont_1
      rw [bind_assoc]
      sl_for (fun _ acc' => (iprop(⌜acc' = acc⌝) : sProp 𝕄)) $$ []
      case region =>
        intro k
        exact absurd (lt_of_lt_of_eq k.isLt (trips2_eq i hi)) (Nat.not_lt_zero _)
      · ipureintro; rfl
      iintro %acc2 %hacc2
      subst hacc2
      unfold while1_le.sl.prog.cont_2
      simp only [Prog.bind_op, Prog.bind_ret]
      have hA := tileA h1 hi (off1_eq i hi) (k0_off1_inb _ hw)
      have hB := tileB h2 hi (off2_eq i hi) (k0_off2_inb _ hw)
      have hM := pay28_apply _ hA _ hB
      have hb := base_hits B hi acc2 hacc'
      rw [pay30_eq]
      iapply (wp_call 𝒱₁ (c : Thread nD τ) _ E 257 (fun u hu => by cases hu; show 257 < (r + 1) * 300 + 299; omega))
      iapply (while2_le c E g _ _ _ _ (fun a : Fin 256 => K (Sup B) (256 * i + a)) (tile_fixed (Sup B) i) _ _ hM hb 257 0 rfl _ _ _ hb
        (pay8_apply _ _ _ _ _ _ hM hb hb) (fun a h => absurd h (Nat.not_lt_zero _)))
      iintro %z %hz
      have hx : ∀ a : Fin 256, k0_pay31 (F := Ideal) k0_pay4 z.2 (ix2 (0 : Fin 1) a) = ind (K (Sup B) (256 * i + a)) := fun a => (pay31_apply z.2 a).trans (hz a)
      iapply (wp_load 𝒱₁ (c : Thread nD τ) _ E (m := arg4) (View.setOn_subset_set _ _)) $$ H4; iintro H4
      iapply (wp_store_writes₀ 𝒱₁ (c : Thread nD τ) _ E (m := arg4) (View.set_slice_subset _ _)) $$ H4; iintro H4
      iapply (wp_load 𝒱₁ (c : Thread nD τ) _ E (m := arg3) (View.setOn_subset_set _ _)) $$ H3; iintro H3
      iapply (wp_load 𝒱₁ (c : Thread nD τ) _ E (m := arg3) (View.setOn_subset_set _ _)) $$ H3; iintro H3
      iapply (wp_store_writes₀ 𝒱₁ (c : Thread nD τ) _ E (m := arg3) (View.set_slice_subset _ _)) $$ H3; iintro H3
      have h3' := rowsO_store B arg3 _ hB hi _ hx h3 inb_S1x1024x4_S1x1024x4_0_0_0 inb_S1x1024x4_S1x1024x4_0_0_0
      have h4' := rowsK_store hi h4 (off7_eq i hi) (k0_off7_inb _ hw) _ (fun a => (pay32_apply _ a).trans (hx a))
      have ec : Scalar.addi (BitVec.ofNat 32 (cnt (Sup B) (256 * i))) (Scalar.fptosi 32 (k0_pay6 (F := Ideal) (k0_pay31 k0_pay4 z.2)))
          = BitVec.ofNat 32 (cnt (Sup B) (256 * (i + 1))) := by
        rw [pay6_count (fun a => K (Sup B) (256 * i + a)) _ hx, show 256 * (i + 1) = 256 * i + 256 by ring, cnt_add]
        exact (BitVec.ofNat_add _ _).symm
      have ei : Scalar.addi (BitVec.ofNat 32 i) 1#32 = BitVec.ofNat 32 (i + 1) := (BitVec.ofNat_add _ _).symm
      simp only [ec, ei]
      iapply (wp_call 𝒱₁ (c : Thread nD τ) _ E (r * 300 + 299) (fun u hu => by cases hu; show r * 300 + 299 < (r + 1) * 300 + 299; omega))
      iapply (ih (i + 1) (by omega) _ _ h3' h4')
      isplitl [H1 H2 H3 H4]
      · isplitl [H1]; · iexact H1
        isplitl [H2]; · iexact H2
        isplitl [H3]; · iexact H3
        iexact H4
      iintro %z' %f3' %f4' %hO HH
      rw [wp_ret]; imodintro
      iapply Hk
      · ipureintro; exact hO
      · iexact HH
    · have hstop : stopFrom (Sup B) (r + 1) i = i := by
        rw [stopFrom, if_neg fun h => ht ((htest i (by omega)).mpr ⟨hi, h⟩)]
      rw [hstop]
      simp only [ht, ↓reduceIte, Prog.pure_eq_ret]
      iintro ⟨H, Hk⟩
      rw [wp_ret]; imodintro
      iapply Hk
      · ipureintro; exact h3
      · iexact H

/-- The result cleared holds the zero of every place no box has yet taken. -/
theorem rowsO_zero {f : arg3.view.ty.Contents (Elt Ideal)} (inb : ∀ a, (![0, 0, 0] : Fin 3 → ℕ) a + S1x1024x4.size a ≤ S1x1024x4.size a) :
    RowsO B arg3 (256 * 0) (arg3.view.writes (Elt Ideal) f [⟨Rect.unit (s := S1x1024x4) ![0, 0, 0] S1x1024x4.size inb, k0_pay1 (F := Ideal)⟩]) := by
  intro p c
  rw [View.read_writes_full _ f inb _ []]
  exact (pay1_apply p c).trans (outv_of_none _ _ fun j hj => absurd hj (by omega)).symm

/-- The body at one batch: whatever the result and the scratch rows held, the result comes back with the kept boxes at
    their places. -/
theorem body_wp (E : Set ℕ)
    (f1 : Buf (Elt Ideal) (arg1.view.loc (c : Thread nD τ))) (h1 : RowsA B arg1 f1)
    (f2 : Buf (Elt Ideal) (arg2.view.loc (c : Thread nD τ))) (h2 : RowsB B arg2 f2)
    (f3 : Buf (Elt Ideal) (arg3.view.loc (c : Thread nD τ))) (f4 : Buf (Elt Ideal) (arg4.view.loc (c : Thread nD τ))) (Q : PUnit → sProp 𝕄) :
    iprop((held c arg1 f1 ∗ held c arg2 f2 ∗ held c arg3 f3 ∗ held c arg4 f4)
      ∗ ∀ (f3' : Buf (Elt Ideal) (arg3.view.loc (c : Thread nD τ))) (f4' : Buf (Elt Ideal) (arg4.view.loc (c : Thread nD τ))),
          ⌜RowsO B arg3 (256 * stopFrom (Sup B) 20 0) f3'⌝ -∗ (held c arg1 f1 ∗ held c arg2 f2 ∗ held c arg3 f3' ∗ held c arg4 f4') -∗ Q ⟨⟩)
      ⊢ wp frame (wpE (defs₀ (F := Ideal)) 𝒱₁ (c : Thread nD τ) none) E
          (cc0__nms_body g arg1 harg1 arg2 harg2 arg3 harg3 arg4 harg4) Q := by
  simp only [cc0__nms_body_eq_skeleton]; unfold cc0__nms_body_skel
  simp only [Prog.lift, Prog.bind_op, Prog.bind_ret, Prog.pure_eq_ret]
  iintro ⟨⟨H1, H2, H3, H4⟩, Hk⟩
  iapply (wp_load 𝒱₁ (c : Thread nD τ) none E (m := arg3) (View.setOn_subset_set _ _)) $$ H3; iintro H3
  iapply (wp_store_writes₀ 𝒱₁ (c : Thread nD τ) none E (m := arg3) (View.set_slice_subset _ _)) $$ H3; iintro H3
  iapply (wp_call 𝒱₁ (c : Thread nD τ) none E (20 * 300 + 299) (fun u hu => nomatch hu))
  have h3 := rowsO_zero B arg3 (f := f3) inb_S1x1024x4_S1x1024x4_0_0_0
  have h4 : RowsK B arg4 0 f4 := fun t a ht => absurd ht (Nat.not_lt_zero _)
  have e0 : (0#32 : BitVec 32) = BitVec.ofNat 32 (cnt (Sup B) (256 * 0)) := by
    rw [show cnt (Sup B) (256 * 0) = 0 from Nat.le_zero.mp (cnt_le _ _)]
  have hW := while1_le B c g arg1 harg1 arg2 harg2 arg3 harg3 arg4 harg4 E f1 h1 f2 h2 20 0 rfl _ f4 h3 h4
  rw [← e0] at hW
  iapply (hW _)
  isplitl [H1 H2 H3 H4]
  · isplitl [H1]; · iexact H1
    isplitl [H2]; · iexact H2
    isplitl [H3]; · iexact H3
    iexact H4
  iintro %z' %f3' %f4' %hO HH
  rw [wp_ret]; imodintro
  iapply Hk
  · ipureintro; exact hO
  · iexact HH

/-- Once a thousand are placed, or the tiles have run out, the first thousand places are as after all positions. -/
theorem outv_stopFrom (S : ℕ → ℕ → Prop) (box : ℕ → EReal) (p : ℕ) (hp : p < 1000) :
    ∀ k i, i + k = 20 → outv S box (256 * stopFrom S k i) p = outv S box 5120 p := by
  intro k
  induction k with
  | zero => intro i hi; rw [stopFrom, show 256 * i = 5120 by omega]
  | succ k ih =>
    intro i hi
    rw [stopFrom]
    split
    · exact ih (i + 1) (by omega)
    · exact (outv_stop S box (by omega) (by omega)).symm

end Cert.Proof.Nms

end
-- ==== Proof.NmsRun.lean ====
/-
  The run of the suppression program: the pipeline's four points, one batch each, between the reshape and transpose
  before it and the slice after it.
-/
module

public import proofs.«01_k».proof.Proof.NmsOuter
public import proofs.«01_k».proof.Proof.Gen.NmsIdeal.Launch
public import proofs.«01_k».proof.Proof.Gen.NmsIdeal.Points
public import Idealize.ShloMosaic.Lib.Pipeline.FrameSuffix
public import Idealize.ShloMosaic.Lib.Pipeline.FrameBody
public import Idealize.ShloMosaic.Lib.Pipeline.Value

@[expose] public section

noncomputable section

namespace Cert.Proof.Nms

open Cert.NmsIdeal Cert.NmsIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ NR ℕ

/-- Row `n` of batch `b` of the gathered boxes. -/
def rows (x : FVec Ideal S20480x4 .f32) (b n : ℕ) (c : Fin 4) : EReal :=
  if h : b * 5120 + n < 20480 then x (ix2 ⟨b * 5120 + n, h⟩ c) else 0

/-- What the result's block of batch `b` holds after the body. -/
def outBlk (x : FVec Ideal S20480x4 .f32) (b : ℕ) : FVec Ideal S1x1024x4 .f32 := fun i =>
  outv (Sup (rows x b)) (fun j => rows x b j (i 2)) (256 * stopFrom (Sup (rows x b)) 20 0) (i 1).val

section Run

variable (m : (ℓ : Loc nD τ sig) → Buf (Elt Ideal) ℓ) (ρ : Dev nD → PrngReg)

/-- The launch contents of the boxes on core `c`. -/
abbrev boxes (c : Dev nD) : FVec Ideal S20480x4 .f32 := m ((c : Thread nD τ).loc main_arg0)

/-- The buffers when the pipeline is entered. -/
def V₁ (c : Dev nD) : Valuation τ sig (Elt Ideal) := StableHlo.after (hostOps0 (F := Ideal)) (fun b => m (c, b))

theorem V₁_v0 (c : Dev nD) : V₁ m c (Proc.devRef .tc main_v0) = shapeCast S4x20x256x4 (boxes m c) shapeCasts_S20480x4_S4x20x256x4 := by
  unfold V₁
  unfold hostOps0
  after_results
  rfl

theorem V₁_v1 (c : Dev nD) : V₁ m c (Proc.devRef .tc main_v1)
    = transpose S4x20x4x256 [0, 1, 3, 2] (shapeCast S4x20x256x4 (boxes m c) shapeCasts_S20480x4_S4x20x256x4) transposes_S4x20x256x4_S4x20x4x256_0_1_3_2 := by
  unfold V₁
  unfold hostOps0
  after_results
  rfl

theorem V₁_arg0 (c : Dev nD) : V₁ m c (Proc.devRef .tc main_arg0) = boxes m c := by
  unfold V₁
  unfold hostOps0
  after_results

/-- The proof data: the inputs' buffers keep their blocks, the result's block of batch `t` is `outBlk`. -/
def dats (_ : Fin 1) (c : Dev nD) : Dat τ (Elt Ideal) Unit ℕ NR ℕ (cfg0 (F := Ideal)) c where
  A w := V₁ m c (Proc.devRef .tc (Pipeline.arrRef spec0 w))
  after w t := match w with
    | ⟨0, _⟩ => (((cfg0 (F := Ideal)).win 0).blk t).view.read (Elt Ideal) (V₁ m c (Proc.devRef .tc main_v0))
    | ⟨1, _⟩ => (((cfg0 (F := Ideal)).win 1).blk t).view.read (Elt Ideal) (V₁ m c (Proc.devRef .tc main_v1))
    | ⟨2, _⟩ => outBlk (boxes m c) t.val
    | ⟨n + 3, h⟩ => absurd h (Nat.not_lt.2 (Nat.le_add_left _ _))
  Φ _ := Pipeline.ΦA spec0 c
  q _ := fullShare
  owed _ := 0

theorem before_0 (c : Dev nD) (t : Fin (cfg0 (F := Ideal)).N) (d : ((cfg0 (F := Ideal)).win 0).block.Idx → Elt Ideal ((cfg0 (F := Ideal)).win 0).elt) :
    (dats m 0 c).before 0 t d = (((cfg0 (F := Ideal)).win 0).blk t).view.read (Elt Ideal) (V₁ m c (Proc.devRef .tc main_v0)) := by
  unfold Dat.before; rw [if_pos (fetch0_0 t)]; rfl

theorem before_1 (c : Dev nD) (t : Fin (cfg0 (F := Ideal)).N) (d : ((cfg0 (F := Ideal)).win 1).block.Idx → Elt Ideal ((cfg0 (F := Ideal)).win 1).elt) :
    (dats m 0 c).before 1 t d = (((cfg0 (F := Ideal)).win 1).blk t).view.read (Elt Ideal) (V₁ m c (Proc.devRef .tc main_v1)) := by
  unfold Dat.before; rw [if_pos (fetch0_1 t)]; rfl

/-- The grid has one axis, so a point's coordinate is the point. -/
theorem coords_val (t : Fin (cfg0 (F := Ideal)).N) : ((grid0.coords t) 0).val = t.val := by
  rcases fin_N0 t with rfl | rfl | rfl | rfl <;> decide

theorem t_lt (t : Fin (cfg0 (F := Ideal)).N) : t.val < 4 := lt_of_lt_of_eq t.isLt N_0

theorem idx_t (t : Fin (cfg0 (F := Ideal)).N) : (BitVec.ofNat 32 ((grid0.coords t) 0).val).toNat = t.val := by
  rw [coords_val, BitVec.toNat_ofNat]; have := t_lt t; omega

/-- A block of the first window, element by element. -/
theorem read_0 (X : FVec Ideal S4x20x256x4 .f32) (t : Fin (cfg0 (F := Ideal)).N) (i : Fin 20) (a : Fin 256) (k : Fin 4) :
    (((cfg0 (F := Ideal)).win 0).blk t).view.read (Elt Ideal) X (ix4 (0 : Fin 1) i a k) = X (ix4 (⟨t.val, t_lt t⟩ : Fin 4) i a k) := by
  refine congrArg X (funext fun d => Fin.ext ?_)
  have e := idx_t t
  match d with
  | ⟨0, _⟩ => show (BitVec.ofNat 32 ((grid0.coords t) 0).val).toNat * 1 + 1 * 0 = t.val; omega
  | ⟨1, _⟩ => show 0 * 20 + 1 * i.val = i.val; omega
  | ⟨2, _⟩ => show 0 * 256 + 1 * a.val = a.val; omega
  | ⟨3, _⟩ => show 0 * 4 + 1 * k.val = k.val; omega

theorem read_1 (X : FVec Ideal S4x20x4x256 .f32) (t : Fin (cfg0 (F := Ideal)).N) (i : Fin 20) (k : Fin 4) (a : Fin 256) :
    (((cfg0 (F := Ideal)).win 1).blk t).view.read (Elt Ideal) X (ix4 (0 : Fin 1) i k a) = X (ix4 (⟨t.val, t_lt t⟩ : Fin 4) i k a) := by
  refine congrArg X (funext fun d => Fin.ext ?_)
  have e := idx_t t
  match d with
  | ⟨0, _⟩ => show (BitVec.ofNat 32 ((grid0.coords t) 0).val).toNat * 1 + 1 * 0 = t.val; omega
  | ⟨1, _⟩ => show 0 * 20 + 1 * i.val = i.val; omega
  | ⟨2, _⟩ => show 0 * 4 + 1 * k.val = k.val; omega
  | ⟨3, _⟩ => show 0 * 256 + 1 * a.val = a.val; omega

/-- The boxes reshaped, one batch in twenty tiles. -/
theorem tiles_apply (x : FVec Ideal S20480x4 .f32) (b : Fin 4) (i : Fin 20) (a : Fin 256) (k : Fin 4) :
    shapeCast S4x20x256x4 x shapeCasts_S20480x4_S4x20x256x4 (ix4 b i a k) = rows x b (256 * i + a) k := by
  have h : b.val * 5120 + (256 * i.val + a.val) < 20480 := by omega
  unfold rows
  rw [dif_pos h]
  refine shapeCast_apply x _ _ _ ?_
  rw [Shape.rowMajor_val_two, Shape.rowMajor_val_four]
  show (b.val * 5120 + (256 * i.val + a.val)) * 4 + k.val = ((b.val * 20 + i.val) * 256 + a.val) * 4 + k.val
  ring

theorem coords_apply (x : FVec Ideal S20480x4 .f32) (b : Fin 4) (i : Fin 20) (k : Fin 4) (a : Fin 256) :
    transpose S4x20x4x256 [0, 1, 3, 2] (shapeCast S4x20x256x4 x shapeCasts_S20480x4_S4x20x256x4) transposes_S4x20x256x4_S4x20x4x256_0_1_3_2
      (ix4 b i k a) = rows x b (256 * i + a) k := by
  refine (transpose_apply _ _ _ _ (ix4 b i a k) ?_).trans (tiles_apply x b i a k)
  intro d
  match d with
  | ⟨0, _⟩ => rfl
  | ⟨1, _⟩ => rfl
  | ⟨2, _⟩ => rfl
  | ⟨3, _⟩ => rfl

/-- A block's leading coordinate is zero. -/
theorem blk_idx (i : S1x1024x4.Idx) : i = ix3 (0 : Fin 1) (i 1) (i 2) :=
  (eq_ix3 i).trans (congrArg (fun z : Fin 1 => ix3 z (i 1) (i 2)) (Fin.ext (Nat.lt_one_iff.1 (i 0).isLt)))

/-- The rows of an input window's block, as the body takes them. -/
theorem rows_0 (c : Dev nD) (t : Fin (cfg0 (F := Ideal)).N) (i : Fin 20) (a : Fin 256) (k : Fin 4) :
    (((cfg0 (F := Ideal)).win 0).blk t).view.read (Elt Ideal) (V₁ m c (Proc.devRef .tc main_v0)) (ix4 (0 : Fin 1) i a k)
      = rows (boxes m c) t.val (256 * i + a) k := by
  rw [V₁_v0]
  exact (read_0 _ t i a k).trans (tiles_apply (boxes m c) ⟨t.val, t_lt t⟩ i a k)

theorem rows_1 (c : Dev nD) (t : Fin (cfg0 (F := Ideal)).N) (i : Fin 20) (k : Fin 4) (a : Fin 256) :
    (((cfg0 (F := Ideal)).win 1).blk t).view.read (Elt Ideal) (V₁ m c (Proc.devRef .tc main_v1)) (ix4 (0 : Fin 1) i k a)
      = rows (boxes m c) t.val (256 * i + a) k := by
  rw [V₁_v1]
  exact (read_1 _ t i k a).trans (coords_apply (boxes m c) ⟨t.val, t_lt t⟩ i k a)

/-- The scratch rows as a plain buffer and as the body's memref. -/
theorem held_scratch (c : Dev nD) (f : Buf (Elt Ideal) ((c : Thread nD τ).loc cc0_scratch0)) :
    (held c (Memref.whole cc0_scratch0) f : sProp 𝕄) = ((c : Thread nD τ).loc cc0_scratch0) ↦{fullShare} f := by
  unfold held; simp only [Memref.view_whole, View.set_whole]

/-- The body at one batch turns what the windows give it into what they take back. -/
theorem body_obligation (c : Dev nD) : BodyObligation (dats m 0 c) (defs₀ (F := Ideal)) 𝒱₁ () Set.univ := fun t => by
  rw [bigSep_W0, bigSep_W0]
  sl_whnfR [defs₀, Defs.onTc]
  rw [show (dats m 0 c).Φ t.castSucc = Pipeline.ΦA spec0 c from rfl, show (dats m 0 c).Φ t.succ = Pipeline.ΦA spec0 c from rfl]
  unfold Pipeline.ΦA
  rw [scopedRest0_eq]
  iintro ⟨⟨⟨%fs, Hs⟩, Hp⟩, HO, ⟨%d0, H0⟩, ⟨%d1, H1⟩, ⟨%d2, H2⟩⟩
  unfold owns
  icases H0 with ⟨%f0, %e0, H0⟩
  icases H1 with ⟨%f1, %e1, H1⟩
  icases H2 with ⟨%f2, %e2, H2⟩
  rw [before_0] at e0
  rw [before_1] at e1
  iapply (body_wp (rows (boxes m c) t.val) c (grid0.coords t) _ _ _ _ _ _ _ _ Set.univ f0
    (fun i a k => (congrFun e0 _).trans (rows_0 m c t i a k)) f1 (fun i k a => (congrFun e1 _).trans (rows_1 m c t i k a)) f2 fs _)
  isplitl [H0 H1 H2 Hs]
  · isplitl [H0]
    · iexact H0
    isplitl [H1]
    · iexact H1
    isplitl [H2]
    · iexact H2
    iapply (Entails.of_eq (held_scratch c fs).symm)
    iexact Hs
  iintro %f3' %f4' %hO ⟨H0, H1, H2, Hs⟩
  isplitl [Hs Hp]
  · isplitl [Hs]
    · iexists f4'
      iapply (Entails.of_eq (held_scratch c f4'))
      iexact Hs
    iexact Hp
  isplitl [HO]
  · iexact HO
  isplitl [H0]
  · iexists f0; isplitr
    · ipureintro; exact e0
    iexact H0
  isplitl [H1]
  · iexists f1; isplitr
    · ipureintro; exact e1
    iexact H1
  iexists f3'; isplitr
  · ipureintro
    funext i
    have hi : i = ix3 (0 : Fin 1) (i 1) (i 2) := blk_idx i
    exact (congrArg _ hi).trans (hO (i 1) (i 2))
  iexact H2

/-- The result array after the pipeline. -/
def resAll (x : FVec Ideal S20480x4 .f32) : FVec Ideal S4x1024x4 .f32 := fun i =>
  outv (Sup (rows x (i 0).val)) (fun j => rows x (i 0).val j (i 2)) (256 * stopFrom (Sup (rows x (i 0).val)) 20 0) (i 1).val

/-- The kernel's result: place `p` of batch `b` holds the `p`-th kept box, or zeros. -/
def res (x : FVec Ideal S20480x4 .f32) : FVec Ideal S4x1000x4 .f32 := fun i =>
  outv (Sup (rows x (i 0).val)) (fun j => rows x (i 0).val j (i 2)) 5120 (i 1).val

/-- An element of the result array is in its batch's block, at the same row and coordinate. -/
theorem emb_2 (t : Fin (cfg0 (F := Ideal)).N) (i : S1x1024x4.Idx) :
    (((cfg0 (F := Ideal)).win 2).blk t).view.emb i = ix3 (⟨t.val, t_lt t⟩ : Fin 4) (i 1) (i 2) := by
  funext d
  refine Fin.ext ?_
  have e := idx_t t
  have h := (i 0).isLt
  change (i 0).val < 1 at h
  match d with
  | ⟨0, _⟩ => show (BitVec.ofNat 32 ((grid0.coords t) 0).val).toNat * 1 + 1 * (i 0).val = t.val; omega
  | ⟨1, _⟩ => show 0 * 1024 + 1 * (i 1).val = (i 1).val; omega
  | ⟨2, _⟩ => show 0 * 4 + 1 * (i 2).val = (i 2).val; omega

theorem arrAt_2 (c : Dev nD) : (dats m 0 c).arrAt 2 (cfg0 (F := Ideal)).N = resAll (boxes m c) := by
  refine Dat.arrAt_eq_of_cover (dats m 0 c) 2 (resAll (boxes m c)) (fun t _ => ?_) (fun i => ?_)
  · funext i
    exact (congrArg (resAll (boxes m c)) (emb_2 t i)).symm
  · have h : (i 0).val < (cfg0 (F := Ideal)).N := lt_of_lt_of_eq (i 0).isLt N_0.symm
    have e : (((cfg0 (F := Ideal)).win 2).blk ⟨(i 0).val, h⟩).view.emb (ix3 (0 : Fin 1) (i 1) (i 2)) = i :=
      (emb_2 ⟨(i 0).val, h⟩ (ix3 (0 : Fin 1) (i 1) (i 2))).trans (eq_ix3 i).symm
    exact ⟨⟨(i 0).val, h⟩, flush0_2 _, Eq.mp (congrArg (· ∈ (((cfg0 (F := Ideal)).win 2).blk ⟨(i 0).val, h⟩).view.set) e) (View.emb_mem_set _ _)⟩

/-- What the slice after the pipeline leaves. -/
theorem slice_res (x : FVec Ideal S20480x4 .f32) : extractStridedSlice S4x1000x4 ![0, 0, 0] (resAll x) slices_S4x1024x4_S4x1000x4_0_0_0 = res x := by
  funext i
  refine (extractStridedSlice_apply _ _ _ i (ix3 (i 0) (⟨(i 1).val, lt_trans (i 1).isLt (by decide)⟩ : Fin 1024) (i 2)) ?_).trans ?_
  · intro a
    match a with
    | ⟨0, _⟩ => exact (Nat.zero_add _).symm
    | ⟨1, _⟩ => exact (Nat.zero_add _).symm
    | ⟨2, _⟩ => exact (Nat.zero_add _).symm
  · exact outv_stopFrom _ _ _ (i 1).isLt 20 0 rfl

/-- The slice reads the result array, and writes the result alone. -/
theorem tail_v3 (W : Valuation τ sig (Elt Ideal)) : StableHlo.after (hostOps1 (F := Ideal)) W (Proc.devRef .tc main_v3)
    = extractStridedSlice S4x1000x4 ![0, 0, 0] (W (Proc.devRef .tc main_v2)) slices_S4x1024x4_S4x1000x4_0_0_0 := by
  unfold hostOps1
  after_results

theorem tail_arg0 (W : Valuation τ sig (Elt Ideal)) :
    StableHlo.after (hostOps1 (F := Ideal)) W (Proc.devRef .tc main_arg0) = W (Proc.devRef .tc main_arg0) := by
  unfold hostOps1
  after_results

/-- The program's run: the boxes unchanged, the result at `res`, every semaphore at zero. -/
theorem run : θ_run (Cert.NmsIdeal.defs (F := Ideal)) (onTc main) ⟨m, fun _ => 0, ρ⟩
    (fun r => (∀ c : Dev nD, r.2.mem (c.tc.loc main_v3) = res (boxes m c) ∧ r.2.mem (c.tc.loc main_arg0) = m (c.tc.loc main_arg0))
      ∧ r.2.sem = fun _ => 0) := by
  refine Pipeline.θ_run_frame_around (cfgs (F := Ideal)) (dats m) 0 launch0 (defs₀ (F := Ideal)) 𝒱₁ m ρ main
    (fun c => (body_obligation m c).loose) (fun c w => ?_) (fun c t => rfl) (V₁ m) [hostOps1] ?_ ?_ ?_
    (Pipeline.hmain_around cfgs 0 defs₀ 𝒱₁ m main [hostOps0] [hostOps1] ?_ ?_ (fun c => main_chain c)) (fun c w => rfl) (fun c t => rfl) _ ?_
  · match w with
    | ⟨0, _⟩ => rfl
    | ⟨1, _⟩ => rfl
    | ⟨2, _⟩ => rfl
  · intro ops ho op h
    rw [List.mem_singleton.1 ho] at h
    exact Pipeline.sub_tailRefs _ _ op ((List.forall_iff_forall_mem.mp hostOps1_sub) op h) (fun k => k.elim0)
  · intro ops ho op h
    rw [List.mem_singleton.1 ho] at h
    rw [List.mem_singleton.1 h]
    rfl
  · intro ops ho op h w
    rw [List.mem_singleton.1 ho] at h
    rw [List.mem_singleton.1 h]
    revert w
    decide
  · exact hostOps0_sub
  · exact ⟨rfl, rfl⟩
  · rintro r ⟨hF, hs⟩
    refine ⟨fun c => ⟨?_, ?_⟩, hs⟩
    · refine ((hF c).2 main_v3 (Pipeline.mem_restRefs_of main_v3 rfl (by decide))).trans ?_
      refine (tail_v3 _).trans (Eq.trans ?_ (slice_res (boxes m c)))
      refine congrArg (fun z : FVec Ideal S4x1024x4 .f32 => extractStridedSlice S4x1000x4 ![0, 0, 0] z slices_S4x1024x4_S4x1000x4_0_0_0) ?_
      exact (Pipeline.withArrays_arr spec0 winFacts0.arr_inj c (V₁ m c) _ 2).trans (arrAt_2 m c)
    · refine ((hF c).2 main_arg0 (Pipeline.mem_restRefs_of main_arg0 rfl (by decide))).trans ?_
      refine (tail_arg0 _).trans ?_
      exact (Pipeline.withArrays_of_ne spec0 c (V₁ m c) _ main_arg0 (by decide)).trans (V₁_arg0 m c)

end Run

end Cert.Proof.Nms

end
-- ==== Proof.NmsRefRun.lean ====
/-
  The reference suppression program's stretches, each read from any contents: what each leaves in the buffers the later
  ones read.
-/
module

public import proofs.«01_k».proof.Proof.Gen.NmsReferenceIdeal.Run
public import Idealize.ShloMosaic.PureOps.Ideal.Laws

@[expose] public section

set_option maxRecDepth 8192

noncomputable section

namespace Cert.Proof.NmsRef

open Cert.NmsReferenceIdeal Cert.NmsReferenceIdeal.Gen Cert.NmsReferenceIdeal.Value
open Idealize.ShloMosaic Idealize.ShloMosaic.StableHlo Idealize.ShloMosaic.TcCoe Idealize.ShloMosaic.Tactic

variable (V : Valuation τ sig (Elt Ideal))

/-- The order of the boxes: kept ones first, in their order otherwise. -/
abbrev sorted (kp : IVec S4x5000 1) : IVec S4x5000 32 :=
  (Host.sort2 S4x5000 1 comparator_i32_i32_d1 (extui 32 (noti kp) natLt_1_32) (iotaInDim S4x5000 32 1)).2

/-- The boxes, those not kept at zero. -/
abbrev masked (x : FVec Ideal S20480x4 .f32) (kp : IVec S4x5000 1) : FVec Ideal S4x5000x4 .f32 :=
  mulf (extractStridedSlice S4x5000x4 ![0, 0, 0] (shapeCast S4x5120x4 x shapeCasts_S20480x4_S4x5120x4) slices_S4x5120x4_S4x5000x4_0_0_0)
    (broadcastInDim S4x5000x4 ![0, 1, 2] bcast_S4x5000x1_S4x5000x4_0_1_2
      (uitofp .f32 (broadcastInDim S4x5000x1 ![0, 1] bcast_S4x5000_S4x5000x1_0_1 kp)))

/-- The indices of `take` with the negative ones wrapped. -/
abbrev wrapped (ix : IVec S4x1000 32) : IVec S4x1000 32 :=
  select (cmpi .slt ix (broadcastInDim S4x1000 ![] bcast_S_S4x1000 (constantI S_ 32 0#32)))
    (addi ix (broadcastInDim S4x1000 ![] bcast_S_S4x1000 (constantI S_ 32 5000#32))) ix

/-- The wrapped indices with the unit axis the gather's start indices have. -/
abbrev starts (ix : IVec S4x1000 32) : IVec S4x1000x1 32 := broadcastInDim S4x1000x1 ![0, 1] bcast_S4x1000_S4x1000x1_0_1 (wrapped ix)

/-- The rows that `take` leaves. -/
abbrev taken (tb : FVec Ideal S4x5000x4 .f32) (ix : IVec S4x1000 32) : FVec Ideal S4x1000x4 .f32 :=
  select (broadcastInDim S4x1000x4 ![0, 1] bcast_S4x1000_S4x1000x4_0_1 (Host.reduce IntOp.andi (andi (cmpi .sge (starts ix) (broadcastInDim S4x1000x1 ![] bcast_S_S4x1000x1 (constantI S_ 32 0#32)))
      (cmpi .sle (starts ix) (broadcastInDim S4x1000x1 ![0, 1, 2] bcast_S1x1x1_S4x1000x1_0_1_2 (broadcastInDim S1x1x1 ![2] bcast_S1_S1x1x1_2 (constantI S1 32 4999#32))))) (constantI S_ 1 1#1) reducesTo_S4x1000x1_S4x1000_d2 h_S_))
    (Host.gather gather_S4x5000x4_S4x1000x1_S4x1000x4_2_1_0_0_1_2_114 tb (starts ix))
    (broadcastInDim S4x1000x4 ![] bcast_S_S4x1000x4 (constant S_ .f32 0x7FC00000#32))

theorem post3_v54 : after (hostOps0_3 (F := Ideal)) V (Proc.devRef .tc main_v54) = extui 32 (noti (V (Proc.devRef .tc main_v52_4) : IVec S4x5000 1)) natLt_1_32 := by
  unfold hostOps0_3; after_results
theorem post3_v52_4 : after (hostOps0_3 (F := Ideal)) V (Proc.devRef .tc main_v52_4) = V (Proc.devRef .tc main_v52_4) := by
  unfold hostOps0_3; after_results
theorem post3_arg0 : after (hostOps0_3 (F := Ideal)) V (Proc.devRef .tc main_arg0) = V (Proc.devRef .tc main_arg0) := by
  unfold hostOps0_3; after_results

theorem post4_v55 : after (hostOps0_4 (F := Ideal)) V (Proc.devRef .tc main_v55)
    = (Host.sort2 S4x5000 1 comparator_i32_i32_d1 (V (Proc.devRef .tc main_v54) : IVec S4x5000 32) (iotaInDim S4x5000 32 1)).2 := by
  unfold hostOps0_4; after_results; rfl
theorem post4_v52_4 : after (hostOps0_4 (F := Ideal)) V (Proc.devRef .tc main_v52_4) = V (Proc.devRef .tc main_v52_4) := by
  unfold hostOps0_4; after_results
theorem post4_arg0 : after (hostOps0_4 (F := Ideal)) V (Proc.devRef .tc main_arg0) = V (Proc.devRef .tc main_arg0) := by
  unfold hostOps0_4; after_results

theorem post5_v56 : after (hostOps0_5 (F := Ideal)) V (Proc.devRef .tc main_v56)
    = extractStridedSlice S4x1000 ![0, 0] (V (Proc.devRef .tc main_v55) : IVec S4x5000 32) slices_S4x5000_S4x1000_0_0 := by
  unfold hostOps0_5; after_results
theorem post5_v62 : after (hostOps0_5 (F := Ideal)) V (Proc.devRef .tc main_v62)
    = masked (V (Proc.devRef .tc main_arg0)) (V (Proc.devRef .tc main_v52_4)) := by
  unfold hostOps0_5; after_results; rfl
theorem post5_arg0 : after (hostOps0_5 (F := Ideal)) V (Proc.devRef .tc main_arg0) = V (Proc.devRef .tc main_arg0) := by
  unfold hostOps0_5; after_results

theorem post6_v63 : after (hostOps0_6 (F := Ideal)) V (Proc.devRef .tc main_v63)
    = taken (V (Proc.devRef .tc main_v62)) (V (Proc.devRef .tc main_v56)) := by
  unfold hostOps0_6; after_results; rfl
theorem post6_arg0 : after (hostOps0_6 (F := Ideal)) V (Proc.devRef .tc main_arg0) = V (Proc.devRef .tc main_arg0) := by
  unfold hostOps0_6; after_results

/-! ## Before the loop -/

/-- The boxes the reference reads: each batch without its padding. -/
abbrev bx (x : FVec Ideal S20480x4 .f32) : FVec Ideal S4x5000x4 .f32 :=
  extractStridedSlice S4x5000x4 ![0, 0, 0] (shapeCast S4x5120x4 x shapeCasts_S20480x4_S4x5120x4) slices_S4x5120x4_S4x5000x4_0_0_0

abbrev y1 (x : FVec Ideal S20480x4 .f32) : FVec Ideal S4x5000 .f32 :=
  shapeCast S4x5000 (extractStridedSlice S4x5000x1 ![0, 0, 0] (bx x) slices_S4x5000x4_S4x5000x1_0_0_0) shapeCasts_S4x5000x1_S4x5000
abbrev x1 (x : FVec Ideal S20480x4 .f32) : FVec Ideal S4x5000 .f32 :=
  shapeCast S4x5000 (extractStridedSlice S4x5000x1 ![0, 0, 1] (bx x) slices_S4x5000x4_S4x5000x1_0_0_1) shapeCasts_S4x5000x1_S4x5000
abbrev y2 (x : FVec Ideal S20480x4 .f32) : FVec Ideal S4x5000 .f32 :=
  shapeCast S4x5000 (extractStridedSlice S4x5000x1 ![0, 0, 2] (bx x) slices_S4x5000x4_S4x5000x1_0_0_2) shapeCasts_S4x5000x1_S4x5000
abbrev x2 (x : FVec Ideal S20480x4 .f32) : FVec Ideal S4x5000 .f32 :=
  shapeCast S4x5000 (extractStridedSlice S4x5000x1 ![0, 0, 3] (bx x) slices_S4x5000x4_S4x5000x1_0_0_3) shapeCasts_S4x5000x1_S4x5000

/-- A value per box, as the first of a pair has it. -/
abbrev col (v : FVec Ideal S4x5000 .f32) : FVec Ideal S4x5000x5000 .f32 :=
  broadcastInDim S4x5000x5000 ![0, 1, 2] bcast_S4x5000x1_S4x5000x5000_0_1_2 (broadcastInDim S4x5000x1 ![0, 1] bcast_S4x5000_S4x5000x1_0_1 v)

/-- A value per box, as the second of a pair has it. -/
abbrev row (v : FVec Ideal S4x5000 .f32) : FVec Ideal S4x5000x5000 .f32 :=
  broadcastInDim S4x5000x5000 ![0, 1, 2] bcast_S4x1x5000_S4x5000x5000_0_1_2 (broadcastInDim S4x1x5000 ![0, 2] bcast_S4x5000_S4x1x5000_0_2 v)

abbrev zeros : FVec Ideal S4x5000x5000 .f32 := broadcastInDim S4x5000x5000 ![] bcast_S_S4x5000x5000 (constant S_ .f32 0x00000000#32)

abbrev areas (x : FVec Ideal S20480x4 .f32) : FVec Ideal S4x5000 .f32 := mulf (subf (y2 x) (y1 x)) (subf (x2 x) (x1 x))

/-- The overlap's area of each pair. -/
abbrev inter (x : FVec Ideal S20480x4 .f32) : FVec Ideal S4x5000x5000 .f32 :=
  mulf (maximumf zeros (subf (minimumf (col (y2 x)) (row (y2 x))) (maximumf (col (y1 x)) (row (y1 x)))))
    (maximumf zeros (subf (minimumf (col (x2 x)) (row (x2 x))) (maximumf (col (x1 x)) (row (x1 x)))))

/-- The union's area of each pair. -/
abbrev union (x : FVec Ideal S20480x4 .f32) : FVec Ideal S4x5000x5000 .f32 :=
  subf (addf (col (areas x)) (row (areas x))) (inter x)

theorem pre0_v45 : after (hostOps0 (F := Ideal)) V (Proc.devRef .tc main_v45) = union (V (Proc.devRef .tc main_arg0)) := by
  unfold hostOps0; after_results; rfl
theorem pre0_v47 : after (hostOps0 (F := Ideal)) V (Proc.devRef .tc main_v47) = cmpf .ogt (union (V (Proc.devRef .tc main_arg0))) zeros := by
  unfold hostOps0; after_results; rfl
theorem pre0_v48 : after (hostOps0 (F := Ideal)) V (Proc.devRef .tc main_v48)
    = Host.divf (inter (V (Proc.devRef .tc main_arg0))) (union (V (Proc.devRef .tc main_arg0))) := by
  unfold hostOps0; after_results; rfl
theorem pre0_cst_2 : after (hostOps0 (F := Ideal)) V (Proc.devRef .tc main_cst_2) = (constant S_ .f32 0x00000000#32 : FVec Ideal S_ .f32) := by
  unfold hostOps0; after_results
theorem pre0_arg0 : after (hostOps0 (F := Ideal)) V (Proc.devRef .tc main_arg0) = V (Proc.devRef .tc main_arg0) :=
  after_of_writes_sub hostOps0 V hostOps0_writes (by decide +kernel)

theorem pre1_v49 : after (hostOps0_1 (F := Ideal)) V (Proc.devRef .tc main_v49)
    = select (V (Proc.devRef .tc main_v47) : IVec S4x5000x5000 1) (V (Proc.devRef .tc main_v48) : FVec Ideal S4x5000x5000 .f32)
        (broadcastInDim S4x5000x5000 ![] bcast_S_S4x5000x5000 (V (Proc.devRef .tc main_cst_2) : FVec Ideal S_ .f32)) := by
  unfold hostOps0_1; after_results; rfl
theorem pre1_arg0 : after (hostOps0_1 (F := Ideal)) V (Proc.devRef .tc main_arg0) = V (Proc.devRef .tc main_arg0) :=
  after_of_writes_sub hostOps0_1 V hostOps0_1_writes (by decide +kernel)

theorem pre2_v52_0 : after (hostOps0_2 (F := Ideal)) V (Proc.devRef .tc main_v52_0) = V (Proc.devRef .tc main_v49) := by
  unfold hostOps0_2; after_results; rfl
theorem pre2_v52_1 : after (hostOps0_2 (F := Ideal)) V (Proc.devRef .tc main_v52_1) = (iotaInDim S5000 32 0 : IVec S5000 32) := by
  unfold hostOps0_2; after_results; rfl
theorem pre2_v52_3 : after (hostOps0_2 (F := Ideal)) V (Proc.devRef .tc main_v52_3) = (constantI S_ 32 0#32 : IVec S_ 32) := by
  unfold hostOps0_2; after_results; rfl
theorem pre2_v52_4 : after (hostOps0_2 (F := Ideal)) V (Proc.devRef .tc main_v52_4)
    = (broadcastInDim S4x5000 ![] bcast_S_S4x5000 (constantI S_ 1 1#1) : IVec S4x5000 1) := by
  unfold hostOps0_2; after_results; rfl
theorem pre2_arg0 : after (hostOps0_2 (F := Ideal)) V (Proc.devRef .tc main_arg0) = V (Proc.devRef .tc main_arg0) :=
  after_of_writes_sub hostOps0_2 V hostOps0_2_writes (by decide +kernel)

/-- The overlap ratios of all pairs. -/
abbrev ious (x : FVec Ideal S20480x4 .f32) : FVec Ideal S4x5000x5000 .f32 :=
  select (cmpf .ogt (union x) zeros) (Host.divf (inter x) (union x)) zeros

variable (m : (ℓ : Loc nD τ sig) → Buf (Elt Ideal) ℓ) (c : Dev nD)

abbrev boxes : FVec Ideal S20480x4 .f32 := m ((c.tc : Thread nD τ).loc main_arg0)

theorem entry_v52_0 : entryContents preI m c (Proc.devRef .tc main_v52_0) = ious (boxes m c) := by
  unfold entryContents
  simp only [preI, afterL_cons, afterL_nil]
  rw [pre2_v52_0, pre1_v49, pre0_v47, pre0_v48, pre0_cst_2]
theorem entry_v52_1 : entryContents preI m c (Proc.devRef .tc main_v52_1) = (iotaInDim S5000 32 0 : IVec S5000 32) := by
  unfold entryContents
  simp only [preI, afterL_cons, afterL_nil]
  rw [pre2_v52_1]
theorem entry_v52_3 : entryContents preI m c (Proc.devRef .tc main_v52_3) = (constantI S_ 32 0#32 : IVec S_ 32) := by
  unfold entryContents
  simp only [preI, afterL_cons, afterL_nil]
  rw [pre2_v52_3]
theorem entry_v52_4 : entryContents preI m c (Proc.devRef .tc main_v52_4)
    = (broadcastInDim S4x5000 ![] bcast_S_S4x5000 (constantI S_ 1 1#1) : IVec S4x5000 1) := by
  unfold entryContents
  simp only [preI, afterL_cons, afterL_nil]
  rw [pre2_v52_4]
theorem entry_arg0 : entryContents preI m c (Proc.devRef .tc main_arg0) = boxes m c := by
  unfold entryContents
  simp only [preI, afterL_cons, afterL_nil]
  rw [pre2_arg0, pre1_arg0, pre0_arg0]

/-! ## The loop keeps the boxes -/

theorem cond_arg0 : after (condOps (F := Ideal)) V (Proc.devRef .tc main_arg0) = V (Proc.devRef .tc main_arg0) :=
  after_of_writes_sub condOps V condOps_writes (by decide +kernel)

theorem body_arg0 : afterL (bodyI (F := Ideal)) V (Proc.devRef .tc main_arg0) = V (Proc.devRef .tc main_arg0) := by
  simp only [bodyI, afterL_cons, afterL_nil]
  exact (after_of_writes_sub while0Ops0_3 _ while0Ops0_3_writes (by decide +kernel)).trans
    ((after_of_writes_sub while0Ops0_2 _ while0Ops0_2_writes (by decide +kernel)).trans
      ((after_of_writes_sub while0Ops0_1 _ while0Ops0_1_writes (by decide +kernel)).trans
        (after_of_writes_sub while0Ops0 _ while0Ops0_writes (by decide +kernel))))

theorem atK_arg0 : ∀ k, atK m k c (Proc.devRef .tc main_arg0) = boxes m c
  | 0 => entry_arg0 m c
  | k + 1 => (body_arg0 _).trans ((cond_arg0 _).trans (atK_arg0 k))

/-- The program's result, of the boxes and of what the loop left. -/
theorem final_v63 (kp : IVec S4x5000 1) (hk : atK m 5000 c (Proc.devRef .tc main_v52_4) = kp) :
    finalContents condOps preI bodyI postI 5000 m c (Proc.devRef .tc main_v63)
      = taken (masked (boxes m c) kp) (extractStridedSlice S4x1000 ![0, 0] (sorted kp) slices_S4x5000_S4x1000_0_0) := by
  have h4 : after condOps (atK m 5000 c) (Proc.devRef .tc main_v52_4) = kp := (cond_keeps _ main_v52_4 (by decide)).trans hk
  have ha : after condOps (atK m 5000 c) (Proc.devRef .tc main_arg0) = boxes m c := (cond_arg0 _).trans (atK_arg0 m c 5000)
  unfold finalContents
  simp only [postI, afterL_cons, afterL_nil]
  rw [post6_v63, post5_v62, post5_v56, post4_v55, post4_arg0, post4_v52_4, post3_v54, post3_arg0, post3_v52_4, h4, ha]

/-- The program leaves the boxes as they were. -/
theorem final_arg0 : finalContents condOps preI bodyI postI 5000 m c (Proc.devRef .tc main_arg0) = boxes m c := by
  unfold finalContents
  simp only [postI, afterL_cons, afterL_nil]
  rw [post6_arg0, post5_arg0, post4_arg0, post3_arg0]
  exact (cond_arg0 _).trans (atK_arg0 m c 5000)

end Cert.Proof.NmsRef

end
-- ==== Proof.NmsRefVal.lean ====
/-
  What the reference suppression program's named values are, entry by entry, at the exact reals: the overlap ratios, one
  trip of its loop, and the keep bits after all of them.
-/
module

public import proofs.«01_k».proof.Proof.NmsRun
public import proofs.«01_k».proof.Proof.NmsRefRun
public import Idealize.ShloMosaic.Lib.IdealHost
public import Idealize.ShloMosaic.Lib.ValueIdxCore
public import Idealize.ShloMosaic.Lib.Pipeline.Value

@[expose] public section

set_option maxRecDepth 8192

noncomputable section

namespace Cert.Proof.NmsRef

open Cert.NmsReferenceIdeal Cert.NmsReferenceIdeal.Gen Cert.NmsReferenceIdeal.Value
open Idealize.ShloMosaic Idealize.ShloMosaic.ValueIdx Idealize.ShloMosaic.StableHlo Idealize.ShloMosaic.WordCmp
open Cert.Proof.Nms (rows Sup iou area overA overB ratio keepAt kept ogt_eq_one sel_if)
open scoped Classical

/-! ## The overlap ratios -/

/-- A batch's box without the padding is the row of the gathered boxes. -/
theorem bx_apply (x : FVec Ideal S20480x4 .f32) (b : Fin 4) (j : Fin 5000) (k : Fin 4) : bx x (ix3 b j k) = rows x b j k := by
  have hb := b.isLt
  have hj := j.isLt
  have hlt : b.val * 5120 + j.val < 20480 := by omega
  unfold bx rows
  rw [dif_pos hlt]
  refine (extractStridedSlice_apply _ _ _ _ (ix3 b (⟨j.val, by omega⟩ : Fin 5120) k : S4x5120x4.Idx) (fun a => match a with
    | ⟨0, _⟩ => (Nat.zero_add _).symm
    | ⟨1, _⟩ => (Nat.zero_add _).symm
    | ⟨2, _⟩ => (Nat.zero_add _).symm)).trans ?_
  refine shapeCast_apply _ _ _ (ix2 (⟨b.val * 5120 + j.val, hlt⟩ : Fin 20480) k : S20480x4.Idx) ?_
  rw [Shape.rowMajor_val_two, Shape.rowMajor_val_three]
  rfl

/-- One coordinate of a batch's box. -/
theorem crd_apply (x : FVec Ideal S20480x4 .f32) (k : Fin 4) (h : S4x5000x4.Slices ![0, 0, k.val] S4x5000x1) (b : Fin 4) (j : Fin 5000) :
    shapeCast S4x5000 (extractStridedSlice S4x5000x1 ![0, 0, k.val] (bx x) h) shapeCasts_S4x5000x1_S4x5000 (ix2 b j) = rows x b j k := by
  refine (shapeCast_apply _ _ _ (ix3 b j (0 : Fin 1) : S4x5000x1.Idx) ?_).trans ?_
  · rw [Shape.rowMajor_val_two, Shape.rowMajor_val_three]
    show (b.val * 5000 + j.val) * 1 + 0 = b.val * 5000 + j.val
    omega
  refine (extractStridedSlice_apply _ _ _ _ (ix3 b j k : S4x5000x4.Idx) (fun a => match a with
    | ⟨0, _⟩ => (Nat.zero_add _).symm
    | ⟨1, _⟩ => (Nat.zero_add _).symm
    | ⟨2, _⟩ => rfl)).trans (bx_apply x b j k)

theorem y1_apply (x : FVec Ideal S20480x4 .f32) (b : Fin 4) (j : Fin 5000) : y1 x (ix2 b j) = rows x b j 0 := crd_apply x 0 _ b j
theorem x1_apply (x : FVec Ideal S20480x4 .f32) (b : Fin 4) (j : Fin 5000) : x1 x (ix2 b j) = rows x b j 1 := crd_apply x 1 _ b j
theorem y2_apply (x : FVec Ideal S20480x4 .f32) (b : Fin 4) (j : Fin 5000) : y2 x (ix2 b j) = rows x b j 2 := crd_apply x 2 _ b j
theorem x2_apply (x : FVec Ideal S20480x4 .f32) (b : Fin 4) (j : Fin 5000) : x2 x (ix2 b j) = rows x b j 3 := crd_apply x 3 _ b j

/-- The first of a pair has its own value. -/
theorem col_apply (v : FVec Ideal S4x5000 .f32) (b : Fin 4) (i j : Fin 5000) : col v (ix3 b i j) = v (ix2 b i) := by
  unfold col
  refine (broadcastInDim_apply _ _ _ _ (ix3 b i (0 : Fin 1) : S4x5000x1.Idx) (fun a => match a with
    | ⟨0, _⟩ => rfl | ⟨1, _⟩ => rfl | ⟨2, _⟩ => rfl)).trans ?_
  exact broadcastInDim_apply _ _ _ _ (ix2 b i : S4x5000.Idx) (fun a => match a with | ⟨0, _⟩ => rfl | ⟨1, _⟩ => rfl)

/-- The second of a pair has its own value. -/
theorem row_apply (v : FVec Ideal S4x5000 .f32) (b : Fin 4) (i j : Fin 5000) : row v (ix3 b i j) = v (ix2 b j) := by
  unfold row
  refine (broadcastInDim_apply _ _ _ _ (ix3 b (0 : Fin 1) j : S4x1x5000.Idx) (fun a => match a with
    | ⟨0, _⟩ => rfl | ⟨1, _⟩ => rfl | ⟨2, _⟩ => rfl)).trans ?_
  exact broadcastInDim_apply _ _ _ _ (ix2 b j : S4x5000.Idx) (fun a => match a with | ⟨0, _⟩ => rfl | ⟨1, _⟩ => rfl)

theorem zeros_apply (i : S4x5000x5000.Idx) : zeros i = 0 := by
  unfold zeros
  rw [broadcastInDim_scalar_apply]
  exact Ideal.ofBits_zero_f32

theorem areas_apply (x : FVec Ideal S20480x4 .f32) (b : Fin 4) (j : Fin 5000) : areas x (ix2 b j) = area (rows x b j) := by
  show (y2 x (ix2 b j) - y1 x (ix2 b j)) * (x2 x (ix2 b j) - x1 x (ix2 b j)) = _
  rw [y1_apply, x1_apply, y2_apply, x2_apply]; rfl

/-- The overlap's area of a pair. -/
theorem inter_apply (x : FVec Ideal S20480x4 .f32) (b : Fin 4) (i j : Fin 5000) :
    inter x (ix3 b i j) = overA (rows x b i) (rows x b j) * overB (rows x b i) (rows x b j) := by
  show max (zeros (ix3 b i j)) (min (col (y2 x) (ix3 b i j)) (row (y2 x) (ix3 b i j)) - max (col (y1 x) (ix3 b i j)) (row (y1 x) (ix3 b i j)))
    * max (zeros (ix3 b i j)) (min (col (x2 x) (ix3 b i j)) (row (x2 x) (ix3 b i j)) - max (col (x1 x) (ix3 b i j)) (row (x1 x) (ix3 b i j))) = _
  rw [zeros_apply, col_apply, col_apply, col_apply, col_apply, row_apply, row_apply, row_apply, row_apply, y1_apply, y1_apply, x1_apply, x1_apply,
    y2_apply, y2_apply, x2_apply, x2_apply]
  rfl

/-- The union's area of a pair. -/
theorem union_apply (x : FVec Ideal S20480x4 .f32) (b : Fin 4) (i j : Fin 5000) :
    union x (ix3 b i j) = area (rows x b i) + area (rows x b j) - overA (rows x b i) (rows x b j) * overB (rows x b i) (rows x b j) := by
  show col (areas x) (ix3 b i j) + row (areas x) (ix3 b i j) - inter x (ix3 b i j) = _
  rw [col_apply, row_apply, areas_apply, areas_apply, inter_apply]

/-- The overlap ratio of a pair. -/
theorem ious_apply (x : FVec Ideal S20480x4 .f32) (b : Fin 4) (i j : Fin 5000) : ious x (ix3 b i j) = iou (rows x b i) (rows x b j) := by
  have h : ious x (ix3 b i j) = Scalar.select (FloatOps.cmpf (F := Ideal) (φ := .f32) .ogt (union x (ix3 b i j)) (zeros (ix3 b i j)))
      (Ideal.div (inter x (ix3 b i j)) (union x (ix3 b i j))) (zeros (ix3 b i j)) := rfl
  rw [h, zeros_apply, inter_apply, union_apply]
  unfold iou ratio
  exact (sel_if _ _ _).trans (if_congr ogt_eq_one rfl rfl)

/-! ## One trip of the loop -/

/-- The index the loop reads its row at: the counter itself, as it is not negative. -/
theorem at_eq (i : ℕ) (hi : i < 5000) (z : S_.Idx) (ii : IVec S_ 32) (h : ii = fun _ => BitVec.ofNat 32 i) :
    (select (cmpi .slt ii (constantI S_ 32 0#32)) (addi (id ii) (constantI S_ 32 5000#32)) ii z).toInt = (i : Int) := by
  subst h
  show (Scalar.select (IntOp.cmpi .slt (BitVec.ofNat 32 i) 0#32) _ (BitVec.ofNat 32 i)).toInt = _
  have hlt : ¬IntOp.cmpi .slt (BitVec.ofNat 32 i) 0#32 = 1#1 := by
    have := Cert.Proof.Nms.slt_nat (a := i) (b := 0) (by omega) (by omega)
    rw [show (0#32 : BitVec 32) = BitVec.ofNat 32 0 from rfl, this]; omega
  rw [sel_if, if_neg hlt, BitVec.toInt_eq_toNat_of_lt (by rw [BitVec.toNat_ofNat]; omega), BitVec.toNat_ofNat, Nat.mod_eq_of_lt (by omega)]

/-- Row `i` of the ratios, as the loop reads it. -/
theorem rowAt_apply (R : FVec Ideal S4x5000x5000 .f32) (st : Fin 3 → Int) (i : Fin 5000) (h0 : st 0 = 0) (h1 : st 1 = (i.val : Int)) (h2 : st 2 = 0)
    (b : Fin 4) (j : Fin 5000) :
    shapeCast S4x5000 (Host.dynamicSlice S4x1x5000 R st sliceFits_S4x5000x5000_S4x1x5000) shapeCasts_S4x1x5000_S4x5000 (ix2 b j) = R (ix3 b i j) := by
  have hi := i.isLt
  have hk : S4x5000x5000.Slices ![0, i.val, 0] S4x1x5000 := ⟨rfl, fun a => match a with
    | ⟨0, _⟩ => by show 0 + 4 ≤ 4; omega
    | ⟨1, _⟩ => by show i.val + 1 ≤ 5000; omega
    | ⟨2, _⟩ => by show 0 + 5000 ≤ 5000; omega⟩
  rw [dynamicSlice_eq_extract S4x1x5000 R st sliceFits_S4x5000x5000_S4x1x5000 ![0, i.val, 0] hk (fun a => match a with
    | ⟨0, _⟩ => h0 | ⟨1, _⟩ => h1 | ⟨2, _⟩ => h2)]
  refine (shapeCast_apply _ _ _ (ix3 b (0 : Fin 1) j : S4x1x5000.Idx) ?_).trans ?_
  · rw [Shape.rowMajor_val_two, Shape.rowMajor_val_three]
    show (b.val * 1 + 0) * 5000 + j.val = b.val * 5000 + j.val
    omega
  exact extractStridedSlice_apply _ _ _ _ (ix3 b i j : S4x5000x5000.Idx) (fun a => match a with
    | ⟨0, _⟩ => (Nat.zero_add _).symm | ⟨1, _⟩ => rfl | ⟨2, _⟩ => (Nat.zero_add _).symm)

/-- Bit `i` of the keep bits, as the loop reads it. -/
theorem bitAt_apply (κ : IVec S4x5000 1) (st : Fin 2 → Int) (i : Fin 5000) (h0 : st 0 = 0) (h1 : st 1 = (i.val : Int)) (b : Fin 4) (j : Fin 5000) :
    broadcastInDim S4x5000 ![0, 1] bcast_S4x1_S4x5000_0_1 (Host.dynamicSlice S4x1 κ st sliceFits_S4x5000_S4x1) (ix2 b j) = κ (ix2 b i) := by
  have hi := i.isLt
  have hk : S4x5000.Slices ![0, i.val] S4x1 := ⟨rfl, fun a => match a with
    | ⟨0, _⟩ => by show 0 + 4 ≤ 4; omega
    | ⟨1, _⟩ => by show i.val + 1 ≤ 5000; omega⟩
  rw [dynamicSlice_eq_extract S4x1 κ st sliceFits_S4x5000_S4x1 ![0, i.val] hk (fun a => match a with
    | ⟨0, _⟩ => h0 | ⟨1, _⟩ => h1)]
  refine (broadcastInDim_apply _ _ _ _ (ix2 b (0 : Fin 1) : S4x1.Idx) (fun a => match a with | ⟨0, _⟩ => rfl | ⟨1, _⟩ => rfl)).trans ?_
  exact extractStridedSlice_apply _ _ _ _ (ix2 b i : S4x5000.Idx) (fun a => match a with
    | ⟨0, _⟩ => (Nat.zero_add _).symm | ⟨1, _⟩ => rfl)

/-- A later box than the loop's. -/
theorem later_apply (i : ℕ) (hi : i < 5000) (io : IVec S5000 32) (hio : io = iotaInDim S5000 32 0) (ii : IVec S_ 32) (h : ii = fun _ => BitVec.ofNat 32 i)
    (b : Fin 4) (j : Fin 5000) :
    broadcastInDim S4x5000 ![0, 1] bcast_S1x5000_S4x5000_0_1 (cmpi .sgt (broadcastInDim S1x5000 ![1] bcast_S5000_S1x5000_1 io)
      (broadcastInDim S1x5000 ![] bcast_S_S1x5000 (id ii))) (ix2 b j) = 1#1 ↔ i < j.val := by
  subst hio; subst h
  have hj := j.isLt
  rw [broadcastInDim_apply _ _ _ _ (ix2 (0 : Fin 1) j : S1x5000.Idx) (fun a => match a with | ⟨0, _⟩ => rfl | ⟨1, _⟩ => rfl)]
  rw [cmpi_apply, broadcastInDim_apply _ _ _ _ (ix1 j : S5000.Idx) (fun a => match a with | ⟨0, _⟩ => rfl), broadcastInDim_scalar_apply, iotaInDim_apply]
  exact Cert.Proof.Nms.sgt_nat (by show j.val < _; omega) (by omega)

/-- A bit is taken away where three hold. -/
theorem drop_bit (κ p q r : BitVec 1) :
    IntOp.andi κ (~~~(IntOp.andi (IntOp.andi p q) r)) = 1#1 ↔ κ = 1#1 ∧ ¬(p = 1#1 ∧ q = 1#1 ∧ r = 1#1) := by revert κ p q r; decide

/-- One trip: a bit stays unless the loop's box is kept, earlier and overlaps too much. -/
theorem step_apply (V0 : Valuation τ sig (Elt Ideal)) (x : FVec Ideal S20480x4 .f32) (i : Fin 5000) (κ : IVec S4x5000 1)
    (h0 : V0 (Proc.devRef .tc main_v52_0) = ious x) (h1 : V0 (Proc.devRef .tc main_v52_1) = (iotaInDim S5000 32 0 : IVec S5000 32))
    (h3 : V0 (Proc.devRef .tc main_v52_3) = (fun _ => BitVec.ofNat 32 i.val : IVec S_ 32)) (h4 : V0 (Proc.devRef .tc main_v52_4) = κ)
    (b : Fin 4) (j : Fin 5000) :
    (step_main_v52_4 V0 : IVec S4x5000 1) (ix2 b j) = 1#1
      ↔ κ (ix2 b j) = 1#1 ∧ ¬(Sup (rows x b) i j ∧ i.val < j.val ∧ κ (ix2 b i) = 1#1) := by
  unfold step_main_v52_4
  refine (drop_bit _ _ _ _).trans ?_
  rw [h4]
  refine and_congr Iff.rfl (not_congr (and_congr ?_ (and_congr ?_ ?_)))
  · refine Iff.trans ?_ (ogt_eq_one (x := iou (rows x b i) (rows x b j)) (y := Ideal.ofBits .f32 0x3F333333#32))
    rw [h0, ← ious_apply]
    rw [cmpf_apply, rowAt_apply _ _ i rfl (at_eq i.val i.isLt _ _ h3) rfl, broadcastInDim_scalar_apply]
    rfl
  · exact later_apply i.val i.isLt _ h1 _ h3 b j
  · rw [bitAt_apply _ _ i rfl (at_eq i.val i.isLt _ _ h3)]

/-! ## All trips -/

variable (m : (ℓ : Loc nD τ sig) → Buf (Elt Ideal) ℓ) (c : Dev nD)

/-- Before trip `k`: the ratios, the positions, the counter and the keep bits. -/
theorem iter_spec : ∀ k ≤ 5000,
    STEP^[k] (entryContents preI m c) (Proc.devRef .tc main_v52_0) = ious (boxes m c)
    ∧ STEP^[k] (entryContents preI m c) (Proc.devRef .tc main_v52_1) = (iotaInDim S5000 32 0 : IVec S5000 32)
    ∧ STEP^[k] (entryContents preI m c) (Proc.devRef .tc main_v52_3) = (fun _ => BitVec.ofNat 32 k : IVec S_ 32)
    ∧ ∀ (b : Fin 4) (j : Fin 5000), (STEP^[k] (entryContents preI m c) (Proc.devRef .tc main_v52_4) : IVec S4x5000 1) (ix2 b j) = 1#1
        ↔ keepAt (Sup (rows (boxes m c) b)) k j
  | 0, _ => ⟨entry_v52_0 m c, entry_v52_1 m c, entry_v52_3 m c, fun b j => by
      rw [Function.iterate_zero, id, entry_v52_4]
      refine iff_of_true ?_ trivial
      rw [broadcastInDim_scalar_apply]; rfl⟩
  | k + 1, hk => by
    obtain ⟨h0, h1, h3, h4⟩ := iter_spec k (by omega)
    rw [Function.iterate_succ_apply']
    refine ⟨(STEP_main_v52_0 _).trans h0, (STEP_main_v52_1 _).trans h1, ?_, fun b j => ?_⟩
    · rw [STEP_main_v52_3]
      unfold step_main_v52_3
      rw [h3]
      funext z
      show BitVec.ofNat 32 k + BitVec.ofNat 32 1 = _
      rw [← BitVec.ofNat_add]
    · rw [STEP_main_v52_4, step_apply _ (boxes m c) ⟨k, by omega⟩ _ h0 h1 h3 rfl b j, h4, h4]
      exact Iff.rfl

/-- The keep bits after the loop. -/
abbrev kp : IVec S4x5000 1 := atK m 5000 c (Proc.devRef .tc main_v52_4)

/-- After the loop the bits are the kept boxes. -/
theorem kp_apply (b : Fin 4) (j : Fin 5000) : kp m c (ix2 b j) = 1#1 ↔ Cert.Proof.Nms.K (Sup (rows (boxes m c) b)) j := by
  have h := atK_agree m c 5000 main_v52_4 (by decide)
  have hj := j.isLt
  unfold kp
  rw [h, (iter_spec m c 5000 (le_refl _)).2.2.2 b j, Cert.Proof.Nms.keepAt_of_le _ (by omega)]
  exact ⟨fun h => ⟨hj, h⟩, fun h => h.2⟩

end Cert.Proof.NmsRef
-- ==== Proof.NmsRefRes.lean ====
/-
  The reference suppression program's result, entry by entry: its stable sort lists the kept boxes first, and the rows it
  takes in that order are the kept boxes, then zeros. So the program leaves what the kernel leaves.
-/
module

public import proofs.«01_k».proof.Proof.NmsRefVal
public import Idealize.ShloMosaic.Lib.ReduceAll
public import Idealize.ShloMosaic.Lib.Quiescent

@[expose] public section

set_option maxRecDepth 8192

noncomputable section

namespace Cert.Proof.NmsRef

open Cert.NmsReferenceIdeal Cert.NmsReferenceIdeal.Gen Cert.NmsReferenceIdeal.Value
open Idealize.ShloMosaic Idealize.ShloMosaic.ValueIdx Idealize.ShloMosaic.StableHlo Idealize.ShloMosaic.WordCmp Idealize.SL.Sem
open Cert.Proof.Nms (rows Sup K G outv sel_if)
open scoped Classical

/-! ## The sort -/

/-- The sort puts a kept box before one that is not. -/
theorem key_lt (p q : BitVec 1) : (IntOp.cmpi .slt ((~~~p).setWidth 32) ((~~~q).setWidth 32) == 1#1) = decide (p = 1#1 ∧ ¬q = 1#1) := by
  revert p q; decide

/-- The position that travels with the key is the box's own. -/
theorem iota_along (b : Fin 4) (p q : Fin 5000) : iotaInDim S4x5000 32 1 ((ix2 b p : S4x5000.Idx).along (1 : Fin 2) q) = BitVec.ofNat 32 q.val := rfl

/-- The sorted positions of one batch, from the bits of that batch. -/
theorem sorted_apply (S : ℕ → ℕ → Prop) (kp : IVec S4x5000 1) (b : Fin 4) (h : ∀ j : Fin 5000, kp (ix2 b j) = 1#1 ↔ K S j) (p : Fin 5000) :
    sorted kp (ix2 b p) = BitVec.ofNat 32 (sortedFrom (fun a b => decide (G S b < G S a)) p : Fin 5000).val := by
  have al : ∀ k : Fin 5000, (ix2 b p : S4x5000.Idx).along (1 : Fin 2) k = ix2 b k := fun k => funext fun d => Fin.ext (match d with
    | ⟨0, _⟩ => rfl | ⟨1, _⟩ => rfl)
  have e : (fun k k' : Fin 5000 => comparator_i32_i32_d1
        (extui 32 (noti kp) natLt_1_32 ((ix2 b p : S4x5000.Idx).along (1 : Fin 2) k), iotaInDim S4x5000 32 1 ((ix2 b p : S4x5000.Idx).along (1 : Fin 2) k))
        (extui 32 (noti kp) natLt_1_32 ((ix2 b p : S4x5000.Idx).along (1 : Fin 2) k'), iotaInDim S4x5000 32 1 ((ix2 b p : S4x5000.Idx).along (1 : Fin 2) k')) == 1#1)
      = fun a b => decide (G S b < G S a) := by
    funext k k'
    rw [al, al]
    refine (key_lt (kp (ix2 b k)) (kp (ix2 b k'))).trans (decide_eq_decide.mpr ?_)
    rw [h, h]
    unfold G
    by_cases h1 : K S k <;> by_cases h2 : K S k' <;> simp [h1, h2]
  unfold sorted Host.sort2
  rw [dif_pos (show 1 < S4x5000.rank by decide)]
  show iotaInDim S4x5000 32 1 ((ix2 b p : S4x5000.Idx).along (1 : Fin 2) (sortedFrom (fun k k' : Fin 5000 => comparator_i32_i32_d1
        (extui 32 (noti kp) natLt_1_32 ((ix2 b p : S4x5000.Idx).along (1 : Fin 2) k), iotaInDim S4x5000 32 1 ((ix2 b p : S4x5000.Idx).along (1 : Fin 2) k))
        (extui 32 (noti kp) natLt_1_32 ((ix2 b p : S4x5000.Idx).along (1 : Fin 2) k'), iotaInDim S4x5000 32 1 ((ix2 b p : S4x5000.Idx).along (1 : Fin 2) k')) == 1#1) p)) = _
  rw [e]
  exact iota_along b p _

/-! ## The rows taken -/

/-- A box that is not kept is zero. -/
theorem masked_apply (x : FVec Ideal S20480x4 .f32) (kp : IVec S4x5000 1) (b : Fin 4) (j : Fin 5000) (k : Fin 4) :
    masked x kp (ix3 b j k) = if kp (ix2 b j) = 1#1 then rows x b j k else 0 := by
  show bx x (ix3 b j k) * broadcastInDim S4x5000x4 ![0, 1, 2] bcast_S4x5000x1_S4x5000x4_0_1_2
      (uitofp (F := Ideal) .f32 (broadcastInDim S4x5000x1 ![0, 1] bcast_S4x5000_S4x5000x1_0_1 kp)) (ix3 b j k) = _
  rw [broadcastInDim_apply _ _ _ _ (ix3 b j (0 : Fin 1) : S4x5000x1.Idx) (fun a => match a with
    | ⟨0, _⟩ => rfl | ⟨1, _⟩ => rfl | ⟨2, _⟩ => rfl), bx_apply]
  show rows x b j k * (((broadcastInDim S4x5000x1 ![0, 1] bcast_S4x5000_S4x5000x1_0_1 kp (ix3 b j (0 : Fin 1) : S4x5000x1.Idx)).toNat : ℝ) : EReal) = _
  rw [broadcastInDim_apply _ _ _ _ (ix2 b j : S4x5000.Idx) (fun a => match a with | ⟨0, _⟩ => rfl | ⟨1, _⟩ => rfl)]
  split
  · next h => rw [h]; show rows x b j k * ((1 : ℕ) : ℝ) = _; simp
  · next h => rw [eq_zero_of_ne_one h]; show rows x b j k * ((0 : ℕ) : ℝ) = _; simp

/-- The batched gather at an entry: the operand of the batch at the row the start index names, where it names one. -/
theorem take_apply (x : FVec Ideal S4x5000x4 .f32) (s : IVec S4x1000x1 32) (b : Fin 4) (p : Fin 1000) (k : Fin 4) (n : Fin 5000)
    (hs : s (ix3 b p (0 : Fin 1)) = BitVec.ofNat 32 n.val) :
    Host.gather gather_S4x5000x4_S4x1000x1_S4x1000x4_2_1_0_0_1_2_114 x s (ix3 b p k) = x (ix3 b n k) := by
  have hn := n.isLt
  unfold Host.gather
  refine congrArg x (funext fun a => Fin.ext ?_)
  show GatherDims.start _ _ s a + GatherDims.batchCoord _ _ a + GatherDims.offCoord _ _ a = _
  have ha : a = 0 ∨ a = 1 ∨ a = 2 := match a with
    | ⟨0, _⟩ => .inl rfl
    | ⟨1, _⟩ => .inr (.inl rfl)
    | ⟨2, _⟩ => .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S4x5000x4_S4x1000x1_S4x1000x4_2_1_0_0_1_2_114 from List.mem_singleton.mpr rfl)]
    rfl
  · rw [GatherDims.batchCoord_eq_zero _ _ _ (fun h => by simp [gather_S4x5000x4_S4x1000x1_S4x1000x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S4x5000x4_S4x1000x1_S4x1000x4_2_1_0_0_1_2_114 from List.mem_singleton.mpr rfl)]
    rw [show GatherDims.siIdx gather_S4x5000x4_S4x1000x1_S4x1000x4_2_1_0_0_1_2_114 (ix3 b p k)
        ⟨List.idxOf (1 : Fin 3) (GatherDims.startIndexMap gather_S4x5000x4_S4x1000x1_S4x1000x4_2_1_0_0_1_2_114), List.idxOf_lt_length_iff.2 (List.mem_singleton.mpr rfl)⟩
          = (ix3 b p (0 : Fin 1) : S4x1000x1.Idx) from
      funext fun d => Fin.ext (match d with
      | ⟨0, _⟩ => rfl
      | ⟨1, _⟩ => rfl
      | ⟨2, _⟩ => rfl), hs]
    show min (BitVec.ofNat 32 n.val).toInt.toNat (5000 - 1) = n.val
    rw [BitVec.toInt_eq_toNat_of_lt (by rw [BitVec.toNat_ofNat]; omega), BitVec.toNat_ofNat]
    omega
  · rw [GatherDims.batchCoord_eq_zero _ _ _ (fun h => by simp [gather_S4x5000x4_S4x1000x1_S4x1000x4_2_1_0_0_1_2_114] at h)]
    rw [show GatherDims.start gather_S4x5000x4_S4x1000x1_S4x1000x4_2_1_0_0_1_2_114 (ix3 b p k) s (2 : Fin 3) = 0 from by
      unfold GatherDims.start; rw [dif_neg (by decide)]]
    simp only [Nat.zero_add]
    unfold GatherDims.offCoord
    rw [dif_pos (show (2 : Fin 3) ∈ GatherDims.sKept gather_S4x5000x4_S4x1000x1_S4x1000x4_2_1_0_0_1_2_114 from (GatherDims.mem_sKept _ _).mpr ⟨by decide, by decide⟩)]
    rfl

/-- A position is not negative, so it is not wrapped. -/
theorem wrapped_apply (ix : IVec S4x1000 32) (z : S4x1000.Idx) (n : Fin 5000) (h : ix z = BitVec.ofNat 32 n.val) : wrapped ix z = BitVec.ofNat 32 n.val := by
  have hn := n.isLt
  show Scalar.select (IntOp.cmpi .slt (ix z) (BitVec.ofNat 32 0)) _ (ix z) = _
  rw [h, sel_if, if_neg]
  rw [Cert.Proof.Nms.slt_nat (by omega) (by omega)]
  omega

/-- The start index at an entry is the position there. -/
theorem starts_apply (ix : IVec S4x1000 32) (h : ∀ z, ∃ n : Fin 5000, ix z = BitVec.ofNat 32 n.val) (b : Fin 4) (p : Fin 1000) (o : Fin 1) :
    starts ix (ix3 b p o) = ix (ix2 b p) := by
  unfold starts
  rw [broadcastInDim_apply _ _ _ _ (ix2 b p : S4x1000.Idx) (fun a => match a with | ⟨0, _⟩ => rfl | ⟨1, _⟩ => rfl)]
  obtain ⟨n, hn⟩ := h (ix2 b p)
  rw [hn]
  exact wrapped_apply ix _ n hn

/-- The row taken at an entry is the one its position names. -/
theorem taken_apply (tb : FVec Ideal S4x5000x4 .f32) (ix : IVec S4x1000 32) (h : ∀ z, ∃ n : Fin 5000, ix z = BitVec.ofNat 32 n.val)
    (b : Fin 4) (p : Fin 1000) (k : Fin 4) (n : Fin 5000) (hn : ix (ix2 b p) = BitVec.ofNat 32 n.val) :
    taken tb ix (ix3 b p k) = tb (ix3 b n k) := by
  show Scalar.select (Host.reduce IntOp.andi _ _ reducesTo_S4x1000x1_S4x1000_d2 h_S_ _) _ _ = _
  rw [Host.reduce_andi_one _ _ _ _ _ rfl fun q => by
    obtain ⟨n', hn'⟩ := h (ix2 (q 0) (q 1))
    have hlt := n'.isLt
    have hq : starts ix q = BitVec.ofNat 32 n'.val := by
      rw [eq_ix3 q]
      exact (starts_apply ix h (q 0) (q 1) (q 2)).trans hn'
    show IntOp.andi (IntOp.cmpi .sge (starts ix q) (BitVec.ofNat 32 0)) (IntOp.cmpi .sle (starts ix q) (BitVec.ofNat 32 4999)) = 1#1
    rw [hq, Cert.Proof.Nms.andi_eq_one, Cert.Proof.Nms.sle_nat (by omega) (by omega)]
    refine ⟨?_, by omega⟩
    show IntOp.cmpi .sle (BitVec.ofNat 32 0) (BitVec.ofNat 32 n'.val) = 1#1
    rw [Cert.Proof.Nms.sle_nat (by omega) (by omega)]
    omega]
  rw [ValueIdx.select_one]
  exact take_apply tb (starts ix) b p k n ((starts_apply ix h b p 0).trans hn)

/-! ## The result -/

variable (m : (ℓ : Loc nD τ sig) → Buf (Elt Ideal) ℓ) (c : Dev nD)

/-- The first positions of a batch in the sorted order. -/
theorem first_apply (b : Fin 4) (p : Fin 1000) :
    extractStridedSlice S4x1000 ![0, 0] (sorted (kp m c)) slices_S4x5000_S4x1000_0_0 (ix2 b p)
      = BitVec.ofNat 32 (sortedFrom (fun a b' => decide (G (Sup (rows (boxes m c) b)) b' < G (Sup (rows (boxes m c) b)) a))
          (⟨p.val, by have := p.isLt; omega⟩ : Fin 5000) : Fin 5000).val := by
  have hp := p.isLt
  refine (extractStridedSlice_apply _ _ _ _ (ix2 b (⟨p.val, by omega⟩ : Fin 5000) : S4x5000.Idx) (fun a => match a with
    | ⟨0, _⟩ => (Nat.zero_add _).symm | ⟨1, _⟩ => (Nat.zero_add _).symm)).trans ?_
  exact sorted_apply _ (kp m c) b (fun j => kp_apply m c b j) _

/-- An entry of the reference's result is the kernel's. -/
theorem final_apply (b : Fin 4) (p : Fin 1000) (k : Fin 4) :
    taken (masked (boxes m c) (kp m c)) (extractStridedSlice S4x1000 ![0, 0] (sorted (kp m c)) slices_S4x5000_S4x1000_0_0) (ix3 b p k)
      = outv (Sup (rows (boxes m c) b)) (fun j => rows (boxes m c) b j k) 5120 p := by
  have hp := p.isLt
  refine (taken_apply _ _ (fun z => ?_) b p k _ (first_apply m c b p)).trans ?_
  · exact ⟨_, (congrArg _ (eq_ix2 z)).trans (first_apply m c (z 0) (z 1))⟩
  rw [masked_apply]
  refine Eq.trans (if_congr (kp_apply m c b _) rfl rfl) ?_
  exact Cert.Proof.Nms.outv_order (Sup (rows (boxes m c) b)) (fun j => rows (boxes m c) b j k) ⟨p.val, by omega⟩

/-- The reference's result is the kernel's: the kept boxes in order, then zeros. -/
theorem final_eq : finalContents condOps preI bodyI postI 5000 m c (Proc.devRef .tc main_v63) = Cert.Proof.Nms.res (boxes m c) := by
  rw [final_v63 m c (kp m c) rfl]
  exact funext fun i => (congrArg _ (eq_ix3 i)).trans (final_apply m c (i 0) (i 1) (i 2))

/-- The reference's run: the kernel's result, the boxes unchanged, every counter zero. -/
theorem run (g : Dev nD → PrngReg) : θ_run (defs (F := Ideal)) (onTc (τ := τ) (main (F := Ideal))) ⟨m, fun _ => 0, g⟩
    (fun r => (∀ c : Dev nD, r.2.mem ((c.tc : Thread nD τ).loc main_v63) = Cert.Proof.Nms.res (boxes m c)
      ∧ r.2.mem ((c.tc : Thread nD τ).loc main_arg0) = m ((c.tc : Thread nD τ).loc main_arg0)) ∧ r.2.sem = fun _ => 0) :=
  (θ_run _ _ _).mono (fun r h => ⟨fun c => ⟨(h c main_v63 (by decide)).trans (final_eq m c), (h c main_arg0 (by decide)).trans (final_arg0 m c)⟩,
    sem_eq_zero_of_no_sems (by decide) r.2⟩) (run_fold m g)

end Cert.Proof.NmsRef

end
-- ==== Proof.SortMath.lean ====
/-
  The mathematics of the bitonic sort, apart from any program: a sequence of whole numbers, one exchange stage on it, the merge made
  of stages, and what the merges leave when the sequence is a list of scores followed by padding. The last two passes read only
  what the wanted front part needs.
-/
module

public import Mathlib.Data.List.Perm.Basic
public import Mathlib.Data.List.Nodup
public import Mathlib.Data.Nat.Bitwise
public import Mathlib.Tactic.Ring
public import Mathlib.Tactic.NormNum
public import Idealize.ShloMosaic.Lib.SortNet.Sorts

@[expose] public section

namespace Cert.Proof.Bitonic

open Idealize.ShloMosaic Idealize.ShloMosaic.SortNet

/-- One stage: a position and the one at distance `2 ^ s` are exchanged so that the greater comes first where bit `t` of the
    position is clear, last where it is set. -/
def stg (t s : ℕ) (E : ℕ → ℤ) (f : ℕ) : ℤ :=
  if decide (E (f ^^^ 2 ^ s) < E f) = (f.testBit s == f.testBit t) then E f else E (f ^^^ 2 ^ s)

/-- The stages at distances `2 ^ (n - 1)`, …, `1`. -/
def mrg (t : ℕ) : ℕ → (ℕ → ℤ) → ℕ → ℤ
  | 0, E => E
  | n + 1, E => mrg t n (stg t n E)

/-- The first merges, over blocks of two up to `2 ^ n` positions. -/
def passes : ℕ → (ℕ → ℤ) → ℕ → ℤ
  | 0, E => E
  | n + 1, E => mrg (n + 1) (n + 1) (passes n E)

/-- The block number `c` of `2 ^ t` positions. -/
def blk (t c : ℕ) (E : ℕ → ℤ) (j : Fin (2 ^ t)) : ℤ := E (2 ^ t * c + j.val)

theorem xor_block {t s c j : ℕ} (hs : s < t) (hj : j < 2 ^ t) : (2 ^ t * c + j) ^^^ 2 ^ s = 2 ^ t * c + (j ^^^ 2 ^ s) := by
  have hx : j ^^^ 2 ^ s < 2 ^ t := Nat.xor_lt_two_pow hj (Nat.pow_lt_pow_right (by decide) hs)
  apply Nat.eq_of_testBit_eq
  intro i
  rw [Nat.testBit_xor, Nat.testBit_two_pow_mul_add _ hj, Nat.testBit_two_pow_mul_add _ hx]
  split
  · rw [Nat.testBit_xor]
  · rw [Nat.testBit_two_pow_of_ne (by omega), Bool.xor_false]

theorem testBit_block {t s c j : ℕ} (hs : s < t) (hj : j < 2 ^ t) : (2 ^ t * c + j).testBit s = j.testBit s := by
  rw [Nat.testBit_two_pow_mul_add _ hj, if_pos hs]

theorem testBit_block_top {t c j : ℕ} (hj : j < 2 ^ t) : (2 ^ t * c + j).testBit t = decide (c % 2 = 1) := by
  rw [Nat.testBit_two_pow_mul_add _ hj, if_neg (lt_irrefl t), Nat.sub_self, Nat.testBit_zero]

/-- On a block a stage is the network's stage, all one way. -/
theorem blk_stg {t s : ℕ} (hs : s < t) (c : ℕ) (E : ℕ → ℤ) :
    blk t c (stg t s E) = Network.apply (stage t s fun _ => decide (c % 2 = 0)) (blk t c E) := by
  have key : ∀ j : Fin (2 ^ t), blk t c (stg t s E) j
      = if (j.val.testBit s == decide (c % 2 = 1)) then max (blk t c E j) (blk t c E (partner t s j))
        else min (blk t c E j) (blk t c E (partner t s j)) := by
    intro j
    show stg t s E (2 ^ t * c + j.val) = _
    rw [stg, xor_block hs j.isLt, testBit_block hs j.isLt, testBit_block_top j.isLt]
    have e : E (2 ^ t * c + (j.val ^^^ 2 ^ s)) = blk t c E (partner t s j) := by
      show _ = E (2 ^ t * c + (partner t s j).val)
      rw [partner_val hs]
    rw [e]
    exact ite_lt_eq_max_min _ _ _
  funext j
  by_cases hj : j.val &&& 2 ^ s = 0
  · rw [key j, (apply_stage hs _ _ j hj).1, (and_two_pow_eq_zero_iff_testBit _ _).mp hj]
    rcases Nat.mod_two_eq_zero_or_one c with h | h <;> rw [h] <;> rfl
  · have hq := partner_and_of_set hs j hj
    have e := (apply_stage hs (fun _ => decide (c % 2 = 0)) (blk t c E) (partner t s j) hq).2
    rw [partner_partner hs] at e
    have hb : j.val.testBit s = true := by
      cases h : j.val.testBit s with
      | true => rfl
      | false => exact absurd ((and_two_pow_eq_zero_iff_testBit _ _).mpr h) hj
    rw [key j, e, hb, max_comm, min_comm]
    rcases Nat.mod_two_eq_zero_or_one c with h | h <;> rw [h] <;> rfl

theorem blk_mrg {t : ℕ} : ∀ (n : ℕ) (_ : n ≤ t) (c : ℕ) (E : ℕ → ℤ),
    blk t c (mrg t n E)
      = Network.apply ((List.range n).reverse.flatMap fun s => stage t s fun _ => decide (c % 2 = 0)) (blk t c E)
  | 0, _, _, _ => rfl
  | n + 1, h, c, E => by
    show blk t c (mrg t n (stg t n E)) = _
    rw [blk_mrg n (by omega) c, blk_stg (by omega) c, List.range_succ, List.reverse_append, List.reverse_cons, List.reverse_nil,
      List.nil_append, List.singleton_append, List.flatMap_cons, Network.apply_append]

/-- A block is sorted: descending if its number is even, ascending if odd. -/
def Srt (t c : ℕ) (E : ℕ → ℤ) : Prop := (c % 2 = 0 → Antitone (blk t c E)) ∧ (c % 2 = 1 → Monotone (blk t c E))

/-- The merge sorts a block that descends then ascends, or the other way about. -/
theorem srt_mrg {t c : ℕ} {E : ℕ → ℤ} (h : DescAsc (blk t c E)) : Srt t c (mrg t t E) := by
  constructor
  · intro hc
    rw [blk_mrg t le_rfl c E, hc]
    exact mergeDescNet_apply_antitone t _ h
  · intro hc
    rw [blk_mrg t le_rfl c E, hc]
    exact mergeAscNet_apply_monotone t _ h

theorem blk_low {t c : ℕ} (E : ℕ → ℤ) (j : Fin (2 ^ (t + 1))) (h : j.val < 2 ^ t) : blk (t + 1) c E j = blk t (2 * c) E ⟨j.val, h⟩ := by
  show E _ = E _
  congr 1
  have e : 2 ^ (t + 1) * c = 2 ^ t * (2 * c) := by ring
  show 2 ^ (t + 1) * c + j.val = 2 ^ t * (2 * c) + j.val
  rw [e]

theorem blk_high {t c : ℕ} (E : ℕ → ℤ) (j : Fin (2 ^ (t + 1))) (h : 2 ^ t ≤ j.val) :
    blk (t + 1) c E j = blk t (2 * c + 1) E ⟨j.val - 2 ^ t, by have := j.isLt; have e : 2 ^ (t + 1) = 2 ^ t * 2 := Nat.pow_succ ..; omega⟩ := by
  show E _ = E _
  congr 1
  have e : 2 ^ (t + 1) * c + 2 ^ t = 2 ^ t * (2 * c + 1) := by ring
  show 2 ^ (t + 1) * c + j.val = 2 ^ t * (2 * c + 1) + (j.val - 2 ^ t)
  omega

/-- Two neighbouring sorted blocks make one that descends, then ascends. -/
theorem descAsc_of_srt {t c : ℕ} {E : ℕ → ℤ} (h0 : Srt t (2 * c) E) (h1 : Srt t (2 * c + 1) E) : DescAsc (blk (t + 1) c E) := by
  refine ⟨2 ^ t, Or.inl ⟨fun i j hij hj => ?_, fun i j hij hi => ?_⟩⟩
  · have hij' : i.val ≤ j.val := hij
    rw [blk_low E i (by omega), blk_low E j hj]
    exact h0.1 (by omega) hij'
  · have hij' : i.val ≤ j.val := hij
    rw [blk_high E i hi, blk_high E j (by omega)]
    exact h1.2 (by omega) (show i.val - 2 ^ t ≤ j.val - 2 ^ t by omega)

/-- A stretch that descends is a block that descends. -/
theorem descAsc_of_anti {t c : ℕ} {E : ℕ → ℤ} (h : ∀ f g, 2 ^ t * c ≤ f → f ≤ g → g < 2 ^ t * (c + 1) → E g ≤ E f) :
    DescAsc (blk t c E) :=
  DescAsc.of_antitone fun i j hij => h _ _ (by omega) (by have : i.val ≤ j.val := hij; omega)
    (by have := j.isLt; rw [Nat.mul_add, Nat.mul_one]; omega)

theorem srt_passes (E : ℕ → ℤ) : ∀ n c, Srt n c (passes n E)
  | 0, c => by
    have h : ∀ i j : Fin (2 ^ 0), i = j := fun i j => Fin.ext (by have := i.isLt; have := j.isLt; simp only [pow_zero] at *; omega)
    exact ⟨fun _ i j _ => le_of_eq (by rw [h i j]), fun _ i j _ => le_of_eq (by rw [h i j])⟩
  | n + 1, c => srt_mrg (descAsc_of_srt (srt_passes E n (2 * c)) (srt_passes E n (2 * c + 1)))

/-! ## The entries are only moved -/

/-- On the first `N` positions the second sequence holds entries of the first, no two alike. -/
def Rearr (N : ℕ) (E E' : ℕ → ℤ) : Prop :=
  (∀ f g, f < N → g < N → E' f = E' g → f = g) ∧ ∀ f, f < N → ∃ g, g < N ∧ E' f = E g

theorem Rearr.trans {N : ℕ} {E E' E'' : ℕ → ℤ} (h : Rearr N E E') (h' : Rearr N E' E'') : Rearr N E E'' :=
  ⟨h'.1, fun f hf => by
    obtain ⟨g, hg, e⟩ := h'.2 f hf
    obtain ⟨g', hg', e'⟩ := h.2 g hg
    exact ⟨g', hg', e.trans e'⟩⟩

theorem xor_lt {N s f : ℕ} (hN : 2 ^ (s + 1) ∣ N) (hf : f < N) : f ^^^ 2 ^ s < N := by
  obtain ⟨m, rfl⟩ := hN
  have hj : f % 2 ^ (s + 1) < 2 ^ (s + 1) := Nat.mod_lt _ (Nat.two_pow_pos _)
  have hc : f / 2 ^ (s + 1) < m := Nat.div_lt_of_lt_mul hf
  have e : f = 2 ^ (s + 1) * (f / 2 ^ (s + 1)) + f % 2 ^ (s + 1) := (Nat.div_add_mod f _).symm
  have hx : f % 2 ^ (s + 1) ^^^ 2 ^ s < 2 ^ (s + 1) := Nat.xor_lt_two_pow hj (Nat.pow_lt_pow_right (by decide) (by omega))
  rw [e, xor_block (Nat.lt_succ_self s) hj]
  calc 2 ^ (s + 1) * (f / 2 ^ (s + 1)) + (f % 2 ^ (s + 1) ^^^ 2 ^ s) < 2 ^ (s + 1) * (f / 2 ^ (s + 1)) + 2 ^ (s + 1) := by omega
    _ = 2 ^ (s + 1) * (f / 2 ^ (s + 1) + 1) := by ring
    _ ≤ 2 ^ (s + 1) * m := Nat.mul_le_mul_left _ hc

theorem xor_xor (f s : ℕ) : f ^^^ 2 ^ s ^^^ 2 ^ s = f := by rw [Nat.xor_assoc, Nat.xor_self, Nat.xor_zero]

theorem rearr_stg {N t s : ℕ} (hst : s < t) (hN : 2 ^ (s + 1) ∣ N) {E : ℕ → ℤ} (hE : ∀ f g, f < N → g < N → E f = E g → f = g) :
    Rearr N E (stg t s E) := by
  have hval : ∀ f, stg t s E f = E f ∨ stg t s E f = E (f ^^^ 2 ^ s) := fun f => by
    unfold stg; split
    · exact Or.inl rfl
    · exact Or.inr rfl
  have hne : ∀ f, f ^^^ 2 ^ s ≠ f := fun f h => by
    have := congrArg (fun x => f ^^^ x) h
    simp only [← Nat.xor_assoc, Nat.xor_self, Nat.zero_xor] at this
    exact absurd this (Nat.two_pow_pos s).ne'
  -- a position keeps its entry exactly when its partner does
  have hkeep : ∀ f, f < N → (stg t s E f = E f ↔ stg t s E (f ^^^ 2 ^ s) = E (f ^^^ 2 ^ s)) := fun f hf => by
    have hq := xor_lt hN hf
    have hd : E (f ^^^ 2 ^ s) ≠ E f := fun h => hne f (hE _ _ hq hf h)
    unfold stg
    rw [xor_xor, Nat.testBit_xor, Nat.testBit_xor, Nat.testBit_two_pow_self, Nat.testBit_two_pow_of_ne hst.ne, Bool.xor_false]
    rcases lt_or_gt_of_ne hd with h | h
    · rw [decide_eq_true h, decide_eq_false (not_lt.mpr h.le)]
      cases f.testBit s <;> cases f.testBit t <;> simp [hd, hd.symm]
    · rw [decide_eq_true h, decide_eq_false (not_lt.mpr h.le)]
      cases f.testBit s <;> cases f.testBit t <;> simp [hd, hd.symm]
  refine ⟨fun f g hf hg h => ?_, fun f hf => ?_⟩
  · have hqf := xor_lt hN hf
    have hqg := xor_lt hN hg
    rcases hval f with ef | ef <;> rcases hval g with eg | eg
    · exact hE _ _ hf hg (by rw [← ef, ← eg, h])
    · have e : f = g ^^^ 2 ^ s := hE _ _ hf hqg (by rw [← ef, ← eg, h])
      have := (hkeep g hg).mpr (by rw [← e]; exact ef)
      exact absurd (hE _ _ hg hqg (this.symm.trans eg)) (hne g).symm
    · have e : f ^^^ 2 ^ s = g := hE _ _ hqf hg (by rw [← ef, ← eg, h])
      have := (hkeep f hf).mpr (by rw [e]; exact eg)
      exact absurd (hE _ _ hf hqf (this.symm.trans ef)) (hne f).symm
    · have e : f ^^^ 2 ^ s = g ^^^ 2 ^ s := hE _ _ hqf hqg (by rw [← ef, ← eg, h])
      rw [← xor_xor f s, e, xor_xor]
  · rcases hval f with e | e
    · exact ⟨f, hf, e⟩
    · exact ⟨_, xor_lt hN hf, e⟩

theorem rearr_mrg {N t : ℕ} : ∀ (n : ℕ) (_ : n ≤ t) (_ : 2 ^ n ∣ N) {E : ℕ → ℤ} (_ : ∀ f g, f < N → g < N → E f = E g → f = g),
    Rearr N E (mrg t n E)
  | 0, _, _, E, hE => ⟨hE, fun f hf => ⟨f, hf, rfl⟩⟩
  | n + 1, h, hN, E, hE => by
    have h1 := rearr_stg (t := t) (s := n) (by omega) hN hE
    exact h1.trans (rearr_mrg n (by omega) ((pow_dvd_pow 2 (Nat.le_succ n)).trans hN) h1.1)

theorem rearr_passes {N : ℕ} : ∀ (n : ℕ) (_ : 2 ^ n ∣ N) {E : ℕ → ℤ} (_ : ∀ f g, f < N → g < N → E f = E g → f = g),
    Rearr N E (passes n E)
  | 0, _, E, hE => ⟨hE, fun f hf => ⟨f, hf, rfl⟩⟩
  | n + 1, hN, E, hE => by
    have h1 := rearr_passes n ((pow_dvd_pow 2 (Nat.le_succ n)).trans hN) hE
    exact h1.trans (rearr_mrg (n + 1) le_rfl hN h1.1)

/-! ## Scores followed by padding -/

/-- The entry of a key at a position: the greater key first, and of equal keys the earlier position. -/
def entry (k : ℕ → ℤ) (f : ℕ) : ℤ := k f * 2 ^ 33 - f

/-- Keys not negative below 20000 and `-1` from there on. -/
def Keys (k : ℕ → ℤ) : Prop := (∀ f, f < 20000 → 0 ≤ k f) ∧ ∀ f, 20000 ≤ f → k f = -1

/-- The sequence after the short merges: the padding blocks are untouched. -/
def half (E : ℕ → ℤ) (f : ℕ) : ℤ := if f < 20480 then passes 12 E f else E f

/-- The sequence before the last merge. -/
def late (E : ℕ → ℤ) : ℕ → ℤ := mrg 14 14 (mrg 13 13 (half E))

variable {k : ℕ → ℤ}

theorem entry_inj {f g : ℕ} (hf : f < 32768) (hg : g < 32768) (h : entry k f = entry k g) : f = g := by
  unfold entry at h
  omega

theorem entry_pad (hk : Keys k) {f : ℕ} (hf : 20000 ≤ f) : entry k f = -2 ^ 33 - f := by
  unfold entry; rw [hk.2 f hf]; ring

theorem entry_ge (hk : Keys k) (f : ℕ) : -2 ^ 33 - (f : ℤ) ≤ entry k f := by
  unfold entry
  rcases lt_or_ge f 20000 with h | h
  · have := hk.1 f h; omega
  · have := hk.2 f h; omega

theorem rearr_half : Rearr 32768 (entry k) (half (entry k)) := by
  have h := rearr_passes (N := 20480) 12 (by decide) (E := entry k) fun f g hf hg => entry_inj (by omega) (by omega)
  refine ⟨fun f g hf hg e => ?_, fun f hf => ?_⟩
  · unfold half at e
    by_cases h1 : f < 20480 <;> by_cases h2 : g < 20480
    · rw [if_pos h1, if_pos h2] at e; exact h.1 f g h1 h2 e
    · rw [if_pos h1, if_neg h2] at e
      obtain ⟨g', hg', e'⟩ := h.2 f h1
      have := entry_inj (by omega) hg (e'.symm.trans e); omega
    · rw [if_neg h1, if_pos h2] at e
      obtain ⟨g', hg', e'⟩ := h.2 g h2
      have := entry_inj hf (by omega) (e.trans e'); omega
    · rw [if_neg h1, if_neg h2] at e; exact entry_inj hf hg e
  · unfold half
    by_cases h1 : f < 20480
    · rw [if_pos h1]
      obtain ⟨g', hg', e'⟩ := h.2 f h1
      exact ⟨g', by omega, e'⟩
    · rw [if_neg h1]; exact ⟨f, hf, rfl⟩

theorem srt_half {c : ℕ} (hc : c < 4) : Srt 12 c (half (entry k)) := by
  have h := srt_passes (entry k) 12 c
  have e : blk 12 c (half (entry k)) = blk 12 c (passes 12 (entry k)) := funext fun j => if_pos (by have := j.isLt; norm_num at this ⊢; omega)
  unfold Srt; rw [e]; exact h

/-- The blocks from number four on descend throughout. -/
theorem half_anti (hk : Keys k) {f g : ℕ} (hf : 16384 ≤ f) (hfg : f ≤ g) : half (entry k) g ≤ half (entry k) f := by
  unfold half
  by_cases h1 : f < 20480 <;> by_cases h2 : g < 20480
  · rw [if_pos h1, if_pos h2]
    have h := (srt_passes (entry k) 12 4).1 rfl
    have := h (a := ⟨f - 16384, by norm_num; omega⟩) (b := ⟨g - 16384, by norm_num; omega⟩) (Fin.mk_le_mk.mpr (by omega))
    unfold blk at this
    have e1 : 2 ^ 12 * 4 + (f - 16384) = f := by norm_num; exact Nat.add_sub_of_le hf
    have e2 : 2 ^ 12 * 4 + (g - 16384) = g := by norm_num; exact Nat.add_sub_of_le (hf.trans hfg)
    simp only [e1, e2] at this
    exact this
  · rw [if_pos h1, if_neg h2]
    obtain ⟨g', hg', e'⟩ := (rearr_passes (N := 20480) 12 (by decide) (E := entry k)
      fun f g hf hg => entry_inj (by omega) (by omega)).2 f h1
    have h3 := entry_ge hk g'
    have h4 := entry_pad hk (f := g) (by omega)
    rw [e', h4]
    omega
  · omega
  · rw [if_neg h1, if_neg h2, entry_pad hk (by omega), entry_pad hk (by omega)]; omega

theorem srt_late (hk : Keys k) {c : ℕ} (hc : c < 2) : Srt 14 c (late (entry k)) := by
  have h13 : ∀ c, c < 4 → Srt 13 c (mrg 13 13 (half (entry k))) := fun c hc => srt_mrg (by
    rcases lt_or_ge c 2 with h | h
    · exact descAsc_of_srt (srt_half (by omega)) (srt_half (by omega))
    · exact descAsc_of_anti fun f g hf hfg _ => half_anti hk (by norm_num at hf; omega) hfg)
  exact srt_mrg (descAsc_of_srt (h13 _ (by omega)) (h13 _ (by omega)))

theorem rearr_last : Rearr 32768 (entry k) (mrg 15 15 (late (entry k))) := by
  have h0 := rearr_half (k := k)
  have h1 := h0.trans (rearr_mrg 13 (t := 13) le_rfl (by decide) h0.1)
  have h2 := h1.trans (rearr_mrg 14 (t := 14) le_rfl (by decide) h1.1)
  exact h2.trans (rearr_mrg 15 (t := 15) le_rfl (by decide) h2.1)

theorem last_lt (hk : Keys k) {f g : ℕ} (hfg : f < g) (hg : g < 32768) :
    mrg 15 15 (late (entry k)) g < mrg 15 15 (late (entry k)) f := by
  have h := (srt_mrg (descAsc_of_srt (t := 14) (c := 0) (srt_late hk (by omega)) (srt_late hk (by omega)))).1 rfl
  have := h (a := ⟨f, by norm_num; omega⟩) (b := ⟨g, by norm_num; omega⟩) (Fin.mk_le_mk.mpr (by omega))
  unfold blk at this
  simp only [Nat.mul_zero, Nat.zero_add] at this
  exact lt_of_le_of_ne this fun e => by have := (rearr_last (k := k)).1 _ _ hg (by omega) e; omega

/-- The sort's front part is the scores in their order, whichever list of the positions has that order. -/
theorem last_eq (hk : Keys k) (L : List ℕ) (hperm : L.Perm (List.range 20000)) (hsort : L.Pairwise fun a b => entry k b < entry k a)
    (f : ℕ) (hf : f < L.length) : mrg 15 15 (late (entry k)) f = entry k L[f] := by
  set E := mrg 15 15 (late (entry k)) with hE
  have hlen : L.length = 20000 := by rw [hperm.length_eq, List.length_range]
  have hmem : ∀ a, a ∈ L ↔ a < 20000 := fun a => by rw [hperm.mem_iff, List.mem_range]
  let P : List ℕ := (List.range 12768).map (20000 + ·)
  have hPmem : ∀ a, a ∈ P ↔ 20000 ≤ a ∧ a < 32768 := fun a => by
    simp only [P, List.mem_map, List.mem_range]
    exact ⟨by rintro ⟨b, hb, rfl⟩; omega, fun h => ⟨a - 20000, by omega, by omega⟩⟩
  let L1 := (L ++ P).map (entry k)
  let L2 := (List.range 32768).map E
  have s1 : L1.Pairwise (· > ·) := by
    refine List.pairwise_map.mpr (List.pairwise_append.mpr ⟨hsort, ?_, fun a ha b hb => ?_⟩)
    · refine List.pairwise_map.mpr (List.pairwise_lt_range.imp fun {a b} h => ?_)
      rw [entry_pad hk (by omega), entry_pad hk (by omega)]; omega
    · have ha' := (hmem a).mp ha
      have hb' := (hPmem b).mp hb
      have := hk.1 a ha'
      rw [entry_pad hk hb'.1]
      unfold entry; omega
  have s2 : L2.Pairwise (· > ·) := by
    refine List.pairwise_map.mpr ?_
    refine List.Pairwise.imp_of_mem (fun {a b} ha hb h => ?_) List.pairwise_lt_range
    exact last_lt hk h (List.mem_range.mp hb)
  have hsub : L2 ⊆ L1 := by
    intro x hx
    obtain ⟨f, hf, rfl⟩ := List.mem_map.mp hx
    obtain ⟨g, hg, e⟩ := (rearr_last (k := k)).2 f (List.mem_range.mp hf)
    refine List.mem_map.mpr ⟨g, List.mem_append.mpr ?_, e.symm⟩
    rw [hmem, hPmem]; omega
  have hl : L1.length = L2.length := by
    simp only [L1, L2, P, List.length_map, List.length_append, List.length_range, hlen]
  have hp : L2.Perm L1 := (List.subperm_of_subset (s2.imp fun h => ne_of_gt h) hsub).perm_of_length_le (le_of_eq hl)
  have heq : L2 = L1 := hp.eq_of_pairwise (fun a b _ _ h1 h2 => absurd h1 (not_lt.mpr (le_of_lt h2))) s2 s1
  have h1 : L2[f]? = some (E f) := by
    rw [List.getElem?_map, List.getElem?_range (by omega)]; rfl
  have h2 : L1[f]? = some (entry k L[f]) := by
    rw [List.getElem?_map, List.getElem?_append_left hf, List.getElem?_eq_getElem hf]; rfl
  rw [heq, h2] at h1
  exact (Option.some.inj h1).symm

end Cert.Proof.Bitonic
-- ==== Proof.SortVal.lean ====
/-
  What one printed stage of the sort does to its keys and positions: over rows of 128 lanes, whatever the number of rows, it is
  one stage of the sequence of entries. The printed values of each loop are this stage by definition.
-/
module

public import proofs.«01_k».proof.Proof.SortMath
public import proofs.«01_k».proof.Proof.Gen.Sort.Skeleton
public import Mathlib.Tactic.IntervalCases
public import Idealize.ShloMosaic.Lib.ValueIdx
public import Idealize.ShloMosaic.Lib.ValueLayout
public import Idealize.ShloMosaic.Lib.ValueLayoutCasts
public import Idealize.ShloMosaic.Lib.KernelVsHost
public import Idealize.ShloMosaic.Lib.WordCmp

@[expose] public section

noncomputable section

namespace Cert.Proof.Bitonic

open Idealize.ShloMosaic Idealize.ShloMosaic.ValueIdx Idealize.ShloMosaic.WordCmp Cert.Sort Cert.Sort.Gen

/-- Rows of 128 lanes. -/
abbrev SR (R : ℕ) : Shape := ⟨2, ![R, 128]⟩

/-- The entry of a key and a position, as words. -/
def ent (k i : BitVec 32) : ℤ := k.toInt * 2 ^ 33 - i.toInt

/-- Keys and positions hold a sequence's entries, row by row. -/
def Holds (R : ℕ) (K I : IVec (SR R) 32) (E : ℕ → ℤ) : Prop := ∀ (r : Fin R) (c : Fin 128), ent (K (ix2 r c)) (I (ix2 r c)) = E (128 * r.val + c.val)

/-- A vector holds each place's number. -/
def IsFlat (R : ℕ) (v : IVec (SR R) 32) : Prop := ∀ (r : Fin R) (c : Fin 128), v (ix2 r c) = BitVec.ofNat 32 (128 * r.val + c.val)

/-- Whether a place's number has a bit. -/
def bitV {R : ℕ} (v : IVec (SR R) 32) (j : BitVec 32) : IVec (SR R) 1 := cmpi .ne (andi v (broadcast (SR R) j)) (broadcast (SR R) 0#32)

/-- Where a place keeps its own entry. -/
def keepV {R : ℕ} (v : IVec (SR R) 32) (k j : BitVec 32) (K I PK PI : IVec (SR R) 32) : IVec (SR R) 1 :=
  xori (xori (ori (cmpi .sgt K PK) (andi (cmpi .eq K PK) (cmpi .slt I PI))) (bitV v j)) (bitV v k)

/-- The partner's value, some rows away. -/
def rowP {R : ℕ} (n : BitVec 32) (h : (SR R).Rotates 0 none) (v : IVec (SR R) 32) (j : BitVec 32) (X : IVec (SR R) 32) : IVec (SR R) 32 :=
  select (bitV v j) (dynamicRotate 0 (Scalar.shrui j 7#32) none X h) (dynamicRotate 0 (Scalar.subi n (Scalar.shrui j 7#32)) none X h)

/-- The partner's value, some lanes away. -/
def laneP {R : ℕ} (h : (SR R).Rotates 1 none) (v : IVec (SR R) 32) (j : BitVec 32) (X : IVec (SR R) 32) : IVec (SR R) 32 :=
  select (bitV v j) (dynamicRotate 1 j none X h) (dynamicRotate 1 (Scalar.subi 128#32 j) none X h)

theorem sel_if {α : Type} (c : BitVec 1) (a b : α) : Scalar.select c a b = if c = 1#1 then a else b := by
  by_cases h : c = 1#1
  · rw [if_pos h, h]; rfl
  · rw [if_neg h, ValueIdx.eq_zero_of_ne_one h]; rfl

/-- Comparing key, then position, is comparing entries. -/
theorem first_eq (k i pk pi : BitVec 32) :
    IntOp.ori (IntOp.cmpi .sgt k pk) (IntOp.andi (IntOp.cmpi .eq k pk) (IntOp.cmpi .slt i pi)) = BitVec.ofBool (decide (ent pk pi < ent k i)) := by
  have e1 : IntOp.cmpi .sgt k pk = BitVec.ofBool (decide (pk.toInt < k.toInt)) := by
    show BitVec.ofBool (pk.slt k) = _; rw [BitVec.slt_eq_decide]
  have e2 : IntOp.cmpi .eq k pk = BitVec.ofBool (decide (k.toInt = pk.toInt)) := by
    show BitVec.ofBool (k == pk) = _
    congr 1
    rw [Bool.eq_iff_iff, beq_iff_eq, decide_eq_true_eq, BitVec.toInt_inj]
  have e3 : IntOp.cmpi .slt i pi = BitVec.ofBool (decide (i.toInt < pi.toInt)) := by
    show BitVec.ofBool (i.slt pi) = _; rw [BitVec.slt_eq_decide]
  have ho : ∀ a b : Bool, IntOp.ori (BitVec.ofBool a) (BitVec.ofBool b) = BitVec.ofBool (a || b) := by decide
  have ha : ∀ a b : Bool, IntOp.andi (BitVec.ofBool a) (BitVec.ofBool b) = BitVec.ofBool (a && b) := by decide
  rw [e1, e2, e3, ha, ho]
  congr 1
  rw [Bool.eq_iff_iff]
  simp only [Bool.or_eq_true, Bool.and_eq_true, decide_eq_true_eq]
  have h1 := i.toInt_lt (w := 32); have h2 := i.le_toInt (w := 32)
  have h3 := pi.toInt_lt (w := 32); have h4 := pi.le_toInt (w := 32)
  unfold ent
  norm_num at h1 h2 h3 h4
  omega

/-- A place's choice between its own entry and its partner's. -/
theorem pick (k i pk pi : BitVec 32) (b d : Bool) {m : BitVec 1}
    (hm : m = IntOp.xori (IntOp.xori (IntOp.ori (IntOp.cmpi .sgt k pk) (IntOp.andi (IntOp.cmpi .eq k pk) (IntOp.cmpi .slt i pi))) (BitVec.ofBool b)) (BitVec.ofBool d)) :
    ent (Scalar.select m k pk) (Scalar.select m i pi) = if decide (ent pk pi < ent k i) = (b == d) then ent k i else ent pk pi := by
  have hx : ∀ a b d : Bool, IntOp.xori (IntOp.xori (BitVec.ofBool a) (BitVec.ofBool b)) (BitVec.ofBool d) = BitVec.ofBool (a == (b == d)) := by decide
  rw [first_eq, hx] at hm
  subst hm
  rw [sel_if, sel_if]
  by_cases h : decide (ent pk pi < ent k i) = (b == d)
  · rw [if_pos h, h, beq_self_eq_true]; rfl
  · rw [if_neg h, beq_eq_false_iff_ne.mpr h]; rfl

/-- The bit of a place. -/
theorem bitV_apply {R : ℕ} {v : IVec (SR R) 32} (hv : IsFlat R v) (hR : R ≤ 256) {s : ℕ} (hs : s < 32) (r : Fin R) (c : Fin 128) :
    bitV v (BitVec.ofNat 32 (2 ^ s)) (ix2 r c) = BitVec.ofBool ((128 * r.val + c.val).testBit s) := by
  show IntOp.cmpi .ne (v (ix2 r c) &&& BitVec.ofNat 32 (2 ^ s)) 0#32 = _
  rw [hv r c]
  show BitVec.ofBool (BitVec.ofNat 32 (128 * r.val + c.val) &&& BitVec.ofNat 32 (2 ^ s) != 0#32) = _
  congr 1
  have h2 : 2 ^ s < 2 ^ 32 := Nat.pow_lt_pow_right (by decide) hs
  have h1 : 128 * r.val + c.val < 2 ^ 32 := by have := r.isLt; have := c.isLt; norm_num; omega
  have e : (BitVec.ofNat 32 (128 * r.val + c.val) &&& BitVec.ofNat 32 (2 ^ s) = 0#32) ↔ (128 * r.val + c.val) &&& 2 ^ s = 0 := by
    rw [← BitVec.toNat_inj, BitVec.toNat_and, BitVec.toNat_ofNat, BitVec.toNat_ofNat, Nat.mod_eq_of_lt h1, Nat.mod_eq_of_lt h2]; rfl
  rw [SortNet.and_two_pow_eq_zero_iff_testBit] at e
  cases hb : (128 * r.val + c.val).testBit s with
  | false => rw [e.mpr hb]; rfl
  | true =>
    rw [bne_iff_ne]
    intro h
    rw [e.mp h] at hb
    exact absurd hb (by decide)

theorem xor_clear {f s : ℕ} (h : f.testBit s = false) : f ^^^ 2 ^ s = f + 2 ^ s :=
  SortNet.xor_two_pow_of_clear f s ((SortNet.and_two_pow_eq_zero_iff_testBit _ _).mpr h)

theorem xor_set {f s : ℕ} (h : f.testBit s = true) : (f ^^^ 2 ^ s) + 2 ^ s = f := by
  have hc : (f ^^^ 2 ^ s).testBit s = false := by
    rw [Nat.testBit_xor, h, Nat.testBit_two_pow_self]; rfl
  rw [← xor_clear hc, xor_xor]

/-- The word shifted for rows. -/
theorem shr7 {s : ℕ} (h7 : 7 ≤ s) (h : s < 16) : (Scalar.shrui (BitVec.ofNat 32 (2 ^ s)) 7#32).toNat = 2 ^ (s - 7) := by
  interval_cases s <;> decide

theorem pow_rows {s : ℕ} (h7 : 7 ≤ s) : 2 ^ s = 128 * 2 ^ (s - 7) := by
  conv_lhs => rw [← Nat.sub_add_cancel h7, pow_add]
  norm_num [mul_comm]

/-- A stage's partner values are both read at the partner's place. -/
def Partner (R s : ℕ) (P : IVec (SR R) 32 → IVec (SR R) 32) : Prop :=
  ∀ (r : Fin R) (c : Fin 128), ∃ (r' : Fin R) (c' : Fin 128), 128 * r'.val + c'.val = (128 * r.val + c.val) ^^^ 2 ^ s ∧ ∀ X, P X (ix2 r c) = X (ix2 r' c')

theorem partner_row {R : ℕ} (h : (SR R).Rotates 0 none) {v : IVec (SR R) 32} (hv : IsFlat R v) (hR : R ≤ 256) {s : ℕ} (h7 : 7 ≤ s) (hs : s < 16)
    (hd : 2 ^ (s + 1) ∣ R * 128) : Partner R s (rowP (BitVec.ofNat 32 R) h v (BitVec.ofNat 32 (2 ^ s))) := by
  intro r c
  have hr := r.isLt
  have hc := c.isLt
  have hpow := pow_rows h7
  have hu : 0 < 2 ^ (s - 7) := Nat.two_pow_pos _
  have hlt := xor_lt hd (f := 128 * r.val + c.val) (by omega)
  have e7 := shr7 h7 hs
  cases hb : (128 * r.val + c.val).testBit s with
  | true =>
    have hx := xor_set hb
    refine ⟨⟨r.val - 2 ^ (s - 7), by omega⟩, c, by show 128 * (r.val - 2 ^ (s - 7)) + c.val = _; omega, fun X => ?_⟩
    show Scalar.select (bitV v _ (ix2 r c)) _ _ = _
    rw [bitV_apply hv hR (by omega), hb]
    refine dynamicRotate_apply 0 _ X h _ _ fun b => ?_
    match b with
    | ⟨0, _⟩ =>
      show r.val - 2 ^ (s - 7) = (r.val + R - (Scalar.shrui (BitVec.ofNat 32 (2 ^ s)) 7#32).toNat % R) % R
      rw [e7, Nat.mod_eq_of_lt (a := 2 ^ (s - 7)) (by omega), show r.val + R - 2 ^ (s - 7) = r.val - 2 ^ (s - 7) + R by omega, Nat.add_mod_right,
        Nat.mod_eq_of_lt (by omega)]
    | ⟨1, _⟩ => rfl
  | false =>
    have hx := xor_clear hb
    have h1 : r.val + 2 ^ (s - 7) < R := by omega
    refine ⟨⟨r.val + 2 ^ (s - 7), h1⟩, c, by show 128 * (r.val + 2 ^ (s - 7)) + c.val = _; omega, fun X => ?_⟩
    show Scalar.select (bitV v _ (ix2 r c)) _ _ = _
    rw [bitV_apply hv hR (by omega), hb]
    refine dynamicRotate_apply 0 _ X h _ _ fun b => ?_
    match b with
    | ⟨0, _⟩ =>
      show r.val + 2 ^ (s - 7) = (r.val + R - (BitVec.ofNat 32 R - Scalar.shrui (BitVec.ofNat 32 (2 ^ s)) 7#32).toNat % R) % R
      have ew : (BitVec.ofNat 32 R - Scalar.shrui (BitVec.ofNat 32 (2 ^ s)) 7#32).toNat = R - 2 ^ (s - 7) := by
        rw [BitVec.toNat_sub, e7, BitVec.toNat_ofNat]; omega
      rw [ew, Nat.mod_eq_of_lt (a := R - 2 ^ (s - 7)) (by omega), show r.val + R - (R - 2 ^ (s - 7)) = r.val + 2 ^ (s - 7) by omega,
        Nat.mod_eq_of_lt h1]
    | ⟨1, _⟩ => rfl

theorem partner_lane {R : ℕ} (h : (SR R).Rotates 1 none) {v : IVec (SR R) 32} (hv : IsFlat R v) (hR : R ≤ 256) {s : ℕ} (hs : s < 7) :
    Partner R s (laneP h v (BitVec.ofNat 32 (2 ^ s))) := by
  intro r c
  have hr := r.isLt
  have hc := c.isLt
  have hu : 0 < 2 ^ s := Nat.two_pow_pos _
  have hlt : c.val ^^^ 2 ^ s < 128 := Nat.xor_lt_two_pow (n := 7) hc (Nat.pow_lt_pow_right (by decide) hs)
  have hblk : (128 * r.val + c.val) ^^^ 2 ^ s = 128 * r.val + (c.val ^^^ 2 ^ s) := xor_block (t := 7) hs hc
  have hbit : (128 * r.val + c.val).testBit s = c.val.testBit s := testBit_block (t := 7) hs hc
  have hp : 2 ^ s < 128 := Nat.pow_lt_pow_right (n := 7) (by decide) hs
  have e0 : (BitVec.ofNat 32 (2 ^ s)).toNat = 2 ^ s := by rw [BitVec.toNat_ofNat]; omega
  cases hb : (128 * r.val + c.val).testBit s with
  | true =>
    have hx := xor_set (hbit.symm.trans hb)
    refine ⟨r, ⟨c.val ^^^ 2 ^ s, hlt⟩, hblk.symm, fun X => ?_⟩
    show Scalar.select (bitV v _ (ix2 r c)) _ _ = _
    rw [bitV_apply hv hR (by omega), hb]
    refine dynamicRotate_apply 1 _ X h _ _ fun b => ?_
    match b with
    | ⟨0, _⟩ => rfl
    | ⟨1, _⟩ =>
      show c.val ^^^ 2 ^ s = (c.val + 128 - (BitVec.ofNat 32 (2 ^ s)).toNat % 128) % 128
      rw [e0]; omega
  | false =>
    have hx := xor_clear (hbit.symm.trans hb)
    refine ⟨r, ⟨c.val ^^^ 2 ^ s, hlt⟩, hblk.symm, fun X => ?_⟩
    show Scalar.select (bitV v _ (ix2 r c)) _ _ = _
    rw [bitV_apply hv hR (by omega), hb]
    refine dynamicRotate_apply 1 _ X h _ _ fun b => ?_
    match b with
    | ⟨0, _⟩ => rfl
    | ⟨1, _⟩ =>
      show c.val ^^^ 2 ^ s = (c.val + 128 - (128#32 - BitVec.ofNat 32 (2 ^ s)).toNat % 128) % 128
      have ew : (128#32 - BitVec.ofNat 32 (2 ^ s)).toNat = 128 - 2 ^ s := by
        rw [BitVec.toNat_sub, e0]; show (2 ^ 32 - 2 ^ s + 128) % 2 ^ 32 = _; omega
      rw [ew]; omega

/-- A printed stage does a stage to the entries. -/
theorem holds_stage {R : ℕ} {v : IVec (SR R) 32} (hv : IsFlat R v) (hR : R ≤ 256) {K I : IVec (SR R) 32} {E : ℕ → ℤ} (hE : Holds R K I E)
    {s t : ℕ} (hs : s < 32) (ht : t < 32) {P : IVec (SR R) 32 → IVec (SR R) 32} (hP : Partner R s P) :
    Holds R (select (keepV v (BitVec.ofNat 32 (2 ^ t)) (BitVec.ofNat 32 (2 ^ s)) K I (P K) (P I)) K (P K))
      (select (keepV v (BitVec.ofNat 32 (2 ^ t)) (BitVec.ofNat 32 (2 ^ s)) K I (P K) (P I)) I (P I)) (stg t s E) := by
  intro r c
  obtain ⟨r', c', hq, hX⟩ := hP r c
  rw [stg, ← hE r c, ← hq, ← hE r' c', ← hX K, ← hX I]
  refine pick _ _ _ _ _ _ ?_
  show IntOp.xori (IntOp.xori _ (bitV v _ (ix2 r c))) (bitV v _ (ix2 r c)) = _
  rw [bitV_apply hv hR hs, bitV_apply hv hR ht]
  rfl

/-! ## The loops' counters -/

/-- The distance of the next of `n` stages, as a word; zero after the last. -/
def jw (n : ℕ) : BitVec 32 := BitVec.ofNat 32 (2 ^ n / 2)

theorem jw_succ (n : ℕ) : jw (n + 1) = BitVec.ofNat 32 (2 ^ n) := by
  unfold jw; rw [Nat.pow_succ, Nat.mul_div_cancel _ (by decide)]

theorem jw_shr {n : ℕ} (h : n < 16) : Scalar.shrui (jw (n + 1)) 1#32 = jw n := by
  rw [jw_succ]; unfold jw; interval_cases n <;> decide

theorem jw_rows {n : ℕ} (h : n < 17) : Scalar.cmpi .sge (jw n) 128#32 = 1#1 ↔ 8 ≤ n := by
  unfold jw; interval_cases n <;> decide

theorem jw_lanes {n : ℕ} (h : n < 17) : Scalar.cmpi .sge (jw n) 1#32 = 1#1 ↔ 1 ≤ n := by
  unfold jw; interval_cases n <;> decide

/-! ## Cutting and joining -/

theorem holds_congr {R : ℕ} {K I : IVec (SR R) 32} {E E' : ℕ → ℤ} (h : Holds R K I E) (he : ∀ f, f < R * 128 → E f = E' f) : Holds R K I E' :=
  fun r c => (h r c).trans (he _ (by have := r.isLt; have := c.isLt; omega))

/-- The front rows hold the front of the sequence. -/
theorem holds_front {R R' : ℕ} (hle : R' ≤ R) {K I : IVec (SR R) 32} {E : ℕ → ℤ} (h : Holds R K I E) (hs : (SR R).Slices ![0, 0] (SR R')) :
    Holds R' (extractStridedSlice (SR R') ![0, 0] K hs) (extractStridedSlice (SR R') ![0, 0] I hs) E := by
  intro r c
  have e : ∀ X : IVec (SR R) 32, extractStridedSlice (SR R') ![0, 0] X hs (ix2 r c) = X (ix2 (⟨r.val, lt_of_lt_of_le r.isLt hle⟩ : Fin R) c) := fun X =>
    extractStridedSlice_apply _ _ _ _ _ fun a => match a with
      | ⟨0, _⟩ => (Nat.zero_add _).symm
      | ⟨1, _⟩ => (Nat.zero_add _).symm
  rw [e, e]
  exact h _ c

theorem flat_iota {R : ℕ} (hR : R ≤ 256) (h0 : (SR R).Iotas .tc 32 [0]) (h1 : (SR R).Iotas .tc 32 [1]) :
    IsFlat R (addi (muli (iota .tc (SR R) 32 [0] h0) (broadcast (SR R) 128#32)) (iota .tc (SR R) 32 [1] h1)) := by
  intro r c
  show iota .tc (SR R) 32 [0] h0 (ix2 r c) * 128#32 + iota .tc (SR R) 32 [1] h1 (ix2 r c) = _
  rw [iota_single_apply, iota_single_apply]
  show BitVec.ofNat 32 r.val * BitVec.ofNat 32 128 + BitVec.ofNat 32 c.val = _
  rw [← BitVec.ofNat_mul, ← BitVec.ofNat_add, Nat.mul_comm]

end Cert.Proof.Bitonic

end
-- ==== Proof.SortLoop.lean ====
/-
  The loops of the sort kernel: the merges' loops over row distances and over lane distances, and the loop of the short merges.
-/
module

public import proofs.«01_k».proof.Proof.SortVal
public import proofs.«01_k».proof.Proof.Gen.Sort.Points
public import proofs.«01_k».proof.Proof.Gen.Sort.Launch
public import Idealize.ShloMosaic.Lib.Pipeline.Sound
public import Idealize.ShloMosaic.Lib.Tactic
public import Idealize.ShloMosaic.Lib.VecWindow

@[expose] public section

noncomputable section

namespace Cert.Proof.Bitonic

open Cert.Sort Cert.Sort.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost algebra of the pipeline's cells. -/
abbrev BR : Type := URounds (GSem nD τ sig) Unit

local notation "𝕄" => MT nD τ sig Unit (Elt Bits) ℕ BR ℕ

/-- Loops are bounded by natural numbers. -/
abbrev 𝒱ₛ : Variants := Variants.nat

/-- A loop's result: keys, positions and the next distance. -/
abbrev Out (R : ℕ) : Type := IVec (SR R) 32 × IVec (SR R) 32 × BitVec 32

/-- A loop's program, by its keys, positions and distance. -/
abbrev Loop (R : ℕ) : Type 1 := IVec (SR R) 32 → IVec (SR R) 32 → BitVec 32 → Prog (TpuEff nD τ sig (Elt Bits) (Λ₀ Bits) .tc) (Out R)

variable (c : Dev nD) (E : Set ℕ)

/-- While the test holds, a loop goes on with the stage's result and half the distance. -/
def Steps {R : ℕ} (W : Loop R) (test kw : BitVec 32) (v : IVec (SR R) 32) (P : BitVec 32 → IVec (SR R) 32 → IVec (SR R) 32) : Prop :=
  ∀ (K I : IVec (SR R) 32) (j : BitVec 32) (n : ℕ) (Q : Out R → sProp 𝕄), Scalar.cmpi .sge j test = 1#1 →
    wp frame (wpE (defs₀ (F := Bits)) 𝒱ₛ (c : Thread nD τ) (some n)) E
        (W (select (keepV v kw j K I (P j K) (P j I)) K (P j K)) (select (keepV v kw j K I (P j K) (P j I)) I (P j I)) (Scalar.shrui j 1#32))
        (fun z => wp frame (wpE (defs₀ (F := Bits)) 𝒱ₛ (c : Thread nD τ) (some (n + 1))) E (.ret z) Q)
      ⊢ wp frame (wpE (defs₀ (F := Bits)) 𝒱ₛ (c : Thread nD τ) (some (n + 1))) E (W K I j) Q

/-- Once the test fails a loop returns what it has. -/
def Ends {R : ℕ} (W : Loop R) (test : BitVec 32) : Prop :=
  ∀ (K I : IVec (SR R) 32) (j : BitVec 32) (n : ℕ) (Q : Out R → sProp 𝕄), ¬Scalar.cmpi .sge j test = 1#1 →
    Q (K, I, j) ⊢ wp frame (wpE (defs₀ (F := Bits)) 𝒱ₛ (c : Thread nD τ) (some n)) E (W K I j) Q

theorem ret_intro {R : ℕ} (S : Out R → Prop) (n : ℕ) (Q : Out R → sProp 𝕄) :
    iprop(∀ z : Out R, ⌜S z⌝ -∗ Q z)
      ⊢ iprop(∀ z : Out R, ⌜S z⌝ -∗ wp frame (wpE (defs₀ (F := Bits)) 𝒱ₛ (c : Thread nD τ) (some n)) E (.ret z) Q) := by
  iintro Hk %z %hz
  rw [wp_ret]; imodintro
  iapply Hk
  ipureintro; exact hz

/-- The loop over row distances leaves the stages at distances below 128 to do. -/
theorem rows_le {R : ℕ} (hR : R ≤ 256) (W : Loop R) {t : ℕ} (ht : t < 16) {kw : BitVec 32} (hkw : kw = BitVec.ofNat 32 (2 ^ t)) {v : IVec (SR R) 32}
    (hv : IsFlat R v) {P : BitVec 32 → IVec (SR R) 32 → IVec (SR R) 32}
    (hP : ∀ s, 7 ≤ s → s < 16 → 2 ^ (s + 1) ∣ R * 128 → Partner R s (P (BitVec.ofNat 32 (2 ^ s))))
    (hS : Steps c E W 128#32 kw v P) (hE : Ends c E W 128#32) :
    ∀ n, n < 16 → 2 ^ n ∣ R * 128 → ∀ (K I : IVec (SR R) 32) (E₀ : ℕ → ℤ), Holds R K I E₀ → ∀ Q : Out R → sProp 𝕄,
      iprop(∀ z : Out R, ⌜∃ m E', m ≤ 7 ∧ z.2.2 = jw m ∧ Holds R z.1 z.2.1 E' ∧ mrg t m E' = mrg t n E₀⌝ -∗ Q z)
        ⊢ wp frame (wpE (defs₀ (F := Bits)) 𝒱ₛ (c : Thread nD τ) (some n)) E (W K I (jw n)) Q := by
  intro n
  induction n with
  | zero =>
    intro hn hd K I E₀ h Q
    refine BIBase.Entails.trans ?_ (hE K I (jw 0) 0 Q (by rw [jw_rows (by omega)]; omega))
    iintro Hk
    iapply Hk
    ipureintro
    exact ⟨0, E₀, by omega, rfl, h, rfl⟩
  | succ n ih =>
    intro hn hd K I E₀ h Q
    by_cases h7 : 7 ≤ n
    · refine BIBase.Entails.trans ?_ (hS K I (jw (n + 1)) n Q (by rw [jw_rows (by omega)]; omega))
      rw [jw_shr (by omega), jw_succ, hkw]
      exact BIBase.Entails.trans (ret_intro c E _ _ Q) (ih (by omega) ((pow_dvd_pow 2 (Nat.le_succ n)).trans hd) _ _ (stg t n E₀)
        (holds_stage hv hR h (by omega) (by omega) (hP n h7 (by omega) hd)) _)
    · refine BIBase.Entails.trans ?_ (hE K I (jw (n + 1)) (n + 1) Q (by rw [jw_rows (by omega)]; omega))
      iintro Hk
      iapply Hk
      ipureintro
      exact ⟨n + 1, E₀, by omega, rfl, h, rfl⟩

/-- The loop over lane distances does the stages left. -/
theorem lanes_le {R : ℕ} (hR : R ≤ 256) (W : Loop R) {t : ℕ} (ht : t < 16) {kw : BitVec 32} (hkw : kw = BitVec.ofNat 32 (2 ^ t)) {v : IVec (SR R) 32}
    (hv : IsFlat R v) {P : BitVec 32 → IVec (SR R) 32 → IVec (SR R) 32}
    (hP : ∀ s, s < 7 → Partner R s (P (BitVec.ofNat 32 (2 ^ s))))
    (hS : Steps c E W 1#32 kw v P) (hE : Ends c E W 1#32) :
    ∀ n, n ≤ 7 → ∀ (K I : IVec (SR R) 32) (E₀ : ℕ → ℤ), Holds R K I E₀ → ∀ Q : Out R → sProp 𝕄,
      iprop(∀ z : Out R, ⌜Holds R z.1 z.2.1 (mrg t n E₀)⌝ -∗ Q z)
        ⊢ wp frame (wpE (defs₀ (F := Bits)) 𝒱ₛ (c : Thread nD τ) (some n)) E (W K I (jw n)) Q := by
  intro n
  induction n with
  | zero =>
    intro hn K I E₀ h Q
    refine BIBase.Entails.trans ?_ (hE K I (jw 0) 0 Q (by rw [jw_lanes (by omega)]; omega))
    iintro Hk
    iapply Hk
    ipureintro
    exact h
  | succ n ih =>
    intro hn K I E₀ h Q
    refine BIBase.Entails.trans ?_ (hS K I (jw (n + 1)) n Q (by rw [jw_lanes (by omega)]; omega))
    rw [jw_shr (by omega), jw_succ, hkw]
    exact BIBase.Entails.trans (ret_intro c E _ _ Q) (ih (by omega) _ _ (stg t n E₀)
      (holds_stage hv hR h (by omega) (by omega) (hP n (by omega))) _)

/-! ## The eight loops of stages -/

theorem steps2 (i : grid0.Coords) (v : IVec S160x128 32) (k : BitVec 32) :
    Steps (R := 160) c E (fun K I j => cc0_while2 (F := Bits) i v k K I j) 128#32 k v (fun j => rowP (BitVec.ofNat 32 160) rotates_S160x128_d0 v j) := by
  intro K I j n Q ht
  show _ ⊢ wp frame (wpE (defs₀ (F := Bits)) 𝒱ₛ (c : Thread nD τ) (some (n + 1))) E (cc0_while2 i v k K I j) Q
  simp only [cc0_while2_eq_skeleton]; unfold cc0_while2_skel
  simp only [ht, ↓reduceIte, Prog.lift]
  iintro H
  iapply (wp_call 𝒱ₛ (c : Thread nD τ) _ E n (fun u hu => by cases hu; exact Nat.lt_succ_self n))
  iexact H

theorem ends2 (i : grid0.Coords) (v : IVec S160x128 32) (k : BitVec 32) :
    Ends (R := 160) c E (fun K I j => cc0_while2 (F := Bits) i v k K I j) 128#32 := by
  intro K I j n Q ht
  show _ ⊢ wp frame (wpE (defs₀ (F := Bits)) 𝒱ₛ (c : Thread nD τ) (some n)) E (cc0_while2 i v k K I j) Q
  simp only [cc0_while2_eq_skeleton]; unfold cc0_while2_skel
  simp only [ht, ↓reduceIte, Prog.pure_eq_ret]
  iintro H
  rw [wp_ret]; imodintro
  iexact H

theorem steps3 (i : grid0.Coords) (v : IVec S160x128 32) (k : BitVec 32) :
    Steps (R := 160) c E (fun K I j => cc0_while3 (F := Bits) i v k K I j) 1#32 k v (fun j => laneP rotates_S160x128_d1 v j) := by
  intro K I j n Q ht
  show _ ⊢ wp frame (wpE (defs₀ (F := Bits)) 𝒱ₛ (c : Thread nD τ) (some (n + 1))) E (cc0_while3 i v k K I j) Q
  simp only [cc0_while3_eq_skeleton]; unfold cc0_while3_skel
  simp only [ht, ↓reduceIte, Prog.lift]
  iintro H
  iapply (wp_call 𝒱ₛ (c : Thread nD τ) _ E n (fun u hu => by cases hu; exact Nat.lt_succ_self n))
  iexact H

theorem ends3 (i : grid0.Coords) (v : IVec S160x128 32) (k : BitVec 32) :
    Ends (R := 160) c E (fun K I j => cc0_while3 (F := Bits) i v k K I j) 1#32 := by
  intro K I j n Q ht
  show _ ⊢ wp frame (wpE (defs₀ (F := Bits)) 𝒱ₛ (c : Thread nD τ) (some n)) E (cc0_while3 i v k K I j) Q
  simp only [cc0_while3_eq_skeleton]; unfold cc0_while3_skel
  simp only [ht, ↓reduceIte, Prog.pure_eq_ret]
  iintro H
  rw [wp_ret]; imodintro
  iexact H

theorem steps4 (i : grid0.Coords) (v : IVec S256x128 32) :
    Steps (R := 256) c E (fun K I j => cc0_while4 (F := Bits) i v K I j) 128#32 8192#32 v (fun j => rowP (BitVec.ofNat 32 256) rotates_S256x128_d0 v j) := by
  intro K I j n Q ht
  show _ ⊢ wp frame (wpE (defs₀ (F := Bits)) 𝒱ₛ (c : Thread nD τ) (some (n + 1))) E (cc0_while4 i v K I j) Q
  simp only [cc0_while4_eq_skeleton]; unfold cc0_while4_skel
  simp only [ht, ↓reduceIte, Prog.lift]
  iintro H
  iapply (wp_call 𝒱ₛ (c : Thread nD τ) _ E n (fun u hu => by cases hu; exact Nat.lt_succ_self n))
  iexact H

theorem ends4 (i : grid0.Coords) (v : IVec S256x128 32) :
    Ends (R := 256) c E (fun K I j => cc0_while4 (F := Bits) i v K I j) 128#32 := by
  intro K I j n Q ht
  show _ ⊢ wp frame (wpE (defs₀ (F := Bits)) 𝒱ₛ (c : Thread nD τ) (some n)) E (cc0_while4 i v K I j) Q
  simp only [cc0_while4_eq_skeleton]; unfold cc0_while4_skel
  simp only [ht, ↓reduceIte, Prog.pure_eq_ret]
  iintro H
  rw [wp_ret]; imodintro
  iexact H

theorem steps5 (i : grid0.Coords) (v : IVec S256x128 32) :
    Steps (R := 256) c E (fun K I j => cc0_while5 (F := Bits) i v K I j) 1#32 8192#32 v (fun j => laneP rotates_S256x128_d1 v j) := by
  intro K I j n Q ht
  show _ ⊢ wp frame (wpE (defs₀ (F := Bits)) 𝒱ₛ (c : Thread nD τ) (some (n + 1))) E (cc0_while5 i v K I j) Q
  simp only [cc0_while5_eq_skeleton]; unfold cc0_while5_skel
  simp only [ht, ↓reduceIte, Prog.lift]
  iintro H
  iapply (wp_call 𝒱ₛ (c : Thread nD τ) _ E n (fun u hu => by cases hu; exact Nat.lt_succ_self n))
  iexact H

theorem ends5 (i : grid0.Coords) (v : IVec S256x128 32) :
    Ends (R := 256) c E (fun K I j => cc0_while5 (F := Bits) i v K I j) 1#32 := by
  intro K I j n Q ht
  show _ ⊢ wp frame (wpE (defs₀ (F := Bits)) 𝒱ₛ (c : Thread nD τ) (some n)) E (cc0_while5 i v K I j) Q
  simp only [cc0_while5_eq_skeleton]; unfold cc0_while5_skel
  simp only [ht, ↓reduceIte, Prog.pure_eq_ret]
  iintro H
  rw [wp_ret]; imodintro
  iexact H

theorem steps6 (i : grid0.Coords) (v : IVec S256x128 32) :
    Steps (R := 256) c E (fun K I j => cc0_while6 (F := Bits) i v K I j) 128#32 16384#32 v (fun j => rowP (BitVec.ofNat 32 256) rotates_S256x128_d0 v j) := by
  intro K I j n Q ht
  show _ ⊢ wp frame (wpE (defs₀ (F := Bits)) 𝒱ₛ (c : Thread nD τ) (some (n + 1))) E (cc0_while6 i v K I j) Q
  simp only [cc0_while6_eq_skeleton]; unfold cc0_while6_skel
  simp only [ht, ↓reduceIte, Prog.lift]
  iintro H
  iapply (wp_call 𝒱ₛ (c : Thread nD τ) _ E n (fun u hu => by cases hu; exact Nat.lt_succ_self n))
  iexact H

theorem ends6 (i : grid0.Coords) (v : IVec S256x128 32) :
    Ends (R := 256) c E (fun K I j => cc0_while6 (F := Bits) i v K I j) 128#32 := by
  intro K I j n Q ht
  show _ ⊢ wp frame (wpE (defs₀ (F := Bits)) 𝒱ₛ (c : Thread nD τ) (some n)) E (cc0_while6 i v K I j) Q
  simp only [cc0_while6_eq_skeleton]; unfold cc0_while6_skel
  simp only [ht, ↓reduceIte, Prog.pure_eq_ret]
  iintro H
  rw [wp_ret]; imodintro
  iexact H

theorem steps7 (i : grid0.Coords) (v : IVec S256x128 32) :
    Steps (R := 256) c E (fun K I j => cc0_while7 (F := Bits) i v K I j) 1#32 16384#32 v (fun j => laneP rotates_S256x128_d1 v j) := by
  intro K I j n Q ht
  show _ ⊢ wp frame (wpE (defs₀ (F := Bits)) 𝒱ₛ (c : Thread nD τ) (some (n + 1))) E (cc0_while7 i v K I j) Q
  simp only [cc0_while7_eq_skeleton]; unfold cc0_while7_skel
  simp only [ht, ↓reduceIte, Prog.lift]
  iintro H
  iapply (wp_call 𝒱ₛ (c : Thread nD τ) _ E n (fun u hu => by cases hu; exact Nat.lt_succ_self n))
  iexact H

theorem ends7 (i : grid0.Coords) (v : IVec S256x128 32) :
    Ends (R := 256) c E (fun K I j => cc0_while7 (F := Bits) i v K I j) 1#32 := by
  intro K I j n Q ht
  show _ ⊢ wp frame (wpE (defs₀ (F := Bits)) 𝒱ₛ (c : Thread nD τ) (some n)) E (cc0_while7 i v K I j) Q
  simp only [cc0_while7_eq_skeleton]; unfold cc0_while7_skel
  simp only [ht, ↓reduceIte, Prog.pure_eq_ret]
  iintro H
  rw [wp_ret]; imodintro
  iexact H

theorem steps8 (i : grid0.Coords) (v : IVec S64x128 32) :
    Steps (R := 64) c E (fun K I j => cc0_while8 (F := Bits) i v K I j) 128#32 32768#32 v (fun j => rowP (BitVec.ofNat 32 64) rotates_S64x128_d0 v j) := by
  intro K I j n Q ht
  show _ ⊢ wp frame (wpE (defs₀ (F := Bits)) 𝒱ₛ (c : Thread nD τ) (some (n + 1))) E (cc0_while8 i v K I j) Q
  simp only [cc0_while8_eq_skeleton]; unfold cc0_while8_skel
  simp only [ht, ↓reduceIte, Prog.lift]
  iintro H
  iapply (wp_call 𝒱ₛ (c : Thread nD τ) _ E n (fun u hu => by cases hu; exact Nat.lt_succ_self n))
  iexact H

theorem ends8 (i : grid0.Coords) (v : IVec S64x128 32) :
    Ends (R := 64) c E (fun K I j => cc0_while8 (F := Bits) i v K I j) 128#32 := by
  intro K I j n Q ht
  show _ ⊢ wp frame (wpE (defs₀ (F := Bits)) 𝒱ₛ (c : Thread nD τ) (some n)) E (cc0_while8 i v K I j) Q
  simp only [cc0_while8_eq_skeleton]; unfold cc0_while8_skel
  simp only [ht, ↓reduceIte, Prog.pure_eq_ret]
  iintro H
  rw [wp_ret]; imodintro
  iexact H

theorem steps9 (i : grid0.Coords) (v : IVec S64x128 32) :
    Steps (R := 64) c E (fun K I j => cc0_while9 (F := Bits) i v K I j) 1#32 32768#32 v (fun j => laneP rotates_S64x128_d1 v j) := by
  intro K I j n Q ht
  show _ ⊢ wp frame (wpE (defs₀ (F := Bits)) 𝒱ₛ (c : Thread nD τ) (some (n + 1))) E (cc0_while9 i v K I j) Q
  simp only [cc0_while9_eq_skeleton]; unfold cc0_while9_skel
  simp only [ht, ↓reduceIte, Prog.lift]
  iintro H
  iapply (wp_call 𝒱ₛ (c : Thread nD τ) _ E n (fun u hu => by cases hu; exact Nat.lt_succ_self n))
  iexact H

theorem ends9 (i : grid0.Coords) (v : IVec S64x128 32) :
    Ends (R := 64) c E (fun K I j => cc0_while9 (F := Bits) i v K I j) 1#32 := by
  intro K I j n Q ht
  show _ ⊢ wp frame (wpE (defs₀ (F := Bits)) 𝒱ₛ (c : Thread nD τ) (some n)) E (cc0_while9 i v K I j) Q
  simp only [cc0_while9_eq_skeleton]; unfold cc0_while9_skel
  simp only [ht, ↓reduceIte, Prog.pure_eq_ret]
  iintro H
  rw [wp_ret]; imodintro
  iexact H

end Cert.Proof.Bitonic

end
-- ==== Proof.SortBody.lean ====
/-
  The body of the sort kernel: the short merges, the two merges over all the rows, the two halvings and the last merge, with the
  positions it stores.
-/
module

public import proofs.«01_k».proof.Proof.SortLoop

@[expose] public section

noncomputable section

namespace Cert.Proof.Bitonic

open Cert.Sort Cert.Sort.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ BR ℕ

variable (c : Dev nD) (E : Set ℕ)

/-! ## The named values -/

theorem flat160 : IsFlat 160 k0_pay51 := flat_iota (by decide) _ _

theorem flat256 : IsFlat 256 k0_pay53 := flat_iota (by decide) _ _

theorem flat128 : IsFlat 128 k0_pay63 := flat_iota (by decide) _ _

theorem flat64 : IsFlat 64 (k0_pay1 (iota .tc S64x128 32 [0] iota_S64x128_d0_w32) (iota .tc S64x128 32 [1] iota_S64x128_d1_w32)) :=
  flat_iota (by decide) _ _

/-- A block's keys as numbers. -/
def KeysAt (k : ℕ → ℤ) (v : IVec S1x256x128 32) : Prop := ∀ (r : Fin 256) (l : Fin 128), (v (ix3 (0 : Fin 1) r l)).toInt = k (128 * r.val + l.val)

theorem toInt_place {f : ℕ} (hf : f < 32768) : (BitVec.ofNat 32 f).toInt = f := WordCmp.toInt_ofNat_of_lt (by omega)

theorem holds_start {k : ℕ → ℤ} {v : Vec Bits S1x256x128 .i32} (h : KeysAt k v) : Holds 160 (k0_pay52 (F := Bits) v) k0_pay51 (entry k) := by
  intro r l
  have hr := r.isLt
  have hl := l.isLt
  have e : k0_pay52 (F := Bits) v (ix2 r l) = v (ix3 (0 : Fin 1) (⟨r.val, by omega⟩ : Fin 256) l) := by
    unfold k0_pay52
    refine (extractStridedSlice_apply _ _ _ (ix2 r l) (ix2 (⟨r.val, by omega⟩ : Fin 256) l) fun a => match a with
      | ⟨0, _⟩ => (Nat.zero_add _).symm
      | ⟨1, _⟩ => (Nat.zero_add _).symm).trans ?_
    exact shapeCast_1ab_ab_apply v _ _ l
  unfold ent entry
  rw [e, h, flat160 r l, toInt_place (by omega)]

theorem holds_all {k : ℕ → ℤ} {v : Vec Bits S1x256x128 .i32} (h : KeysAt k v) {K I : IVec S160x128 32} (hK : Holds 160 K I (passes 12 (entry k))) :
    Holds 256 (k0_pay54 (F := Bits) K v) (k0_pay55 I) (half (entry k)) := by
  intro r l
  have hr := r.isLt
  have hl := l.isLt
  by_cases h1 : r.val < 160
  · have e : ∀ (X : IVec S160x128 32) (Y : IVec S96x128 32), concatenate S256x128 0 [⟨S160x128, X⟩, ⟨S96x128, Y⟩] concatenates_S160x128_S96x128_S256x128_d0 (ix2 r l)
        = X (ix2 (⟨r.val, h1⟩ : Fin 160) l) := fun X Y =>
      concatenate_pair_apply_left (t := S256x128) (s₁ := S160x128) (s₂ := S96x128) 0 X Y concatenates_S160x128_S96x128_S256x128_d0 (ix2 r l) rfl
        (ix2 (⟨r.val, h1⟩ : Fin 160) l) fun b => match b with | ⟨0, _⟩ => rfl | ⟨1, _⟩ => rfl
    unfold half
    rw [if_pos (by omega)]
    refine Eq.trans ?_ (hK ⟨r.val, h1⟩ l)
    exact congrArg₂ ent (e _ _) (e _ _)
  · have e : ∀ (X : IVec S160x128 32) (Y : IVec S256x128 32), concatenate S256x128 0 [⟨S160x128, X⟩, ⟨S96x128, extractStridedSlice S96x128 ![160, 0] Y slices_S256x128_o160_0_S96x128⟩]
        concatenates_S160x128_S96x128_S256x128_d0 (ix2 r l) = Y (ix2 r l) := fun X Y => by
      refine (concatenate_pair_apply_right (t := S256x128) (s₁ := S160x128) (s₂ := S96x128) 0 X _ concatenates_S160x128_S96x128_S256x128_d0 (ix2 r l) rfl rfl
        (ix2 (⟨r.val - 160, by omega⟩ : Fin 96) l) (fun b hb => ?_) ?_).trans (extractStridedSlice_apply _ _ _ _ (ix2 r l) fun a => ?_)
      · match b with
        | ⟨0, _⟩ => exact absurd rfl hb
        | ⟨1, _⟩ => rfl
      · show (r.val - 160) + 160 = r.val; omega
      · match a with
        | ⟨0, _⟩ => show r.val = 160 + (r.val - 160); omega
        | ⟨1, _⟩ => exact (Nat.zero_add _).symm
    unfold half entry
    rw [if_neg (by omega)]
    have eI : k0_pay55 I (ix2 r l) = BitVec.ofNat 32 (128 * r.val + l.val) := (e I k0_pay53).trans (flat256 r l)
    have eK : k0_pay54 (F := Bits) K v (ix2 r l) = v (ix3 (0 : Fin 1) r l) := (e K _).trans (shapeCast_1ab_ab_apply v _ r l)
    unfold ent
    rw [eI, eK, h, toInt_place (by omega)]

/-- The first halving. -/
theorem holds_128 {K I : IVec S256x128 32} {S : ℕ → ℤ} (h : Holds 256 K I S) :
    Holds 128 (k0_pay61 k0_pay53 K I k0_pay56 (k0_pay57 K) (k0_pay58 I) (k0_pay59 K)) (k0_pay62 k0_pay53 K I k0_pay56 (k0_pay57 K) (k0_pay58 I) (k0_pay59 K))
      (stg 15 14 S) := by
  have hP := partner_row (R := 256) rotates_S256x128_d0 flat256 (by decide) (s := 14) (by decide) (by decide) (by decide)
  have := holds_front (R' := 128) (by decide) (holds_stage flat256 (by decide) h (s := 14) (t := 15) (by decide) (by decide) hP) slices_S256x128_o0_0_S128x128
  exact this

/-- The second halving. -/
theorem holds_64 {K I : IVec S256x128 32} {S : ℕ → ℤ} (h : Holds 256 K I S) :
    Holds 64 (k0_pay68 k0_pay53 K I k0_pay56 (k0_pay57 K) (k0_pay58 I) (k0_pay59 K)) (k0_pay69 k0_pay53 K I k0_pay56 (k0_pay57 K) (k0_pay58 I) (k0_pay59 K))
      (stg 15 13 (stg 15 14 S)) := by
  have hP := partner_row (R := 128) rotates_S128x128_d0 flat128 (by decide) (s := 13) (by decide) (by decide) (by decide)
  have := holds_front (R' := 64) (by decide) (holds_stage flat128 (by decide) (holds_128 h) (s := 13) (t := 15) (by decide) (by decide) hP) slices_S128x128_o0_0_S64x128
  exact this

/-! ## The short merges -/

theorem word_half : ∀ t, 1 ≤ t → t < 13 → Scalar.shrui (BitVec.ofNat 32 (2 ^ t)) 1#32 = jw t := by
  intro t h1 h2; unfold jw; interval_cases t <;> decide

theorem word_double : ∀ t, t < 13 → Scalar.muli (BitVec.ofNat 32 (2 ^ t)) 2#32 = BitVec.ofNat 32 (2 ^ (t + 1)) := by
  intro t h2; interval_cases t <;> decide

theorem word_le : ∀ t, t < 14 → (Scalar.cmpi .sle (BitVec.ofNat 32 (2 ^ t)) 4096#32 = 1#1 ↔ t ≤ 12) := by
  intro t h2; interval_cases t <;> decide

theorem short_le (i : grid0.Coords) (k : ℕ → ℤ) : ∀ r t, 1 ≤ t → t + r = 13 → ∀ K I : IVec S160x128 32, Holds 160 K I (passes (t - 1) (entry k)) →
    ∀ Q : Out 160 → sProp 𝕄,
      iprop(∀ z : Out 160, ⌜Holds 160 z.1 z.2.1 (passes 12 (entry k))⌝ -∗ Q z)
        ⊢ wp frame (wpE (defs₀ (F := Bits)) 𝒱ₛ (c : Thread nD τ) (some (r * 20 + 19))) E (cc0_while1 (F := Bits) i k0_pay51 K I (BitVec.ofNat 32 (2 ^ t))) Q := by
  intro r
  induction r with
  | zero =>
    intro t h1 ht K I h Q
    have e : t = 13 := ht
    subst e
    simp only [cc0_while1_eq_skeleton]; unfold cc0_while1_skel
    have htest : ¬Scalar.cmpi .sle (BitVec.ofNat 32 (2 ^ 13)) 4096#32 = 1#1 := by rw [word_le 13 (by decide)]; omega
    simp only [htest, ↓reduceIte, Prog.pure_eq_ret]
    iintro Hk
    rw [wp_ret]; imodintro
    iapply Hk
    ipureintro; exact h
  | succ r ih =>
    intro t h1 ht K I h Q
    simp only [cc0_while1_eq_skeleton]; unfold cc0_while1_skel
    have htest : Scalar.cmpi .sle (BitVec.ofNat 32 (2 ^ t)) 4096#32 = 1#1 := by rw [word_le t (by omega)]; omega
    simp only [htest, ↓reduceIte, Prog.lift, Prog.bind_op, Prog.bind_ret, word_half t h1 (by omega), word_double t (by omega)]
    have hd : 2 ^ t ∣ 160 * 128 := (pow_dvd_pow 2 (show t ≤ 12 by omega)).trans (by decide)
    iintro Hk
    iapply (wp_call 𝒱ₛ (c : Thread nD τ) _ E t (fun u hu => by cases hu; show t < (r + 1) * 20 + 19; omega))
    iapply (rows_le c E (by decide) _ (by omega) rfl flat160 (fun s h7 hs hd => partner_row rotates_S160x128_d0 flat160 (by decide) h7 hs hd)
      (steps2 c E i k0_pay51 (BitVec.ofNat 32 (2 ^ t))) (ends2 c E i k0_pay51 (BitVec.ofNat 32 (2 ^ t))) t (by omega) hd K I _ h)
    iintro %z %hz
    obtain ⟨m, E', hm, hj, hH, he⟩ := hz
    rw [hj]
    iapply (wp_call 𝒱ₛ (c : Thread nD τ) _ E m (fun u hu => by cases hu; show m < (r + 1) * 20 + 19; omega))
    iapply (lanes_le c E (by decide) _ (by omega) rfl flat160 (fun s hs => partner_lane rotates_S160x128_d1 flat160 (by decide) hs)
      (steps3 c E i k0_pay51 (BitVec.ofNat 32 (2 ^ t))) (ends3 c E i k0_pay51 (BitVec.ofNat 32 (2 ^ t))) m hm z.1 z.2.1 E' hH)
    iintro %w %hw
    have hpass : passes t (entry k) = mrg t t (passes (t - 1) (entry k)) := by
      obtain ⟨u, rfl⟩ : ∃ u, t = u + 1 := ⟨t - 1, by omega⟩
      rfl
    rw [he, ← hpass] at hw
    iapply (wp_call 𝒱ₛ (c : Thread nD τ) _ E (r * 20 + 19) (fun u hu => by cases hu; show r * 20 + 19 < (r + 1) * 20 + 19; omega))
    iapply (ih (t + 1) (by omega) (by omega) w.1 w.2.1 hw)
    iintro %y %hy
    rw [wp_ret]; imodintro
    iapply Hk
    ipureintro; exact hy

/-- The last merge, its first two stages apart. -/
theorem merge_last (X : ℕ → ℤ) : mrg 15 15 X = mrg 15 13 (stg 15 13 (stg 15 14 X)) := rfl

theorem holds_last {K I : IVec S64x128 32} {k : ℕ → ℤ} (h : Holds 64 K I (mrg 15 13 (stg 15 13 (stg 15 14 (mrg 14 14 (mrg 13 13 (half (entry k)))))))) :
    Holds 64 K I (mrg 15 15 (late (entry k))) := by
  rw [merge_last]; unfold late; exact h

/-! ## The body -/

/-- A memref's buffer at contents `f`, held whole. -/
abbrev heldI {s : Shape} (m : Memref sig .tc .vmem s .i32) (f : Buf (Elt Bits) (m.view.loc (c : Thread nD τ))) : sProp 𝕄 :=
  m.view.loc (c : Thread nD τ) ↦[m.view.set]{fullShare} f

variable (g : grid0.Coords) (arg1 : Memref sig .tc .vmem S1x256x128 .i32) (harg1 : arg1.IsWhole) (arg2 : Memref sig .tc .vmem S1x40x128 .i32) (harg2 : arg2.IsWhole)

/-- The positions stored are those of the sorted sequence's front. -/
def Stored (k : ℕ → ℤ) (f : arg2.view.ty.Contents (Elt Bits)) : Prop :=
  ∃ K I : IVec S64x128 32, Holds 64 K I (mrg 15 15 (late (entry k)))
    ∧ ∀ (r : Fin 40) (l : Fin 128), arg2.view.read (Elt Bits) f (ix3 (0 : Fin 1) r l) = I (ix2 (⟨r.val, by have := r.isLt; omega⟩ : Fin 64) l)

theorem stored_intro {k : ℕ → ℤ} {K I : IVec S64x128 32} (h : Holds 64 K I (mrg 15 15 (late (entry k)))) {f : arg2.view.ty.Contents (Elt Bits)}
    (inb : ∀ a, (![0, 0, 0] : Fin 3 → ℕ) a + S1x40x128.size a ≤ S1x40x128.size a) :
    Stored arg2 k (arg2.view.writes (Elt Bits) f [⟨Rect.unit (s := S1x40x128) ![0, 0, 0] S1x40x128.size inb, k0_pay2 I⟩]) := by
  refine ⟨K, I, h, fun r l => ?_⟩
  rw [View.read_writes_full _ f inb _ []]
  unfold k0_pay2
  refine (shapeCast_ab_1ab_apply _ _ (0 : Fin 1) r l).trans ?_
  exact extractStridedSlice_apply _ _ _ (ix2 r l) (ix2 (⟨r.val, by have := r.isLt; omega⟩ : Fin 64) l) fun a => match a with
    | ⟨0, _⟩ => (Nat.zero_add _).symm
    | ⟨1, _⟩ => (Nat.zero_add _).symm

theorem keysAt_load {k : ℕ → ℤ} {f : arg1.view.ty.Contents (Elt Bits)} (h : KeysAt k (arg1.view.read (Elt Bits) f))
    (inb : ∀ a, (![0, 0, 0] : Fin 3 → ℕ) a + S1x256x128.size a ≤ S1x256x128.size a) :
    KeysAt k (arg1.view.readAt (Elt Bits) (Rect.unit (s := S1x256x128) ![0, 0, 0] S1x256x128.size inb).toLoadRect f) := by
  rw [View.readAt_full]; exact h

theorem body_wp (k : ℕ → ℤ) (f1 : Buf (Elt Bits) (arg1.view.loc (c : Thread nD τ))) (h1 : KeysAt k (arg1.view.read (Elt Bits) f1))
    (f2 : Buf (Elt Bits) (arg2.view.loc (c : Thread nD τ))) (Q : PUnit → sProp 𝕄) :
    iprop((heldI c arg1 f1 ∗ heldI c arg2 f2)
      ∗ ∀ (f2' : Buf (Elt Bits) (arg2.view.loc (c : Thread nD τ))), ⌜Stored arg2 k f2'⌝ -∗ (heldI c arg1 f1 ∗ heldI c arg2 f2') -∗ Q ⟨⟩)
      ⊢ wp frame (wpE (defs₀ (F := Bits)) 𝒱ₛ (c : Thread nD τ) none) E (cc0__sort_body g arg1 harg1 arg2 harg2) Q := by
  simp only [cc0__sort_body_eq_skeleton]; unfold cc0__sort_body_skel
  simp only [k0_part1_eq_skeleton, k0_part2_eq_skeleton]; unfold k0_part1_skel k0_part2_skel
  simp only [Prog.lift, Prog.bind_op, Prog.bind_ret, Prog.pure_eq_ret]
  have h5 := keysAt_load arg1 h1 inb_S1x256x128_S1x256x128_0_0_0
  iintro ⟨⟨H1, H2⟩, Hk⟩
  iapply (wp_load 𝒱ₛ (c : Thread nD τ) none E (m := arg1) (View.setOn_subset_set _ _)) $$ H1; iintro H1
  iapply (wp_call 𝒱ₛ (c : Thread nD τ) none E (12 * 20 + 19) (fun u hu => nomatch hu))
  iapply (short_le c E g k 12 1 (by decide) rfl _ _ (holds_start h5))
  iintro %z1 %hz1
  iapply (wp_load 𝒱ₛ (c : Thread nD τ) none E (m := arg1) (View.setOn_subset_set _ _)) $$ H1; iintro H1
  have hall := holds_all h5 hz1
  have hrow : ∀ v, IsFlat 256 v → ∀ s, 7 ≤ s → s < 16 → 2 ^ (s + 1) ∣ 256 * 128 → Partner 256 s (rowP (BitVec.ofNat 32 256) rotates_S256x128_d0 v (BitVec.ofNat 32 (2 ^ s))) :=
    fun v hv s h7 hs hd => partner_row rotates_S256x128_d0 hv (by decide) h7 hs hd
  have hlane : ∀ v, IsFlat 256 v → ∀ s, s < 7 → Partner 256 s (laneP rotates_S256x128_d1 v (BitVec.ofNat 32 (2 ^ s))) :=
    fun v hv s hs => partner_lane rotates_S256x128_d1 hv (by decide) hs
  iapply (wp_call 𝒱ₛ (c : Thread nD τ) none E 13 (fun u hu => nomatch hu))
  iapply (rows_le c E (t := 13) (by decide) _ (by decide) (by decide) flat256 (hrow _ flat256) (steps4 c E g k0_pay53) (ends4 c E g k0_pay53) 13 (by decide) (by decide) _ _ _ hall)
  iintro %z2 %hz2
  obtain ⟨m2, E2, hm2, hj2, hH2, he2⟩ := hz2
  rw [hj2]
  iapply (wp_call 𝒱ₛ (c : Thread nD τ) none E m2 (fun u hu => nomatch hu))
  iapply (lanes_le c E (t := 13) (by decide) _ (by decide) (by decide) flat256 (hlane _ flat256) (steps5 c E g k0_pay53) (ends5 c E g k0_pay53) m2 hm2 _ _ _ hH2)
  iintro %z3 %hz3
  rw [he2] at hz3
  iapply (wp_call 𝒱ₛ (c : Thread nD τ) none E 14 (fun u hu => nomatch hu))
  iapply (rows_le c E (t := 14) (by decide) _ (by decide) (by decide) flat256 (hrow _ flat256) (steps6 c E g k0_pay53) (ends6 c E g k0_pay53) 14 (by decide) (by decide) _ _ _ hz3)
  iintro %z4 %hz4
  obtain ⟨m4, E4, hm4, hj4, hH4, he4⟩ := hz4
  rw [hj4]
  iapply (wp_call 𝒱ₛ (c : Thread nD τ) none E m4 (fun u hu => nomatch hu))
  iapply (lanes_le c E (t := 14) (by decide) _ (by decide) (by decide) flat256 (hlane _ flat256) (steps7 c E g k0_pay53) (ends7 c E g k0_pay53) m4 hm4 _ _ _ hH4)
  iintro %z5 %hz5
  rw [he4] at hz5
  have h64 := holds_64 hz5
  iapply (wp_call 𝒱ₛ (c : Thread nD τ) none E 13 (fun u hu => nomatch hu))
  iapply (rows_le c E (t := 15) (by decide) _ (by decide) (by decide) flat64 (fun s h7 hs hd => partner_row rotates_S64x128_d0 flat64 (by decide) h7 hs hd)
    (steps8 c E g _) (ends8 c E g _) 13 (by decide) (by decide) _ _ _ h64)
  iintro %z6 %hz6
  obtain ⟨m6, E6, hm6, hj6, hH6, he6⟩ := hz6
  rw [hj6]
  iapply (wp_call 𝒱ₛ (c : Thread nD τ) none E m6 (fun u hu => nomatch hu))
  iapply (lanes_le c E (t := 15) (by decide) _ (by decide) (by decide) flat64 (fun s hs => partner_lane rotates_S64x128_d1 flat64 (by decide) hs)
    (steps9 c E g _) (ends9 c E g _) m6 hm6 _ _ _ hH6)
  iintro %z7 %hz7
  rw [he6] at hz7
  iapply (wp_load 𝒱ₛ (c : Thread nD τ) none E (m := arg2) (View.setOn_subset_set _ _)) $$ H2; iintro H2
  iapply (wp_store_writes₀ 𝒱ₛ (c : Thread nD τ) none E (m := arg2) (View.set_slice_subset _ _)) $$ H2; iintro H2
  rw [wp_ret]; imodintro
  iapply Hk
  on_goal 2 =>
    isplitl [H1]
    · iexact H1
    · iexact H2
  ipureintro
  exact stored_intro arg2 (K := z7.1) (I := z7.2.1) (holds_last hz7) _

end Cert.Proof.Bitonic

end
-- ==== Proof.SortRun.lean ====
/-
  The run of the sort program: the words of the scores with the padding after them, and the pipeline's four points, one batch each.
-/
module

public import proofs.«01_k».proof.Proof.SortBody
public import proofs.«01_k».proof.Proof.Gen.Sort.Launch
public import proofs.«01_k».proof.Proof.Gen.Sort.Points
public import Idealize.ShloMosaic.Lib.Pipeline.FrameBody
public import Idealize.ShloMosaic.Lib.Pipeline.Value

@[expose] public section

noncomputable section

namespace Cert.Proof.Bitonic

open Cert.Sort Cert.Sort.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ BR ℕ

/-- The keys of batch `b`: the scores' words as signed integers, and the padding. -/
def key (x : FVec Bits S4x20000x1 .f32) (b : Fin 4) (f : ℕ) : ℤ := if h : f < 20000 then (x (ix3 b (⟨f, h⟩ : Fin 20000) (0 : Fin 1)) : BitVec 32).toInt else -1

/-- The position in an entry, as a word. -/
def wordOf (z : ℤ) : BitVec 32 := BitVec.ofInt 32 (-z)

theorem wordOf_ent (k i : BitVec 32) : wordOf (ent k i) = i := by
  unfold wordOf ent
  refine BitVec.eq_of_toInt_eq ?_
  rw [BitVec.toInt_ofInt, show -(k.toInt * 2 ^ 33 - i.toInt) = i.toInt + (2 ^ 32 : ℕ) * (-2 * k.toInt) by norm_num; ring]
  rw [Int.add_mul_bmod_self_left]
  exact BitVec.toInt_bmod_cancel i

/-- Place `f` of the sorted batch `b`, as a word. -/
def placed (x : FVec Bits S4x20000x1 .f32) (b : Fin 4) (f : ℕ) : BitVec 32 := wordOf (mrg 15 15 (late (entry (key x b))) f)

/-- The kernel's result. -/
def res (x : FVec Bits S4x20000x1 .f32) : IVec S4x40x128 32 := fun i => placed x (i 0) (128 * (i 1).val + (i 2).val)

section Run

variable (m : (ℓ : Loc nD τ sig) → Buf (Elt Bits) ℓ) (ρ : Dev nD → PrngReg)

/-- The launch contents of the scores on core `c`. -/
abbrev scores (c : Dev nD) : FVec Bits S4x20000x1 .f32 := m ((c : Thread nD τ).loc main_arg0)

/-- The words with their padding. -/
def keyWords (x : FVec Bits S4x20000x1 .f32) : IVec S4x256x128 32 :=
  shapeCast S4x256x128 (concatenate S4x32768 1 [⟨S4x20000, (bitcastToInt (shapeCast S4x20000 x shapeCasts_S4x20000x1_S4x20000 : FVec Bits S4x20000 .f32) : IVec S4x20000 32)⟩,
    ⟨S4x12768, broadcastInDim S4x12768 ![] bcast_S_S4x12768 (constantI S_ 32 4294967295#32)⟩] concatenates_S4x20000_S4x12768_S4x32768_d1) shapeCasts_S4x32768_S4x256x128

/-- The buffers when the pipeline is entered. -/
def V₁ (c : Dev nD) : Valuation τ sig (Elt Bits) := StableHlo.after (hostOps0 (F := Bits)) (fun b => m (c, b))

theorem V₁_v4 (c : Dev nD) : V₁ m c (Proc.devRef .tc main_v4) = keyWords (scores m c) := by
  unfold V₁
  unfold hostOps0
  after_results
  rfl

theorem V₁_arg0 (c : Dev nD) : V₁ m c (Proc.devRef .tc main_arg0) = scores m c := by
  unfold V₁
  unfold hostOps0
  after_results

/-- A word of the padded sequence. -/
theorem keyWords_apply (x : FVec Bits S4x20000x1 .f32) (b : Fin 4) (r : Fin 256) (l : Fin 128) :
    (keyWords x (ix3 b r l)).toInt = key x b (128 * r.val + l.val) := by
  have hr := r.isLt
  have hl := l.isLt
  have hf : 128 * r.val + l.val < 32768 := by omega
  unfold keyWords
  rw [shapeCast_apply _ _ _ (ix2 b (⟨128 * r.val + l.val, hf⟩ : Fin 32768) : S4x32768.Idx) (by
    rw [Shape.rowMajor_val_two, Shape.rowMajor_val_three]
    show b.val * 32768 + (128 * r.val + l.val) = (b.val * 256 + r.val) * 128 + l.val
    omega)]
  unfold key
  by_cases h : 128 * r.val + l.val < 20000
  · rw [dif_pos h]
    rw [concatenate_pair_apply_left (t := S4x32768) (s₁ := S4x20000) (s₂ := S4x12768) 1 _ _ concatenates_S4x20000_S4x12768_S4x32768_d1 _ rfl
      (ix2 b (⟨128 * r.val + l.val, h⟩ : Fin 20000)) fun d => match d with | ⟨0, _⟩ => rfl | ⟨1, _⟩ => rfl]
    refine congrArg BitVec.toInt ?_
    refine shapeCast_apply x _ _ (ix3 b (⟨128 * r.val + l.val, h⟩ : Fin 20000) (0 : Fin 1) : S4x20000x1.Idx) ?_
    rw [Shape.rowMajor_val_two, Shape.rowMajor_val_three]
    show (b.val * 20000 + (128 * r.val + l.val)) * 1 + 0 = b.val * 20000 + (128 * r.val + l.val)
    omega
  · rw [dif_neg h]
    refine (congrArg BitVec.toInt (concatenate_pair_apply_right (t := S4x32768) (s₁ := S4x20000) (s₂ := S4x12768) 1 _ _
      concatenates_S4x20000_S4x12768_S4x32768_d1 _ rfl rfl (ix2 b (⟨128 * r.val + l.val - 20000, by omega⟩ : Fin 12768)) (fun d hd => ?_) ?_)).trans ?_
    · match d with
      | ⟨0, _⟩ => rfl
      | ⟨1, _⟩ => exact absurd rfl hd
    · show (128 * r.val + l.val - 20000) + 20000 = 128 * r.val + l.val; omega
    show (4294967295#32 : BitVec 32).toInt = -1
    decide

/-- What the result's block of batch `b` holds after the body. -/
def outBlk (x : FVec Bits S4x20000x1 .f32) (b : Fin 4) : IVec S1x40x128 32 := fun i => placed x b (128 * (i 1).val + (i 2).val)

theorem t_lt (t : Fin (cfg0 (F := Bits)).N) : t.val < 4 := lt_of_lt_of_eq t.isLt N_0

/-- The proof data: the input's buffers keep their blocks, the result's block of batch `t` is `outBlk`. -/
def dats (_ : Fin 1) (c : Dev nD) : Dat τ (Elt Bits) Unit ℕ BR ℕ (cfg0 (F := Bits)) c where
  A w := V₁ m c (Proc.devRef .tc (Pipeline.arrRef spec0 w))
  after w t := match w with
    | ⟨0, _⟩ => (((cfg0 (F := Bits)).win 0).blk t).view.read (Elt Bits) (V₁ m c (Proc.devRef .tc main_v4))
    | ⟨1, _⟩ => outBlk (scores m c) ⟨t.val, t_lt t⟩
    | ⟨n + 2, h⟩ => absurd h (Nat.not_lt.2 (Nat.le_add_left _ _))
  Φ _ := Pipeline.ΦA spec0 c
  q _ := fullShare
  owed _ := 0

theorem before_0 (c : Dev nD) (t : Fin (cfg0 (F := Bits)).N) (d : ((cfg0 (F := Bits)).win 0).block.Idx → Elt Bits ((cfg0 (F := Bits)).win 0).elt) :
    (dats m 0 c).before 0 t d = (((cfg0 (F := Bits)).win 0).blk t).view.read (Elt Bits) (V₁ m c (Proc.devRef .tc main_v4)) := by
  unfold Dat.before; rw [if_pos (fetch0_0 t)]; rfl

/-- The grid has one axis, so a point's coordinate is the point. -/
theorem coords_val (t : Fin (cfg0 (F := Bits)).N) : ((grid0.coords t) 0).val = t.val := by
  rcases fin_N0 t with rfl | rfl | rfl | rfl <;> decide

theorem idx_t (t : Fin (cfg0 (F := Bits)).N) : (BitVec.ofNat 32 ((grid0.coords t) 0).val).toNat = t.val := by
  rw [coords_val, BitVec.toNat_ofNat]; have := t_lt t; omega

/-- A block of the input, element by element. -/
theorem read_0 (X : IVec S4x256x128 32) (t : Fin (cfg0 (F := Bits)).N) (r : Fin 256) (l : Fin 128) :
    (((cfg0 (F := Bits)).win 0).blk t).view.read (Elt Bits) X (ix3 (0 : Fin 1) r l) = X (ix3 (⟨t.val, t_lt t⟩ : Fin 4) r l) := by
  refine congrArg X (funext fun d => Fin.ext ?_)
  have e := idx_t t
  match d with
  | ⟨0, _⟩ => show (BitVec.ofNat 32 ((grid0.coords t) 0).val).toNat * 1 + 1 * 0 = t.val; omega
  | ⟨1, _⟩ => show 0 * 256 + 1 * r.val = r.val; omega
  | ⟨2, _⟩ => show 0 * 128 + 1 * l.val = l.val; omega

theorem keysAt_0 (c : Dev nD) (t : Fin (cfg0 (F := Bits)).N) :
    KeysAt (key (scores m c) ⟨t.val, t_lt t⟩) ((((cfg0 (F := Bits)).win 0).blk t).view.read (Elt Bits) (V₁ m c (Proc.devRef .tc main_v4))) := by
  intro r l
  rw [V₁_v4]
  exact (congrArg BitVec.toInt (read_0 _ t r l)).trans (keyWords_apply (scores m c) ⟨t.val, t_lt t⟩ r l)

/-- A block's leading coordinate is zero. -/
theorem blk_idx (i : S1x40x128.Idx) : i = ix3 (0 : Fin 1) (i 1) (i 2) :=
  (eq_ix3 i).trans (congrArg (fun z : Fin 1 => ix3 z (i 1) (i 2)) (Fin.ext (Nat.lt_one_iff.1 (i 0).isLt)))

/-- What is stored is the sorted batch's front. -/
theorem stored_apply {arg2 : Memref sig .tc .vmem S1x40x128 .i32} {x : FVec Bits S4x20000x1 .f32} {b : Fin 4} {f : arg2.view.ty.Contents (Elt Bits)}
    (h : Stored arg2 (key x b) f) (r : Fin 40) (l : Fin 128) : arg2.view.read (Elt Bits) f (ix3 (0 : Fin 1) r l) = placed x b (128 * r.val + l.val) := by
  obtain ⟨K, I, hH, hr⟩ := h
  rw [hr]
  unfold placed
  have e := hH ⟨r.val, by have := r.isLt; omega⟩ l
  exact ((congrArg wordOf e.symm).trans (wordOf_ent _ _)).symm

/-- The body at one batch turns what the windows give it into what they take back. -/
theorem body_obligation (c : Dev nD) : BodyObligation (dats m 0 c) (defs₀ (F := Bits)) 𝒱ₛ () Set.univ := fun t => by
  rw [bigSep_W0, bigSep_W0]
  sl_whnfR [defs₀, Defs.onTc]
  rw [show (dats m 0 c).Φ t.castSucc = Pipeline.ΦA spec0 c from rfl, show (dats m 0 c).Φ t.succ = Pipeline.ΦA spec0 c from rfl]
  iintro ⟨HΦ, HO, ⟨%d0, H0⟩, ⟨%d1, H1⟩⟩
  unfold owns
  icases H0 with ⟨%f0, %e0, H0⟩
  icases H1 with ⟨%f1, %e1, H1⟩
  rw [before_0] at e0
  iapply (body_wp c Set.univ (grid0.coords t) _ _ _ _ (key (scores m c) ⟨t.val, t_lt t⟩) f0
    (fun r l => (congrArg BitVec.toInt (congrFun e0 _)).trans (keysAt_0 m c t r l)) f1 _)
  isplitl [H0 H1]
  · isplitl [H0]
    · iexact H0
    iexact H1
  iintro %f1' %hO ⟨H0, H1⟩
  isplitl [HΦ]
  · iexact HΦ
  isplitl [HO]
  · iexact HO
  isplitl [H0]
  · iexists f0; isplitr
    · ipureintro; exact e0
    iexact H0
  iexists f1'; isplitr
  · ipureintro
    funext i
    have hi : i = ix3 (0 : Fin 1) (i 1) (i 2) := blk_idx i
    exact (congrArg _ hi).trans (stored_apply hO (i 1) (i 2))
  iexact H1

/-- An element of the result is in its batch's block, at the same row and lane. -/
theorem emb_1 (t : Fin (cfg0 (F := Bits)).N) (i : S1x40x128.Idx) :
    (((cfg0 (F := Bits)).win 1).blk t).view.emb i = ix3 (⟨t.val, t_lt t⟩ : Fin 4) (i 1) (i 2) := by
  funext d
  refine Fin.ext ?_
  have e := idx_t t
  have h := (i 0).isLt
  change (i 0).val < 1 at h
  match d with
  | ⟨0, _⟩ => show (BitVec.ofNat 32 ((grid0.coords t) 0).val).toNat * 1 + 1 * (i 0).val = t.val; omega
  | ⟨1, _⟩ => show 0 * 40 + 1 * (i 1).val = (i 1).val; omega
  | ⟨2, _⟩ => show 0 * 128 + 1 * (i 2).val = (i 2).val; omega

theorem arrAt_1 (c : Dev nD) : (dats m 0 c).arrAt 1 (cfg0 (F := Bits)).N = res (scores m c) := by
  refine Dat.arrAt_eq_of_cover (dats m 0 c) 1 (res (scores m c)) (fun t _ => ?_) (fun i => ?_)
  · funext i
    exact (congrArg (res (scores m c)) (emb_1 t i)).symm
  · have h : (i 0).val < (cfg0 (F := Bits)).N := lt_of_lt_of_eq (i 0).isLt N_0.symm
    have e : (((cfg0 (F := Bits)).win 1).blk ⟨(i 0).val, h⟩).view.emb (ix3 (0 : Fin 1) (i 1) (i 2)) = i :=
      (emb_1 ⟨(i 0).val, h⟩ (ix3 (0 : Fin 1) (i 1) (i 2))).trans (eq_ix3 i).symm
    exact ⟨⟨(i 0).val, h⟩, flush0_1 _, Eq.mp (congrArg (· ∈ (((cfg0 (F := Bits)).win 1).blk ⟨(i 0).val, h⟩).view.set) e) (View.emb_mem_set _ _)⟩

/-- The program's run: the scores unchanged, the result at `res`, every semaphore at zero. -/
theorem run : θ_run (Cert.Sort.defs (F := Bits)) (onTc main) ⟨m, fun _ => 0, ρ⟩
    (fun r => (∀ c : Dev nD, r.2.mem (c.tc.loc main_v5) = res (scores m c) ∧ r.2.mem (c.tc.loc main_arg0) = m (c.tc.loc main_arg0))
      ∧ r.2.sem = fun _ => 0) := by
  refine Pipeline.θ_run_frame (cfgs (F := Bits)) (dats m) 0 launch0 (defs₀ (F := Bits)) 𝒱ₛ m ρ main
    (fun c => (body_obligation m c).loose) (fun c w => ?_) (fun c t => rfl) (fun c b => V₁ m c b)
    (Pipeline.hmain_prefixes cfgs 0 defs₀ 𝒱ₛ m main [hostOps0] ?_ ?_ (fun c => main_chain c)) (fun c w => rfl) (fun c t => rfl) _ ?_
  · match w with
    | ⟨0, _⟩ => rfl
    | ⟨1, _⟩ => rfl
  · exact hostOps0_sub
  · exact ⟨rfl, rfl, rfl, rfl, rfl, rfl⟩
  · rintro r ⟨hF, hs⟩
    refine ⟨fun c => ⟨?_, ?_⟩, hs⟩
    · exact ((hF c).1 1).trans (arrAt_1 m c)
    · exact ((hF c).2 main_arg0 (Pipeline.mem_restRefs_of main_arg0 rfl (by decide))).trans (V₁_arg0 m c)

end Run

end Cert.Proof.Bitonic

end
-- ==== Proof.SortRef.lean ====
/-
  The reference's order of the scores, and that the sort program's is the same where every score's sign bit is clear.
-/
module

public import proofs.«01_k».proof.Proof.SortRun
public import proofs.«01_k».proof.Proof.Gen.SortReference
public import proofs.«01_k».proof.Proof.Gen.SortReference.Run
public import proofs.«01_k».proof.Proof.Gen.Pre_sign_clear
public import Idealize.ShloMosaic.Lib.SortFacts
public import Idealize.ShloMosaic.Lib.SortKey
public import Idealize.ShloMosaic.Lib.PlanTiles.StableSort
public import Idealize.ShloMosaic.Lib.ReduceAll
public import Mathlib.Data.List.FinRange

@[expose] public section

noncomputable section

namespace Cert.Proof.Bitonic

open Idealize.ShloMosaic Idealize.ShloMosaic.ValueIdx Idealize.ShloMosaic.WordCmp Idealize.SL.Sem Idealize.ShloMosaic.TcCoe

/-! ## The order -/

/-- The positions of batch `b`, greatest key first, equal keys in their own order. -/
def order (x : FVec Bits Cert.Sort.S4x20000x1 .f32) (b : Fin 4) : List (Fin 20000) :=
  sortPositions 20000 fun i j => decide ((key x b j.val).toNat < (key x b i.val).toNat)

/-- Every score's word is non-negative. -/
def Clear (x : FVec Bits Cert.Sort.S4x20000x1 .f32) : Prop := ∀ (b : Fin 4) (f : Fin 20000), 0 ≤ key x b f.val

theorem keys_key {x : FVec Bits Cert.Sort.S4x20000x1 .f32} (hx : Clear x) (b : Fin 4) : Keys (key x b) := by
  refine ⟨fun f hf => hx b ⟨f, hf⟩, fun f hf => ?_⟩
  unfold key
  rw [dif_neg (Nat.not_lt.mpr hf)]

theorem order_perm (x : FVec Bits Cert.Sort.S4x20000x1 .f32) (b : Fin 4) : ((order x b).map Fin.val).Perm (List.range 20000) := by
  have h := (perm_sortPositions 20000 fun i j => decide ((key x b j.val).toNat < (key x b i.val).toNat)).map Fin.val
  rw [List.map_coe_finRange_eq_range] at h
  exact h

theorem order_sorted {x : FVec Bits Cert.Sort.S4x20000x1 .f32} (hx : Clear x) (b : Fin 4) :
    ((order x b).map Fin.val).Pairwise fun a c => entry (key x b) c < entry (key x b) a := by
  rw [List.pairwise_map]
  refine (PlanTiles.pairwise_stableSort_lex (fun i : Fin 20000 => (key x b i.val).toNat) (fun i j => i < j) _ (List.pairwise_lt_finRange 20000)).imp ?_
  intro i j h
  have h1 := hx b i
  have h2 := hx b j
  have h3 := i.isLt
  have h4 := j.isLt
  unfold entry
  rcases h with h | ⟨h, h'⟩
  · have h : (key x b j.val).toNat < (key x b i.val).toNat := h
    have : key x b j.val < key x b i.val := by omega
    omega
  · have h : (key x b i.val).toNat = (key x b j.val).toNat := h
    have : key x b j.val = key x b i.val := by omega
    have h' : i.val < j.val := h'
    omega

/-- The sorted list, place by place. -/
theorem getElem_sorted {n : ℕ} (R : Fin n → Fin n → Bool) (f : Fin n) (h : f.val < (sortPositions n R).length) : (sortPositions n R)[f.val] = sortedFrom R f := rfl

/-- The position in a score's entry. -/
theorem wordOf_entry (x : FVec Bits Cert.Sort.S4x20000x1 .f32) (b : Fin 4) (g : Fin 20000) : wordOf (entry (key x b) g.val) = BitVec.ofNat 32 g.val := by
  have h3 := g.isLt
  unfold entry key
  rw [dif_pos h3]
  refine Eq.trans ?_ (wordOf_ent (x (ix3 b (⟨g.val, h3⟩ : Fin 20000) (0 : Fin 1))) _)
  unfold ent
  rw [toInt_place (by omega)]

/-- A sorted list against its own places, any number of them. -/
theorem sorted_place {n : ℕ} (R : Fin n → Fin n → Bool) (f : Fin n) (h : f.val < ((sortPositions n R).map Fin.val).length) :
    ((sortPositions n R).map Fin.val)[f.val] = (sortedFrom R f).val := by
  rw [List.getElem_map]
  exact congrArg Fin.val (getElem_sorted R f _)

theorem order_length (x : FVec Bits Cert.Sort.S4x20000x1 .f32) (b : Fin 4) : ((order x b).map Fin.val).length = 20000 := by
  unfold order
  rw [List.length_map, length_sortPositions]

theorem placed_eq {x : FVec Bits Cert.Sort.S4x20000x1 .f32} (hx : Clear x) (b : Fin 4) (f : Fin 20000) :
    placed x b f.val = BitVec.ofNat 32 (sortedFrom (fun i j => decide ((key x b j.val).toNat < (key x b i.val).toNat)) f : Fin 20000).val := by
  have hf : f.val < ((order x b).map Fin.val).length := by rw [order_length]; exact f.isLt
  have e := last_eq (keys_key hx b) _ (order_perm x b) (order_sorted hx b) f.val hf
  have e2 : ((order x b).map Fin.val)[f.val] = (sortedFrom (fun i j => decide ((key x b j.val).toNat < (key x b i.val).toNat)) f : Fin 20000).val := by
    unfold order at hf ⊢
    exact sorted_place _ f hf
  unfold placed
  rw [e, e2]
  exact wordOf_entry x b _

/-! ## The reference -/

open Cert.SortReference Cert.SortReference.Gen Cert.SortReference.Value

/-- The total order on words with sign clear is the integers'. -/
theorem before_eq (a b : BitVec 32) (ha : 0 ≤ a.toInt) (hb : 0 ≤ b.toInt) :
    (FloatOps.cmpfTotal (F := Bits) (φ := .f32) .gt a b == 1#1) = decide (b.toInt.toNat < a.toInt.toNat) := by
  have m : ∀ w : BitVec 32, 0 ≤ w.toInt → w.msb = false := fun w hw => by
    rw [BitVec.msb_eq_toInt]; exact decide_eq_false (not_lt.mpr hw)
  rw [cmpfTotal_f32_eq_cmpi_sortableKey, sortableKey_of_msb_false a (m a ha), sortableKey_of_msb_false b (m b hb)]
  show (BitVec.ofBool (b.slt a) == 1#1) = _
  rw [BitVec.slt_eq_decide]
  by_cases h : b.toInt < a.toInt
  · rw [decide_eq_true h, decide_eq_true (show b.toInt.toNat < a.toInt.toNat by omega)]; rfl
  · rw [decide_eq_false h, decide_eq_false (show ¬b.toInt.toNat < a.toInt.toNat by omega)]; rfl

/-- The reference's positions. -/
def refRes (x : FVec Bits S4x20000x1 .f32) : IVec S4x40x128 32 :=
  shapeCast _ ((Host.topK S4x5120 1 (FloatOps.cmpfTotal (F := Bits) .gt) (shapeCast _ x shapeCasts_S4x20000x1_S4x20000 : FVec Bits S4x20000 .f32) sliceFits_S4x20000_S4x5120).2)
    shapeCasts_S4x5120_S4x40x128

theorem flatten_apply (x : FVec Bits S4x20000x1 .f32) (b : Fin 4) (f : Fin 20000) :
    (shapeCast S4x20000 x shapeCasts_S4x20000x1_S4x20000 : FVec Bits S4x20000 .f32) (ix2 b f) = x (ix3 b f (0 : Fin 1)) := by
  refine shapeCast_apply x _ _ _ ?_
  rw [Shape.rowMajor_val_two, Shape.rowMajor_val_three]
  show (b.val * 20000 + f.val) * 1 + 0 = b.val * 20000 + f.val
  omega

/-- The position that travels with the score is the score's own. -/
theorem iota_along (b : Fin 4) (p q : Fin 20000) : iotaInDim S4x20000 32 1 ((ix2 b p : S4x20000.Idx).along (1 : Fin 2) q) = BitVec.ofNat 32 q.val := rfl

theorem topK_apply {x : FVec Bits S4x20000x1 .f32} (hx : Clear x) (b : Fin 4) (p : Fin 5120) :
    (Host.topK S4x5120 1 (FloatOps.cmpfTotal (F := Bits) .gt) (shapeCast S4x20000 x shapeCasts_S4x20000x1_S4x20000 : FVec Bits S4x20000 .f32) sliceFits_S4x20000_S4x5120).2 (ix2 b p)
      = placed x b p.val := by
  have hp := p.isLt
  show extractStridedSlice S4x5120 (fun _ => 0) (Host.sort2 S4x20000 1 (fun l r => FloatOps.cmpfTotal (F := Bits) (φ := .f32) .gt l.1 r.1)
    (shapeCast S4x20000 x shapeCasts_S4x20000x1_S4x20000 : FVec Bits S4x20000 .f32) (fun i => if hd : 1 < S4x20000.rank then iotaInDim S4x20000 32 ⟨1, hd⟩ i else 0#32)).2
    sliceFits_S4x20000_S4x5120 (ix2 b p) = _
  refine (extractStridedSlice_apply (fun _ => 0) _ _ (ix2 b p) (ix2 b (⟨p.val, by omega⟩ : Fin 20000) : S4x20000.Idx) (fun a => match a with
    | ⟨0, _⟩ => (Nat.zero_add _).symm | ⟨1, _⟩ => (Nat.zero_add _).symm)).trans ?_
  refine Eq.trans ?_ (placed_eq hx b ⟨p.val, by omega⟩).symm
  have al : ∀ k : Fin 20000, (ix2 b (⟨p.val, by omega⟩ : Fin 20000) : S4x20000.Idx).along (1 : Fin 2) k = ix2 b k := fun k => funext fun d => Fin.ext (match d with
    | ⟨0, _⟩ => rfl | ⟨1, _⟩ => rfl)
  have e : (fun k k' : Fin 20000 => FloatOps.cmpfTotal (F := Bits) .gt
        ((shapeCast S4x20000 x shapeCasts_S4x20000x1_S4x20000 : FVec Bits S4x20000 .f32) ((ix2 b (⟨p.val, by omega⟩ : Fin 20000) : S4x20000.Idx).along (1 : Fin 2) k))
        ((shapeCast S4x20000 x shapeCasts_S4x20000x1_S4x20000 : FVec Bits S4x20000 .f32) ((ix2 b (⟨p.val, by omega⟩ : Fin 20000) : S4x20000.Idx).along (1 : Fin 2) k')) == 1#1)
      = fun i j => decide ((key x b j.val).toNat < (key x b i.val).toNat) := by
    funext k k'
    rw [al, al, flatten_apply, flatten_apply]
    have h1 := hx b k
    have h2 := hx b k'
    unfold key at h1 h2 ⊢
    rw [dif_pos k.isLt] at h1 ⊢
    rw [dif_pos k'.isLt] at h2 ⊢
    exact before_eq _ _ h1 h2
  unfold Host.sort2
  rw [dif_pos (show 1 < S4x20000.rank by decide)]
  show (if hd : 1 < S4x20000.rank then iotaInDim S4x20000 32 ⟨1, hd⟩ ((ix2 b (⟨p.val, by omega⟩ : Fin 20000) : S4x20000.Idx).along (1 : Fin 2)
      (sortedFrom (fun k k' : Fin 20000 => FloatOps.cmpfTotal (F := Bits) (φ := .f32) .gt
        ((shapeCast S4x20000 x shapeCasts_S4x20000x1_S4x20000 : FVec Bits S4x20000 .f32) ((ix2 b (⟨p.val, by omega⟩ : Fin 20000) : S4x20000.Idx).along (1 : Fin 2) k))
        ((shapeCast S4x20000 x shapeCasts_S4x20000x1_S4x20000 : FVec Bits S4x20000 .f32) ((ix2 b (⟨p.val, by omega⟩ : Fin 20000) : S4x20000.Idx).along (1 : Fin 2) k')) == 1#1)
        (⟨p.val, by omega⟩ : Fin 20000))) else 0#32) = _
  rw [e, dif_pos (show 1 < S4x20000.rank by decide)]
  exact iota_along b _ _

theorem refRes_apply {x : FVec Bits S4x20000x1 .f32} (hx : Clear x) (b : Fin 4) (r : Fin 40) (l : Fin 128) :
    refRes x (ix3 b r l) = placed x b (128 * r.val + l.val) := by
  have h1 := r.isLt
  have h2 := l.isLt
  unfold refRes
  refine (shapeCast_apply _ _ _ (ix2 b (⟨128 * r.val + l.val, by omega⟩ : Fin 5120) : S4x5120.Idx) ?_).trans (topK_apply hx b _)
  rw [Shape.rowMajor_val_two, Shape.rowMajor_val_three]
  show b.val * 5120 + (128 * r.val + l.val) = (b.val * 40 + r.val) * 128 + l.val
  omega

/-- The reference's positions are the sort program's. -/
theorem refRes_eq {x : FVec Bits S4x20000x1 .f32} (hx : Clear x) : refRes x = res x := by
  funext i
  exact (congrArg _ (eq_ix3 i)).trans (refRes_apply hx (i 0) (i 1) (i 2))

/-! ## The precondition -/

theorem sge_zero (w : BitVec 32) (h : IntOp.cmpi .sge w 0#32 = 1#1) : 0 ≤ w.toInt := by
  have h' : BitVec.ofBool ((0#32 : BitVec 32).sle w) = 1#1 := h
  rw [BitVec.sle_eq_decide, show (0#32 : BitVec 32).toInt = 0 by decide] at h'
  by_contra hn
  rw [decide_eq_false hn] at h'
  exact absurd h' (by decide)

theorem clear_of_pre (x : FVec Bits S4x20000x1 .f32) (h : Cert.Pre_sign_clear.fn (F := Bits) x = fun _ => 1#1) : Clear x := by
  intro b f
  haveI : Subsingleton Cert.Pre_sign_clear.S_.Idx := ⟨fun a b => funext fun k => k.elim0⟩
  have hj : IntOp.cmpi .sge (x (ix3 b f (0 : Fin 1))) 0#32 = 1#1 := Host.reduce_andi_all _ _ _ _ ValueIdx.ix0 (congrFun h ValueIdx.ix0) (ix3 b f (0 : Fin 1))
  unfold key
  rw [dif_pos f.isLt]
  exact sge_zero _ hj

end Cert.Proof.Bitonic

end
-- ==== Proof.WholeBase.lean ====
/-
  The whole program as its proof sees it: two pipelines on the TensorCore and one call on the vector subcores between them.
-/
module

public import proofs.«01_k».proof.Defs
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Sound
public import Idealize.ShloMosaic.Lib.Pipeline.Regions
public import Idealize.ShloMosaic.Lib.Tactic

@[expose] public section

noncomputable section

namespace Cert.Proof.Whole

open Cert.WholeIdeal Cert.WholeIdeal.Gen

open Idealize.ShloMosaic
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig (Λ₀ F) (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀

/-- The kernels' loops are bounded by natural numbers. -/
abbrev 𝒱₀ : Variants := Variants.nat
abbrev 𝒱 : Variants := 𝒱₀.lift
abbrev v₀ : 𝒱.V := Sum.inl none

/-- The handshakes' rounds, and the pipelines' cells. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.Whole

end
-- ==== Proof.WholeSortLoop.lean ====
/-
  The loops of the sort kernel: the merges' loops over row distances and over lane distances, and the loop of the short merges.
-/
module

public import proofs.«01_k».proof.Proof.SortVal
public import proofs.«01_k».proof.Proof.WholeBase
public import proofs.«01_k».proof.Proof.Gen.WholeIdeal.Points
public import proofs.«01_k».proof.Proof.Gen.WholeIdeal.Launch
public import Idealize.ShloMosaic.Lib.Pipeline.Sound
public import Idealize.ShloMosaic.Lib.Tactic
public import Idealize.ShloMosaic.Lib.VecWindow

@[expose] public section

noncomputable section

namespace Cert.Proof.WholeSort

open Cert.Proof.Whole (UU UP EP 𝒱₀)

open Cert.WholeIdeal Cert.WholeIdeal.Gen Cert.Proof.Bitonic
open Idealize.ShloMosaic.SparseCore.Cfg (HIx)

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

/-- A loop's result: keys, positions and the next distance. -/
abbrev Out (R : ℕ) : Type := IVec (SR R) 32 × IVec (SR R) 32 × BitVec 32

/-- A loop's program, by its keys, positions and distance. -/
abbrev Loop (R : ℕ) : Type 1 := IVec (SR R) 32 → IVec (SR R) 32 → BitVec 32 → Prog (TpuEff nD τ sig (Elt Ideal) (Λ₀ Ideal) .tc) (Out R)

variable (c : Dev nD) (E : Set ℕ)

/-- While the test holds, a loop goes on with the stage's result and half the distance. -/
def Steps {R : ℕ} (W : Loop R) (test kw : BitVec 32) (v : IVec (SR R) 32) (P : BitVec 32 → IVec (SR R) 32 → IVec (SR R) 32) : Prop :=
  ∀ (K I : IVec (SR R) 32) (j : BitVec 32) (n : ℕ) (Q : Out R → sProp 𝕄), Scalar.cmpi .sge j test = 1#1 →
    wp frame (wpE (defs₀ (F := Ideal)) 𝒱₀ (c : Thread nD τ) (some n)) E
        (W (select (keepV v kw j K I (P j K) (P j I)) K (P j K)) (select (keepV v kw j K I (P j K) (P j I)) I (P j I)) (Scalar.shrui j 1#32))
        (fun z => wp frame (wpE (defs₀ (F := Ideal)) 𝒱₀ (c : Thread nD τ) (some (n + 1))) E (.ret z) Q)
      ⊢ wp frame (wpE (defs₀ (F := Ideal)) 𝒱₀ (c : Thread nD τ) (some (n + 1))) E (W K I j) Q

/-- Once the test fails a loop returns what it has. -/
def Ends {R : ℕ} (W : Loop R) (test : BitVec 32) : Prop :=
  ∀ (K I : IVec (SR R) 32) (j : BitVec 32) (n : ℕ) (Q : Out R → sProp 𝕄), ¬Scalar.cmpi .sge j test = 1#1 →
    Q (K, I, j) ⊢ wp frame (wpE (defs₀ (F := Ideal)) 𝒱₀ (c : Thread nD τ) (some n)) E (W K I j) Q

theorem ret_intro {R : ℕ} (S : Out R → Prop) (n : ℕ) (Q : Out R → sProp 𝕄) :
    iprop(∀ z : Out R, ⌜S z⌝ -∗ Q z)
      ⊢ iprop(∀ z : Out R, ⌜S z⌝ -∗ wp frame (wpE (defs₀ (F := Ideal)) 𝒱₀ (c : Thread nD τ) (some n)) E (.ret z) Q) := by
  iintro Hk %z %hz
  rw [wp_ret]; imodintro
  iapply Hk
  ipureintro; exact hz

/-- The loop over row distances leaves the stages at distances below 128 to do. -/
theorem rows_le {R : ℕ} (hR : R ≤ 256) (W : Loop R) {t : ℕ} (ht : t < 16) {kw : BitVec 32} (hkw : kw = BitVec.ofNat 32 (2 ^ t)) {v : IVec (SR R) 32}
    (hv : IsFlat R v) {P : BitVec 32 → IVec (SR R) 32 → IVec (SR R) 32}
    (hP : ∀ s, 7 ≤ s → s < 16 → 2 ^ (s + 1) ∣ R * 128 → Partner R s (P (BitVec.ofNat 32 (2 ^ s))))
    (hS : Steps c E W 128#32 kw v P) (hE : Ends c E W 128#32) :
    ∀ n, n < 16 → 2 ^ n ∣ R * 128 → ∀ (K I : IVec (SR R) 32) (E₀ : ℕ → ℤ), Holds R K I E₀ → ∀ Q : Out R → sProp 𝕄,
      iprop(∀ z : Out R, ⌜∃ m E', m ≤ 7 ∧ z.2.2 = jw m ∧ Holds R z.1 z.2.1 E' ∧ mrg t m E' = mrg t n E₀⌝ -∗ Q z)
        ⊢ wp frame (wpE (defs₀ (F := Ideal)) 𝒱₀ (c : Thread nD τ) (some n)) E (W K I (jw n)) Q := by
  intro n
  induction n with
  | zero =>
    intro hn hd K I E₀ h Q
    refine BIBase.Entails.trans ?_ (hE K I (jw 0) 0 Q (by rw [jw_rows (by omega)]; omega))
    iintro Hk
    iapply Hk
    ipureintro
    exact ⟨0, E₀, by omega, rfl, h, rfl⟩
  | succ n ih =>
    intro hn hd K I E₀ h Q
    by_cases h7 : 7 ≤ n
    · refine BIBase.Entails.trans ?_ (hS K I (jw (n + 1)) n Q (by rw [jw_rows (by omega)]; omega))
      rw [jw_shr (by omega), jw_succ, hkw]
      exact BIBase.Entails.trans (ret_intro c E _ _ Q) (ih (by omega) ((pow_dvd_pow 2 (Nat.le_succ n)).trans hd) _ _ (stg t n E₀)
        (holds_stage hv hR h (by omega) (by omega) (hP n h7 (by omega) hd)) _)
    · refine BIBase.Entails.trans ?_ (hE K I (jw (n + 1)) (n + 1) Q (by rw [jw_rows (by omega)]; omega))
      iintro Hk
      iapply Hk
      ipureintro
      exact ⟨n + 1, E₀, by omega, rfl, h, rfl⟩

/-- The loop over lane distances does the stages left. -/
theorem lanes_le {R : ℕ} (hR : R ≤ 256) (W : Loop R) {t : ℕ} (ht : t < 16) {kw : BitVec 32} (hkw : kw = BitVec.ofNat 32 (2 ^ t)) {v : IVec (SR R) 32}
    (hv : IsFlat R v) {P : BitVec 32 → IVec (SR R) 32 → IVec (SR R) 32}
    (hP : ∀ s, s < 7 → Partner R s (P (BitVec.ofNat 32 (2 ^ s))))
    (hS : Steps c E W 1#32 kw v P) (hE : Ends c E W 1#32) :
    ∀ n, n ≤ 7 → ∀ (K I : IVec (SR R) 32) (E₀ : ℕ → ℤ), Holds R K I E₀ → ∀ Q : Out R → sProp 𝕄,
      iprop(∀ z : Out R, ⌜Holds R z.1 z.2.1 (mrg t n E₀)⌝ -∗ Q z)
        ⊢ wp frame (wpE (defs₀ (F := Ideal)) 𝒱₀ (c : Thread nD τ) (some n)) E (W K I (jw n)) Q := by
  intro n
  induction n with
  | zero =>
    intro hn K I E₀ h Q
    refine BIBase.Entails.trans ?_ (hE K I (jw 0) 0 Q (by rw [jw_lanes (by omega)]; omega))
    iintro Hk
    iapply Hk
    ipureintro
    exact h
  | succ n ih =>
    intro hn K I E₀ h Q
    refine BIBase.Entails.trans ?_ (hS K I (jw (n + 1)) n Q (by rw [jw_lanes (by omega)]; omega))
    rw [jw_shr (by omega), jw_succ, hkw]
    exact BIBase.Entails.trans (ret_intro c E _ _ Q) (ih (by omega) _ _ (stg t n E₀)
      (holds_stage hv hR h (by omega) (by omega) (hP n (by omega))) _)

/-! ## The eight loops of stages -/

theorem steps2 (i : grid0.Coords) (v : IVec S160x128 32) (k : BitVec 32) :
    Steps (R := 160) c E (fun K I j => cc0_while2 (F := Ideal) i v k K I j) 128#32 k v (fun j => rowP (BitVec.ofNat 32 160) rotates_S160x128_d0 v j) := by
  intro K I j n Q ht
  show _ ⊢ wp frame (wpE (defs₀ (F := Ideal)) 𝒱₀ (c : Thread nD τ) (some (n + 1))) E (cc0_while2 i v k K I j) Q
  simp only [cc0_while2_eq_skeleton]; unfold cc0_while2_skel
  simp only [ht, ↓reduceIte, Prog.lift]
  iintro H
  iapply (wp_call 𝒱₀ (c : Thread nD τ) _ E n (fun u hu => by cases hu; exact Nat.lt_succ_self n))
  iexact H

theorem ends2 (i : grid0.Coords) (v : IVec S160x128 32) (k : BitVec 32) :
    Ends (R := 160) c E (fun K I j => cc0_while2 (F := Ideal) i v k K I j) 128#32 := by
  intro K I j n Q ht
  show _ ⊢ wp frame (wpE (defs₀ (F := Ideal)) 𝒱₀ (c : Thread nD τ) (some n)) E (cc0_while2 i v k K I j) Q
  simp only [cc0_while2_eq_skeleton]; unfold cc0_while2_skel
  simp only [ht, ↓reduceIte, Prog.pure_eq_ret]
  iintro H
  rw [wp_ret]; imodintro
  iexact H

theorem steps3 (i : grid0.Coords) (v : IVec S160x128 32) (k : BitVec 32) :
    Steps (R := 160) c E (fun K I j => cc0_while3 (F := Ideal) i v k K I j) 1#32 k v (fun j => laneP rotates_S160x128_d1 v j) := by
  intro K I j n Q ht
  show _ ⊢ wp frame (wpE (defs₀ (F := Ideal)) 𝒱₀ (c : Thread nD τ) (some (n + 1))) E (cc0_while3 i v k K I j) Q
  simp only [cc0_while3_eq_skeleton]; unfold cc0_while3_skel
  simp only [ht, ↓reduceIte, Prog.lift]
  iintro H
  iapply (wp_call 𝒱₀ (c : Thread nD τ) _ E n (fun u hu => by cases hu; exact Nat.lt_succ_self n))
  iexact H

theorem ends3 (i : grid0.Coords) (v : IVec S160x128 32) (k : BitVec 32) :
    Ends (R := 160) c E (fun K I j => cc0_while3 (F := Ideal) i v k K I j) 1#32 := by
  intro K I j n Q ht
  show _ ⊢ wp frame (wpE (defs₀ (F := Ideal)) 𝒱₀ (c : Thread nD τ) (some n)) E (cc0_while3 i v k K I j) Q
  simp only [cc0_while3_eq_skeleton]; unfold cc0_while3_skel
  simp only [ht, ↓reduceIte, Prog.pure_eq_ret]
  iintro H
  rw [wp_ret]; imodintro
  iexact H

theorem steps4 (i : grid0.Coords) (v : IVec S256x128 32) :
    Steps (R := 256) c E (fun K I j => cc0_while4 (F := Ideal) i v K I j) 128#32 8192#32 v (fun j => rowP (BitVec.ofNat 32 256) rotates_S256x128_d0 v j) := by
  intro K I j n Q ht
  show _ ⊢ wp frame (wpE (defs₀ (F := Ideal)) 𝒱₀ (c : Thread nD τ) (some (n + 1))) E (cc0_while4 i v K I j) Q
  simp only [cc0_while4_eq_skeleton]; unfold cc0_while4_skel
  simp only [ht, ↓reduceIte, Prog.lift]
  iintro H
  iapply (wp_call 𝒱₀ (c : Thread nD τ) _ E n (fun u hu => by cases hu; exact Nat.lt_succ_self n))
  iexact H

theorem ends4 (i : grid0.Coords) (v : IVec S256x128 32) :
    Ends (R := 256) c E (fun K I j => cc0_while4 (F := Ideal) i v K I j) 128#32 := by
  intro K I j n Q ht
  show _ ⊢ wp frame (wpE (defs₀ (F := Ideal)) 𝒱₀ (c : Thread nD τ) (some n)) E (cc0_while4 i v K I j) Q
  simp only [cc0_while4_eq_skeleton]; unfold cc0_while4_skel
  simp only [ht, ↓reduceIte, Prog.pure_eq_ret]
  iintro H
  rw [wp_ret]; imodintro
  iexact H

theorem steps5 (i : grid0.Coords) (v : IVec S256x128 32) :
    Steps (R := 256) c E (fun K I j => cc0_while5 (F := Ideal) i v K I j) 1#32 8192#32 v (fun j => laneP rotates_S256x128_d1 v j) := by
  intro K I j n Q ht
  show _ ⊢ wp frame (wpE (defs₀ (F := Ideal)) 𝒱₀ (c : Thread nD τ) (some (n + 1))) E (cc0_while5 i v K I j) Q
  simp only [cc0_while5_eq_skeleton]; unfold cc0_while5_skel
  simp only [ht, ↓reduceIte, Prog.lift]
  iintro H
  iapply (wp_call 𝒱₀ (c : Thread nD τ) _ E n (fun u hu => by cases hu; exact Nat.lt_succ_self n))
  iexact H

theorem ends5 (i : grid0.Coords) (v : IVec S256x128 32) :
    Ends (R := 256) c E (fun K I j => cc0_while5 (F := Ideal) i v K I j) 1#32 := by
  intro K I j n Q ht
  show _ ⊢ wp frame (wpE (defs₀ (F := Ideal)) 𝒱₀ (c : Thread nD τ) (some n)) E (cc0_while5 i v K I j) Q
  simp only [cc0_while5_eq_skeleton]; unfold cc0_while5_skel
  simp only [ht, ↓reduceIte, Prog.pure_eq_ret]
  iintro H
  rw [wp_ret]; imodintro
  iexact H

theorem steps6 (i : grid0.Coords) (v : IVec S256x128 32) :
    Steps (R := 256) c E (fun K I j => cc0_while6 (F := Ideal) i v K I j) 128#32 16384#32 v (fun j => rowP (BitVec.ofNat 32 256) rotates_S256x128_d0 v j) := by
  intro K I j n Q ht
  show _ ⊢ wp frame (wpE (defs₀ (F := Ideal)) 𝒱₀ (c : Thread nD τ) (some (n + 1))) E (cc0_while6 i v K I j) Q
  simp only [cc0_while6_eq_skeleton]; unfold cc0_while6_skel
  simp only [ht, ↓reduceIte, Prog.lift]
  iintro H
  iapply (wp_call 𝒱₀ (c : Thread nD τ) _ E n (fun u hu => by cases hu; exact Nat.lt_succ_self n))
  iexact H

theorem ends6 (i : grid0.Coords) (v : IVec S256x128 32) :
    Ends (R := 256) c E (fun K I j => cc0_while6 (F := Ideal) i v K I j) 128#32 := by
  intro K I j n Q ht
  show _ ⊢ wp frame (wpE (defs₀ (F := Ideal)) 𝒱₀ (c : Thread nD τ) (some n)) E (cc0_while6 i v K I j) Q
  simp only [cc0_while6_eq_skeleton]; unfold cc0_while6_skel
  simp only [ht, ↓reduceIte, Prog.pure_eq_ret]
  iintro H
  rw [wp_ret]; imodintro
  iexact H

theorem steps7 (i : grid0.Coords) (v : IVec S256x128 32) :
    Steps (R := 256) c E (fun K I j => cc0_while7 (F := Ideal) i v K I j) 1#32 16384#32 v (fun j => laneP rotates_S256x128_d1 v j) := by
  intro K I j n Q ht
  show _ ⊢ wp frame (wpE (defs₀ (F := Ideal)) 𝒱₀ (c : Thread nD τ) (some (n + 1))) E (cc0_while7 i v K I j) Q
  simp only [cc0_while7_eq_skeleton]; unfold cc0_while7_skel
  simp only [ht, ↓reduceIte, Prog.lift]
  iintro H
  iapply (wp_call 𝒱₀ (c : Thread nD τ) _ E n (fun u hu => by cases hu; exact Nat.lt_succ_self n))
  iexact H

theorem ends7 (i : grid0.Coords) (v : IVec S256x128 32) :
    Ends (R := 256) c E (fun K I j => cc0_while7 (F := Ideal) i v K I j) 1#32 := by
  intro K I j n Q ht
  show _ ⊢ wp frame (wpE (defs₀ (F := Ideal)) 𝒱₀ (c : Thread nD τ) (some n)) E (cc0_while7 i v K I j) Q
  simp only [cc0_while7_eq_skeleton]; unfold cc0_while7_skel
  simp only [ht, ↓reduceIte, Prog.pure_eq_ret]
  iintro H
  rw [wp_ret]; imodintro
  iexact H

theorem steps8 (i : grid0.Coords) (v : IVec S64x128 32) :
    Steps (R := 64) c E (fun K I j => cc0_while8 (F := Ideal) i v K I j) 128#32 32768#32 v (fun j => rowP (BitVec.ofNat 32 64) rotates_S64x128_d0 v j) := by
  intro K I j n Q ht
  show _ ⊢ wp frame (wpE (defs₀ (F := Ideal)) 𝒱₀ (c : Thread nD τ) (some (n + 1))) E (cc0_while8 i v K I j) Q
  simp only [cc0_while8_eq_skeleton]; unfold cc0_while8_skel
  simp only [ht, ↓reduceIte, Prog.lift]
  iintro H
  iapply (wp_call 𝒱₀ (c : Thread nD τ) _ E n (fun u hu => by cases hu; exact Nat.lt_succ_self n))
  iexact H

theorem ends8 (i : grid0.Coords) (v : IVec S64x128 32) :
    Ends (R := 64) c E (fun K I j => cc0_while8 (F := Ideal) i v K I j) 128#32 := by
  intro K I j n Q ht
  show _ ⊢ wp frame (wpE (defs₀ (F := Ideal)) 𝒱₀ (c : Thread nD τ) (some n)) E (cc0_while8 i v K I j) Q
  simp only [cc0_while8_eq_skeleton]; unfold cc0_while8_skel
  simp only [ht, ↓reduceIte, Prog.pure_eq_ret]
  iintro H
  rw [wp_ret]; imodintro
  iexact H

theorem steps9 (i : grid0.Coords) (v : IVec S64x128 32) :
    Steps (R := 64) c E (fun K I j => cc0_while9 (F := Ideal) i v K I j) 1#32 32768#32 v (fun j => laneP rotates_S64x128_d1 v j) := by
  intro K I j n Q ht
  show _ ⊢ wp frame (wpE (defs₀ (F := Ideal)) 𝒱₀ (c : Thread nD τ) (some (n + 1))) E (cc0_while9 i v K I j) Q
  simp only [cc0_while9_eq_skeleton]; unfold cc0_while9_skel
  simp only [ht, ↓reduceIte, Prog.lift]
  iintro H
  iapply (wp_call 𝒱₀ (c : Thread nD τ) _ E n (fun u hu => by cases hu; exact Nat.lt_succ_self n))
  iexact H

theorem ends9 (i : grid0.Coords) (v : IVec S64x128 32) :
    Ends (R := 64) c E (fun K I j => cc0_while9 (F := Ideal) i v K I j) 1#32 := by
  intro K I j n Q ht
  show _ ⊢ wp frame (wpE (defs₀ (F := Ideal)) 𝒱₀ (c : Thread nD τ) (some n)) E (cc0_while9 i v K I j) Q
  simp only [cc0_while9_eq_skeleton]; unfold cc0_while9_skel
  simp only [ht, ↓reduceIte, Prog.pure_eq_ret]
  iintro H
  rw [wp_ret]; imodintro
  iexact H

end Cert.Proof.WholeSort

end
-- ==== Proof.WholeSortBody.lean ====
/-
  The body of the sort kernel: the short merges, the two merges over all the rows, the two halvings and the last merge, with the
  positions it stores.
-/
module

public import proofs.«01_k».proof.Proof.WholeSortLoop

@[expose] public section

noncomputable section

namespace Cert.Proof.WholeSort

open Cert.Proof.Whole (UU UP EP 𝒱₀)

open Cert.WholeIdeal Cert.WholeIdeal.Gen Cert.Proof.Bitonic
open Idealize.ShloMosaic.SparseCore.Cfg (HIx)

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (c : Dev nD) (E : Set ℕ)

/-! ## The named values -/

theorem flat160 : IsFlat 160 k0_pay51 := flat_iota (by decide) _ _

theorem flat256 : IsFlat 256 k0_pay53 := flat_iota (by decide) _ _

theorem flat128 : IsFlat 128 k0_pay63 := flat_iota (by decide) _ _

theorem flat64 : IsFlat 64 (k0_pay1 (iota .tc S64x128 32 [0] iota_S64x128_d0_w32) (iota .tc S64x128 32 [1] iota_S64x128_d1_w32)) :=
  flat_iota (by decide) _ _

/-- A block's keys as numbers. -/
def KeysAt (k : ℕ → ℤ) (v : IVec S1x256x128 32) : Prop := ∀ (r : Fin 256) (l : Fin 128), (v (ix3 (0 : Fin 1) r l)).toInt = k (128 * r.val + l.val)

theorem toInt_place {f : ℕ} (hf : f < 32768) : (BitVec.ofNat 32 f).toInt = f := WordCmp.toInt_ofNat_of_lt (by omega)

theorem holds_start {k : ℕ → ℤ} {v : Vec Ideal S1x256x128 .i32} (h : KeysAt k v) : Holds 160 (k0_pay52 (F := Ideal) v) k0_pay51 (entry k) := by
  intro r l
  have hr := r.isLt
  have hl := l.isLt
  have e : k0_pay52 (F := Ideal) v (ix2 r l) = v (ix3 (0 : Fin 1) (⟨r.val, by omega⟩ : Fin 256) l) := by
    unfold k0_pay52
    refine (extractStridedSlice_apply _ _ _ (ix2 r l) (ix2 (⟨r.val, by omega⟩ : Fin 256) l) fun a => match a with
      | ⟨0, _⟩ => (Nat.zero_add _).symm
      | ⟨1, _⟩ => (Nat.zero_add _).symm).trans ?_
    exact shapeCast_1ab_ab_apply v _ _ l
  unfold ent entry
  rw [e, h, flat160 r l, toInt_place (by omega)]

theorem holds_all {k : ℕ → ℤ} {v : Vec Ideal S1x256x128 .i32} (h : KeysAt k v) {K I : IVec S160x128 32} (hK : Holds 160 K I (passes 12 (entry k))) :
    Holds 256 (k0_pay54 (F := Ideal) K v) (k0_pay55 I) (half (entry k)) := by
  intro r l
  have hr := r.isLt
  have hl := l.isLt
  by_cases h1 : r.val < 160
  · have e : ∀ (X : IVec S160x128 32) (Y : IVec S96x128 32), concatenate S256x128 0 [⟨S160x128, X⟩, ⟨S96x128, Y⟩] concatenates_S160x128_S96x128_S256x128_d0 (ix2 r l)
        = X (ix2 (⟨r.val, h1⟩ : Fin 160) l) := fun X Y =>
      concatenate_pair_apply_left (t := S256x128) (s₁ := S160x128) (s₂ := S96x128) 0 X Y concatenates_S160x128_S96x128_S256x128_d0 (ix2 r l) rfl
        (ix2 (⟨r.val, h1⟩ : Fin 160) l) fun b => match b with | ⟨0, _⟩ => rfl | ⟨1, _⟩ => rfl
    unfold half
    rw [if_pos (by omega)]
    refine Eq.trans ?_ (hK ⟨r.val, h1⟩ l)
    exact congrArg₂ ent (e _ _) (e _ _)
  · have e : ∀ (X : IVec S160x128 32) (Y : IVec S256x128 32), concatenate S256x128 0 [⟨S160x128, X⟩, ⟨S96x128, extractStridedSlice S96x128 ![160, 0] Y slices_S256x128_o160_0_S96x128⟩]
        concatenates_S160x128_S96x128_S256x128_d0 (ix2 r l) = Y (ix2 r l) := fun X Y => by
      refine (concatenate_pair_apply_right (t := S256x128) (s₁ := S160x128) (s₂ := S96x128) 0 X _ concatenates_S160x128_S96x128_S256x128_d0 (ix2 r l) rfl rfl
        (ix2 (⟨r.val - 160, by omega⟩ : Fin 96) l) (fun b hb => ?_) ?_).trans (extractStridedSlice_apply _ _ _ _ (ix2 r l) fun a => ?_)
      · match b with
        | ⟨0, _⟩ => exact absurd rfl hb
        | ⟨1, _⟩ => rfl
      · show (r.val - 160) + 160 = r.val; omega
      · match a with
        | ⟨0, _⟩ => show r.val = 160 + (r.val - 160); omega
        | ⟨1, _⟩ => exact (Nat.zero_add _).symm
    unfold half entry
    rw [if_neg (by omega)]
    have eI : k0_pay55 I (ix2 r l) = BitVec.ofNat 32 (128 * r.val + l.val) := (e I k0_pay53).trans (flat256 r l)
    have eK : k0_pay54 (F := Ideal) K v (ix2 r l) = v (ix3 (0 : Fin 1) r l) := (e K _).trans (shapeCast_1ab_ab_apply v _ r l)
    unfold ent
    rw [eI, eK, h, toInt_place (by omega)]

/-- The first halving. -/
theorem holds_128 {K I : IVec S256x128 32} {S : ℕ → ℤ} (h : Holds 256 K I S) :
    Holds 128 (k0_pay61 k0_pay53 K I k0_pay56 (k0_pay57 K) (k0_pay58 I) (k0_pay59 K)) (k0_pay62 k0_pay53 K I k0_pay56 (k0_pay57 K) (k0_pay58 I) (k0_pay59 K))
      (stg 15 14 S) := by
  have hP := partner_row (R := 256) rotates_S256x128_d0 flat256 (by decide) (s := 14) (by decide) (by decide) (by decide)
  have := holds_front (R' := 128) (by decide) (holds_stage flat256 (by decide) h (s := 14) (t := 15) (by decide) (by decide) hP) slices_S256x128_o0_0_S128x128
  exact this

/-- The second halving. -/
theorem holds_64 {K I : IVec S256x128 32} {S : ℕ → ℤ} (h : Holds 256 K I S) :
    Holds 64 (k0_pay68 k0_pay53 K I k0_pay56 (k0_pay57 K) (k0_pay58 I) (k0_pay59 K)) (k0_pay69 k0_pay53 K I k0_pay56 (k0_pay57 K) (k0_pay58 I) (k0_pay59 K))
      (stg 15 13 (stg 15 14 S)) := by
  have hP := partner_row (R := 128) rotates_S128x128_d0 flat128 (by decide) (s := 13) (by decide) (by decide) (by decide)
  have := holds_front (R' := 64) (by decide) (holds_stage flat128 (by decide) (holds_128 h) (s := 13) (t := 15) (by decide) (by decide) hP) slices_S128x128_o0_0_S64x128
  exact this

/-! ## The short merges -/

theorem word_half : ∀ t, 1 ≤ t → t < 13 → Scalar.shrui (BitVec.ofNat 32 (2 ^ t)) 1#32 = jw t := by
  intro t h1 h2; unfold jw; interval_cases t <;> decide

theorem word_double : ∀ t, t < 13 → Scalar.muli (BitVec.ofNat 32 (2 ^ t)) 2#32 = BitVec.ofNat 32 (2 ^ (t + 1)) := by
  intro t h2; interval_cases t <;> decide

theorem word_le : ∀ t, t < 14 → (Scalar.cmpi .sle (BitVec.ofNat 32 (2 ^ t)) 4096#32 = 1#1 ↔ t ≤ 12) := by
  intro t h2; interval_cases t <;> decide

theorem short_le (i : grid0.Coords) (k : ℕ → ℤ) : ∀ r t, 1 ≤ t → t + r = 13 → ∀ K I : IVec S160x128 32, Holds 160 K I (passes (t - 1) (entry k)) →
    ∀ Q : Out 160 → sProp 𝕄,
      iprop(∀ z : Out 160, ⌜Holds 160 z.1 z.2.1 (passes 12 (entry k))⌝ -∗ Q z)
        ⊢ wp frame (wpE (defs₀ (F := Ideal)) 𝒱₀ (c : Thread nD τ) (some (r * 20 + 19))) E (cc0_while1 (F := Ideal) i k0_pay51 K I (BitVec.ofNat 32 (2 ^ t))) Q := by
  intro r
  induction r with
  | zero =>
    intro t h1 ht K I h Q
    have e : t = 13 := ht
    subst e
    simp only [cc0_while1_eq_skeleton]; unfold cc0_while1_skel
    have htest : ¬Scalar.cmpi .sle (BitVec.ofNat 32 (2 ^ 13)) 4096#32 = 1#1 := by rw [word_le 13 (by decide)]; omega
    simp only [htest, ↓reduceIte, Prog.pure_eq_ret]
    iintro Hk
    rw [wp_ret]; imodintro
    iapply Hk
    ipureintro; exact h
  | succ r ih =>
    intro t h1 ht K I h Q
    simp only [cc0_while1_eq_skeleton]; unfold cc0_while1_skel
    have htest : Scalar.cmpi .sle (BitVec.ofNat 32 (2 ^ t)) 4096#32 = 1#1 := by rw [word_le t (by omega)]; omega
    simp only [htest, ↓reduceIte, Prog.lift, Prog.bind_op, Prog.bind_ret, word_half t h1 (by omega), word_double t (by omega)]
    have hd : 2 ^ t ∣ 160 * 128 := (pow_dvd_pow 2 (show t ≤ 12 by omega)).trans (by decide)
    iintro Hk
    iapply (wp_call 𝒱₀ (c : Thread nD τ) _ E t (fun u hu => by cases hu; show t < (r + 1) * 20 + 19; omega))
    iapply (rows_le c E (by decide) _ (by omega) rfl flat160 (fun s h7 hs hd => partner_row rotates_S160x128_d0 flat160 (by decide) h7 hs hd)
      (steps2 c E i k0_pay51 (BitVec.ofNat 32 (2 ^ t))) (ends2 c E i k0_pay51 (BitVec.ofNat 32 (2 ^ t))) t (by omega) hd K I _ h)
    iintro %z %hz
    obtain ⟨m, E', hm, hj, hH, he⟩ := hz
    rw [hj]
    iapply (wp_call 𝒱₀ (c : Thread nD τ) _ E m (fun u hu => by cases hu; show m < (r + 1) * 20 + 19; omega))
    iapply (lanes_le c E (by decide) _ (by omega) rfl flat160 (fun s hs => partner_lane rotates_S160x128_d1 flat160 (by decide) hs)
      (steps3 c E i k0_pay51 (BitVec.ofNat 32 (2 ^ t))) (ends3 c E i k0_pay51 (BitVec.ofNat 32 (2 ^ t))) m hm z.1 z.2.1 E' hH)
    iintro %w %hw
    have hpass : passes t (entry k) = mrg t t (passes (t - 1) (entry k)) := by
      obtain ⟨u, rfl⟩ : ∃ u, t = u + 1 := ⟨t - 1, by omega⟩
      rfl
    rw [he, ← hpass] at hw
    iapply (wp_call 𝒱₀ (c : Thread nD τ) _ E (r * 20 + 19) (fun u hu => by cases hu; show r * 20 + 19 < (r + 1) * 20 + 19; omega))
    iapply (ih (t + 1) (by omega) (by omega) w.1 w.2.1 hw)
    iintro %y %hy
    rw [wp_ret]; imodintro
    iapply Hk
    ipureintro; exact hy

/-- The last merge, its first two stages apart. -/
theorem merge_last (X : ℕ → ℤ) : mrg 15 15 X = mrg 15 13 (stg 15 13 (stg 15 14 X)) := rfl

theorem holds_last {K I : IVec S64x128 32} {k : ℕ → ℤ} (h : Holds 64 K I (mrg 15 13 (stg 15 13 (stg 15 14 (mrg 14 14 (mrg 13 13 (half (entry k)))))))) :
    Holds 64 K I (mrg 15 15 (late (entry k))) := by
  rw [merge_last]; unfold late; exact h

/-! ## The body -/

/-- A memref's buffer at contents `f`, held whole. -/
abbrev heldI {s : Shape} (m : Memref sig .tc .vmem s .i32) (f : Buf (Elt Ideal) (m.view.loc (c : Thread nD τ))) : sProp 𝕄 :=
  m.view.loc (c : Thread nD τ) ↦[m.view.set]{fullShare} f

variable (g : grid0.Coords) (arg1 : Memref sig .tc .vmem S1x256x128 .i32) (harg1 : arg1.IsWhole) (arg2 : Memref sig .tc .vmem S1x40x128 .i32) (harg2 : arg2.IsWhole)

/-- The positions stored are those of the sorted sequence's front. -/
def Stored (k : ℕ → ℤ) (f : arg2.view.ty.Contents (Elt Ideal)) : Prop :=
  ∃ K I : IVec S64x128 32, Holds 64 K I (mrg 15 15 (late (entry k)))
    ∧ ∀ (r : Fin 40) (l : Fin 128), arg2.view.read (Elt Ideal) f (ix3 (0 : Fin 1) r l) = I (ix2 (⟨r.val, by have := r.isLt; omega⟩ : Fin 64) l)

theorem stored_intro {k : ℕ → ℤ} {K I : IVec S64x128 32} (h : Holds 64 K I (mrg 15 15 (late (entry k)))) {f : arg2.view.ty.Contents (Elt Ideal)}
    (inb : ∀ a, (![0, 0, 0] : Fin 3 → ℕ) a + S1x40x128.size a ≤ S1x40x128.size a) :
    Stored arg2 k (arg2.view.writes (Elt Ideal) f [⟨Rect.unit (s := S1x40x128) ![0, 0, 0] S1x40x128.size inb, k0_pay2 I⟩]) := by
  refine ⟨K, I, h, fun r l => ?_⟩
  rw [View.read_writes_full _ f inb _ []]
  unfold k0_pay2
  refine (shapeCast_ab_1ab_apply _ _ (0 : Fin 1) r l).trans ?_
  exact extractStridedSlice_apply _ _ _ (ix2 r l) (ix2 (⟨r.val, by have := r.isLt; omega⟩ : Fin 64) l) fun a => match a with
    | ⟨0, _⟩ => (Nat.zero_add _).symm
    | ⟨1, _⟩ => (Nat.zero_add _).symm

theorem keysAt_load {k : ℕ → ℤ} {f : arg1.view.ty.Contents (Elt Ideal)} (h : KeysAt k (arg1.view.read (Elt Ideal) f))
    (inb : ∀ a, (![0, 0, 0] : Fin 3 → ℕ) a + S1x256x128.size a ≤ S1x256x128.size a) :
    KeysAt k (arg1.view.readAt (Elt Ideal) (Rect.unit (s := S1x256x128) ![0, 0, 0] S1x256x128.size inb).toLoadRect f) := by
  rw [View.readAt_full]; exact h

theorem body_wp (k : ℕ → ℤ) (f1 : Buf (Elt Ideal) (arg1.view.loc (c : Thread nD τ))) (h1 : KeysAt k (arg1.view.read (Elt Ideal) f1))
    (f2 : Buf (Elt Ideal) (arg2.view.loc (c : Thread nD τ))) (Q : PUnit → sProp 𝕄) :
    iprop((heldI c arg1 f1 ∗ heldI c arg2 f2)
      ∗ ∀ (f2' : Buf (Elt Ideal) (arg2.view.loc (c : Thread nD τ))), ⌜Stored arg2 k f2'⌝ -∗ (heldI c arg1 f1 ∗ heldI c arg2 f2') -∗ Q ⟨⟩)
      ⊢ wp frame (wpE (defs₀ (F := Ideal)) 𝒱₀ (c : Thread nD τ) none) E (cc0__sort_body g arg1 harg1 arg2 harg2) Q := by
  simp only [cc0__sort_body_eq_skeleton]; unfold cc0__sort_body_skel
  simp only [k0_part1_eq_skeleton, k0_part2_eq_skeleton]; unfold k0_part1_skel k0_part2_skel
  simp only [Prog.lift, Prog.bind_op, Prog.bind_ret, Prog.pure_eq_ret]
  have h5 := keysAt_load arg1 h1 inb_S1x256x128_S1x256x128_0_0_0
  iintro ⟨⟨H1, H2⟩, Hk⟩
  iapply (wp_load 𝒱₀ (c : Thread nD τ) none E (m := arg1) (View.setOn_subset_set _ _)) $$ H1; iintro H1
  iapply (wp_call 𝒱₀ (c : Thread nD τ) none E (12 * 20 + 19) (fun u hu => nomatch hu))
  iapply (short_le c E g k 12 1 (by decide) rfl _ _ (holds_start h5))
  iintro %z1 %hz1
  iapply (wp_load 𝒱₀ (c : Thread nD τ) none E (m := arg1) (View.setOn_subset_set _ _)) $$ H1; iintro H1
  have hall := holds_all h5 hz1
  have hrow : ∀ v, IsFlat 256 v → ∀ s, 7 ≤ s → s < 16 → 2 ^ (s + 1) ∣ 256 * 128 → Partner 256 s (rowP (BitVec.ofNat 32 256) rotates_S256x128_d0 v (BitVec.ofNat 32 (2 ^ s))) :=
    fun v hv s h7 hs hd => partner_row rotates_S256x128_d0 hv (by decide) h7 hs hd
  have hlane : ∀ v, IsFlat 256 v → ∀ s, s < 7 → Partner 256 s (laneP rotates_S256x128_d1 v (BitVec.ofNat 32 (2 ^ s))) :=
    fun v hv s hs => partner_lane rotates_S256x128_d1 hv (by decide) hs
  iapply (wp_call 𝒱₀ (c : Thread nD τ) none E 13 (fun u hu => nomatch hu))
  iapply (rows_le c E (t := 13) (by decide) _ (by decide) (by decide) flat256 (hrow _ flat256) (steps4 c E g k0_pay53) (ends4 c E g k0_pay53) 13 (by decide) (by decide) _ _ _ hall)
  iintro %z2 %hz2
  obtain ⟨m2, E2, hm2, hj2, hH2, he2⟩ := hz2
  rw [hj2]
  iapply (wp_call 𝒱₀ (c : Thread nD τ) none E m2 (fun u hu => nomatch hu))
  iapply (lanes_le c E (t := 13) (by decide) _ (by decide) (by decide) flat256 (hlane _ flat256) (steps5 c E g k0_pay53) (ends5 c E g k0_pay53) m2 hm2 _ _ _ hH2)
  iintro %z3 %hz3
  rw [he2] at hz3
  iapply (wp_call 𝒱₀ (c : Thread nD τ) none E 14 (fun u hu => nomatch hu))
  iapply (rows_le c E (t := 14) (by decide) _ (by decide) (by decide) flat256 (hrow _ flat256) (steps6 c E g k0_pay53) (ends6 c E g k0_pay53) 14 (by decide) (by decide) _ _ _ hz3)
  iintro %z4 %hz4
  obtain ⟨m4, E4, hm4, hj4, hH4, he4⟩ := hz4
  rw [hj4]
  iapply (wp_call 𝒱₀ (c : Thread nD τ) none E m4 (fun u hu => nomatch hu))
  iapply (lanes_le c E (t := 14) (by decide) _ (by decide) (by decide) flat256 (hlane _ flat256) (steps7 c E g k0_pay53) (ends7 c E g k0_pay53) m4 hm4 _ _ _ hH4)
  iintro %z5 %hz5
  rw [he4] at hz5
  have h64 := holds_64 hz5
  iapply (wp_call 𝒱₀ (c : Thread nD τ) none E 13 (fun u hu => nomatch hu))
  iapply (rows_le c E (t := 15) (by decide) _ (by decide) (by decide) flat64 (fun s h7 hs hd => partner_row rotates_S64x128_d0 flat64 (by decide) h7 hs hd)
    (steps8 c E g _) (ends8 c E g _) 13 (by decide) (by decide) _ _ _ h64)
  iintro %z6 %hz6
  obtain ⟨m6, E6, hm6, hj6, hH6, he6⟩ := hz6
  rw [hj6]
  iapply (wp_call 𝒱₀ (c : Thread nD τ) none E m6 (fun u hu => nomatch hu))
  iapply (lanes_le c E (t := 15) (by decide) _ (by decide) (by decide) flat64 (fun s hs => partner_lane rotates_S64x128_d1 flat64 (by decide) hs)
    (steps9 c E g _) (ends9 c E g _) m6 hm6 _ _ _ hH6)
  iintro %z7 %hz7
  rw [he6] at hz7
  iapply (wp_load 𝒱₀ (c : Thread nD τ) none E (m := arg2) (View.setOn_subset_set _ _)) $$ H2; iintro H2
  iapply (wp_store_writes₀ 𝒱₀ (c : Thread nD τ) none E (m := arg2) (View.set_slice_subset _ _)) $$ H2; iintro H2
  rw [wp_ret]; imodintro
  iapply Hk
  on_goal 2 =>
    isplitl [H1]
    · iexact H1
    · iexact H2
  ipureintro
  exact stored_intro arg2 (K := z7.1) (I := z7.2.1) (holds_last hz7) _

end Cert.Proof.WholeSort

end
-- ==== Proof.WholeNmsLoop.lean ====
/-
  The inner loop of the suppression kernel, which settles one tile: entered with a round and the round after it, it comes
  back with the tile's kept positions. Each round settles at least one more row, so it ends within 257 rounds. Before it:
  the proof's resource algebra and the words the outer loop computes from its counter.
-/
module

public import proofs.«01_k».proof.Proof.NmsVal
public import proofs.«01_k».proof.Proof.WholeBase
public import proofs.«01_k».proof.Proof.Gen.WholeIdeal.Points
public import proofs.«01_k».proof.Proof.Gen.WholeIdeal.Launch
public import Idealize.ShloMosaic.Lib.Pipeline.Sound
public import Idealize.ShloMosaic.Lib.Tactic
public import Idealize.ShloMosaic.Lib.VecWindow

@[expose] public section

noncomputable section

namespace Cert.Proof.WholeNms

open Cert.Proof.Whole (UU UP EP 𝒱₀)

open Cert.WholeIdeal Cert.WholeIdeal.Gen Cert.Proof.Nms
open Idealize.ShloMosaic.SparseCore.Cfg (HIx)

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

/-! ## Words computed from the counter -/

theorem off1_eq : ∀ i < 20, k2_off1 (BitVec.ofNat 32 i) = ![0, i, 0, 0] := by decide

theorem off2_eq : ∀ i < 20, k2_off2 (BitVec.ofNat 32 i) = ![0, i, 0, 0] := by decide

theorem off7_eq : ∀ i < 20, k2_off7 (BitVec.ofNat 32 i) = ![i, 0, 0] := by decide

theorem iv_toNat : ∀ t < 20, (Scf.iv 0#32 1#32 t).toNat = t := by decide

theorem trips1_eq : ∀ i < 20, (k2_t1_loop (BitVec.ofNat 32 i)).trips = i := by decide

theorem trips2_eq : ∀ i < 20, (k2_t2_loop (BitVec.ofNat 32 i)).trips = 0 := by decide

theorem ok1 : ∀ i < 20, (k2_t1_loop (BitVec.ofNat 32 i)).OK := by decide

theorem ok2 : ∀ i < 20, (k2_t2_loop (BitVec.ofNat 32 i)).OK := by decide

theorem off3_eq {i : ℕ} (hi : i < 20) (t : Fin (k2_t1_loop (BitVec.ofNat 32 i)).trips) : k2_off3 (BitVec.ofNat 32 i) t = ![0, t.val, 0, 0] := by
  have h := lt_of_lt_of_eq t.isLt (trips1_eq i hi)
  show ![0, (Scf.iv 0#32 1#32 t.val).toNat, 0, 0] = _
  rw [iv_toNat t.val (by omega)]

theorem off4_eq {i : ℕ} (hi : i < 20) (t : Fin (k2_t1_loop (BitVec.ofNat 32 i)).trips) : k2_off4 (BitVec.ofNat 32 i) t = ![t.val, 0, 0] := by
  have h := lt_of_lt_of_eq t.isLt (trips1_eq i hi)
  show ![(Scf.iv 0#32 1#32 t.val).toNat, 0, 0] = _
  rw [iv_toNat t.val (by omega)]

theorem inbA {i : ℕ} (hi : i < 20) : ∀ a, (![0, i, 0, 0] : Fin 4 → ℕ) a + S1x1x256x4.size a ≤ S1x20x256x4.size a := by
  intro a
  match a with
  | ⟨0, _⟩ => show 0 + 1 ≤ 1; omega
  | ⟨1, _⟩ => show i + 1 ≤ 20; omega
  | ⟨2, _⟩ => show 0 + 256 ≤ 256; omega
  | ⟨3, _⟩ => show 0 + 4 ≤ 4; omega

theorem inbB {i : ℕ} (hi : i < 20) : ∀ a, (![0, i, 0, 0] : Fin 4 → ℕ) a + S1x1x4x256.size a ≤ S1x20x4x256.size a := by
  intro a
  match a with
  | ⟨0, _⟩ => show 0 + 1 ≤ 1; omega
  | ⟨1, _⟩ => show i + 1 ≤ 20; omega
  | ⟨2, _⟩ => show 0 + 4 ≤ 4; omega
  | ⟨3, _⟩ => show 0 + 256 ≤ 256; omega

theorem inbS {i : ℕ} (hi : i < 20) : ∀ a, (![i, 0, 0] : Fin 3 → ℕ) a + S1x1x256.size a ≤ S20x8x256.size a := by
  intro a
  match a with
  | ⟨0, _⟩ => show i + 1 ≤ 20; omega
  | ⟨1, _⟩ => show 0 + 1 ≤ 8; omega
  | ⟨2, _⟩ => show 0 + 256 ≤ 256; omega

/-- Every offset the counter names lies inside its array. -/
theorem chk_of_lt {i : ℕ} (hi : i < 20) : k2_chk1 (BitVec.ofNat 32 i) := by
  have hn : ∀ t : Fin (k2_t2_loop (BitVec.ofNat 32 i)).trips, False := fun t => by
    have h := lt_of_lt_of_eq t.isLt (trips2_eq i hi)
    exact absurd h (Nat.not_lt_zero _)
  have hl : ∀ t : Fin (k2_t1_loop (BitVec.ofNat 32 i)).trips, t.val < 20 := fun t => by
    have h := lt_of_lt_of_eq t.isLt (trips1_eq i hi)
    omega
  refine ⟨?_, ?_, ok1 i hi, ?_, ?_, ok2 i hi, fun t => (hn t).elim, fun t => (hn t).elim, ?_⟩
  · rw [off1_eq i hi]; exact inbA hi
  · rw [off2_eq i hi]; exact inbB hi
  · intro t; rw [off3_eq hi t]; exact inbB (hl t)
  · intro t; rw [off4_eq hi t]; exact inbS (hl t)
  · rw [off7_eq i hi]; exact inbS hi

/-! ## The inner loop -/

theorem while2_le (c : Dev nD) (E : Set ℕ) (i : grid2.Coords) (q : BitVec 32) (hw : k2_chk1 q)
    (M : Fin 256 → Fin 256 → Prop) (b y : Fin 256 → Prop) (hy : ∀ a, y a ↔ stepP M b y a)
    (vM : FVec Ideal S256x256 .f32) (vb : FVec Ideal S256x1 .f32)
    (hM : ∀ a c, vM (ix2 a c) = ind (c < a ∧ M a c)) (hb : ∀ a, vb (ix2 a (0 : Fin 1)) = ind (b a)) :
    ∀ n t, t + n = 257 → ∀ (x : Fin 256 → Prop) (vx vx' : FVec Ideal S256x1 .f32),
      (∀ a, vx (ix2 a (0 : Fin 1)) = ind (x a)) → (∀ a, vx' (ix2 a (0 : Fin 1)) = ind (stepP M b x a)) →
      (∀ a : Fin 256, a.val < t → (x a ↔ y a)) → ∀ Q : FVec Ideal S256x1 .f32 × FVec Ideal S256x1 .f32 → sProp 𝕄,
      iprop(∀ r : FVec Ideal S256x1 .f32 × FVec Ideal S256x1 .f32, ⌜∀ a, r.2 (ix2 a (0 : Fin 1)) = ind (y a)⌝ -∗ Q r)
        ⊢ wp frame (wpE (defs₀ (F := Ideal)) 𝒱₀ (c : Thread nD τ) (some n)) E (defs₀ (F := Ideal) .tc 13 ⟨i, q, hw, vM, vb, vx, vx'⟩) Q := by
  intro n
  induction n with
  | zero =>
    intro t ht x vx vx' hx hx' hag Q
    have hall : ∀ a, x a ↔ y a := fun a => hag a (by have := a.isLt; have h0 : t = 257 := ht; omega)
    have hxy : x = y := funext fun a => propext (hall a)
    subst hxy
    show _ ⊢ wp frame (wpE (defs₀ (F := Ideal)) 𝒱₀ (c : Thread nD τ) (some 0)) E (cc2_while2 i q hw vM vb vx vx') Q
    simp only [cc2_while2_eq_skeleton]; unfold cc2_while2_skel
    have htest : ¬Scalar.cmpf .ogt (k2_pay7 (F := Ideal) vx vx') (Scalar.ofBits .f32 0x00000000#32) = 1#1 := by
      refine mt (pay7_iff vx vx').1 ?_
      rintro ⟨a, ha⟩
      exact ha (by rw [hx, hx']; exact ind_congr (hy a))
    simp only [htest, ↓reduceIte, Prog.pure_eq_ret]
    iintro Hk
    rw [wp_ret]; imodintro
    iapply Hk
    ipureintro
    intro a
    exact (hx' a).trans (ind_congr (hy a)).symm
  | succ n ih =>
    intro t ht x vx vx' hx hx' hag Q
    show _ ⊢ wp frame (wpE (defs₀ (F := Ideal)) 𝒱₀ (c : Thread nD τ) (some (n + 1))) E (cc2_while2 i q hw vM vb vx vx') Q
    simp only [cc2_while2_eq_skeleton]; unfold cc2_while2_skel
    by_cases htest : Scalar.cmpf .ogt (k2_pay7 (F := Ideal) vx vx') (Scalar.ofBits .f32 0x00000000#32) = 1#1
    · simp only [htest, ↓reduceIte, Prog.lift]
      iintro Hk
      iapply (wp_call 𝒱₀ (c : Thread nD τ) (some (n + 1)) E n (fun u hu => by cases hu; exact Nat.lt_succ_self n))
      iapply (ih (t + 1) (by omega) (stepP M b x) vx' (k2_pay8 vM vb vx') hx' (pay8_apply M b (stepP M b x) vM vb vx' hM hb hx') (stepP_agree M b hy hag))
      iintro %r %hr
      rw [wp_ret]; imodintro
      iapply Hk
      ipureintro
      exact hr
    · simp only [htest, ↓reduceIte, Prog.pure_eq_ret]
      have hfix : ∀ a, x a ↔ stepP M b x a := by
        intro a
        by_contra hne
        refine htest ((pay7_iff vx vx').mpr ⟨a, fun h => hne ?_⟩)
        rw [hx, hx'] at h
        exact ind_inj h
      iintro Hk
      rw [wp_ret]; imodintro
      iapply Hk
      ipureintro
      intro a
      exact (hx' a).trans (ind_congr ((hfix a).symm.trans (stepP_unique M b hy hfix a)))

end Cert.Proof.WholeNms

end
-- ==== Proof.WholeNmsBody.lean ====
/-
  The outer loop and the body of the suppression kernel at one batch: tile by tile the kept positions are written to the
  scratch rows and the kept boxes added at their places of the result, until a thousand are placed or the tiles run out.
-/
module

public import proofs.«01_k».proof.Proof.WholeNmsLoop

@[expose] public section

noncomputable section

namespace Cert.Proof.WholeNms

open Cert.Proof.Whole (UU UP EP 𝒱₀)

open Cert.WholeIdeal Cert.WholeIdeal.Gen Cert.Proof.Nms
open Idealize.ShloMosaic.SparseCore.Cfg (HIx)

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

open scoped Classical in
/-- The tile the outer loop stops at, from tile `i` with `k` tiles left. -/
def stopFrom (S : ℕ → ℕ → Prop) : ℕ → ℕ → ℕ
  | 0, i => i
  | k + 1, i => if cnt S (256 * i) < 1000 then stopFrom S k (i + 1) else i

/-! ## Reading the tiles -/

section Tiles

variable (B : ℕ → Fin 4 → EReal) (arg1 : Memref sig .tc .vmem S1x20x256x4 .f32) (arg2 : Memref sig .tc .vmem S1x20x4x256 .f32)
  (arg3 : Memref sig .tc .vmem S1x1024x4 .f32) (arg4 : Memref sig .tc .vmem S20x8x256 .f32)

/-- The box rows as the first window holds them. -/
def RowsA (f : arg1.view.ty.Contents (Elt Ideal)) : Prop :=
  ∀ (t : Fin 20) (a : Fin 256) (c : Fin 4), arg1.view.read (Elt Ideal) f (ix4 (0 : Fin 1) t a c) = B (256 * t + a) c

/-- The boxes with the coordinate outside, as the second window holds them. -/
def RowsB (f : arg2.view.ty.Contents (Elt Ideal)) : Prop :=
  ∀ (t : Fin 20) (c : Fin 4) (a : Fin 256), arg2.view.read (Elt Ideal) f (ix4 (0 : Fin 1) t c a) = B (256 * t + a) c

/-- The result's rows after the first `n` positions. -/
def RowsO (n : ℕ) (f : arg3.view.ty.Contents (Elt Ideal)) : Prop :=
  ∀ (p : Fin 1024) (c : Fin 4), arg3.view.read (Elt Ideal) f (ix3 (0 : Fin 1) p c) = outv (Sup B) (fun j => B j c) n p

/-- The kept positions of the tiles before tile `i`, in the scratch rows. -/
def RowsK (i : ℕ) (f : arg4.view.ty.Contents (Elt Ideal)) : Prop :=
  ∀ (t : Fin 20) (a : Fin 256), t.val < i → arg4.view.read (Elt Ideal) f (ix3 t (0 : Fin 8) a) = ind (K (Sup B) (256 * t + a))

variable {B arg1 arg2 arg3 arg4}

theorem tileA {f : arg1.view.ty.Contents (Elt Ideal)} (h : RowsA B arg1 f) {off : Fin 4 → ℕ} {i : ℕ} (hi : i < 20) (e : off = ![0, i, 0, 0])
    (inb : ∀ a, off a + S1x1x256x4.size a ≤ S1x20x256x4.size a) (a : Fin 256) (c : Fin 4) :
    arg1.view.readAt (Elt Ideal) (Rect.unit (s := S1x20x256x4) off S1x1x256x4.size inb).toLoadRect f (ix4 (0 : Fin 1) (0 : Fin 1) a c) = B (256 * i + a) c := by
  rw [View.readAt_unit _ f inb e (inbA hi)]
  refine Eq.trans ?_ (h ⟨i, hi⟩ a c)
  refine congrArg (arg1.view.read (Elt Ideal) f) (funext fun d => Fin.ext ?_)
  match d with
  | ⟨0, _⟩ => rfl
  | ⟨1, _⟩ => show i + 1 * 0 = i; omega
  | ⟨2, _⟩ => show 0 + 1 * a.val = a.val; omega
  | ⟨3, _⟩ => show 0 + 1 * c.val = c.val; omega

theorem tileB {f : arg2.view.ty.Contents (Elt Ideal)} (h : RowsB B arg2 f) {off : Fin 4 → ℕ} {i : ℕ} (hi : i < 20) (e : off = ![0, i, 0, 0])
    (inb : ∀ a, off a + S1x1x4x256.size a ≤ S1x20x4x256.size a) (c : Fin 4) (a : Fin 256) :
    arg2.view.readAt (Elt Ideal) (Rect.unit (s := S1x20x4x256) off S1x1x4x256.size inb).toLoadRect f (ix4 (0 : Fin 1) (0 : Fin 1) c a) = B (256 * i + a) c := by
  rw [View.readAt_unit _ f inb e (inbB hi)]
  refine Eq.trans ?_ (h ⟨i, hi⟩ c a)
  refine congrArg (arg2.view.read (Elt Ideal) f) (funext fun d => Fin.ext ?_)
  match d with
  | ⟨0, _⟩ => rfl
  | ⟨1, _⟩ => show i + 1 * 0 = i; omega
  | ⟨2, _⟩ => show 0 + 1 * c.val = c.val; omega
  | ⟨3, _⟩ => show 0 + 1 * a.val = a.val; omega

theorem tileK {i : ℕ} {f : arg4.view.ty.Contents (Elt Ideal)} (h : RowsK B arg4 i f) {off : Fin 3 → ℕ} {t : ℕ} (hi : i < 20) (ht : t < i) (e : off = ![t, 0, 0])
    (inb : ∀ a, off a + S1x1x256.size a ≤ S20x8x256.size a) (a : Fin 256) :
    arg4.view.readAt (Elt Ideal) (Rect.unit (s := S20x8x256) off S1x1x256.size inb).toLoadRect f (ix3 (0 : Fin 1) (0 : Fin 1) a) = ind (K (Sup B) (256 * t + a)) := by
  rw [View.readAt_unit _ f inb e (inbS (by omega))]
  refine Eq.trans ?_ (h ⟨t, by omega⟩ a ht)
  refine congrArg (arg4.view.read (Elt Ideal) f) (funext fun d => Fin.ext ?_)
  match d with
  | ⟨0, _⟩ => show t + 1 * 0 = t; omega
  | ⟨1, _⟩ => rfl
  | ⟨2, _⟩ => show 0 + 1 * a.val = a.val; omega

/-- Storing a tile's kept row keeps those before it and adds the tile's own. -/
theorem rowsK_store {i : ℕ} (hi : i < 20) {f : arg4.view.ty.Contents (Elt Ideal)} (h : RowsK B arg4 i f) {off : Fin 3 → ℕ} (e : off = ![i, 0, 0])
    (inb : ∀ a, off a + S1x1x256.size a ≤ S20x8x256.size a) (w : Vec Ideal S1x1x256 .f32)
    (hw : ∀ a : Fin 256, w (ix3 (0 : Fin 1) (0 : Fin 1) a) = ind (K (Sup B) (256 * i + a))) :
    RowsK B arg4 (i + 1) (arg4.view.writes (Elt Ideal) f [⟨Rect.unit (s := S20x8x256) off S1x1x256.size inb, w⟩]) := by
  intro t a ht
  rw [View.read_writes_cons_put _ f inb w [] e, View.writes_nil]
  unfold VecWindow.put
  by_cases hti : t.val = i
  · have hm : ∀ d, (![i, 0, 0] : Fin 3 → ℕ) d ≤ ((ix3 t (0 : Fin 8) a : S20x8x256.Idx) d).val
        ∧ ((ix3 t (0 : Fin 8) a : S20x8x256.Idx) d).val < (![i, 0, 0] : Fin 3 → ℕ) d + S1x1x256.size d := by
      intro d
      match d with
      | ⟨0, _⟩ => show i ≤ t.val ∧ t.val < i + 1; omega
      | ⟨1, _⟩ => show 0 ≤ 0 ∧ 0 < 0 + 1; omega
      | ⟨2, _⟩ => show 0 ≤ a.val ∧ a.val < 0 + 256; have := a.isLt; omega
    rw [dif_pos hm]
    refine Eq.trans (congrArg w ?_) ((hw a).trans (by rw [hti]))
    funext d
    refine Fin.ext ?_
    match d with
    | ⟨0, _⟩ => show t.val - i = 0; omega
    | ⟨1, _⟩ => rfl
    | ⟨2, _⟩ => show a.val - 0 = a.val; omega
  · rw [dif_neg]
    · exact h t a (by omega)
    · intro hall
      have := (hall 0).1
      have h0 : i ≤ t.val := this
      omega

end Tiles

/-! ## The hits from the earlier tiles -/

section Outer

variable (B : ℕ → Fin 4 → EReal) (c : Dev nD) (g : grid2.Coords)
  (arg1 : Memref sig .tc .vmem S1x20x256x4 .f32) (harg1 : arg1.IsWhole) (arg2 : Memref sig .tc .vmem S1x20x4x256 .f32) (harg2 : arg2.IsWhole)
  (arg3 : Memref sig .tc .vmem S1x1024x4 .f32) (harg3 : arg3.IsWhole) (arg4 : Memref sig .tc .vmem S20x8x256 .f32) (harg4 : arg4.IsWhole)

/-- A memref's buffer at contents `f`, held whole. -/
abbrev held {s : Shape} (m : Memref sig .tc .vmem s .f32) (f : Buf (Elt Ideal) (m.view.loc (c : Thread nD τ))) : sProp 𝕄 :=
  (m.view.loc (c : Thread nD τ) ↦[m.view.set]{fullShare} f)

/-- What the hit counts say before column tile `k`. -/
def Hits (i k : ℕ) (acc : FVec Ideal S256x1 .f32) : Prop :=
  ∀ a : Fin 256, 0 ≤ acc (ix2 a (0 : Fin 1)) ∧ (0 < acc (ix2 a (0 : Fin 1)) ↔ ∃ j < 256 * k, Sup B j (256 * i + a) ∧ K (Sup B) j)

theorem hits_zero (i : ℕ) : Hits B i 0 (k2_pay18 (F := Ideal)) := by
  intro a
  rw [show k2_pay18 (F := Ideal) (ix2 a (0 : Fin 1)) = 0 from pay18_apply a]
  exact ⟨le_rfl, ⟨fun h => absurd h (lt_irrefl _), fun ⟨j, hj, _⟩ => absurd hj (by omega)⟩⟩

theorem hits_succ (i k : ℕ) (acc : FVec Ideal S256x1 .f32) (h : Hits B i k acc) (q : IVec S256x256 1)
    (hq : ∀ a b : Fin 256, q (ix2 a b) = 1#1 ↔ Sup B (256 * i + a) (256 * k + b) ∧ K (Sup B) (256 * k + b)) :
    Hits B i (k + 1) (k2_pay19 acc q (Scalar.ofBits .f32 0x3F800000#32)) := by
  intro a
  rw [show k2_pay19 (F := Ideal) acc q (Scalar.ofBits .f32 0x3F800000#32) (ix2 a (0 : Fin 1)) = _ from pay19_apply acc q a]
  have h0 : (0 : EReal) ≤ ∑ b : Fin 256, ind (q (ix2 a b) = 1#1) := Finset.sum_nonneg fun b _ => ind_nonneg _
  have hs := sum_pos_iff Finset.univ (fun b : Fin 256 => ind (q (ix2 a b) = 1#1)) fun b => ind_nonneg _
  refine ⟨add_nonneg (h a).1 h0, ?_⟩
  constructor
  · intro hp
    rcases lt_or_eq_of_le (h a).1 with hpos | hz
    · obtain ⟨j, hj, hr⟩ := (h a).2.mp hpos
      exact ⟨j, by omega, hr⟩
    · rw [← hz, zero_add] at hp
      obtain ⟨b, _, hb⟩ := hs.mp hp
      obtain ⟨h1, h2⟩ := (hq a b).mp (ind_pos.mp hb)
      exact ⟨256 * k + b, by have := b.isLt; omega, (Sup_comm B _ _).mp h1, h2⟩
  · rintro ⟨j, hj, h1, h2⟩
    by_cases hjk : j < 256 * k
    · exact lt_of_lt_of_le ((h a).2.mpr ⟨j, hjk, h1, h2⟩) (le_add_of_nonneg_right h0)
    · refine lt_of_lt_of_le (hs.mpr ⟨⟨j - 256 * k, by omega⟩, Finset.mem_univ _, ind_pos.mpr ((hq a _).mpr ?_)⟩) (le_add_of_nonneg_left (h a).1)
      show Sup B (256 * i + a) (256 * k + (j - 256 * k)) ∧ K (Sup B) (256 * k + (j - 256 * k))
      rw [show 256 * k + (j - 256 * k) = j by omega]
      exact ⟨(Sup_comm B _ _).mp h1, h2⟩

/-- What the hit loop holds before column tile `k`. -/
def hitInv (f2 : Buf (Elt Ideal) (arg2.view.loc (c : Thread nD τ))) (f4 : Buf (Elt Ideal) (arg4.view.loc (c : Thread nD τ))) (i k : ℕ) (acc : FVec Ideal S256x1 .f32) : sProp 𝕄 :=
  iprop(⌜Hits B i k acc⌝ ∗ held c arg2 f2 ∗ held c arg4 f4)

theorem hit_trip (E : Set ℕ) (bd : Option ℕ) {i : ℕ} (hi : i < 20) (hw : k2_chk1 (BitVec.ofNat 32 i))
    (v9 : FVec Ideal S256x256 .f32) (v18 : IVec S256x1 32) (v17 v13 : FVec Ideal S256x256 .f32) (v19 : IVec S1024x1 32) (arg6 : BitVec 32)
    (v : Vec Ideal S1x1x256x4 .f32) (hv : ∀ (a : Fin 256) (c : Fin 4), v (ix4 (0 : Fin 1) (0 : Fin 1) a c) = B (256 * i + a) c)
    (f2 : Buf (Elt Ideal) (arg2.view.loc (c : Thread nD τ))) (h2 : RowsB B arg2 f2) (f4 : Buf (Elt Ideal) (arg4.view.loc (c : Thread nD τ))) (h4 : RowsK B arg4 i f4)
    (k : Fin (k2_t1_loop (BitVec.ofNat 32 i)).trips) (acc : FVec Ideal S256x1 .f32) :
    hitInv B c arg2 arg4 f2 f4 i k acc
      ⊢ wp frame (wpE (defs₀ (F := Ideal)) 𝒱₀ (c : Thread nD τ) bd) E
          (k2_t1_body g arg1 harg1 arg2 harg2 arg4 harg4 v9 v18 v17 v13 v19 arg3 harg3 (BitVec.ofNat 32 i) arg6 hw v k acc)
          (hitInv B c arg2 arg4 f2 f4 i (k.val + 1)) := by
  have hk : k.val < i := lt_of_lt_of_eq k.isLt (trips1_eq i hi)
  unfold k2_t1_body
  simp only [k2_part1_eq_skeleton]; unfold k2_part1_skel
  simp only [Prog.lift, Prog.bind_op, Prog.bind_ret, Prog.pure_eq_ret]
  unfold hitInv
  iintro ⟨%hh, H2, H4⟩
  iapply (wp_load 𝒱₀ (c : Thread nD τ) bd E (m := arg2) (View.setOn_subset_set _ _)) $$ H2; iintro H2
  iapply (wp_load 𝒱₀ (c : Thread nD τ) bd E (m := arg4) (View.setOn_subset_set _ _)) $$ H4; iintro H4
  rw [wp_ret]; imodintro
  isplitr
  · ipureintro
    refine hits_succ B i k acc hh _ fun a b => ?_
    refine (pay9_apply v hv _ (tileB h2 (by omega) (off3_eq hi k) _) _ a b).trans (and_congr_right fun _ => ?_)
    rw [tileK h4 hi hk (off4_eq hi k)]
    exact ind_pos
  isplitl [H2]; · iexact H2
  iexact H4

end Outer

end Cert.Proof.WholeNms

end
-- ==== Proof.WholeNmsOuter.lean ====
/-
  The outer loop of the suppression kernel, by induction on the tiles left, and the body that starts it.
-/
module

public import proofs.«01_k».proof.Proof.WholeNmsBody

@[expose] public section

noncomputable section

namespace Cert.Proof.WholeNms

open Cert.Proof.Whole (UU UP EP 𝒱₀)

open Cert.WholeIdeal Cert.WholeIdeal.Gen Cert.Proof.Nms
open Idealize.ShloMosaic.SparseCore.Cfg (HIx)

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 1) (Elt Ideal) ℕ UU ℕ

variable (B : ℕ → Fin 4 → EReal) (c : Dev nD) (g : grid2.Coords)
  (arg1 : Memref sig .tc .vmem S1x20x256x4 .f32) (harg1 : arg1.IsWhole) (arg2 : Memref sig .tc .vmem S1x20x4x256 .f32) (harg2 : arg2.IsWhole)
  (arg3 : Memref sig .tc .vmem S1x1024x4 .f32) (harg3 : arg3.IsWhole) (arg4 : Memref sig .tc .vmem S20x8x256 .f32) (harg4 : arg4.IsWhole)

/-- Inside a tile the kept positions are the fixed point of a round. -/
theorem tile_fixed (S : ℕ → ℕ → Prop) (i : ℕ) (a : Fin 256) :
    K S (256 * i + a) ↔ stepP (fun a c : Fin 256 => S (256 * i + c) (256 * i + a)) (fun a => base S i a) (fun a => K S (256 * i + a)) a := by
  rw [K_tile]
  unfold stepP
  refine and_congr_right fun _ => not_congr ⟨?_, ?_⟩
  · rintro ⟨c, hc, h1, h2⟩
    exact ⟨⟨c, by have := a.isLt; omega⟩, ⟨Fin.lt_def.mpr hc, h1⟩, h2⟩
  · rintro ⟨c, ⟨hc, h1⟩, h2⟩
    exact ⟨c.val, Fin.lt_def.mp hc, h1, h2⟩

/-- The tile's starting set from the hit counts. -/
theorem base_hits {i : ℕ} (hi : i < 20) (acc : FVec Ideal S256x1 .f32) (h : Hits B i i acc) (a : Fin 256) :
    k2_pay29 (F := Ideal) (iota .tc S256x1 32 [0] iota_S256x1_d0_w32) (BitVec.ofNat 32 i) acc (ix2 a (0 : Fin 1)) = ind (base (Sup B) i a) := by
  refine (pay29_apply hi acc a).trans ?_
  refine ind_congr (and_congr_right fun _ => ?_)
  rw [(h a).2]
  exact ⟨fun hn j hj hr => hn ⟨j, hj, hr⟩, fun hn ⟨j, hj, hr⟩ => hn j hj hr⟩

open scoped Classical in
/-- At most so many are kept as there are positions. -/
theorem cnt_le (S : ℕ → ℕ → Prop) (n : ℕ) : cnt S n ≤ n := by
  unfold cnt; exact Nat.count_le _

/-- The result's rows after a tile. -/
theorem rowsO_store {i : ℕ} (w : Vec Ideal S1x1x4x256 .f32) (hw : ∀ (c : Fin 4) (a : Fin 256), w (ix4 (0 : Fin 1) (0 : Fin 1) c a) = B (256 * i + a) c)
    (hi : i < 20) (x : FVec Ideal S1x256 .f32) (hx : ∀ a : Fin 256, x (ix2 (0 : Fin 1) a) = ind (K (Sup B) (256 * i + a)))
    {f : arg3.view.ty.Contents (Elt Ideal)} (h : RowsO B arg3 (256 * i) f) {off off' : Fin 3 → ℕ} (inb : ∀ a, off a + S1x1024x4.size a ≤ S1x1024x4.size a)
    (inb' : ∀ a, off' a + S1x1024x4.size a ≤ S1x1024x4.size a) :
    RowsO B arg3 (256 * (i + 1)) (arg3.view.writes (Elt Ideal) f [⟨Rect.unit (s := S1x1024x4) off S1x1024x4.size inb,
      k2_pay5 (k2_pay33 (F := Ideal) k2_pay3 (iota .tc S1024x1 32 [0] iota_S1024x1_d0_w32) (BitVec.ofNat 32 (cnt (Sup B) (256 * i))) (k2_pay12 w) x
        (arg3.view.readAt (Elt Ideal) (Rect.unit (s := S1x1024x4) off' S1x1024x4.size inb').toLoadRect f))⟩]) := by
  intro p c
  rw [View.read_writes_full _ f inb _ []]
  have hc : cnt (Sup B) (256 * i) ≤ 256 * i := cnt_le _ _
  refine (pay5_apply _ p c).trans ((pay33_apply (fun a => K (Sup B) (256 * i + a)) x hx (cnt (Sup B) (256 * i)) (by omega) w _ p c).trans ?_)
  rw [View.readAt_full, h p c, outv_tile]
  refine congrArg (_ + ·) (Finset.sum_congr rfl fun a _ => ?_)
  rw [hw, cnt_add]

open scoped Classical in
theorem while1_le (E : Set ℕ)
    (f1 : Buf (Elt Ideal) (arg1.view.loc (c : Thread nD τ))) (h1 : RowsA B arg1 f1)
    (f2 : Buf (Elt Ideal) (arg2.view.loc (c : Thread nD τ))) (h2 : RowsB B arg2 f2) :
    ∀ r i, i + r = 20 → ∀ (f3 : Buf (Elt Ideal) (arg3.view.loc (c : Thread nD τ))) (f4 : Buf (Elt Ideal) (arg4.view.loc (c : Thread nD τ))),
      RowsO B arg3 (256 * i) f3 → RowsK B arg4 i f4 → ∀ Q : BitVec 32 × BitVec 32 → sProp 𝕄,
      iprop((held c arg1 f1 ∗ held c arg2 f2 ∗ held c arg3 f3 ∗ held c arg4 f4)
        ∗ ∀ (z : BitVec 32 × BitVec 32) (f3' : Buf (Elt Ideal) (arg3.view.loc (c : Thread nD τ))) (f4' : Buf (Elt Ideal) (arg4.view.loc (c : Thread nD τ))),
            ⌜RowsO B arg3 (256 * stopFrom (Sup B) r i) f3'⌝ -∗ (held c arg1 f1 ∗ held c arg2 f2 ∗ held c arg3 f3' ∗ held c arg4 f4') -∗ Q z)
      ⊢ wp frame (wpE (defs₀ (F := Ideal)) 𝒱₀ (c : Thread nD τ) (some (r * 300 + 299))) E
          (defs₀ (F := Ideal) .tc 12 ⟨g, arg1, harg1, arg2, harg2, arg4, harg4, k2_pay2, iota .tc S256x1 32 [0] iota_S256x1_d0_w32, k2_pay4, k2_pay3,
            iota .tc S1024x1 32 [0] iota_S1024x1_d0_w32, arg3, harg3, BitVec.ofNat 32 i, BitVec.ofNat 32 (cnt (Sup B) (256 * i))⟩) Q := by
  have hcnt : ∀ i, cnt (Sup B) (256 * i) ≤ 256 * i := fun i => cnt_le _ _
  have htest : ∀ i ≤ 20, Scalar.andi (Scalar.cmpi .slt (BitVec.ofNat 32 i) 20#32) (Scalar.cmpi .slt (BitVec.ofNat 32 (cnt (Sup B) (256 * i))) 1000#32) = 1#1
      ↔ i < 20 ∧ cnt (Sup B) (256 * i) < 1000 := by
    intro i hi
    have := hcnt i
    exact andi_eq_one.trans (and_congr (slt_nat (by omega) (by omega)) (slt_nat (by omega) (by omega)))
  intro r
  induction r with
  | zero =>
    intro i hir f3 f4 h3 h4 Q
    have hi : i = 20 := hir
    show _ ⊢ wp frame (wpE (defs₀ (F := Ideal)) 𝒱₀ (c : Thread nD τ) (some 299)) E
      (cc2_while1 g arg1 harg1 arg2 harg2 arg4 harg4 k2_pay2 (iota .tc S256x1 32 [0] iota_S256x1_d0_w32) k2_pay4 k2_pay3
            (iota .tc S1024x1 32 [0] iota_S1024x1_d0_w32) arg3 harg3 (BitVec.ofNat 32 i) (BitVec.ofNat 32 (cnt (Sup B) (256 * i)))) Q
    simp only [cc2_while1_eq_skeleton]; unfold cc2_while1_skel
    have ht : ¬Scalar.andi (Scalar.cmpi .slt (BitVec.ofNat 32 i) 20#32) (Scalar.cmpi .slt (BitVec.ofNat 32 (cnt (Sup B) (256 * i))) 1000#32) = 1#1 := by
      rw [htest i (by omega)]; omega
    simp only [ht, ↓reduceIte, Prog.pure_eq_ret]
    iintro ⟨H, Hk⟩
    rw [wp_ret]; imodintro
    iapply Hk
    · ipureintro; exact h3
    · iexact H
  | succ r ih =>
    intro i hir f3 f4 h3 h4 Q
    have hi : i < 20 := by omega
    have hw := chk_of_lt hi
    show _ ⊢ wp frame (wpE (defs₀ (F := Ideal)) 𝒱₀ (c : Thread nD τ) (some ((r + 1) * 300 + 299))) E
      (cc2_while1 g arg1 harg1 arg2 harg2 arg4 harg4 k2_pay2 (iota .tc S256x1 32 [0] iota_S256x1_d0_w32) k2_pay4 k2_pay3
            (iota .tc S1024x1 32 [0] iota_S1024x1_d0_w32) arg3 harg3 (BitVec.ofNat 32 i) (BitVec.ofNat 32 (cnt (Sup B) (256 * i)))) Q
    simp only [cc2_while1_eq_skeleton]; unfold cc2_while1_skel
    by_cases ht : Scalar.andi (Scalar.cmpi .slt (BitVec.ofNat 32 i) 20#32) (Scalar.cmpi .slt (BitVec.ofNat 32 (cnt (Sup B) (256 * i))) 1000#32) = 1#1
    · have hstop : stopFrom (Sup B) (r + 1) i = stopFrom (Sup B) r (i + 1) := by
        rw [stopFrom, if_pos ((htest i (by omega)).mp ht).2]
      rw [hstop]
      simp only [k2_part3_eq_skeleton, k2_part4_eq_skeleton, k2_part5_eq_skeleton]; unfold k2_part3_skel k2_part4_skel k2_part5_skel
      simp only [ht, ↓reduceIte, Prog.lift, Prog.bind_op, Prog.bind_ret, Prog.pure_eq_ret]
      iintro ⟨⟨H1, H2, H3, H4⟩, Hk⟩
      iapply (wp_assume 𝒱₀ (c : Thread nD τ) _ E hw)
      iapply (wp_load 𝒱₀ (c : Thread nD τ) _ E (m := arg1) (View.setOn_subset_set _ _)) $$ H1; iintro H1
      iapply (wp_load 𝒱₀ (c : Thread nD τ) _ E (m := arg2) (View.setOn_subset_set _ _)) $$ H2; iintro H2
      rw [bind_assoc]
      sl_for (hitInv B c arg2 arg4 f2 f4 i) $$ [H2 H4]
      case region =>
        intro k acc
        exact hit_trip B c g arg1 harg1 arg2 harg2 arg3 harg3 arg4 harg4 E _ hi hw _ _ _ _ _ _ _ (tileA h1 hi (off1_eq i hi) _) f2 h2 f4 h4 k acc
      · unfold hitInv
        isplitr
        · ipureintro; exact hits_zero B i
        isplitl [H2]; · iexact H2
        iexact H4
      iintro %acc HT; unfold hitInv
      icases HT with ⟨%hacc, H2, H4⟩
      have hacc' : Hits B i i acc := by
        have e : Scf.trips (k2_t1_loop (BitVec.ofNat 32 i)).lb (k2_t1_loop (BitVec.ofNat 32 i)).ub (k2_t1_loop (BitVec.ofNat 32 i)).st = i := trips1_eq i hi
        rwa [e] at hacc
      unfold while1_le.sl.prog.cont_1
      rw [bind_assoc]
      sl_for (fun _ acc' => (iprop(⌜acc' = acc⌝) : sProp 𝕄)) $$ []
      case region =>
        intro k
        exact absurd (lt_of_lt_of_eq k.isLt (trips2_eq i hi)) (Nat.not_lt_zero _)
      · ipureintro; rfl
      iintro %acc2 %hacc2
      subst hacc2
      unfold while1_le.sl.prog.cont_2
      simp only [Prog.bind_op, Prog.bind_ret]
      have hA := tileA h1 hi (off1_eq i hi) (k2_off1_inb _ hw)
      have hB := tileB h2 hi (off2_eq i hi) (k2_off2_inb _ hw)
      have hM := pay28_apply _ hA _ hB
      have hb := base_hits B hi acc2 hacc'
      rw [show ∀ (v9 : FVec Ideal S256x256 .f32) (v18 : IVec S256x1 32) (q : BitVec 32) (v33 v41 : FVec Ideal S256x1 .f32) (v48 : FVec Ideal S1x256 .f32)
        (v57 v66 : FVec Ideal S256x256 .f32), k2_pay30 (F := Ideal) v9 v18 q v33 v41 v48 v57 v66
          = k2_pay8 (k2_pay28 v9 v33 v48 v57 v66) (k2_pay29 v18 q v41) (k2_pay29 v18 q v41) from fun _ _ _ _ _ _ _ _ => rfl]
      iapply (wp_call 𝒱₀ (c : Thread nD τ) _ E 257 (fun u hu => by cases hu; show 257 < (r + 1) * 300 + 299; omega))
      iapply (while2_le c E g _ _ _ _ (fun a : Fin 256 => K (Sup B) (256 * i + a)) (tile_fixed (Sup B) i) _ _ hM hb 257 0 rfl _ _ _ hb
        (pay8_apply _ _ _ _ _ _ hM hb hb) (fun a h => absurd h (Nat.not_lt_zero _)))
      iintro %z %hz
      have hx : ∀ a : Fin 256, k2_pay31 (F := Ideal) k2_pay4 z.2 (ix2 (0 : Fin 1) a) = ind (K (Sup B) (256 * i + a)) := fun a => (pay31_apply z.2 a).trans (hz a)
      iapply (wp_load 𝒱₀ (c : Thread nD τ) _ E (m := arg4) (View.setOn_subset_set _ _)) $$ H4; iintro H4
      iapply (wp_store_writes₀ 𝒱₀ (c : Thread nD τ) _ E (m := arg4) (View.set_slice_subset _ _)) $$ H4; iintro H4
      iapply (wp_load 𝒱₀ (c : Thread nD τ) _ E (m := arg3) (View.setOn_subset_set _ _)) $$ H3; iintro H3
      iapply (wp_load 𝒱₀ (c : Thread nD τ) _ E (m := arg3) (View.setOn_subset_set _ _)) $$ H3; iintro H3
      iapply (wp_store_writes₀ 𝒱₀ (c : Thread nD τ) _ E (m := arg3) (View.set_slice_subset _ _)) $$ H3; iintro H3
      have h3' := rowsO_store B arg3 _ hB hi _ hx h3 inb_S1x1024x4_S1x1024x4_0_0_0 inb_S1x1024x4_S1x1024x4_0_0_0
      have h4' := rowsK_store hi h4 (off7_eq i hi) (k2_off7_inb _ hw) _ (fun a => (pay32_apply _ a).trans (hx a))
      have ec : Scalar.addi (BitVec.ofNat 32 (cnt (Sup B) (256 * i))) (Scalar.fptosi 32 (k2_pay6 (F := Ideal) (k2_pay31 k2_pay4 z.2)))
          = BitVec.ofNat 32 (cnt (Sup B) (256 * (i + 1))) := by
        refine (congrArg (Scalar.addi _) (pay6_count (fun a => K (Sup B) (256 * i + a)) _ hx)).trans ?_
        rw [show 256 * (i + 1) = 256 * i + 256 by ring, cnt_add]
        exact (BitVec.ofNat_add _ _).symm
      have ei : Scalar.addi (BitVec.ofNat 32 i) 1#32 = BitVec.ofNat 32 (i + 1) := (BitVec.ofNat_add _ _).symm
      simp only [ec, ei]
      iapply (wp_call 𝒱₀ (c : Thread nD τ) _ E (r * 300 + 299) (fun u hu => by cases hu; show r * 300 + 299 < (r + 1) * 300 + 299; omega))
      iapply (ih (i + 1) (by omega) _ _ h3' h4')
      isplitl [H1 H2 H3 H4]
      · isplitl [H1]; · iexact H1
        isplitl [H2]; · iexact H2
        isplitl [H3]; · iexact H3
        iexact H4
      iintro %z' %f3' %f4' %hO HH
      rw [wp_ret]; imodintro
      iapply Hk
      · ipureintro; exact hO
      · iexact HH
    · have hstop : stopFrom (Sup B) (r + 1) i = i := by
        rw [stopFrom, if_neg fun h => ht ((htest i (by omega)).mpr ⟨hi, h⟩)]
      rw [hstop]
      simp only [ht, ↓reduceIte, Prog.pure_eq_ret]
      iintro ⟨H, Hk⟩
      rw [wp_ret]; imodintro
      iapply Hk
      · ipureintro; exact h3
      · iexact H

/-- The result cleared holds the zero of every place no box has yet taken. -/
theorem rowsO_zero {f : arg3.view.ty.Contents (Elt Ideal)} (inb : ∀ a, (![0, 0, 0] : Fin 3 → ℕ) a + S1x1024x4.size a ≤ S1x1024x4.size a) :
    RowsO B arg3 (256 * 0) (arg3.view.writes (Elt Ideal) f [⟨Rect.unit (s := S1x1024x4) ![0, 0, 0] S1x1024x4.size inb, k2_pay1 (F := Ideal)⟩]) := by
  intro p c
  rw [View.read_writes_full _ f inb _ []]
  exact (pay1_apply p c).trans (outv_of_none _ _ fun j hj => absurd hj (by omega)).symm

/-- The body at one batch: whatever the result and the scratch rows held, the result comes back with the kept boxes at
    their places. -/
theorem body_wp (E : Set ℕ)
    (f1 : Buf (Elt Ideal) (arg1.view.loc (c : Thread nD τ))) (h1 : RowsA B arg1 f1)
    (f2 : Buf (Elt Ideal) (arg2.view.loc (c : Thread nD τ))) (h2 : RowsB B arg2 f2)
    (f3 : Buf (Elt Ideal) (arg3.view.loc (c : Thread nD τ))) (f4 : Buf (Elt Ideal) (arg4.view.loc (c : Thread nD τ))) (Q : PUnit → sProp 𝕄) :
    iprop((held c arg1 f1 ∗ held c arg2 f2 ∗ held c arg3 f3 ∗ held c arg4 f4)
      ∗ ∀ (f3' : Buf (Elt Ideal) (arg3.view.loc (c : Thread nD τ))) (f4' : Buf (Elt Ideal) (arg4.view.loc (c : Thread nD τ))),
          ⌜RowsO B arg3 (256 * stopFrom (Sup B) 20 0) f3'⌝ -∗ (held c arg1 f1 ∗ held c arg2 f2 ∗ held c arg3 f3' ∗ held c arg4 f4') -∗ Q ⟨⟩)
      ⊢ wp frame (wpE (defs₀ (F := Ideal)) 𝒱₀ (c : Thread nD τ) none) E
          (cc2__nms_body g arg1 harg1 arg2 harg2 arg3 harg3 arg4 harg4) Q := by
  simp only [cc2__nms_body_eq_skeleton]; unfold cc2__nms_body_skel
  simp only [Prog.lift, Prog.bind_op, Prog.bind_ret, Prog.pure_eq_ret]
  iintro ⟨⟨H1, H2, H3, H4⟩, Hk⟩
  iapply (wp_load 𝒱₀ (c : Thread nD τ) none E (m := arg3) (View.setOn_subset_set _ _)) $$ H3; iintro H3
  iapply (wp_store_writes₀ 𝒱₀ (c : Thread nD τ) none E (m := arg3) (View.set_slice_subset _ _)) $$ H3; iintro H3
  iapply (wp_call 𝒱₀ (c : Thread nD τ) none E (20 * 300 + 299) (fun u hu => nomatch hu))
  have h3 := rowsO_zero B arg3 (f := f3) inb_S1x1024x4_S1x1024x4_0_0_0
  have h4 : RowsK B arg4 0 f4 := fun t a ht => absurd ht (Nat.not_lt_zero _)
  have e0 : (0#32 : BitVec 32) = BitVec.ofNat 32 (cnt (Sup B) (256 * 0)) := by
    rw [show cnt (Sup B) (256 * 0) = 0 from Nat.le_zero.mp (cnt_le _ _)]
  have hW := while1_le B c g arg1 harg1 arg2 harg2 arg3 harg3 arg4 harg4 E f1 h1 f2 h2 20 0 rfl _ f4 h3 h4
  rw [← e0] at hW
  iapply (hW _)
  isplitl [H1 H2 H3 H4]
  · isplitl [H1]; · iexact H1
    isplitl [H2]; · iexact H2
    isplitl [H3]; · iexact H3
    iexact H4
  iintro %z' %f3' %f4' %hO HH
  rw [wp_ret]; imodintro
  iapply Hk
  · ipureintro; exact hO
  · iexact HH

/-- Once a thousand are placed, or the tiles have run out, the first thousand places are as after all positions. -/
theorem outv_stopFrom (S : ℕ → ℕ → Prop) (box : ℕ → EReal) (p : ℕ) (hp : p < 1000) :
    ∀ k i, i + k = 20 → outv S box (256 * stopFrom S k i) p = outv S box 5120 p := by
  intro k
  induction k with
  | zero => intro i hi; rw [stopFrom, show 256 * i = 5120 by omega]
  | succ k ih =>
    intro i hi
    rw [stopFrom]
    split
    · exact ih (i + 1) (by omega)
    · exact (outv_stop S box (by omega) (by omega)).symm

end Cert.Proof.WholeNms

end
-- ==== Proof.WholeDats.lean ====
/-
  The two pipelines of the whole program: what each point's body makes of its windows, and each region from the arrays it
  is entered with to the arrays it leaves.
-/
module

public import proofs.«01_k».proof.Proof.WholeSortBody
public import proofs.«01_k».proof.Proof.WholeNmsOuter
public import proofs.«01_k».proof.Proof.SortRun
public import proofs.«01_k».proof.Proof.NmsRun
public import Idealize.ShloMosaic.Lib.Pipeline.RegionArrays
public import Idealize.ShloMosaic.Lib.Pipeline.Value

@[expose] public section

noncomputable section

namespace Cert.Proof.WholeDats

open Cert.WholeIdeal Cert.WholeIdeal.Gen
open Cert.Proof.Whole (UU EP EH 𝒱₀)

open Idealize.ShloMosaic Idealize.ShloMosaic.ValueIdx
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig (HIx 1) (Elt Ideal) ℕ UU ℕ

/-- Place `f` of a batch with keys `k`, sorted, as a word. -/
def placed (k : ℕ → ℤ) (f : ℕ) : BitVec 32 := Bitonic.wordOf (Bitonic.mrg 15 15 (Bitonic.late (Bitonic.entry k)) f)

/-- What the sort leaves. -/
def sorted (k : Fin 4 → ℕ → ℤ) : IVec S4x40x128 32 := fun i => placed (k (i 0)) (128 * (i 1).val + (i 2).val)

def sortedBlk (k : ℕ → ℤ) : IVec S1x40x128 32 := fun i => placed k (128 * (i 1).val + (i 2).val)

/-- What the handshakes still have the core owe at stage `n`, and the pairs it may have recorded by then. -/
abbrev Ot (n : ℕ) (c : Dev nD) : CellTallies nD τ sig (HIx 1) := (Whole.K (F := Ideal)).Otc c n
abbrev recd (n : ℕ) (c : Dev nD) : Set (SemLoc sig × HIx 1) := {p | (Whole.K (F := Ideal)).lev (T c, p.1) p.2 ≤ n}

theorem Ot_none (n : ℕ) (c : Dev nD) (g : GSem nD τ sig) : Ot n c g none = 0 := by
  by_contra h
  have := SparseCore.Cfg.lev_of_Otc_pos (K := Whole.K (F := Ideal)) (Nat.pos_of_ne_zero h)
  rw [SparseCore.Cfg.lev_none] at this
  omega

section Dats

variable (W0 W1 : Dev nD → Valuation τ sig (Elt Ideal)) (kf : Dev nD → Fin 4 → ℕ → ℤ) (bx : Dev nD → FVec Ideal S20480x4 .f32) (b0 b1 : ℕ)

theorem t_lt0 (t : Fin (cfg0 (F := Ideal)).N) : t.val < 4 := lt_of_lt_of_eq t.isLt N_0
theorem t_lt2 (t : Fin (cfg2 (F := Ideal)).N) : t.val < 4 := lt_of_lt_of_eq t.isLt N_2

/-- The sort's proof data: the keys' buffers keep their blocks, the result's block of a batch is its sorted front. -/
def dat0 (c : Dev nD) : Dat τ (Elt Ideal) (HIx 1) ℕ UU ℕ (cfg0 (F := Ideal)) c where
  A w := W0 c (Proc.devRef .tc (Pipeline.arrRef spec0 w))
  after w t := match w with
    | ⟨0, _⟩ => (((cfg0 (F := Ideal)).win 0).blk t).view.read (Elt Ideal) (W0 c (Proc.devRef .tc main_v2))
    | ⟨1, _⟩ => sortedBlk (kf c ⟨t.val, t_lt0 t⟩)
    | ⟨n + 2, h⟩ => absurd h (Nat.not_lt.2 (Nat.le_add_left _ _))
  Φ _ := Pipeline.scopedRest spec0 c
  q _ := fullShare
  owed _ := Ot 0 c
  recorded _ := recd b0 c

/-- The suppression's: the boxes' buffers keep their blocks, the result's block of a batch is its kept boxes. -/
def dat2 (c : Dev nD) : Dat τ (Elt Ideal) (HIx 1) ℕ UU ℕ (cfg2 (F := Ideal)) c where
  A w := W1 c (Proc.devRef .tc (Pipeline.arrRef spec2 w))
  after w t := match w with
    | ⟨0, _⟩ => (((cfg2 (F := Ideal)).win 0).blk t).view.read (Elt Ideal) (W1 c (Proc.devRef .tc main_v8))
    | ⟨1, _⟩ => (((cfg2 (F := Ideal)).win 1).blk t).view.read (Elt Ideal) (W1 c (Proc.devRef .tc main_v9))
    | ⟨2, _⟩ => Nms.outBlk (bx c) t.val
    | ⟨n + 3, h⟩ => absurd h (Nat.not_lt.2 (Nat.le_add_left _ _))
  Φ _ := Pipeline.scopedRest spec2 c
  q _ := fullShare
  owed _ := Ot 1 c
  recorded _ := recd b1 c

abbrev adm : (p : Fin 2) → (pcfgs (F := Ideal) p).Adm := fun p => (cfgs p).toPCfg_adm

def pdats : (p : Fin 2) → (c : Dev nD) → Dat τ (Elt Ideal) (HIx 1) ℕ UU ℕ (Pipeline.pin (pcfgs (F := Ideal)) adm p) c
  | 0 => dat0 W0 kf b0
  | 1 => dat2 W1 bx b1

/-! ## The sort's points -/

theorem before0_0 (c : Dev nD) (t : Fin (cfg0 (F := Ideal)).N) (d : ((cfg0 (F := Ideal)).win 0).block.Idx → Elt Ideal ((cfg0 (F := Ideal)).win 0).elt) :
    (dat0 W0 kf b0 c).before 0 t d = (((cfg0 (F := Ideal)).win 0).blk t).view.read (Elt Ideal) (W0 c (Proc.devRef .tc main_v2)) := by
  unfold Dat.before; rw [if_pos (fetch0_0 t)]; rfl

/-- The grids have one axis, so a point's coordinate is the point. -/
theorem coords0_val (t : Fin (cfg0 (F := Ideal)).N) : ((grid0.coords t) 0).val = t.val := by
  rcases fin_N0 t with rfl | rfl | rfl | rfl <;> decide
theorem coords2_val (t : Fin (cfg2 (F := Ideal)).N) : ((grid2.coords t) 0).val = t.val := by
  rcases fin_N2 t with rfl | rfl | rfl | rfl <;> decide

theorem idx0_t (t : Fin (cfg0 (F := Ideal)).N) : (BitVec.ofNat 32 ((grid0.coords t) 0).val).toNat = t.val := by
  rw [coords0_val, BitVec.toNat_ofNat]; have := t_lt0 t; omega
theorem idx2_t (t : Fin (cfg2 (F := Ideal)).N) : (BitVec.ofNat 32 ((grid2.coords t) 0).val).toNat = t.val := by
  rw [coords2_val, BitVec.toNat_ofNat]; have := t_lt2 t; omega

theorem read0_0 (X : IVec S4x256x128 32) (t : Fin (cfg0 (F := Ideal)).N) (r : Fin 256) (l : Fin 128) :
    (((cfg0 (F := Ideal)).win 0).blk t).view.read (Elt Ideal) X (ix3 (0 : Fin 1) r l) = X (ix3 (⟨t.val, t_lt0 t⟩ : Fin 4) r l) := by
  refine congrArg X (funext fun d => Fin.ext ?_)
  have e := idx0_t t
  match d with
  | ⟨0, _⟩ => show (BitVec.ofNat 32 ((grid0.coords t) 0).val).toNat * 1 + 1 * 0 = t.val; omega
  | ⟨1, _⟩ => show 0 * 256 + 1 * r.val = r.val; omega
  | ⟨2, _⟩ => show 0 * 128 + 1 * l.val = l.val; omega

theorem stored_apply {arg2 : Memref sig .tc .vmem S1x40x128 .i32} {k : ℕ → ℤ} {f : arg2.view.ty.Contents (Elt Ideal)}
    (h : WholeSort.Stored arg2 k f) (r : Fin 40) (l : Fin 128) : arg2.view.read (Elt Ideal) f (ix3 (0 : Fin 1) r l) = placed k (128 * r.val + l.val) := by
  obtain ⟨K, I, hH, hr⟩ := h
  rw [hr]
  unfold placed
  have e := hH ⟨r.val, by have := r.isLt; omega⟩ l
  exact ((congrArg Bitonic.wordOf e.symm).trans (Bitonic.wordOf_ent _ _)).symm

/-- The keys the sort is entered with. -/
def KeysIn : Prop := ∀ (c : Dev nD) (b : Fin 4) (r : Fin 256) (l : Fin 128),
  ((W0 c (Proc.devRef .tc main_v2) : IVec S4x256x128 32) (ix3 b r l)).toInt = kf c b (128 * r.val + l.val)

theorem body0 (hk : KeysIn W0 kf) (c : Dev nD) : BodyObligation (dat0 W0 kf b0 c) (defs₀ (F := Ideal)) 𝒱₀ none Set.univ := fun t => by
  rw [bigSep_W0, bigSep_W0]
  sl_whnfR [defs₀, Defs.onTc]
  rw [show (dat0 W0 kf b0 c).Φ t.castSucc = Pipeline.scopedRest spec0 c from rfl, show (dat0 W0 kf b0 c).Φ t.succ = Pipeline.scopedRest spec0 c from rfl]
  iintro ⟨HΦ, HO, ⟨%d0, H0⟩, ⟨%d1, H1⟩⟩
  unfold owns
  icases H0 with ⟨%f0, %e0, H0⟩
  icases H1 with ⟨%f1, %e1, H1⟩
  rw [before0_0] at e0
  iapply (WholeSort.body_wp c Set.univ (grid0.coords t) _ _ _ _ (kf c ⟨t.val, t_lt0 t⟩) f0
    (fun r l => (congrArg BitVec.toInt ((congrFun e0 _).trans (read0_0 _ t r l))).trans (hk c ⟨t.val, t_lt0 t⟩ r l)) f1 _)
  isplitl [H0 H1]
  · isplitl [H0]
    · iexact H0
    iexact H1
  iintro %f1' %hO ⟨H0, H1⟩
  isplitl [HΦ]
  · iexact HΦ
  isplitl [HO]
  · iexact HO
  isplitl [H0]
  · iexists f0; isplitr
    · ipureintro; exact e0
    iexact H0
  iexists f1'; isplitr
  · ipureintro
    funext i
    have hi : i = ix3 (0 : Fin 1) (i 1) (i 2) := Bitonic.blk_idx i
    exact (congrArg _ hi).trans (stored_apply hO (i 1) (i 2))
  iexact H1

theorem emb0_1 (t : Fin (cfg0 (F := Ideal)).N) (i : S1x40x128.Idx) :
    (((cfg0 (F := Ideal)).win 1).blk t).view.emb i = ix3 (⟨t.val, t_lt0 t⟩ : Fin 4) (i 1) (i 2) := by
  funext d
  refine Fin.ext ?_
  have e := idx0_t t
  have h := (i 0).isLt
  change (i 0).val < 1 at h
  match d with
  | ⟨0, _⟩ => show (BitVec.ofNat 32 ((grid0.coords t) 0).val).toNat * 1 + 1 * (i 0).val = t.val; omega
  | ⟨1, _⟩ => show 0 * 40 + 1 * (i 1).val = (i 1).val; omega
  | ⟨2, _⟩ => show 0 * 128 + 1 * (i 2).val = (i 2).val; omega

theorem arr0_1 (c : Dev nD) : (dat0 W0 kf b0 c).arrAt 1 (cfg0 (F := Ideal)).N = sorted (kf c) := by
  refine Dat.arrAt_eq_of_cover (dat0 W0 kf b0 c) 1 (sorted (kf c)) (fun t _ => ?_) (fun i => ?_)
  · funext i
    exact (congrArg (sorted (kf c)) (emb0_1 t i)).symm
  · have h : (i 0).val < (cfg0 (F := Ideal)).N := lt_of_lt_of_eq (i 0).isLt N_0.symm
    have e : (((cfg0 (F := Ideal)).win 1).blk ⟨(i 0).val, h⟩).view.emb (ix3 (0 : Fin 1) (i 1) (i 2)) = i :=
      (emb0_1 ⟨(i 0).val, h⟩ (ix3 (0 : Fin 1) (i 1) (i 2))).trans (eq_ix3 i).symm
    exact ⟨⟨(i 0).val, h⟩, flush0_1 _, Eq.mp (congrArg (· ∈ (((cfg0 (F := Ideal)).win 1).blk ⟨(i 0).val, h⟩).view.set) e) (View.emb_mem_set _ _)⟩

/-! ## The suppression's points -/

theorem before2_0 (c : Dev nD) (t : Fin (cfg2 (F := Ideal)).N) (d : ((cfg2 (F := Ideal)).win 0).block.Idx → Elt Ideal ((cfg2 (F := Ideal)).win 0).elt) :
    (dat2 W1 bx b1 c).before 0 t d = (((cfg2 (F := Ideal)).win 0).blk t).view.read (Elt Ideal) (W1 c (Proc.devRef .tc main_v8)) := by
  unfold Dat.before; rw [if_pos (fetch2_0 t)]; rfl
theorem before2_1 (c : Dev nD) (t : Fin (cfg2 (F := Ideal)).N) (d : ((cfg2 (F := Ideal)).win 1).block.Idx → Elt Ideal ((cfg2 (F := Ideal)).win 1).elt) :
    (dat2 W1 bx b1 c).before 1 t d = (((cfg2 (F := Ideal)).win 1).blk t).view.read (Elt Ideal) (W1 c (Proc.devRef .tc main_v9)) := by
  unfold Dat.before; rw [if_pos (fetch2_1 t)]; rfl

theorem read2_0 (X : FVec Ideal S4x20x256x4 .f32) (t : Fin (cfg2 (F := Ideal)).N) (i : Fin 20) (a : Fin 256) (k : Fin 4) :
    (((cfg2 (F := Ideal)).win 0).blk t).view.read (Elt Ideal) X (ix4 (0 : Fin 1) i a k) = X (ix4 (⟨t.val, t_lt2 t⟩ : Fin 4) i a k) := by
  refine congrArg X (funext fun d => Fin.ext ?_)
  have e := idx2_t t
  match d with
  | ⟨0, _⟩ => show (BitVec.ofNat 32 ((grid2.coords t) 0).val).toNat * 1 + 1 * 0 = t.val; omega
  | ⟨1, _⟩ => show 0 * 20 + 1 * i.val = i.val; omega
  | ⟨2, _⟩ => show 0 * 256 + 1 * a.val = a.val; omega
  | ⟨3, _⟩ => show 0 * 4 + 1 * k.val = k.val; omega
theorem read2_1 (X : FVec Ideal S4x20x4x256 .f32) (t : Fin (cfg2 (F := Ideal)).N) (i : Fin 20) (k : Fin 4) (a : Fin 256) :
    (((cfg2 (F := Ideal)).win 1).blk t).view.read (Elt Ideal) X (ix4 (0 : Fin 1) i k a) = X (ix4 (⟨t.val, t_lt2 t⟩ : Fin 4) i k a) := by
  refine congrArg X (funext fun d => Fin.ext ?_)
  have e := idx2_t t
  match d with
  | ⟨0, _⟩ => show (BitVec.ofNat 32 ((grid2.coords t) 0).val).toNat * 1 + 1 * 0 = t.val; omega
  | ⟨1, _⟩ => show 0 * 20 + 1 * i.val = i.val; omega
  | ⟨2, _⟩ => show 0 * 4 + 1 * k.val = k.val; omega
  | ⟨3, _⟩ => show 0 * 256 + 1 * a.val = a.val; omega

/-- The boxes the suppression is entered with, in tiles and with a tile's coordinates in rows. -/
def BoxesIn : Prop := ∀ c : Dev nD,
  (W1 c (Proc.devRef .tc main_v8) : FVec Ideal S4x20x256x4 .f32) = shapeCast S4x20x256x4 (bx c) shapeCasts_S20480x4_S4x20x256x4
  ∧ (W1 c (Proc.devRef .tc main_v9) : FVec Ideal S4x20x4x256 .f32)
    = transpose S4x20x4x256 [0, 1, 3, 2] (shapeCast S4x20x256x4 (bx c) shapeCasts_S20480x4_S4x20x256x4) transposes_S4x20x256x4_S4x20x4x256_0_1_3_2

theorem rows2_0 (hb : BoxesIn W1 bx) (c : Dev nD) (t : Fin (cfg2 (F := Ideal)).N) (i : Fin 20) (a : Fin 256) (k : Fin 4) :
    (((cfg2 (F := Ideal)).win 0).blk t).view.read (Elt Ideal) (W1 c (Proc.devRef .tc main_v8)) (ix4 (0 : Fin 1) i a k)
      = Nms.rows (bx c) t.val (256 * i + a) k := by
  rw [(hb c).1]
  exact (read2_0 _ t i a k).trans (Nms.tiles_apply (bx c) ⟨t.val, t_lt2 t⟩ i a k)
theorem rows2_1 (hb : BoxesIn W1 bx) (c : Dev nD) (t : Fin (cfg2 (F := Ideal)).N) (i : Fin 20) (k : Fin 4) (a : Fin 256) :
    (((cfg2 (F := Ideal)).win 1).blk t).view.read (Elt Ideal) (W1 c (Proc.devRef .tc main_v9)) (ix4 (0 : Fin 1) i k a)
      = Nms.rows (bx c) t.val (256 * i + a) k := by
  rw [(hb c).2]
  exact (read2_1 _ t i k a).trans (Nms.coords_apply (bx c) ⟨t.val, t_lt2 t⟩ i k a)

theorem held_scratch (c : Dev nD) (f : Buf (Elt Ideal) ((c : Thread nD τ).loc cc2_scratch0)) :
    (WholeNms.held c (Memref.whole cc2_scratch0) f : sProp 𝕄) = ((c : Thread nD τ).loc cc2_scratch0) ↦{fullShare} f := by
  unfold WholeNms.held; simp only [Memref.view_whole, View.set_whole]

theorem body2 (hb : BoxesIn W1 bx) (c : Dev nD) : BodyObligation (dat2 W1 bx b1 c) (defs₀ (F := Ideal)) 𝒱₀ none Set.univ := fun t => by
  rw [bigSep_W2, bigSep_W2]
  sl_whnfR [defs₀, Defs.onTc]
  rw [show (dat2 W1 bx b1 c).Φ t.castSucc = Pipeline.scopedRest spec2 c from rfl, show (dat2 W1 bx b1 c).Φ t.succ = Pipeline.scopedRest spec2 c from rfl]
  rw [scopedRest2_eq]
  iintro ⟨⟨Hp0, Hp1, Hp2, Hp3, ⟨%fs, Hs⟩⟩, HO, ⟨%d0, H0⟩, ⟨%d1, H1⟩, ⟨%d2, H2⟩⟩
  unfold owns
  icases H0 with ⟨%f0, %e0, H0⟩
  icases H1 with ⟨%f1, %e1, H1⟩
  icases H2 with ⟨%f2, %e2, H2⟩
  rw [before2_0] at e0
  rw [before2_1] at e1
  iapply (WholeNms.body_wp (Nms.rows (bx c) t.val) c (grid2.coords t) _ _ _ _ _ _ _ _ Set.univ f0
    (fun i a k => (congrFun e0 _).trans (rows2_0 W1 bx hb c t i a k)) f1 (fun i k a => (congrFun e1 _).trans (rows2_1 W1 bx hb c t i k a)) f2 fs _)
  isplitl [H0 H1 H2 Hs]
  · isplitl [H0]
    · iexact H0
    isplitl [H1]
    · iexact H1
    isplitl [H2]
    · iexact H2
    iapply (Entails.of_eq (held_scratch c fs).symm)
    iexact Hs
  iintro %f3' %f4' %hO ⟨H0, H1, H2, Hs⟩
  isplitl [Hs Hp0 Hp1 Hp2 Hp3]
  · isplitl [Hp0]; · iexact Hp0
    isplitl [Hp1]; · iexact Hp1
    isplitl [Hp2]; · iexact Hp2
    isplitl [Hp3]; · iexact Hp3
    iexists f4'
    iapply (Entails.of_eq (held_scratch c f4'))
    iexact Hs
  isplitl [HO]
  · iexact HO
  isplitl [H0]
  · iexists f0; isplitr
    · ipureintro; exact e0
    iexact H0
  isplitl [H1]
  · iexists f1; isplitr
    · ipureintro; exact e1
    iexact H1
  iexists f3'; isplitr
  · ipureintro
    funext i
    have hi : i = ix3 (0 : Fin 1) (i 1) (i 2) := Nms.blk_idx i
    exact (congrArg _ hi).trans (hO (i 1) (i 2))
  iexact H2

theorem emb2_2 (t : Fin (cfg2 (F := Ideal)).N) (i : S1x1024x4.Idx) :
    (((cfg2 (F := Ideal)).win 2).blk t).view.emb i = ix3 (⟨t.val, t_lt2 t⟩ : Fin 4) (i 1) (i 2) := by
  funext d
  refine Fin.ext ?_
  have e := idx2_t t
  have h := (i 0).isLt
  change (i 0).val < 1 at h
  match d with
  | ⟨0, _⟩ => show (BitVec.ofNat 32 ((grid2.coords t) 0).val).toNat * 1 + 1 * (i 0).val = t.val; omega
  | ⟨1, _⟩ => show 0 * 1024 + 1 * (i 1).val = (i 1).val; omega
  | ⟨2, _⟩ => show 0 * 4 + 1 * (i 2).val = (i 2).val; omega

theorem arr2_2 (c : Dev nD) : (dat2 W1 bx b1 c).arrAt 2 (cfg2 (F := Ideal)).N = Nms.resAll (bx c) := by
  refine Dat.arrAt_eq_of_cover (dat2 W1 bx b1 c) 2 (Nms.resAll (bx c)) (fun t _ => ?_) (fun i => ?_)
  · funext i
    exact (congrArg (Nms.resAll (bx c)) (emb2_2 t i)).symm
  · have h : (i 0).val < (cfg2 (F := Ideal)).N := lt_of_lt_of_eq (i 0).isLt N_2.symm
    have e : (((cfg2 (F := Ideal)).win 2).blk ⟨(i 0).val, h⟩).view.emb (ix3 (0 : Fin 1) (i 1) (i 2)) = i :=
      (emb2_2 ⟨(i 0).val, h⟩ (ix3 (0 : Fin 1) (i 1) (i 2))).trans (eq_ix3 i).symm
    exact ⟨⟨(i 0).val, h⟩, flush2_2 _, Eq.mp (congrArg (· ∈ (((cfg2 (F := Ideal)).win 2).blk ⟨(i 0).val, h⟩).view.set) e) (View.emb_mem_set _ _)⟩

/-! ## A region from arrays to arrays -/

/-- What the core holds of its debts between two stages. -/
abbrev Debts (n : ℕ) (b : ℕ) (c : Dev nD) : sProp 𝕄 :=
  iprop(∃ W, ⌜(Whole.K (F := Ideal)).WBelow (T c) W b⌝ ∗ owes (T c) (Ot n c) W)

variable (pd : (p : Fin 2) → (c : Dev nD) → Dat τ (Elt Ideal) (HIx 1) ℕ UU ℕ (Pipeline.pin (pcfgs (F := Ideal)) adm p) c)

/-- A pipeline's region, entered with every array of the program at `V` and left with them at `V'`, the windows' arrays as the
    proof data says and the others unchanged. -/
def region (p : Fin 2) (n b : ℕ) (kit : Pipeline.PLaunchFacts (nD := nD) (τ := τ) (pcfgs (F := Ideal)) p) (hK : (pcfgs (F := Ideal) p).pre.K = 0)
    (hbody : ∀ c, Pipeline.BodyObligationLoose (pd p c) (defs₀ (F := Ideal)) 𝒱₀ none Set.univ)
    (howed : ∀ c t, (pd p c).owed t = Ot n c) (hrec : ∀ c t, (pd p c).recorded t = recd b c)
    (hΦ : ∀ c t, (pd p c).Φ t = Pipeline.scopedRest (Pipeline.pin (pcfgs (F := Ideal)) adm p).spec c)
    (hshare : ∀ c w, (pd p c).share w = fullShare) (V V' : Dev nD → Valuation τ sig (Elt Ideal))
    (hV : ∀ c w, (pd p c).arrAt w 0 = V c (Proc.devRef .tc (Pipeline.arrRef (Pipeline.pin (pcfgs (F := Ideal)) adm p).spec w)))
    (hV' : ∀ c w, (pd p c).arrAt w (Pipeline.pin (pcfgs (F := Ideal)) adm p).N = V' c (Proc.devRef .tc (Pipeline.arrRef (Pipeline.pin (pcfgs (F := Ideal)) adm p).spec w)))
    (hoff : ∀ c, ∀ r ∈ Pipeline.ucRefs τ sig \ Pipeline.arrRefs (pcfgs (F := Ideal) p).spec, V c r = V' c r) :
    Pipeline.RegionSeg (pcfgs (F := Ideal)) adm pd none (defs₀ (F := Ideal)) 𝒱₀ (Whole.K (F := Ideal)).L (Whole.K (F := Ideal)).lev p where
  win := kit.win.to₀
  block_pos := kit.block_pos
  stage_whole := kit.stage_whole
  K := PEmpty
  osem k := k.elim
  ho := Pipeline.OwnSemFacts.none _
  hbody := hbody
  hwaits c := Pipeline.cellsWaits_intro (Pipeline.pin (pcfgs (F := Ideal)) adm) pd none p c fun w s t => by
    rw [howed]
    exact (Whole.K (F := Ideal)).mayWait_none _ (Ot_none n c)
  pre c := iprop(StableHlo.held (T c) (Pipeline.ucRefs τ sig) (V c) ∗ Debts n b c)
  post c := iprop(StableHlo.held (T c) (Pipeline.ucRefs τ sig) (V' c) ∗ Debts n b c)
  X _ := iprop(emp)
  Y _ := iprop(emp)
  Z c := StableHlo.held (T c) (Pipeline.ucRefs τ sig \ Pipeline.arrRefs (pcfgs (F := Ideal) p).spec) (V c)
  hentry c := by
    rw [Pipeline.ownSems0_none, Pipeline.prefHeld_of_none _ hK,
      Pipeline.arrays_held (pcfgs (F := Ideal)) adm pd p kit c (hshare c) ((pd p c).arrAt · 0) (V c) (hV c),
      StableHlo.held_sub_split (T c) (Pipeline.arrRefs_sub_ucRefs (pcfgs (F := Ideal) p).spec kit.win.arr_unscoped) (V c)]
    unfold Dat.owesAt Pipeline.owesWithin Dat.bound
    rw [howed c 0, hrec c 0]
    iintro ⟨⟨⟨Ha, Hz⟩, ⟨%W, %hW, HO⟩⟩, -, -⟩
    imodintro
    isplitl [Ha]; · iexact Ha
    isplitr; · iempintro
    isplitl [HO]
    · iexists W; isplitr
      · ipureintro; exact fun q hq => Or.inl (hW q hq)
      iexact HO
    isplitr; · iempintro
    iexact Hz
  hin c := by
    rw [hΦ c 0]
    iintro ⟨-, -, Hr⟩; iexact Hr
  hout c := by
    rw [hΦ c, Pipeline.ownSems0_none]
    iintro Hr
    isplitr; · iempintro
    isplitr; · iempintro
    iexact Hr
  hexit c := by
    rw [Pipeline.arrays_held (pcfgs (F := Ideal)) adm pd p kit c (hshare c) ((pd p c).arrAt · (Pipeline.pin (pcfgs (F := Ideal)) adm p).N) (V' c) (hV' c),
      StableHlo.held_sub_split (T c) (Pipeline.arrRefs_sub_ucRefs (pcfgs (F := Ideal) p).spec kit.win.arr_unscoped) (V' c),
      StableHlo.held_congr (T c) (hoff c)]
    unfold Dat.owesAt Pipeline.owesWithin Dat.bound
    rw [howed c, hrec c]
    iintro ⟨Ha, ⟨%W, %hW, HO⟩, -, Hz⟩
    imodintro
    isplitl [Ha Hz]
    · isplitl [Ha]; · iexact Ha
      iexact Hz
    iexists W; isplitr
    · ipureintro
      intro q hq
      rcases hW hq with h | ⟨w, s, h⟩
      · exact h
      · rw [h]; exact Nat.zero_le _
    iexact HO

end Dats

end Cert.Proof.WholeDats

end
-- ==== Proof.WholeGatherTile.lean ====
/-
  One task of the row gather: on vector subcore `(c, s)` the six hundred and forty indices of task `2 s + c` and its
  image's table are fetched, forty trips gather sixteen rows each into the rows scratch, and the scratch is written out.
  The task is run from any contents of the index array and the table with every index below 20000, and leaves its part
  of the result at the gathered rows.
-/
module

public import proofs.«01_k».proof.Proof.GatherVals
public import proofs.«01_k».proof.Proof.WholeBase
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.WholeGather

open Cert.Proof.Whole

open Cert.WholeIdeal Cert.WholeIdeal.Gen Cert.Proof.Gather

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The arrays, and each task's part of them -/

/-- The indices, the tables and the result, as locations of device `d`. -/
abbrev iLoc (d : Dev nD) : Loc nD τ sig := (SparseCore.T d).loc main_v4
abbrev xLoc (d : Dev nD) : Loc nD τ sig := (SparseCore.T d).loc main_v5
abbrev oLoc (d : Dev nD) : Loc nD τ sig := (SparseCore.T d).loc main_v6

local notation "iV" => (Memref.whole Cert.WholeIdeal.main_v4_scv : Memref Cert.WholeIdeal.sig Kind.scVector Space.hbm Cert.WholeIdeal.S20480 EltTy.i32)
local notation "xV" => (Memref.whole Cert.WholeIdeal.main_v5_scv : Memref Cert.WholeIdeal.sig Kind.scVector Space.hbm Cert.WholeIdeal.S320000 EltTy.f32)
local notation "oV" => (Memref.whole Cert.WholeIdeal.main_v6_scv : Memref Cert.WholeIdeal.sig Kind.scVector Space.hbm Cert.WholeIdeal.S81920 EltTy.f32)
local notation "sI" => (Memref.whole Cert.WholeIdeal.cc1_scratch0 : Memref Cert.WholeIdeal.sig Kind.scVector Space.vmem Cert.WholeIdeal.S640 EltTy.i32)
local notation "sX" => (Memref.whole Cert.WholeIdeal.cc1_scratch1 : Memref Cert.WholeIdeal.sig Kind.scVector Space.vmem Cert.WholeIdeal.S80000 EltTy.f32)
local notation "sR" => (Memref.whole Cert.WholeIdeal.cc1_scratch2 : Memref Cert.WholeIdeal.sig Kind.scVector Space.vmem Cert.WholeIdeal.S2560 EltTy.f32)

abbrev cV (L : grid1.Coords) : Fin τ.nSC := (L 0).castLE hcore1
abbrev jV (L : grid1.Coords) : Fin τ.nSub := (L 1).castLE hsub1

section Trip

variable (d : Dev nD) (L : grid1.Coords)

/-- The task's own index, table and rows scratches, as locations. -/
abbrev siLoc : Loc nD τ sig := (V d (cV L) (jV L)).loc cc1_scratch0
abbrev sxLoc : Loc nD τ sig := (V d (cV L) (jV L)).loc cc1_scratch1
abbrev srLoc : Loc nD τ sig := (V d (cV L) (jV L)).loc cc1_scratch2

variable [FloatOps F]

/-- What holds between trips: the fetched indices and table, and a rows scratch that agrees with the task's content on
    the words of the trips already made. -/
def tripInv (fI : Buf (Elt F) (siLoc d L)) (fT : Buf (Elt F) (sxLoc d L)) (k : ℕ) (_ : BitVec 32) : sProp 𝕄 :=
  iprop(((sI).view.loc (V d (cV L) (jV L)) ↦{fullShare} fI) ∗ ((sX).view.loc (V d (cV L) (jV L)) ↦{fullShare} fT)
    ∗ ∃ fr : Buf (Elt F) (srLoc d L), ⌜∀ p : S2560.Idx, (p 0).val < 64 * k → fr p = rowsOf fI fT p⌝ ∗ ((sR).view.loc (V d (cV L) (jV L)) ↦{fullShare} fr))

/-- The sixteen indices a trip loads. -/
theorem load_val (fI : Buf (Elt F) (siLoc d L)) (t : Fin k1_t1_loop.trips) (x : S16.Idx) :
    (sI).view.readAt (Elt F) (Rect.unit (s := S640) (k1_off3 t) S16.size (k1_off3_inb t)).toLoadRect fI x
      = at1 (N := 640) (by decide) fI (16 * t.val + (x 0).val) := by
  simp only [View.readAt_apply, Memref.view_whole, View.read_whole]
  symm
  refine at1_eq (N := 640) (by decide) fI _ _ ?_
  rw [LoadRect.idx_apply]
  show _ = k1_off3 t 0 + 1 * (x 0).val
  rw [k1_off3_eq]
  simp

/-- A load of the whole table scratch reads its content. -/
theorem table_load {α : Type} {Q : α → sProp 𝕄} (fT : Buf (Elt F) (sxLoc d L)) {hl}
    {k : (S80000.Idx → Elt F .f32) → Prog (TpuEff nD τ sig (Elt F) (Λ₀ F) (Proc.scVector (cV L) (jV L))) α} :
    ((sX).view.loc (V d (cV L) (jV L)) ↦{fullShare} fT : sProp 𝕄)
      ⊢ iprop((((sX).view.loc (V d (cV L) (jV L)) ↦{fullShare} fT) -∗ wp frame (wpE (defs₀ (F := F)) 𝒱₀ (V d (cV L) (jV L)) none) Set.univ (k fT) Q)
        -∗ wp frame (wpE (defs₀ (F := F)) 𝒱₀ (V d (cV L) (jV L)) none) Set.univ (.op (.load sX (.whole S80000) hl) k) Q) := by
  have h := wp_load_rect (defs := defs₀ (F := F)) 𝒱₀ (V d (cV L) (jV L)) none (Γ := PendingWaitsCtx.empty) Set.univ (m := sX) (r := .whole S80000) (hl := hl) (S := Finset.univ) (q := fullShare)
    (f := fT) (k := k) (Q := Q) (Finset.subset_univ _)
  rw [show ((sX).access (Rect.whole S80000)).read (Elt F) fT = fT from Memref.read_access_whole (Elt F) cc1_scratch1 fT] at h
  exact h

/-- A load of the whole rows scratch reads its content, -/
theorem rows_load {α : Type} {Q : α → sProp 𝕄} (fR : Buf (Elt F) (srLoc d L)) {hl}
    {k : (S2560.Idx → Elt F .f32) → Prog (TpuEff nD τ sig (Elt F) (Λ₀ F) (Proc.scVector (cV L) (jV L))) α} :
    ((sR).view.loc (V d (cV L) (jV L)) ↦{fullShare} fR : sProp 𝕄)
      ⊢ iprop((((sR).view.loc (V d (cV L) (jV L)) ↦{fullShare} fR) -∗ wp frame (wpE (defs₀ (F := F)) 𝒱₀ (V d (cV L) (jV L)) none) Set.univ (k fR) Q)
        -∗ wp frame (wpE (defs₀ (F := F)) 𝒱₀ (V d (cV L) (jV L)) none) Set.univ (.op (.load sR (.whole S2560) hl) k) Q) := by
  have h := wp_load_rect (defs := defs₀ (F := F)) 𝒱₀ (V d (cV L) (jV L)) none (Γ := PendingWaitsCtx.empty) Set.univ (m := sR) (r := .whole S2560) (hl := hl) (S := Finset.univ) (q := fullShare)
    (f := fR) (k := k) (Q := Q) (Finset.subset_univ _)
  rw [show ((sR).access (Rect.whole S2560)).read (Elt F) fR = fR from Memref.read_access_whole (Elt F) cc1_scratch2 fR] at h
  exact h

/-- and a store over the whole of it leaves what is stored. -/
theorem rows_store {α : Type} {Q : α → sProp 𝕄} (fR w : Buf (Elt F) (srLoc d L)) {hx hm}
    {k : PUnit → Prog (TpuEff nD τ sig (Elt F) (Λ₀ F) (Proc.scVector (cV L) (jV L))) α} :
    ((sR).view.loc (V d (cV L) (jV L)) ↦{fullShare} fR : sProp 𝕄)
      ⊢ iprop((((sR).view.loc (V d (cV L) (jV L)) ↦{fullShare} w) -∗ wp frame (wpE (defs₀ (F := F)) 𝒱₀ (V d (cV L) (jV L)) none) Set.univ (k ⟨⟩) Q)
        -∗ wp frame (wpE (defs₀ (F := F)) 𝒱₀ (V d (cV L) (jV L)) none) Set.univ (.op (.store sR (.whole S2560) w Finset.univ hx hm) k) Q) := by
  have h := wp_store (defs := defs₀ (F := F)) 𝒱₀ (V d (cV L) (jV L)) none (Γ := PendingWaitsCtx.empty) Set.univ (m := sR) (r := .whole S2560) (w := w) (hx := hx) (hm := hm) (S := Finset.univ)
    (f := fR) (k := k) (Q := Q) (Finset.subset_univ _)
  rw [show ((sR).access (Rect.whole S2560)).write (Elt F) fR w Finset.univ = w from Memref.write_access_whole_univ (Elt F) cc1_scratch2 fR w] at h
  exact h

/-- The source words of a trip are inside the table, -/
theorem src_ok (v : IVec S16 32) (ix : Vec F S640 .i32) (hI : ∀ j : S640.Idx, (ix j).toNat < 20000) (t c : ℕ) (hc : c < 4)
    (hv : ∀ x : S16.Idx, (v x).toNat = 4 * (at1 (N := 640) (by decide) ix (16 * t + (x 0).val)).toNat + c) :
    ∀ a x, ((![v] : Fin 1 → IVec S16 32) a x).toNat < S80000.size a := by
  intro a x
  obtain rfl := Subsingleton.elim a 0
  show (v x).toNat < 80000
  rw [hv]
  have h : (at1 (N := 640) (by decide) ix (16 * t + (x 0).val)).toNat < 20000 := hI _
  omega

/-- the target words inside the rows. -/
theorem dst_ok (v : IVec S16 32) (t c : ℕ) (ht : t < 40) (hc : c < 4) (hv : ∀ x : S16.Idx, (v x).toNat = 64 * t + 4 * (x 0).val + c) :
    ∀ a x, ((![v] : Fin 1 → IVec S16 32) a x).toNat < S2560.size a := by
  intro a x
  obtain rfl := Subsingleton.elim a 0
  have hl : (x 0).val < 16 := (x 0).isLt
  show (v x).toNat < 2560
  rw [hv]; omega

/-- One trip: sixteen indices loaded, and for each of the four columns the lanes' words gathered out of the table and
    scattered into the rows scratch, every index in range. -/
theorem trip (fI : Buf (Elt F) (siLoc d L)) (fT : Buf (Elt F) (sxLoc d L)) (hI : ∀ j : S640.Idx, (fI j).toNat < 20000)
    (t : Fin k1_t1_loop.trips) (acc : BitVec 32) :
    tripInv d L fI fT t.val acc ⊢ wp frame (wpE (defs₀ (F := F)) 𝒱₀ (V d (cV L) (jV L)) none) Set.univ
      (k1_t1_body L iV (Memref.isWhole_whole _) xV (Memref.isWhole_whole _) oV (Memref.isWhole_whole _)
        sI (Memref.isWhole_whole _) sX (Memref.isWhole_whole _) sR (Memref.isWhole_whole _) cc1_scratch3 cc1_scoped0 cc1_scoped1 lanes t acc)
      fun r => tripInv d L fI fT (t.val + 1) r := by
  have ht : t.val < 40 := trips_eq ▸ t.isLt
  unfold k1_t1_body
  simp only [k1_part1_eq_skeleton]; unfold k1_part1_skel
  simp only [Prog.lift, Prog.bind_op, Prog.bind_ret, Prog.pure_eq_ret, SparseCore.vectorLoadIdx, SparseCore.vectorStoreIdx]
  unfold tripInv
  iintro ⟨HI, HX, %fr, %hfr, HR⟩
  iapply (wp_load 𝒱₀ (V d (cV L) (jV L)) none Set.univ (m := sI) (S := Finset.univ) (Finset.subset_univ _)) $$ HI; iintro HI
  have hv := load_val d L fI t
  generalize (sI).view.readAt (Elt F) (Rect.unit (s := S640) (k1_off3 t) S16.size (k1_off3_inb t)).toLoadRect fI = v at hv ⊢
  have hw : ∀ x : S16.Idx, (v x).toNat < 20000 := fun x => by rw [hv]; exact hI _
  have s0 : ∀ x : S16.Idx, (k1_pay1 v x).toNat = 4 * (at1 (N := 640) (by decide) fI (16 * t.val + (x 0).val)).toNat + 0 := fun x => by
    refine (congrArg BitVec.toNat (pay1_val (F := F) v x)).trans ?_
    rw [src_val _ _ (hw x) (by decide), hv]; rfl
  have s1 : ∀ x : S16.Idx, (k1_pay3 v x).toNat = 4 * (at1 (N := 640) (by decide) fI (16 * t.val + (x 0).val)).toNat + 1 := fun x => by
    refine (congrArg BitVec.toNat (pay3_val (F := F) v x)).trans ?_
    rw [src_val _ _ (hw x) (by decide), hv]; rfl
  have s2 : ∀ x : S16.Idx, (k1_pay5 v x).toNat = 4 * (at1 (N := 640) (by decide) fI (16 * t.val + (x 0).val)).toNat + 2 := fun x => by
    refine (congrArg BitVec.toNat (pay5_val (F := F) v x)).trans ?_
    rw [src_val _ _ (hw x) (by decide), hv]; rfl
  have s3 : ∀ x : S16.Idx, (k1_pay8 v x).toNat = 4 * (at1 (N := 640) (by decide) fI (16 * t.val + (x 0).val)).toNat + 3 := fun x => by
    refine (congrArg BitVec.toNat (pay8_val (F := F) v x)).trans ?_
    rw [src_val _ _ (hw x) (by decide), hv]; rfl
  have d0 : ∀ x : S16.Idx, (k1_pay2 lanes 0#32 1#32 t x).toNat = 64 * t.val + 4 * (x 0).val + 0 := fun x => by
    refine (congrArg BitVec.toNat (pay2_val t x)).trans ?_
    rw [dst_val _ _ _ ht (x 0).isLt (by decide)]; rfl
  have d1 : ∀ x : S16.Idx, (k1_pay4 lanes 0#32 1#32 t x).toNat = 64 * t.val + 4 * (x 0).val + 1 := fun x => by
    refine (congrArg BitVec.toNat (pay4_val t x)).trans ?_
    rw [dst_val _ _ _ ht (x 0).isLt (by decide)]; rfl
  have d2 : ∀ x : S16.Idx, (k1_pay7 (k1_pay6 lanes 0#32 1#32 t) x).toNat = 64 * t.val + 4 * (x 0).val + 2 := fun x => by
    refine (congrArg BitVec.toNat (pay7_val t x)).trans ?_
    rw [dst_val _ _ _ ht (x 0).isLt (by decide)]; rfl
  have d3 : ∀ x : S16.Idx, (k1_pay9 (Scf.iv 0#32 1#32 t) x).toNat = 64 * t.val + 4 * (x 0).val + 3 := fun x => by
    refine (congrArg BitVec.toNat (pay9_val t x)).trans ?_
    rw [dst_val _ _ _ ht (x 0).isLt (by decide)]; rfl
  iapply (wp_assume _ _ _ _ (src_ok _ fI hI t.val 0 (by decide) s0))
  iapply (table_load d L fT) $$ HX; iintro HX
  iapply (wp_assume _ _ _ _ (dst_ok _ t.val 0 ht (by decide) d0))
  iapply (rows_load d L _) $$ HR; iintro HR
  iapply (rows_store d L _ _) $$ HR; iintro HR
  iapply (wp_assume _ _ _ _ (src_ok _ fI hI t.val 1 (by decide) s1))
  iapply (table_load d L fT) $$ HX; iintro HX
  iapply (wp_assume _ _ _ _ (dst_ok _ t.val 1 ht (by decide) d1))
  iapply (rows_load d L _) $$ HR; iintro HR
  iapply (rows_store d L _ _) $$ HR; iintro HR
  iapply (wp_assume _ _ _ _ (src_ok _ fI hI t.val 2 (by decide) s2))
  iapply (table_load d L fT) $$ HX; iintro HX
  iapply (wp_assume _ _ _ _ (dst_ok _ t.val 2 ht (by decide) d2))
  iapply (rows_load d L _) $$ HR; iintro HR
  iapply (rows_store d L _ _) $$ HR; iintro HR
  iapply (wp_assume _ _ _ _ (src_ok _ fI hI t.val 3 (by decide) s3))
  iapply (table_load d L fT) $$ HX; iintro HX
  iapply (wp_assume _ _ _ _ (dst_ok _ t.val 3 ht (by decide) d3))
  iapply (rows_load d L _) $$ HR; iintro HR
  iapply (rows_store d L _ _) $$ HR; iintro HR
  rw [wp_ret]; imodintro
  isplitl [HI]; · iexact HI
  isplitl [HX]; · iexact HX
  iexists _
  isplitr; rotate_left
  · iexact HR
  ipureintro
  intro p hp
  have col : ∀ c : ℕ, (p 0).val % 4 = c → ¬ (p 0).val < 64 * t.val →
      ∃ l : ℕ, l < 16 ∧ (p 0).val = 64 * t.val + 4 * l + c := fun c hc hp' => ⟨((p 0).val - 64 * t.val) / 4, by omega, by omega⟩
  by_cases hlt : (p 0).val < 64 * t.val
  · exact column_store fI fT hI t.val ht 3 (by decide) _ _ _ _ s3 d3 _ p (.inl (column_store fI fT hI t.val ht 2 (by decide) _ _ _ _ s2 d2 _ p (.inl
      (column_store fI fT hI t.val ht 1 (by decide) _ _ _ _ s1 d1 _ p (.inl (column_store fI fT hI t.val ht 0 (by decide) _ _ _ _ s0 d0 _ p (.inl (hfr p hlt))))))))
  · have h4 : (p 0).val % 4 = 0 ∨ (p 0).val % 4 = 1 ∨ (p 0).val % 4 = 2 ∨ (p 0).val % 4 = 3 := by omega
    rcases h4 with h | h | h | h
    · exact column_store fI fT hI t.val ht 3 (by decide) _ _ _ _ s3 d3 _ p (.inl (column_store fI fT hI t.val ht 2 (by decide) _ _ _ _ s2 d2 _ p (.inl
        (column_store fI fT hI t.val ht 1 (by decide) _ _ _ _ s1 d1 _ p (.inl (column_store fI fT hI t.val ht 0 (by decide) _ _ _ _ s0 d0 _ p (.inr (col 0 h hlt))))))))
    · exact column_store fI fT hI t.val ht 3 (by decide) _ _ _ _ s3 d3 _ p (.inl (column_store fI fT hI t.val ht 2 (by decide) _ _ _ _ s2 d2 _ p (.inl
        (column_store fI fT hI t.val ht 1 (by decide) _ _ _ _ s1 d1 _ p (.inr (col 1 h hlt))))))
    · exact column_store fI fT hI t.val ht 3 (by decide) _ _ _ _ s3 d3 _ p (.inl (column_store fI fT hI t.val ht 2 (by decide) _ _ _ _ s2 d2 _ p (.inr (col 2 h hlt))))
    · exact column_store fI fT hI t.val ht 3 (by decide) _ _ _ _ s3 d3 _ p (.inr (col 3 h hlt))

end Trip

end Cert.Proof.WholeGather

end
-- ==== Proof.WholeGatherBody.lean ====
/-
  One task of the row gather, run whole: what its fetches land, its program from the operands the launch hands it, and
  what it hands back. Task `2 s + c` is vector subcore `(c, s)`'s.
-/
module

public import proofs.«01_k».proof.Proof.WholeGatherTile

@[expose] public section

noncomputable section

namespace Cert.Proof.WholeGather

open Cert.Proof.Whole

open Cert.WholeIdeal Cert.WholeIdeal.Gen Cert.Proof.Gather

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.WholeIdeal.main_v4_scv : Memref Cert.WholeIdeal.sig Kind.scVector Space.hbm Cert.WholeIdeal.S20480 EltTy.i32)
local notation "xV" => (Memref.whole Cert.WholeIdeal.main_v5_scv : Memref Cert.WholeIdeal.sig Kind.scVector Space.hbm Cert.WholeIdeal.S320000 EltTy.f32)
local notation "oV" => (Memref.whole Cert.WholeIdeal.main_v6_scv : Memref Cert.WholeIdeal.sig Kind.scVector Space.hbm Cert.WholeIdeal.S81920 EltTy.f32)
local notation "sI" => (Memref.whole Cert.WholeIdeal.cc1_scratch0 : Memref Cert.WholeIdeal.sig Kind.scVector Space.vmem Cert.WholeIdeal.S640 EltTy.i32)
local notation "sX" => (Memref.whole Cert.WholeIdeal.cc1_scratch1 : Memref Cert.WholeIdeal.sig Kind.scVector Space.vmem Cert.WholeIdeal.S80000 EltTy.f32)
local notation "sR" => (Memref.whole Cert.WholeIdeal.cc1_scratch2 : Memref Cert.WholeIdeal.sig Kind.scVector Space.vmem Cert.WholeIdeal.S2560 EltTy.f32)

/-! ## The tasks' parts of the arrays -/

theorem idiv : 32 ∣ S20480.size 0 := ⟨640, rfl⟩
theorem odiv : 32 ∣ S81920.size 0 := ⟨2560, rfl⟩
/-- Task `w`'s six hundred and forty indices, and its two thousand five hundred and sixty words of the result. -/
abbrev ipart (w : Fin 32) : Rect S20480 := Rect.part (s := S20480) (a₀ := 0) idiv w
abbrev opart (w : Fin 32) : Rect S81920 := Rect.part (s := S81920) (a₀ := 0) odiv w
abbrev iSet (w : Fin 32) : Finset S20480.Idx := (ipart w).set
abbrev oSet (w : Fin 32) : Finset S81920.Idx := (opart w).set

/-- The task of a pair of coordinates. -/
def wL (L : grid1.Coords) : Fin 32 := ⟨2 * (L 1).val + (L 0).val, by
  have h0 : (L 0).val < 2 := (L 0).isLt
  have h1 : (L 1).val < 16 := (L 1).isLt
  omega⟩

section Body

variable (d : Dev nD) (L : grid1.Coords)

/-- The parts as the task addresses them. -/
abbrev iRectK (L : grid1.Coords) : Rect S20480 := Rect.unit (s := S20480) (k1_off1 L) S640.size (k1_off1_inb L)
abbrev xRectK (L : grid1.Coords) : Rect S320000 := Rect.unit (s := S320000) (k1_off2 L) S80000.size (k1_off2_inb L)
abbrev oRectK (L : grid1.Coords) : Rect S81920 := Rect.unit (s := S81920) (k1_off4 L) S2560.size (k1_off4_inb L)
abbrev iRowK (L : grid1.Coords) : Memref sig .scVector .hbm S640 .i32 := (iV).slice (iRectK L) (fun _ => rfl)
abbrev xRowK (L : grid1.Coords) : Memref sig .scVector .hbm S80000 .f32 := (xV).slice (xRectK L) (fun _ => rfl)
abbrev oRowK (L : grid1.Coords) : Memref sig .scVector .hbm S2560 .f32 := (oV).slice (oRectK L) (fun _ => rfl)

theorem ioff (L : grid1.Coords) : k1_off1 L 0 = 640 * (wL L).val := by
  rw [k1_off1_eq]
  show 1280 * (L 1).val + 640 * (L 0).val = 640 * (2 * (L 1).val + (L 0).val)
  omega
theorem ooff (L : grid1.Coords) : k1_off4 L 0 = 2560 * (wL L).val := by
  rw [k1_off4_eq]
  show 5120 * (L 1).val + 2560 * (L 0).val = 2560 * (2 * (L 1).val + (L 0).val)
  omega
theorem xoff_pair : ∀ (c : Fin 2) (s : Fin 16), k1_off2 (fun | 0 => c | 1 => s) 0 = 80000 * ((2 * s.val + c.val) / 8) := by
  decide +kernel
theorem xoff (L : grid1.Coords) : k1_off2 L 0 = 80000 * ((wL L).val / 8) := by
  have h := xoff_pair (L 0) (L 1)
  rw [show (fun | 0 => L 0 | 1 => L 1 : grid1.Coords) = L from funext fun a => match a with | 0 => rfl | 1 => rfl] at h
  exact h

theorem iRectK_eq : iRectK L = ipart (wL L) := by
  unfold iRectK ipart Rect.part Rect.block
  congr 1 <;> funext a
  · match a with
    | 0 => rw [ioff]; simp [Shape.partIx, Shape.partSize]; omega
  · match a with
    | 0 => simp [Shape.partSize]
theorem oRectK_eq : oRectK L = opart (wL L) := by
  unfold oRectK opart Rect.part Rect.block
  congr 1 <;> funext a
  · match a with
    | 0 => rw [ooff]; simp [Shape.partIx, Shape.partSize]; omega
  · match a with
    | 0 => simp [Shape.partSize]

theorem set_iRowK : (iRowK L).view.set = iSet (wL L) := by
  show ((iV).view.slice (iRectK L)).set = _
  rw [View.set_slice_whole, iRectK_eq]
theorem set_oRowK : (oRowK L).view.set = oSet (wL L) := by
  show ((oV).view.slice (oRectK L)).set = _
  rw [View.set_slice_whole, oRectK_eq]

theorem pts_iRowK (f : Buf (Elt F) (iLoc d)) :
    ((iRowK L).view.loc (V d (cV L) (jV L)) ↦[(iRowK L).view.set]{fullShare} f : sProp 𝕄) = iLoc d ↦[iSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl

/-! ## What the fetches land -/

/-- The indices the task fetches, and the table. -/
abbrev landI (cI : Buf (Elt F) (iLoc d)) : Vec F S640 .i32 := (iRowK L).view.read (Elt F) cI
abbrev landX (cX : Buf (Elt F) (xLoc d)) : Vec F S80000 .f32 := (xRowK L).view.read (Elt F) cX

theorem landI_at (cI : Buf (Elt F) (iLoc d)) (x : S640.Idx) : landI d L cI x = at1 (N := 20480) (by decide) cI (640 * (wL L).val + (x 0).val) := by
  refine ((View.read_apply _ _).trans (cast_eq _ _)).trans ?_
  refine (at1_eq (N := 20480) (by decide) cI _ _ ?_).symm
  show _ = k1_off1 L 0 + 1 * (x 0).val
  rw [ioff, one_mul]
theorem landX_at (cX : Buf (Elt F) (xLoc d)) (x : S80000.Idx) :
    landX d L cX x = at1 (N := 320000) (by decide) cX (80000 * ((wL L).val / 8) + (x 0).val) := by
  refine ((View.read_apply _ _).trans (cast_eq _ _)).trans ?_
  refine (at1_eq (N := 320000) (by decide) cX _ _ ?_).symm
  show _ = k1_off2 L 0 + 1 * (x 0).val
  rw [xoff, one_mul]

/-- What the task's rows come to is its part of the gathered rows. -/
theorem rows_part (cI : Buf (Elt F) (iLoc d)) (cX : Buf (Elt F) (xLoc d)) (hI : ∀ j : S20480.Idx, (cI j).toNat < 20000) (p : S2560.Idx) :
    rowsOf (landI d L cI) (landX d L cX) p = gathered cI cX ((oRowK L).view.emb p) := by
  have hp : (p 0).val < 2560 := (p 0).isLt
  have hw : (wL L).val < 32 := (wL L).isLt
  have e : (((oRowK L).view.emb p) 0).val = 2560 * (wL L).val + (p 0).val := by
    show k1_off4 L 0 + 1 * (p 0).val = _
    rw [ooff, one_mul]
  unfold gathered rowsOf
  rw [e]
  have ei : at1 (N := 640) (by decide) (landI d L cI) ((p 0).val / 4) = at1 (N := 20480) (by decide) cI ((2560 * (wL L).val + (p 0).val) / 4) := by
    unfold at1
    rw [landI_at]
    show at1 (N := 20480) _ cI (640 * (wL L).val + ((p 0).val / 4) % 640) = _
    rw [show (2560 * (wL L).val + (p 0).val) / 4 = 640 * (wL L).val + ((p 0).val / 4) % 640 by omega]
    rfl
  rw [ei]
  have hn : (at1 (N := 20480) (by decide) cI ((2560 * (wL L).val + (p 0).val) / 4)).toNat < 20000 := hI _
  generalize (at1 (N := 20480) (by decide) cI ((2560 * (wL L).val + (p 0).val) / 4)).toNat = n at hn
  unfold at1
  rw [landX_at]
  show at1 (N := 320000) _ cX (80000 * ((wL L).val / 8) + (4 * n + (p 0).val % 4) % 80000) = _
  rw [show 80000 * ((2560 * (wL L).val + (p 0).val) / 20480) + 4 * n + (2560 * (wL L).val + (p 0).val) % 4
      = 80000 * ((wL L).val / 8) + (4 * n + (p 0).val % 4) % 80000 by omega]
  rfl

/-! ## The task's own semaphores and scratches -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch3.sem)
abbrev cCcell (d : Dev nD) (c : Fin τ.nSC) (i : Fin τ.nSub) : GSem nD τ sig := (V d c i, .dma cc1_scoped1.sem)

/-- The three semaphores are among the subcore's own: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- So are the three scratches, at some contents. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The task -/

variable [FloatOps F]

set_option maxHeartbeats 4000000 in
/-- The task on vector subcore `(L 0, L 1)` of device `d`: its indices and its table fetched, the forty trips, and the
    rows written out, every index being below 20000. -/
theorem tile_body (cI : Buf (Elt F) (iLoc d)) (cX : Buf (Elt F) (xLoc d)) (cO : Buf (Elt F) (oLoc d)) (q : PosShare TreeShare)
    (hF : (K (F := F)).Facts) (hI : ∀ j : S20480.Idx, (cI j).toNat < 20000)
    (O : CellTallies nD τ sig (HIx 1)) (W : Waits sig (HIx 1)) (hO : ∀ g, O g none = 0) :
    (iprop(levAts (K (F := F)).L (K (F := F)).lev ∗ emp
        ∗ ((iLoc d ↦[iSet (wL L)]{fullShare} cI) ∗ (xLoc d ↦{q} cX) ∗ (oLoc d ↦[oSet (wL L)]{fullShare} cO))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__gather_body L iV (Memref.isWhole_whole _) xV (Memref.isWhole_whole _) oV (Memref.isWhole_whole _)
            sI (Memref.isWhole_whole _) sX (Memref.isWhole_whole _) sR (Memref.isWhole_whole _) cc1_scratch3 cc1_scoped0 cc1_scoped1)
          fun _ => iprop(((iLoc d ↦[iSet (wL L)]{fullShare} cI) ∗ (xLoc d ↦{q} cX) ∗ (oLoc d ↦[oSet (wL L)]{fullShare} gathered cI cX))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_body_eq_skeleton]; unfold cc1__gather_body_skel
  simp only [k1_part2_eq_skeleton]; unfold k1_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fx, Hsx⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (show ((V d (cV L) (jV L)).loc cc1_scratch0 ↦{fullShare} fs : sProp 𝕄) = (sI).view.loc (V d (cV L) (jV L)) ↦{fullShare} fs from rfl)) $$ Hs
  ihave Hsx' := (Entails.of_eq (show ((V d (cV L) (jV L)).loc cc1_scratch1 ↦{fullShare} fx : sProp 𝕄) = (sX).view.loc (V d (cV L) (jV L)) ↦{fullShare} fx from rfl)) $$ Hsx
  ihave Hr' := (Entails.of_eq (show ((V d (cV L) (jV L)).loc cc1_scratch2 ↦{fullShare} fr : sProp 𝕄) = (sR).view.loc (V d (cV L) (jV L)) ↦{fullShare} fr from rfl)) $$ Hr
  sl_exec
  have eI : View.write (Elt F) (sI).view fs (tile_body.sl.dma0 d L cI) Finset.univ = landI d L cI := View.write_whole_univ _ _ _
  have eX : View.write (Elt F) (sX).view fx (tile_body.sl.dma0_1 d L cX) Finset.univ = landX d L cX := View.write_whole_univ _ _ _
  have hland : ∀ j : S640.Idx, (landI d L cI j).toNat < 20000 := fun j => by rw [landI_at]; exact hI _
  rw [eI, eX]
  rw [bind_assoc]
  sl_for (tripInv d L (landI d L cI) (landX d L cX)) $$ [Hs' Hsx' Hr']
  case region =>
    intro k acc
    exact trip d L _ _ hland k acc
  · unfold tripInv
    isplitl [Hs']; · iexact Hs'
    isplitl [Hsx']; · iexact Hsx'
    iexists _; isplitr; rotate_left
    · iexact Hr'
    ipureintro; intro p hp
    exact absurd hp (by omega)
  iintro %acc HT; unfold tripInv
  icases HT with ⟨Hs', Hsx', %fe, %hfe, Hr'⟩
  have hfull : fe = rowsOf (landI d L cI) (landX d L cX) := funext fun p => hfe p (by
    have h : (p 0).val < 2560 := (p 0).isLt
    rw [show Scf.trips k1_t1_loop.lb k1_t1_loop.ub k1_t1_loop.st = 40 from trips_eq]; omega)
  subst hfull
  sl_exec
  sl_step
  have eo : ∀ i ∈ (oRowK L).view.set, (oRowK L).view.writes (Elt F) cO [⟨Rect.whole S2560, tile_body.sl.dma0_2 d L cI cX⟩] i = gathered cI cX i := by
    intro i hi
    obtain ⟨y, -, rfl⟩ := Finset.mem_map.mp hi
    have h := congrFun (View.read_writes_whole (oRowK L).view cO (tile_body.sl.dma0_2 d L cI cX)) y
    rw [View.read_apply] at h
    exact ((cast_eq _ _).symm.trans h).trans (rows_part d L cI cX hI y)
  ihave Ho2 := (Entails.of_eq (pointsTo_congr (ℓ := (oRowK L).view.loc (V d (cV L) (jV L))) (q := fullShare) eo)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs' Hsx' Hr' Hbufs]
  · isplitl [Hs']; · iexists _; iexact Hs'
    isplitl [Hsx']; · iexists _; iexact Hsx'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Body

end Cert.Proof.WholeGather

end
-- ==== Proof.WholeGatherPay.lean ====
/-
  What the row gather's call of the whole program is handed and hands back, and its tasks' obligation.
-/
module

public import proofs.«01_k».proof.Proof.WholeGatherBody

@[expose] public section

noncomputable section

namespace Cert.Proof.WholeGather

open Cert.Proof.Whole
open Cert.Proof.Gather (gathered)

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ
local notation "iV" => (Memref.whole Cert.WholeIdeal.main_v4_scv : Memref Cert.WholeIdeal.sig Kind.scVector Space.hbm Cert.WholeIdeal.S20480 EltTy.i32)
local notation "xV" => (Memref.whole Cert.WholeIdeal.main_v5_scv : Memref Cert.WholeIdeal.sig Kind.scVector Space.hbm Cert.WholeIdeal.S320000 EltTy.f32)
local notation "oV" => (Memref.whole Cert.WholeIdeal.main_v6_scv : Memref Cert.WholeIdeal.sig Kind.scVector Space.hbm Cert.WholeIdeal.S81920 EltTy.f32)
local notation "sI" => (Memref.whole Cert.WholeIdeal.cc1_scratch0 : Memref Cert.WholeIdeal.sig Kind.scVector Space.vmem Cert.WholeIdeal.S640 EltTy.i32)
local notation "sX" => (Memref.whole Cert.WholeIdeal.cc1_scratch1 : Memref Cert.WholeIdeal.sig Kind.scVector Space.vmem Cert.WholeIdeal.S80000 EltTy.f32)
local notation "sR" => (Memref.whole Cert.WholeIdeal.cc1_scratch2 : Memref Cert.WholeIdeal.sig Kind.scVector Space.vmem Cert.WholeIdeal.S2560 EltTy.f32)

/-! ## What the handshakes carry -/

theorem nCore_zero : (K (F := F)).nCore 0 = 2 := rfl
theorem nSub_zero : (K (F := F)).nSub 0 = 16 := rfl

/-- The task of subcore `i` of SparseCore `c`. -/
def tk (c : Fin ((K (F := F)).nCore 0)) (i : Fin ((K (F := F)).nSub 0)) : Fin 32 := ⟨2 * i.val + c.val, by
  have h0 : c.val < 2 := c.isLt
  have h1 : i.val < 16 := i.isLt
  omega⟩

section Pay

variable (cI : (d : Dev nD) → Buf (Elt F) (iLoc d)) (cX : (d : Dev nD) → Buf (Elt F) (xLoc d)) (cO : (d : Dev nD) → Buf (Elt F) (oLoc d))

/-- Task `w`'s operands: its indices, a share of the tables, its part of the result at `g`. -/
abbrev taskPts (g : (d : Dev nD) → Buf (Elt F) (oLoc d)) (d : Dev nD) (w : Fin 32) : sProp 𝕄 :=
  iprop((iLoc d ↦[iSet w]{fullShare} cI d) ∗ (xLoc d ↦{Transfers.shareTok fullShare 32 w} cX d) ∗ (oLoc d ↦[oSet w]{fullShare} g d))

/-- The rows the call leaves. -/
abbrev outs (d : Dev nD) : Buf (Elt F) (oLoc d) := gathered (cI d) (cX d)

/-- Each SparseCore takes its sixteen tasks' operands, each task its own; they come back with the result's parts gathered. -/
def P : (K (F := F)).Pay (nD := nD) (Val := Elt F) (Name := ℕ) (U := UU) where
  st := fun q d c => match q with | 0 => bigSep Finset.univ fun i => taskPts cI cX cO d (tk c i)
  dn := fun q d c => match q with | 0 => bigSep Finset.univ fun i => taskPts cI cX (outs cI cX) d (tk c i)
  go := fun q d c i => match q with | 0 => taskPts cI cX cO d (tk c i)
  td := fun q d c i => match q with | 0 => taskPts cI cX (outs cI cX) d (tk c i)
  x := fun _ _ => iprop(emp)

instance P_storable : (P cI cX cO).IsStorable where
  st q d c := match q with
    | 0 => (inferInstance : BI.Storable (upEmb : UEmb _ 𝕄) (bigSep Finset.univ fun i => taskPts cI cX cO d (tk c i)))
  dn q d c := match q with
    | 0 => (inferInstance : BI.Storable (upEmb : UEmb _ 𝕄) (bigSep Finset.univ fun i => taskPts cI cX (outs cI cX) d (tk c i)))
  go q d c i := match q with
    | 0 => (inferInstance : BI.Storable (upEmb : UEmb _ 𝕄) (taskPts cI cX cO d (tk c i)))
  td q d c i := match q with
    | 0 => (inferInstance : BI.Storable (upEmb : UEmb _ 𝕄) (taskPts cI cX (outs cI cX) d (tk c i)))

/-! ## The parts split and join -/

theorem iparts_disjoint : ∀ i ∈ (Finset.univ : Finset (Fin 32)), ∀ j ∈ (Finset.univ : Finset (Fin 32)), i ≠ j → Disjoint (iSet i) (iSet j) :=
  fun _ _ _ _ h => Rect.part_disjoint idiv h
theorem oparts_disjoint : ∀ i ∈ (Finset.univ : Finset (Fin 32)), ∀ j ∈ (Finset.univ : Finset (Fin 32)), i ≠ j → Disjoint (oSet i) (oSet j) :=
  fun _ _ _ _ h => Rect.part_disjoint odiv h

theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet iparts_disjoint, show (Finset.univ : Finset (Fin 32)).biUnion iSet = Finset.univ from Rect.biUnion_part idiv]
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oparts_disjoint, show (Finset.univ : Finset (Fin 32)).biUnion oSet = Finset.univ from Rect.biUnion_part odiv]

/-- The thirty-two tasks are the two SparseCores' sixteen. -/
theorem bigSep_tasks (Φ : Fin 32 → sProp 𝕄) :
    (bigSep Finset.univ fun c : Fin ((K (F := F)).nCore 0) => bigSep Finset.univ fun i : Fin ((K (F := F)).nSub 0) => Φ (tk c i)) = bigSep Finset.univ Φ := by
  let e : Fin 2 × Fin 16 ≃ Fin 32 := (Equiv.prodComm _ _).trans finProdFinEquiv
  refine Eq.trans ?_ (bigSep_univ_equiv e Φ).symm
  refine Eq.trans ?_ (bigSep_univ_prod fun x : Fin 2 × Fin 16 => Φ (e x)).symm
  refine bigSep_congr fun c _ => bigSep_congr fun i _ => congrArg Φ (Fin.ext ?_)
  show 2 * i.val + c.val = c.val + 2 * i.val
  omega

/-- The three arrays are the tasks' operands and what is left of the tables' share. -/
theorem tasks_split (g : (d : Dev nD) → Buf (Elt F) (oLoc d)) (d : Dev nD) :
    iprop((iLoc d ↦{fullShare} cI d) ∗ (xLoc d ↦{fullShare} cX d) ∗ (oLoc d ↦{fullShare} g d))
      ⊢ (iprop((xLoc d ↦{Transfers.shareDrop fullShare 32} cX d) ∗ bigSep Finset.univ fun c : Fin ((K (F := F)).nCore 0) => bigSep Finset.univ fun i => taskPts cI cX g d (tk c i)) : sProp 𝕄) := by
  rw [bigSep_tasks (taskPts cI cX g d), bigSep_sep', bigSep_sep', iPts_parts, oPts_parts]
  iintro ⟨Hi, Hx, Ho⟩
  ihave Hx := (Transfers.pointsTo_toks_split (ℓ := xLoc d) (S := Finset.univ) (f := cX d) fullShare 32) $$ Hx
  icases Hx with ⟨Hr, Hx⟩
  isplitl [Hr]; · iexact Hr
  isplitl [Hi]; · iexact Hi
  isplitl [Hx]; · iexact Hx
  iexact Ho
theorem tasks_join (g : (d : Dev nD) → Buf (Elt F) (oLoc d)) (d : Dev nD) :
    (iprop((xLoc d ↦{Transfers.shareDrop fullShare 32} cX d) ∗ bigSep Finset.univ fun c : Fin ((K (F := F)).nCore 0) => bigSep Finset.univ fun i => taskPts cI cX g d (tk c i)) : sProp 𝕄)
      ⊢ iprop((iLoc d ↦{fullShare} cI d) ∗ (xLoc d ↦{fullShare} cX d) ∗ (oLoc d ↦{fullShare} g d)) := by
  rw [bigSep_tasks (taskPts cI cX g d), bigSep_sep', bigSep_sep', iPts_parts, oPts_parts]
  iintro ⟨Hr, Hi, Hx, Ho⟩
  isplitl [Hi]; · iexact Hi
  isplitl [Hr Hx]
  · iapply (Transfers.pointsTo_toks_join (ℓ := xLoc d) (S := Finset.univ) (f := cX d) fullShare 32)
    isplitl [Hr] <;> iassumption
  iexact Ho

variable [FloatOps F]

theorem vecSplit : (K (F := F)).VecSplit' (P cI cX cO) 0 := by
  intro d c
  show (bigSep Finset.univ fun i => taskPts cI cX cO d (tk c i)) ⊢ |={Set.univ}=> iprop(
      (bigSep Finset.univ fun i => taskPts cI cX cO d (tk c i))
      ∗ ((bigSep Finset.univ fun i => taskPts cI cX (outs cI cX) d (tk c i)) -∗ (bigSep Finset.univ fun i => taskPts cI cX (outs cI cX) d (tk c i))))
  iintro H; imodintro
  isplitl [H]; · iexact H
  iintro H; iexact H

/-! ## The tasks' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s)
          iV (Memref.isWhole_whole _) xV (Memref.isWhole_whole _) oV (Memref.isWhole_whole _)
          sI (Memref.isWhole_whole _) sX (Memref.isWhole_whole _) sR (Memref.isWhole_whole _) cc1_scratch3 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d, ∀ j : S20480.Idx, (cI d j).toNat < 20000) :
    (K (F := F)).TileObl (D (F := F)) 𝒱 (P cI cX cO) v₀ 0 := by
  intro d c i O W hO _ _
  simp only [show (P cI cX cO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (cI d) (cX d) (cO d) (Transfers.shareTok fullShare 32 (tk c i)) hF (hI d) O W hO).trans
    (wp_mono frame _ _ fun _ => obl_post)

end Pay

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

end Cert.Proof.WholeGather

end
-- ==== Proof.WholeRun.lean ====
/-
  The run of the whole program: the padded keys, the sort's region, the gather's call on the vector subcores, the
  suppression's region and the front of what it leaves.
-/
module

public import proofs.«01_k».proof.Proof.WholeDats
public import proofs.«01_k».proof.Proof.WholeGatherPay

@[expose] public section

noncomputable section

namespace Cert.Proof.WholeRun

open Cert.WholeIdeal Cert.WholeIdeal.Gen
open Cert.Proof.Whole
open Cert.Proof.WholeDats (pdats adm region KeysIn BoxesIn sorted Debts Ot)
open Cert.Proof.WholeGather (iLoc xLoc oLoc outs P tasks_split tasks_join tileObl vecSplit facts)
open Cert.Proof.Gather (gathered)

open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (ucRefs cellsGhost toksInit)

variable (m : (ℓ : Loc nD τ sig) → Buf (Elt Ideal) ℓ) (ρ : Dev nD → PrngReg)

local notation "𝕄" => MT nD τ sig (HIx 1) (Elt Ideal) ℕ UU ℕ

abbrev r (b : Ref sig .tc) : DevRef τ sig := Proc.devRef .tc b
abbrev uc : Finset (DevRef τ sig) := ucRefs τ sig

/-! ## The operations -/

abbrev op1 : HloOp τ sig (Elt Ideal) := StableHlo.nullary main_c (constantI S_ 32 4294967295#32)
abbrev op2 : HloOp τ sig (Elt Ideal) := StableHlo.unary main_c main_v0 (broadcastInDim S4x12768 ![] bcast_S_S4x12768 : (⟨S_, .i32⟩ : BufTy).Contents (Elt Ideal) → (⟨S4x12768, .i32⟩ : BufTy).Contents (Elt Ideal))
abbrev op3 : HloOp τ sig (Elt Ideal) := StableHlo.binary main_arg0 main_v0 main_v1 ((fun a b => concatenate S4x32768 1 [⟨S4x20000, a⟩, ⟨S4x12768, b⟩] concatenates_S4x20000_S4x12768_S4x32768_d1) : (⟨S4x20000, .i32⟩ : BufTy).Contents (Elt Ideal) → (⟨S4x12768, .i32⟩ : BufTy).Contents (Elt Ideal) → (⟨S4x32768, .i32⟩ : BufTy).Contents (Elt Ideal))
abbrev op4 : HloOp τ sig (Elt Ideal) := StableHlo.reshape main_v1 main_v2 (rfl : (.i32 : EltTy) = .i32) shapeCasts_S4x32768_S4x256x128
abbrev op5 : HloOp τ sig (Elt Ideal) := StableHlo.reshape main_v3 main_v4 (rfl : (.i32 : EltTy) = .i32) shapeCasts_S4x40x128_S20480
abbrev op6 : HloOp τ sig (Elt Ideal) := StableHlo.reshape main_arg1 main_v5 (rfl : (.f32 : EltTy) = .f32) shapeCasts_S4x20000x4_S320000
abbrev op7 : HloOp τ sig (Elt Ideal) := StableHlo.reshape main_v6 main_v7 (rfl : (.f32 : EltTy) = .f32) shapeCasts_S81920_S20480x4
abbrev op8 : HloOp τ sig (Elt Ideal) := StableHlo.reshape main_v7 main_v8 (rfl : (.f32 : EltTy) = .f32) shapeCasts_S20480x4_S4x20x256x4
abbrev op9 : HloOp τ sig (Elt Ideal) := StableHlo.unary main_v8 main_v9 ((transpose S4x20x4x256 [0, 1, 3, 2] · transposes_S4x20x256x4_S4x20x4x256_0_1_3_2) : (⟨S4x20x256x4, .f32⟩ : BufTy).Contents (Elt Ideal) → (⟨S4x20x4x256, .f32⟩ : BufTy).Contents (Elt Ideal))
abbrev op10 : HloOp τ sig (Elt Ideal) := StableHlo.unary main_v10 main_v11 ((extractStridedSlice S4x1000x4 ![0, 0, 0] · slices_S4x1024x4_S4x1000x4_0_0_0) : (⟨S4x1024x4, .f32⟩ : BufTy).Contents (Elt Ideal) → (⟨S4x1000x4, .f32⟩ : BufTy).Contents (Elt Ideal))

/-! ## The arrays along the program -/

/-- The scores' words and the boxes the program is launched with. -/
abbrev words (d : Dev nD) : IVec S4x20000 32 := m ((SparseCore.T d : Thread nD τ).loc main_arg0)
abbrev boxes (d : Dev nD) : FVec Ideal S4x20000x4 .f32 := m ((SparseCore.T d : Thread nD τ).loc main_arg1)

/-- The scores' words as the single sort's program has them. -/
def scores (d : Dev nD) : FVec Bits Cert.Sort.S4x20000x1 .f32 := fun i => (words m d (ValueIdx.ix2 (i 0) (i 1)) : BitVec 32)

/-- The keys of a batch. -/
def keys (d : Dev nD) (b : Fin 4) (f : ℕ) : ℤ := Bitonic.key (scores m d) b f

/-- At the launch; before the sort; after it; before the gather; after it; before the suppression; after it; at the end. -/
def V0 (d : Dev nD) : Valuation τ sig (Elt Ideal) := fun b => m (d, b)
def V1 (d : Dev nD) : Valuation τ sig (Elt Ideal) := op4.result (op3.result (op2.result (op1.result (V0 m d))))
def V2 (d : Dev nD) : Valuation τ sig (Elt Ideal) := Function.update (V1 m d) (r main_v3) (sorted (keys m d))
def V3 (d : Dev nD) : Valuation τ sig (Elt Ideal) := op6.result (op5.result (V2 m d))
def cI (d : Dev nD) : Buf (Elt Ideal) (iLoc d) := V3 m d (r main_v4)
def cX (d : Dev nD) : Buf (Elt Ideal) (xLoc d) := V3 m d (r main_v5)
def cO (d : Dev nD) : Buf (Elt Ideal) (oLoc d) := V3 m d (r main_v6)
def V4 (d : Dev nD) : Valuation τ sig (Elt Ideal) := Function.update (V3 m d) (r main_v6) (outs (cI m) (cX m) d)
def V5 (d : Dev nD) : Valuation τ sig (Elt Ideal) := op9.result (op8.result (op7.result (V4 m d)))

/-- The boxes in the scores' order. -/
def taken (d : Dev nD) : FVec Ideal S20480x4 .f32 := V5 m d (r main_v7)
def V6 (d : Dev nD) : Valuation τ sig (Elt Ideal) := Function.update (V5 m d) (r main_v10) (Nms.resAll (taken m d))
def V7 (d : Dev nD) : Valuation τ sig (Elt Ideal) := op10.result (V6 m d)

theorem V1_v2 (d : Dev nD) : V1 m d (r main_v2)
    = (shapeCast S4x256x128 (concatenate S4x32768 1 [⟨S4x20000, words m d⟩, ⟨S4x12768, broadcastInDim S4x12768 ![] bcast_S_S4x12768 (constantI S_ 32 4294967295#32)⟩]
        concatenates_S4x20000_S4x12768_S4x32768_d1) shapeCasts_S4x32768_S4x256x128 : IVec S4x256x128 32) := by
  show StableHlo.after [op1, op2, op3, op4] (V0 m d) (r main_v2) = _
  after_results
  rfl
theorem V3_v4 (d : Dev nD) : V3 m d (r main_v4) = (shapeCast S20480 (sorted (keys m d)) shapeCasts_S4x40x128_S20480 : IVec S20480 32) := by
  show StableHlo.after [op5, op6] (V2 m d) (r main_v4) = _
  after_results
  rfl
theorem V2_arg1 (d : Dev nD) : V2 m d (r main_arg1) = m ((SparseCore.T d : Thread nD τ).loc main_arg1) := by
  unfold V2
  rw [Function.update_of_ne (by decide)]
  show StableHlo.after [op1, op2, op3, op4] (V0 m d) (r main_arg1) = _
  after_results
  rfl
theorem V2_arg0 (d : Dev nD) : V2 m d (r main_arg0) = m ((SparseCore.T d : Thread nD τ).loc main_arg0) := by
  unfold V2
  rw [Function.update_of_ne (by decide)]
  show StableHlo.after [op1, op2, op3, op4] (V0 m d) (r main_arg0) = _
  after_results
  rfl
theorem V3_v5 (d : Dev nD) : V3 m d (r main_v5) = (shapeCast S320000 (boxes m d) shapeCasts_S4x20000x4_S320000 : FVec Ideal S320000 .f32) := by
  show StableHlo.after [op5, op6] (V2 m d) (r main_v5) = _
  after_results
  rw [V2_arg1]
  rfl
theorem V4_args (d : Dev nD) : V4 m d (r main_arg0) = m ((SparseCore.T d : Thread nD τ).loc main_arg0) ∧ V4 m d (r main_arg1) = m ((SparseCore.T d : Thread nD τ).loc main_arg1) := by
  unfold V4
  rw [Function.update_of_ne (by decide), Function.update_of_ne (by decide)]
  refine ⟨?_, ?_⟩
  · show StableHlo.after [op5, op6] (V2 m d) (r main_arg0) = _
    after_results
    exact V2_arg0 m d
  · show StableHlo.after [op5, op6] (V2 m d) (r main_arg1) = _
    after_results
    exact V2_arg1 m d
theorem V5_v7 (d : Dev nD) : taken m d = (shapeCast S20480x4 (gathered (cI m d) (cX m d)) shapeCasts_S81920_S20480x4 : FVec Ideal S20480x4 .f32) := by
  show StableHlo.after [op7, op8, op9] (V4 m d) (r main_v7) = _
  after_results
  rfl
theorem V5_v8 (d : Dev nD) : V5 m d (r main_v8) = (shapeCast S4x20x256x4 (taken m d) shapeCasts_S20480x4_S4x20x256x4 : FVec Ideal S4x20x256x4 .f32) := by
  rw [V5_v7]
  show StableHlo.after [op7, op8, op9] (V4 m d) (r main_v8) = _
  after_results
  rfl
theorem V5_v9 (d : Dev nD) : V5 m d (r main_v9) = (transpose S4x20x4x256 [0, 1, 3, 2] (shapeCast S4x20x256x4 (taken m d) shapeCasts_S20480x4_S4x20x256x4)
    transposes_S4x20x256x4_S4x20x4x256_0_1_3_2 : FVec Ideal S4x20x4x256 .f32) := by
  rw [V5_v7]
  show StableHlo.after [op7, op8, op9] (V4 m d) (r main_v9) = _
  after_results
  rfl
theorem V7_v11 (d : Dev nD) : V7 m d (r main_v11) = (extractStridedSlice S4x1000x4 ![0, 0, 0] (Nms.resAll (taken m d)) slices_S4x1024x4_S4x1000x4_0_0_0 : FVec Ideal S4x1000x4 .f32) := by
  show StableHlo.after [op10] (V6 m d) (r main_v11) = _
  after_results
  rfl
theorem V5_args (d : Dev nD) : V5 m d (r main_arg0) = m ((SparseCore.T d : Thread nD τ).loc main_arg0) ∧ V5 m d (r main_arg1) = m ((SparseCore.T d : Thread nD τ).loc main_arg1) := by
  refine ⟨?_, ?_⟩
  · show StableHlo.after [op7, op8, op9] (V4 m d) (r main_arg0) = _
    after_results
    exact (V4_args m d).1
  · show StableHlo.after [op7, op8, op9] (V4 m d) (r main_arg1) = _
    after_results
    exact (V4_args m d).2
theorem V7_args (d : Dev nD) : V7 m d (r main_arg0) = m ((SparseCore.T d : Thread nD τ).loc main_arg0) ∧ V7 m d (r main_arg1) = m ((SparseCore.T d : Thread nD τ).loc main_arg1) := by
  refine ⟨?_, ?_⟩
  · show StableHlo.after [op10] (V6 m d) (r main_arg0) = _
    after_results
    unfold V6
    rw [Function.update_of_ne (by decide)]
    exact (V5_args m d).1
  · show StableHlo.after [op10] (V6 m d) (r main_arg1) = _
    after_results
    unfold V6
    rw [Function.update_of_ne (by decide)]
    exact (V5_args m d).2

set_option maxRecDepth 16384 in
theorem keysIn : KeysIn (V1 m) (keys m) := by
  intro d b a l
  have ha := a.isLt
  have hl := l.isLt
  have hf : 128 * a.val + l.val < 32768 := by omega
  rw [V1_v2 m d]
  rw [shapeCast_apply _ _ _ (ValueIdx.ix2 b (⟨128 * a.val + l.val, hf⟩ : Fin 32768) : S4x32768.Idx) (by
    rw [Shape.rowMajor_val_two, Shape.rowMajor_val_three]
    show b.val * 32768 + (128 * a.val + l.val) = (b.val * 256 + a.val) * 128 + l.val
    omega)]
  unfold keys Bitonic.key
  by_cases h : 128 * a.val + l.val < 20000
  · rw [dif_pos h]
    rw [concatenate_pair_apply_left (t := S4x32768) (s₁ := S4x20000) (s₂ := S4x12768) 1 _ _ concatenates_S4x20000_S4x12768_S4x32768_d1 _ rfl
      (ValueIdx.ix2 b (⟨128 * a.val + l.val, h⟩ : Fin 20000)) fun d => match d with | ⟨0, _⟩ => rfl | ⟨1, _⟩ => rfl]
    rfl
  · rw [dif_neg h]
    refine (congrArg BitVec.toInt (concatenate_pair_apply_right (t := S4x32768) (s₁ := S4x20000) (s₂ := S4x12768) 1 _ _
      concatenates_S4x20000_S4x12768_S4x32768_d1 _ rfl rfl (ValueIdx.ix2 b (⟨128 * a.val + l.val - 20000, by omega⟩ : Fin 12768)) (fun d hd => ?_) ?_)).trans ?_
    · match d with
      | ⟨0, _⟩ => rfl
      | ⟨1, _⟩ => exact absurd rfl hd
    · show (128 * a.val + l.val - 20000) + 20000 = 128 * a.val + l.val; omega
    show (4294967295#32 : BitVec 32).toInt = -1
    decide

theorem boxesIn : BoxesIn (V5 m) (taken m) := fun d => ⟨V5_v8 m d, V5_v9 m d⟩

theorem V2_ne (d : Dev nD) (b : DevRef τ sig) (h : b ≠ r main_v3) : V2 m d b = V1 m d b := Function.update_of_ne h _ _
theorem V6_ne (d : Dev nD) (b : DevRef τ sig) (h : b ≠ r main_v10) : V6 m d b = V5 m d b := Function.update_of_ne h _ _

/-! ## The two regions -/

abbrev pd := pdats (V1 m) (V5 m) (keys m) (taken m) 0 8

theorem mem_arr {p : Fin 2} (w : Fin (pcfgs (F := Ideal) p).W) :
    (r (Pipeline.arrRef (pcfgs (F := Ideal) p).spec w) : DevRef τ sig) ∈ (Pipeline.arrRefs (pcfgs (F := Ideal) p).spec : Finset (DevRef τ sig)) :=
  Finset.mem_map_of_mem _ (Finset.mem_image_of_mem _ (Finset.mem_univ w))
theorem not_arr {p : Fin 2} {b : DevRef τ sig} (hb : b ∈ uc \ Pipeline.arrRefs (pcfgs (F := Ideal) p).spec) {a : DevRef τ sig}
    (ha : a ∈ (Pipeline.arrRefs (pcfgs (F := Ideal) p).spec : Finset (DevRef τ sig))) : b ≠ a :=
  fun e => (Finset.mem_sdiff.1 hb).2 (e ▸ ha)

def region0 := region (pd m) 0 0 0 launch0.toP rfl (fun c => (WholeDats.body0 _ _ _ (keysIn m) c).loose) (fun _ _ => rfl) (fun _ _ => rfl) (fun _ _ => rfl)
  (fun _ w => match w with | ⟨0, _⟩ => rfl | ⟨1, _⟩ => rfl) (V1 m) (V2 m)
  (fun _ w => match w with | ⟨0, _⟩ => rfl | ⟨1, _⟩ => rfl)
  (fun c w => match w with
    | ⟨0, _⟩ => (Pipeline.Dat.arrAt_in (WholeDats.dat0 (V1 m) (keys m) 0 c) 0 rfl _).trans (V2_ne m c (r main_v2) (by decide)).symm
    | ⟨1, _⟩ => (WholeDats.arr0_1 (V1 m) (keys m) 0 c).trans (Function.update_self (r main_v3) (sorted (keys m c)) (V1 m c)).symm)
  (fun c b hb => (Function.update_of_ne (not_arr hb (a := r main_v3) (mem_arr (p := 0) 1)) _ _).symm)

def region1 := region (pd m) 1 1 8 launch2.toP rfl (fun c => (WholeDats.body2 _ _ _ (boxesIn m) c).loose) (fun _ _ => rfl) (fun _ _ => rfl) (fun _ _ => rfl)
  (fun _ w => match w with | ⟨0, _⟩ => rfl | ⟨1, _⟩ => rfl | ⟨2, _⟩ => rfl) (V5 m) (V6 m)
  (fun _ w => match w with | ⟨0, _⟩ => rfl | ⟨1, _⟩ => rfl | ⟨2, _⟩ => rfl)
  (fun c w => match w with
    | ⟨0, _⟩ => (Pipeline.Dat.arrAt_in (WholeDats.dat2 (V5 m) (taken m) 8 c) 0 rfl _).trans (V6_ne m c (r main_v8) (by decide)).symm
    | ⟨1, _⟩ => (Pipeline.Dat.arrAt_in (WholeDats.dat2 (V5 m) (taken m) 8 c) 1 rfl _).trans (V6_ne m c (r main_v9) (by decide)).symm
    | ⟨2, _⟩ => (WholeDats.arr2_2 (V5 m) (taken m) 8 c).trans (Function.update_self (r main_v10) (Nms.resAll (taken m c)) (V5 m c)).symm)
  (fun c b hb => (Function.update_of_ne (not_arr hb (a := r main_v10) (mem_arr (p := 1) 2)) _ _).symm)

end Cert.Proof.WholeRun

end
-- ==== Proof.WholeMain.lean ====
/-
  The whole program's launch: what the cores are dealt, the TensorCore's program from the launch to its end, and the run.
-/
module

public import proofs.«01_k».proof.Proof.WholeRun

@[expose] public section

noncomputable section

namespace Cert.Proof.WholeRun

open Cert.WholeIdeal Cert.WholeIdeal.Gen
open Cert.Proof.Whole
open Cert.Proof.WholeDats (pdats adm region KeysIn BoxesIn sorted Debts Ot)
open Cert.Proof.WholeGather (iLoc xLoc oLoc outs P tasks_split tasks_join tileObl vecSplit facts)
open Cert.Proof.Gather (gathered)

open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within held_sub_split held_congr)
open Idealize.ShloMosaic.Pipeline (ucRefs cellsGhost toksInit)

variable (m : (ℓ : Loc nD τ sig) → Buf (Elt Ideal) ℓ) (ρ : Dev nD → PrngReg)

local notation "𝕄" => MT nD τ sig (HIx 1) (Elt Ideal) ℕ UU ℕ

/-! ## The ghost state at the launch -/

abbrev pn := Pipeline.pin (pcfgs (F := Ideal)) adm

theorem cell_inj : Function.Injective (Pipeline.cellOf (nD := nD) (τ := τ) pn) := launch0.toP.cellOf_inj adm

def u₀ : UU := (initOf (K (F := Ideal)).hsCells (K (F := Ideal)).hsToks, (initOf (Pipeline.cells pn cell_inj) (Pipeline.launchToks pn cell_inj), 1))

/-- What the pipelines' cells of core `d` start from. -/
abbrev G (d : Dev nD) : sProp 𝕄 :=
  iprop((bigSep Finset.univ fun p => cellsGhost pn EP p d) ∗ (bigSep Finset.univ fun p => toksInit pn EP p d))

theorem bigSep_emp' {I : Type} (s : Finset I) : (bigSep s fun _ => iprop(emp)) = (iprop(emp) : sProp 𝕄) := bigSep_emp_const s

theorem hu₀ : (ownU u₀ : sProp 𝕄)
    ⊢ |={Set.univ}=> iprop(BI.own (EH (initOf (K (F := Ideal)).hsCells (K (F := Ideal)).hsToks)) ∗ (bigSep Finset.univ G)
        ∗ bigSep Finset.univ fun thr : Thread nD τ => bigSep Finset.univ fun q : Fin 1 => (P (cI m) (cX m) (cO m)).x q thr) := by
  unfold u₀
  iintro Hu
  ihave H := (ownU_pair (initOf (K (F := Ideal)).hsCells (K (F := Ideal)).hsToks) ((initOf (Pipeline.cells pn cell_inj) (Pipeline.launchToks pn cell_inj), 1) : UP × Counters)) $$ Hu
  icases H with ⟨HH, HP⟩
  ihave H := (own_pair_emb (embR : Emb (UP × Counters) 𝕄) (initOf (Pipeline.cells pn cell_inj) (Pipeline.launchToks pn cell_inj)) (1 : Counters)) $$ HP
  icases H with ⟨HP, -⟩
  imod (Pipeline.fund_ghost pn EP cell_inj) $$ [HP] with ⟨Hg, Ht⟩
  · unfold EP; iexact HP
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (cI m) (cX m) (cO m)).x q thr) = bigSep Finset.univ fun _ => iprop(emp) from
    bigSep_congr fun _ _ => bigSep_univ_of_subsingleton (0 : Fin 1), bigSep_emp']
  iempintro

/-! ## A region as the program calls it -/

theorem region_wp {p : Fin 2} (R : Pipeline.RegionSeg (pcfgs (F := Ideal)) adm (pd m) none (defs₀ (F := Ideal)) 𝒱₀ (K (F := Ideal)).L (K (F := Ideal)).lev p) (d : Dev nD)
    (Q : PUnit → sProp 𝕄) :
    iprop((iprop(boundary (T d) ∗ R.post d) -∗ Q ⟨⟩) ∗ boundary (T d) ∗ R.pre d ∗ levAts (K (F := Ideal)).L (K (F := Ideal)).lev
        ∗ cellsGhost pn EP p d ∗ toksInit pn EP p d)
      ⊢ wp frame (wpE ((K (F := Ideal)).defs (D (F := Ideal))) 𝒱 (T d) none) Set.univ
          (Prog.lift (.customCall (SparseCore.inner (Pipeline.entry p)) ())) Q := by
  have h1 := (K (F := Ideal)).wp_liftProg (D (F := Ideal)) 𝒱 (T d) Set.univ none (.op (.customCall (Pipeline.entry p) ()) Prog.ret) Q
  have h2 := Pipeline.RegionSeg.wp (pcfgs (F := Ideal)) adm (pd m) none cell_inj EP (defs₀ (F := Ideal)) 𝒱₀ (K (F := Ideal)).L (K (F := Ideal)).lev R d none
    (fun u hu => nomatch hu) Prog.ret Q
  iintro ⟨Hk, Hr⟩
  iapply h1
  iapply h2
  isplitl [Hk]
  · iintro H
    rw [wp_ret]; imodintro
    iapply Hk $$ H
  iexact Hr

/-- Between two stages the core holds its debts and the handshakes' rounds. -/
theorem tcSt0 (d : Dev nD) : ∃ R : sProp 𝕄, ((K (F := Ideal)).tcSt EH d 0 : sProp 𝕄) = iprop(Debts 0 0 d ∗ R) := ⟨_, rfl⟩
theorem tcSt1 (d : Dev nD) : ∃ R : sProp 𝕄, ((K (F := Ideal)).tcSt EH d 1 : sProp 𝕄) = iprop(Debts 1 8 d ∗ R) := ⟨_, rfl⟩

/-! ## The gather's arrays among the others -/

abbrev S3 : Finset (DevRef τ sig) := {r main_v4, r main_v5, r main_v6}

theorem S3_sub : S3 ⊆ uc := by
  intro b hb
  simp only [S3, Finset.mem_insert, Finset.mem_singleton] at hb
  rcases hb with rfl | rfl | rfl <;> exact Finset.mem_filter.mpr ⟨StableHlo.devRef_mem_tcRefs _, by decide⟩

theorem held_S3 (d : Dev nD) (W : Valuation τ sig (Elt Ideal)) :
    (held (T d) uc W : sProp 𝕄) = iprop(((iLoc d ↦{fullShare} W (r main_v4)) ∗ (xLoc d ↦{fullShare} W (r main_v5)) ∗ (oLoc d ↦{fullShare} W (r main_v6)))
      ∗ held (T d) (uc \ S3) W) := by
  rw [held_sub_split (T d) S3_sub W]
  congr 1
  unfold held S3
  rw [SparseCore.bigSep_insert' (by decide), SparseCore.bigSep_insert' (by decide), bigSep_singleton]

theorem V4_ne (d : Dev nD) (b : DevRef τ sig) (h : b ≠ r main_v6) : V4 m d b = V3 m d b := Function.update_of_ne h _ _

theorem rest_V4 (d : Dev nD) : (held (T d) (uc \ S3) (V3 m d) : sProp 𝕄) = held (T d) (uc \ S3) (V4 m d) :=
  held_congr (T d) fun b hb => (V4_ne m d b fun e => (Finset.mem_sdiff.1 hb).2 (by rw [e]; decide)).symm

/-! ## @main on the TensorCore -/

abbrev aLoc (d : Dev nD) (b : Ref sig .tc) : Loc nD τ sig := (SparseCore.T d : Thread nD τ).loc b

/-- What @main leaves the claim. -/
abbrev FIN (d : Dev nD) : sProp 𝕄 := held (T d) uc (V7 m d)

theorem pre0 (d : Dev nD) : (region0 m).pre d = iprop(held (T d) uc (V1 m d) ∗ Debts 0 0 d) := rfl
theorem post0 (d : Dev nD) : (region0 m).post d = iprop(held (T d) uc (V2 m d) ∗ Debts 0 0 d) := rfl
theorem pre1 (d : Dev nD) : (region1 m).pre d = iprop(held (T d) uc (V5 m d) ∗ Debts 1 8 d) := rfl
theorem post1 (d : Dev nD) : (region1 m).post d = iprop(held (T d) uc (V6 m d) ∗ Debts 1 8 d) := rfl

theorem hmain (κ : GSem nD τ sig → ℕ) (d : Dev nD) :
    iprop((K (F := Ideal)).ctx EH (P (cI m) (cX m) (cO m)) κ ∗ (K (F := Ideal)).tcSt EH d 0 ∗ (K (F := Ideal)).tcRes m ρ d ∗ G d)
      ⊢ wp frame (wpE ((K (F := Ideal)).defs (D (F := Ideal))) 𝒱 (SparseCore.T d) none) Set.univ (main d)
          fun _ => iprop((K (F := Ideal)).tcSt EH d 1 ∗ FIN m d ∗ (K (F := Ideal)).tcEnd d) := by
  obtain ⟨R0, e0⟩ := tcSt0 d
  obtain ⟨R1, e1⟩ := tcSt1 d
  unfold SparseCore.Cfg.tcRes SparseCore.Cfg.tcEnd
  rw [show (unscopedBufs d (fun b => m ((SparseCore.T d).loc b)) : sProp 𝕄) = held (T d) uc (V0 m d) from Pipeline.unscopedBufs_held d (V0 m d)]
  unfold G
  rw [bigSep_univ_two, bigSep_univ_two]
  simp only [main, wp_bind, wp_pure]
  iintro ⟨#Hctx, Hst, ⟨Hb, Hheld, Hts, -⟩, ⟨Hg0, Hg1⟩, ⟨Ht0, Ht1⟩⟩
  ihave #Hlev := (SparseCore.Cfg.ctx_levAts (K := K (F := Ideal)) (EH := EH) (P := P (cI m) (cX m) (cO m)) κ) $$ Hctx
  iapply (wp_hlo_within 𝒱 (SparseCore.T d) none Set.univ (op := op1) (S := uc) (Pipeline.sub_ucRefs _ (StableHlo.nullary_bufs_sub ..)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := uc) (Pipeline.sub_ucRefs _ (StableHlo.unary_bufs_sub ..)) (V := op1.result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := uc) (Pipeline.sub_ucRefs _ (StableHlo.binary_bufs_sub ..)) (V := op2.result (op1.result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := uc) (Pipeline.sub_ucRefs _ (StableHlo.reshape_bufs_sub ..)) (V := op3.result (op2.result (op1.result (V0 m d))))) $$ [Hb Hheld]
  · isplitl [Hb]; · iexact Hb
    iexact Hheld
  iintro ⟨Hb, Hheld⟩
  rw [wp_ret]; imodintro
  ihave Hst := (Entails.of_eq e0) $$ Hst
  icases Hst with ⟨HO, HR⟩
  iapply (region_wp m (region0 m) d)
  rw [pre0, post0]
  isplitr [Hb Hheld HO Hg0 Ht0]
  · iintro ⟨Hb, ⟨Hheld, HO⟩⟩
    ihave Hst := (Entails.of_eq e0.symm) $$ [HO HR]
    · isplitl [HO]; · iexact HO
      iexact HR
    iapply (wp_hlo_within 𝒱 (SparseCore.T d) none Set.univ (op := op5) (S := uc) (Pipeline.sub_ucRefs _ (StableHlo.reshape_bufs_sub ..)) (V := V2 m d)) $$ [Hb Hheld]
    · isplitl [Hb]; · iexact Hb
      iexact Hheld
    iintro ⟨Hb, Hheld⟩
    rw [wp_ret]; imodintro
    iapply (wp_hlo_within 𝒱 (SparseCore.T d) none Set.univ (op := op6) (S := uc) (Pipeline.sub_ucRefs _ (StableHlo.reshape_bufs_sub ..)) (V := op5.result (V2 m d))) $$ [Hb Hheld]
    · isplitl [Hb]; · iexact Hb
      iexact Hheld
    iintro ⟨Hb, Hheld⟩
    rw [wp_ret]; imodintro
    ihave Hh := (Entails.of_eq (show (held (T d) uc (op6.result (op5.result (V2 m d))) : sProp 𝕄) = _ from held_S3 d (V3 m d))) $$ Hheld
    icases Hh with ⟨Hops, Hrs⟩
    icases Hops with ⟨Hi, Hx, Ho⟩
    ihave Hs := (tasks_split (cI m) (cX m) (cO m) d) $$ [Hi Hx Ho]
    · isplitl [Hi]; · iexact Hi
      isplitl [Hx]; · iexact Hx
      iexact Ho
    icases Hs with ⟨Hrest, Htasks⟩
    iapply ((K (F := Ideal)).wp_run (D (F := Ideal)) 𝒱 (EH := EH) (P := P (cI m) (cX m) (cO m)) κ d 0) $$ [Hst Htasks Hrs Hrest Hb Hts Hg1 Ht1]
    isplitr; · iexact Hctx
    isplitl [Hst]; · iexact Hst
    isplitl [Htasks]; · iexact Htasks
    iintro ⟨Hst, Hdn⟩
    ihave Hj := (tasks_join (cI m) (cX m) (outs (cI m) (cX m)) d) $$ [Hrest Hdn]
    · isplitl [Hrest]; · iexact Hrest
      iexact Hdn
    ihave Hheld := (Entails.of_eq (held_S3 d (V4 m d)).symm) $$ [Hj Hrs]
    · isplitl [Hj]
      · rw [V4_ne m d (r main_v4) (by decide), V4_ne m d (r main_v5) (by decide), show V4 m d (r main_v6) = outs (cI m) (cX m) d from Function.update_self _ _ _]
        icases Hj with ⟨Hi, Hx, Ho⟩
        isplitl [Hi]; · iexact Hi
        isplitl [Hx]; · iexact Hx
        iexact Ho
      rw [← rest_V4]
      iexact Hrs
    iapply (wp_hlo_within 𝒱 (SparseCore.T d) none Set.univ (op := op7) (S := uc) (Pipeline.sub_ucRefs _ (StableHlo.reshape_bufs_sub ..)) (V := V4 m d)) $$ [Hb Hheld]
    · isplitl [Hb]; · iexact Hb
      iexact Hheld
    iintro ⟨Hb, Hheld⟩
    rw [wp_ret]; imodintro
    iapply (wp_hlo_within 𝒱 (SparseCore.T d) none Set.univ (op := op8) (S := uc) (Pipeline.sub_ucRefs _ (StableHlo.reshape_bufs_sub ..)) (V := op7.result (V4 m d))) $$ [Hb Hheld]
    · isplitl [Hb]; · iexact Hb
      iexact Hheld
    iintro ⟨Hb, Hheld⟩
    rw [wp_ret]; imodintro
    iapply (wp_hlo_within 𝒱 (SparseCore.T d) none Set.univ (op := op9) (S := uc) (Pipeline.sub_ucRefs _ (StableHlo.unary_bufs_sub ..)) (V := op8.result (op7.result (V4 m d)))) $$ [Hb Hheld]
    · isplitl [Hb]; · iexact Hb
      iexact Hheld
    iintro ⟨Hb, Hheld⟩
    rw [wp_ret]; imodintro
    ihave Hst := (Entails.of_eq (show ((K (F := Ideal)).tcSt EH d ((0 : Fin 1).val + 1) : sProp 𝕄) = _ from e1)) $$ Hst
    icases Hst with ⟨HO, HR⟩
    iapply (region_wp m (region1 m) d)
    rw [pre1, post1]
    isplitr [Hb Hheld HO Hg1 Ht1]
    · iintro ⟨Hb, ⟨Hheld, HO⟩⟩
      ihave Hst := (Entails.of_eq e1.symm) $$ [HO HR]
      · isplitl [HO]; · iexact HO
        iexact HR
      iapply (wp_hlo_within 𝒱 (SparseCore.T d) none Set.univ (op := op10) (S := uc) (Pipeline.sub_ucRefs _ (StableHlo.unary_bufs_sub ..)) (V := V6 m d)) $$ [Hb Hheld]
      · isplitl [Hb]; · iexact Hb
        iexact Hheld
      iintro ⟨Hb, Hheld⟩
      rw [wp_ret]; imodintro; imodintro
      isplitl [Hst]; · iexact Hst
      isplitl [Hheld]; · iexact Hheld
      isplitl [Hb] <;> iassumption
    isplitl [Hb]; · iexact Hb
    isplitl [Hheld HO]
    · isplitl [Hheld]; · iexact Hheld
      iexact HO
    isplitr; · iexact Hlev
    isplitl [Hg1]; · iexact Hg1
    iexact Ht1
  isplitl [Hb]; · iexact Hb
  isplitl [Hheld HO]
  · isplitl [Hheld]; · iexact Hheld
    iexact HO
  isplitr; · iexact Hlev
  isplitl [Hg0]; · iexact Hg0
  iexact Ht0

/-! ## The run -/

theorem held_arr (d : Dev nD) (b : Ref sig .tc) (hb : r b ∈ uc) (W : Valuation τ sig (Elt Ideal)) :
    (held (T d) uc W : sProp 𝕄) ⊢ iprop((aLoc d b ↦{fullShare} W (r b)) ∗ held (T d) (uc.erase (r b)) W) := by
  unfold held
  rw [← Finset.insert_erase hb, SparseCore.bigSep_insert' (Finset.notMem_erase _ _), Finset.erase_insert (Finset.notMem_erase _ _)]

def fq (d : Dev nD) (s' : Phys nD τ sig (Elt Ideal)) : Prop :=
  s'.mem.mem (aLoc d main_arg0) = m (aLoc d main_arg0) ∧ s'.mem.mem (aLoc d main_arg1) = m (aLoc d main_arg1) ∧ s'.mem.mem (aLoc d main_v11) = V7 m d (r main_v11)

theorem mem_uc (b : Ref sig .tc) (h : ¬ (r b).isScoped = true := by decide) : r b ∈ uc := Finset.mem_filter.mpr ⟨StableHlo.devRef_mem_tcRefs _, h⟩

theorem agree (d : Dev nD) (b : Ref sig .tc) (hb : r b ∈ uc) (s' : Phys nD τ sig (Elt Ideal)) :
    iprop(FIN m d ∗ SI s') ⊢ (⌜s'.mem.mem (aLoc d b) = V7 m d (r b)⌝ : sProp 𝕄) := by
  iintro ⟨H, HSI⟩
  ihave H := (held_arr d b hb (V7 m d)) $$ H
  icases H with ⟨H, -⟩
  ihave H := (SI_pointsTo_agree (st := s') (ℓ := aLoc d b) (I := Finset.univ) (q := fullShare) (f := V7 m d (r b))) $$ [HSI H]
  · isplitl [HSI] <;> iassumption
  icases H with %h
  ipureintro
  exact funext fun i => h i (Finset.mem_univ i)

theorem hfin (d : Dev nD) (s' : Phys nD τ sig (Elt Ideal)) : iprop(FIN m d ∗ SI s') ⊢ (⌜fq m d s'⌝ : sProp 𝕄) := by
  iintro H
  ihave H := (persistent_entails_right (agree m d main_arg0 (mem_uc _) s')) $$ H
  icases H with ⟨%h0, H⟩
  ihave H := (persistent_entails_right (agree m d main_arg1 (mem_uc _) s')) $$ H
  icases H with ⟨%h1, H⟩
  ihave H := (agree m d main_v11 (mem_uc _) s') $$ H
  icases H with %h2
  ipureintro
  exact ⟨h0.trans (V7_args m d).1, h1.trans (V7_args m d).2, h2⟩

def QC : PUnit × MemSt nD τ sig (Elt Ideal) → Prop := fun q => (∀ d : Dev nD, q.2.mem (aLoc d main_arg0) = m (aLoc d main_arg0)
  ∧ q.2.mem (aLoc d main_arg1) = m (aLoc d main_arg1) ∧ q.2.mem (aLoc d main_v11) = V7 m d (r main_v11)) ∧ q.2.sem = fun _ => 0

/-- The whole program's run. -/
theorem run_main (hI : ∀ d, ∀ j : S20480.Idx, (cI m d j).toNat < 20000) :
    θ_run (Cert.WholeIdeal.defs (F := Ideal)) (Cert.WholeIdeal.threads (F := Ideal)) ⟨m, fun _ => 0, ρ⟩ (QC m) :=
  SparseCore.Cfg.θ_run_sc_quiescent (K := K (F := Ideal)) (D := D (F := Ideal)) (𝒱 := 𝒱) (EH := EH) (P := P (cI m) (cX m) (cO m)) (A := ∅) facts v₀
    (fun q hq => match q with | 0 => nomatch hq)
    (fun q _ => match q with | 0 => tileObl _ _ _ facts hI)
    (fun q _ => match q with | 0 => SparseCore.Cfg.VecSplit.of_plain (vecSplit _ _ _))
    m ρ main G (FIN m) u₀ (sep_elim_left.trans (hu₀ _)) (hmain m ρ) (fq m) (hfin m) (QC m) (fun _ h hz => ⟨h, hz⟩)

end Cert.Proof.WholeRun

end
-- ==== Proof.WholeRefRun.lean ====
/-
  The whole reference program's stretches, each read from any contents: what each leaves in the buffers the later ones
  read, and from them the loop's entry and the program's result.
-/
module

public import proofs.«01_k».proof.Proof.Gen.WholeReferenceIdeal.Run
public import Idealize.ShloMosaic.PureOps.Ideal.Laws

@[expose] public section

set_option maxRecDepth 8192

noncomputable section

namespace Cert.Proof.WholeRef

open Cert.WholeReferenceIdeal Cert.WholeReferenceIdeal.Gen Cert.WholeReferenceIdeal.Value
open Idealize.ShloMosaic Idealize.ShloMosaic.StableHlo Idealize.ShloMosaic.TcCoe Idealize.ShloMosaic.Tactic

variable (V : Valuation τ sig (Elt Ideal))

/-! ## The selection -/

/-- The positions of the greatest scores of each batch. -/
abbrev picks (w : IVec S4x20000 32) : IVec S4x5000 32 := (Host.topK S4x5000 1 (IntOp.cmpi .sgt) w sliceFits_S4x20000_S4x5000).2

/-- The positions with the negative ones wrapped. -/
abbrev wrapped (ix : IVec S4x5000 32) : IVec S4x5000 32 :=
  select (cmpi .slt ix (broadcastInDim S4x5000 ![] bcast_S_S4x5000 (constantI S_ 32 0#32)))
    (addi ix (broadcastInDim S4x5000 ![] bcast_S_S4x5000 (constantI S_ 32 20000#32))) ix

/-- The wrapped positions with the unit axis the gather's start indices have. -/
abbrev starts (ix : IVec S4x5000 32) : IVec S4x5000x1 32 := broadcastInDim S4x5000x1 ![0, 1] bcast_S4x5000_S4x5000x1_0_1 (wrapped ix)

/-- The boxes at the positions. -/
abbrev boxesAt (tb : FVec Ideal S4x20000x4 .f32) (ix : IVec S4x5000 32) : FVec Ideal S4x5000x4 .f32 :=
  select (broadcastInDim S4x5000x4 ![0, 1] bcast_S4x5000_S4x5000x4_0_1 (Host.reduce IntOp.andi (andi (cmpi .sge (starts ix) (broadcastInDim S4x5000x1 ![] bcast_S_S4x5000x1 (constantI S_ 32 0#32)))
      (cmpi .sle (starts ix) (broadcastInDim S4x5000x1 ![0, 1, 2] bcast_S1x1x1_S4x5000x1_0_1_2 (broadcastInDim S1x1x1 ![2] bcast_S1_S1x1x1_2 (constantI S1 32 19999#32))))) (constantI S_ 1 1#1) reducesTo_S4x5000x1_S4x5000_d2 h_S_))
    (Host.gather gather_S4x20000x4_S4x5000x1_S4x5000x4_2_1_0_0_1_2_114 tb (starts ix))
    (broadcastInDim S4x5000x4 ![] bcast_S_S4x5000x4 (constant S_ .f32 0x7FC00000#32))

theorem pre0_indices : after (hostOps0 (F := Ideal)) V (Proc.devRef .tc main_indices) = picks (V (Proc.devRef .tc main_arg0)) := by
  unfold hostOps0; after_results
theorem pre0_arg0 : after (hostOps0 (F := Ideal)) V (Proc.devRef .tc main_arg0) = V (Proc.devRef .tc main_arg0) :=
  after_of_writes_sub hostOps0 V hostOps0_writes (by decide +kernel)
theorem pre0_arg1 : after (hostOps0 (F := Ideal)) V (Proc.devRef .tc main_arg1) = V (Proc.devRef .tc main_arg1) :=
  after_of_writes_sub hostOps0 V hostOps0_writes (by decide +kernel)

set_option maxRecDepth 100000 in
theorem pre1_v0 : after (hostOps0_1 (F := Ideal)) V (Proc.devRef .tc main_v0)
    = boxesAt (V (Proc.devRef .tc main_arg1)) (V (Proc.devRef .tc main_indices)) := by
  unfold hostOps0_1; after_results; rfl
theorem pre1_arg0 : after (hostOps0_1 (F := Ideal)) V (Proc.devRef .tc main_arg0) = V (Proc.devRef .tc main_arg0) :=
  after_of_writes_sub hostOps0_1 V hostOps0_1_writes (by decide +kernel)
theorem pre1_arg1 : after (hostOps0_1 (F := Ideal)) V (Proc.devRef .tc main_arg1) = V (Proc.devRef .tc main_arg1) :=
  after_of_writes_sub hostOps0_1 V hostOps0_1_writes (by decide +kernel)

/-! ## The overlap ratios -/

abbrev y1 (w : FVec Ideal S4x5000x4 .f32) : FVec Ideal S4x5000 .f32 :=
  shapeCast S4x5000 (extractStridedSlice S4x5000x1 ![0, 0, 0] w slices_S4x5000x4_S4x5000x1_0_0_0) shapeCasts_S4x5000x1_S4x5000
abbrev x1 (w : FVec Ideal S4x5000x4 .f32) : FVec Ideal S4x5000 .f32 :=
  shapeCast S4x5000 (extractStridedSlice S4x5000x1 ![0, 0, 1] w slices_S4x5000x4_S4x5000x1_0_0_1) shapeCasts_S4x5000x1_S4x5000
abbrev y2 (w : FVec Ideal S4x5000x4 .f32) : FVec Ideal S4x5000 .f32 :=
  shapeCast S4x5000 (extractStridedSlice S4x5000x1 ![0, 0, 2] w slices_S4x5000x4_S4x5000x1_0_0_2) shapeCasts_S4x5000x1_S4x5000
abbrev x2 (w : FVec Ideal S4x5000x4 .f32) : FVec Ideal S4x5000 .f32 :=
  shapeCast S4x5000 (extractStridedSlice S4x5000x1 ![0, 0, 3] w slices_S4x5000x4_S4x5000x1_0_0_3) shapeCasts_S4x5000x1_S4x5000

/-- A value per box, as the first of a pair has it. -/
abbrev col (v : FVec Ideal S4x5000 .f32) : FVec Ideal S4x5000x5000 .f32 :=
  broadcastInDim S4x5000x5000 ![0, 1, 2] bcast_S4x5000x1_S4x5000x5000_0_1_2 (broadcastInDim S4x5000x1 ![0, 1] bcast_S4x5000_S4x5000x1_0_1 v)

/-- A value per box, as the second of a pair has it. -/
abbrev row (v : FVec Ideal S4x5000 .f32) : FVec Ideal S4x5000x5000 .f32 :=
  broadcastInDim S4x5000x5000 ![0, 1, 2] bcast_S4x1x5000_S4x5000x5000_0_1_2 (broadcastInDim S4x1x5000 ![0, 2] bcast_S4x5000_S4x1x5000_0_2 v)

abbrev zeros : FVec Ideal S4x5000x5000 .f32 := broadcastInDim S4x5000x5000 ![] bcast_S_S4x5000x5000 (constant S_ .f32 0x00000000#32)

abbrev areas (w : FVec Ideal S4x5000x4 .f32) : FVec Ideal S4x5000 .f32 := mulf (subf (y2 w) (y1 w)) (subf (x2 w) (x1 w))

/-- The overlap's area of each pair. -/
abbrev inter (w : FVec Ideal S4x5000x4 .f32) : FVec Ideal S4x5000x5000 .f32 :=
  mulf (maximumf zeros (subf (minimumf (col (y2 w)) (row (y2 w))) (maximumf (col (y1 w)) (row (y1 w)))))
    (maximumf zeros (subf (minimumf (col (x2 w)) (row (x2 w))) (maximumf (col (x1 w)) (row (x1 w)))))

/-- The union's area of each pair. -/
abbrev union (w : FVec Ideal S4x5000x4 .f32) : FVec Ideal S4x5000x5000 .f32 :=
  subf (addf (col (areas w)) (row (areas w))) (inter w)

/-- The overlap ratios of all pairs. -/
abbrev ious (w : FVec Ideal S4x5000x4 .f32) : FVec Ideal S4x5000x5000 .f32 :=
  select (cmpf .ogt (union w) zeros) (Host.divf (inter w) (union w)) zeros

theorem pre2_v46 : after (hostOps0_2 (F := Ideal)) V (Proc.devRef .tc main_v46) = cmpf .ogt (union (V (Proc.devRef .tc main_v0))) zeros := by
  unfold hostOps0_2; after_results; rfl
theorem pre2_v47 : after (hostOps0_2 (F := Ideal)) V (Proc.devRef .tc main_v47)
    = Host.divf (inter (V (Proc.devRef .tc main_v0))) (union (V (Proc.devRef .tc main_v0))) := by
  unfold hostOps0_2; after_results; rfl
theorem pre2_cst_2 : after (hostOps0_2 (F := Ideal)) V (Proc.devRef .tc main_cst_2) = (constant S_ .f32 0x00000000#32 : FVec Ideal S_ .f32) := by
  unfold hostOps0_2; after_results
theorem pre2_v0 : after (hostOps0_2 (F := Ideal)) V (Proc.devRef .tc main_v0) = V (Proc.devRef .tc main_v0) :=
  after_of_writes_sub hostOps0_2 V hostOps0_2_writes (by decide +kernel)
theorem pre2_arg0 : after (hostOps0_2 (F := Ideal)) V (Proc.devRef .tc main_arg0) = V (Proc.devRef .tc main_arg0) :=
  after_of_writes_sub hostOps0_2 V hostOps0_2_writes (by decide +kernel)
theorem pre2_arg1 : after (hostOps0_2 (F := Ideal)) V (Proc.devRef .tc main_arg1) = V (Proc.devRef .tc main_arg1) :=
  after_of_writes_sub hostOps0_2 V hostOps0_2_writes (by decide +kernel)

theorem pre3_v48 : after (hostOps0_3 (F := Ideal)) V (Proc.devRef .tc main_v48)
    = select (V (Proc.devRef .tc main_v46) : IVec S4x5000x5000 1) (V (Proc.devRef .tc main_v47) : FVec Ideal S4x5000x5000 .f32)
        (broadcastInDim S4x5000x5000 ![] bcast_S_S4x5000x5000 (V (Proc.devRef .tc main_cst_2) : FVec Ideal S_ .f32)) := by
  unfold hostOps0_3; after_results; rfl
theorem pre3_v0 : after (hostOps0_3 (F := Ideal)) V (Proc.devRef .tc main_v0) = V (Proc.devRef .tc main_v0) :=
  after_of_writes_sub hostOps0_3 V hostOps0_3_writes (by decide +kernel)
theorem pre3_arg0 : after (hostOps0_3 (F := Ideal)) V (Proc.devRef .tc main_arg0) = V (Proc.devRef .tc main_arg0) :=
  after_of_writes_sub hostOps0_3 V hostOps0_3_writes (by decide +kernel)
theorem pre3_arg1 : after (hostOps0_3 (F := Ideal)) V (Proc.devRef .tc main_arg1) = V (Proc.devRef .tc main_arg1) :=
  after_of_writes_sub hostOps0_3 V hostOps0_3_writes (by decide +kernel)

theorem pre4_v51_0 : after (hostOps0_4 (F := Ideal)) V (Proc.devRef .tc main_v51_0) = V (Proc.devRef .tc main_v48) := by
  unfold hostOps0_4; after_results; rfl
theorem pre4_v51_1 : after (hostOps0_4 (F := Ideal)) V (Proc.devRef .tc main_v51_1) = (iotaInDim S5000 32 0 : IVec S5000 32) := by
  unfold hostOps0_4; after_results; rfl
theorem pre4_v51_3 : after (hostOps0_4 (F := Ideal)) V (Proc.devRef .tc main_v51_3) = (constantI S_ 32 0#32 : IVec S_ 32) := by
  unfold hostOps0_4; after_results; rfl
theorem pre4_v51_4 : after (hostOps0_4 (F := Ideal)) V (Proc.devRef .tc main_v51_4)
    = (broadcastInDim S4x5000 ![] bcast_S_S4x5000 (constantI S_ 1 1#1) : IVec S4x5000 1) := by
  unfold hostOps0_4; after_results; rfl
theorem pre4_v0 : after (hostOps0_4 (F := Ideal)) V (Proc.devRef .tc main_v0) = V (Proc.devRef .tc main_v0) :=
  after_of_writes_sub hostOps0_4 V hostOps0_4_writes (by decide +kernel)
theorem pre4_arg0 : after (hostOps0_4 (F := Ideal)) V (Proc.devRef .tc main_arg0) = V (Proc.devRef .tc main_arg0) :=
  after_of_writes_sub hostOps0_4 V hostOps0_4_writes (by decide +kernel)
theorem pre4_arg1 : after (hostOps0_4 (F := Ideal)) V (Proc.devRef .tc main_arg1) = V (Proc.devRef .tc main_arg1) :=
  after_of_writes_sub hostOps0_4 V hostOps0_4_writes (by decide +kernel)

/-! ## After the loop -/

/-- The order of the boxes: kept ones first, in their order otherwise. -/
abbrev sorted (kp : IVec S4x5000 1) : IVec S4x5000 32 :=
  (Host.sort2 S4x5000 1 comparator_i32_i32_d1 (extui 32 (noti kp) natLt_1_32) (iotaInDim S4x5000 32 1)).2

/-- The boxes, those not kept at zero. -/
abbrev masked (w : FVec Ideal S4x5000x4 .f32) (kp : IVec S4x5000 1) : FVec Ideal S4x5000x4 .f32 :=
  mulf w (broadcastInDim S4x5000x4 ![0, 1, 2] bcast_S4x5000x1_S4x5000x4_0_1_2
    (uitofp .f32 (broadcastInDim S4x5000x1 ![0, 1] bcast_S4x5000_S4x5000x1_0_1 kp)))

/-- The positions of the result with the negative ones wrapped. -/
abbrev wrapped2 (ix : IVec S4x1000 32) : IVec S4x1000 32 :=
  select (cmpi .slt ix (broadcastInDim S4x1000 ![] bcast_S_S4x1000 (constantI S_ 32 0#32)))
    (addi ix (broadcastInDim S4x1000 ![] bcast_S_S4x1000 (constantI S_ 32 5000#32))) ix

/-- The same with the unit axis the gather's start indices have. -/
abbrev starts2 (ix : IVec S4x1000 32) : IVec S4x1000x1 32 := broadcastInDim S4x1000x1 ![0, 1] bcast_S4x1000_S4x1000x1_0_1 (wrapped2 ix)

/-- The rows that the last `take` leaves. -/
abbrev taken (tb : FVec Ideal S4x5000x4 .f32) (ix : IVec S4x1000 32) : FVec Ideal S4x1000x4 .f32 :=
  select (broadcastInDim S4x1000x4 ![0, 1] bcast_S4x1000_S4x1000x4_0_1 (Host.reduce IntOp.andi (andi (cmpi .sge (starts2 ix) (broadcastInDim S4x1000x1 ![] bcast_S_S4x1000x1 (constantI S_ 32 0#32)))
      (cmpi .sle (starts2 ix) (broadcastInDim S4x1000x1 ![0, 1, 2] bcast_S1x1x1_S4x1000x1_0_1_2 (broadcastInDim S1x1x1 ![2] bcast_S1_S1x1x1_2 (constantI S1 32 4999#32))))) (constantI S_ 1 1#1) reducesTo_S4x1000x1_S4x1000_d2 h_S_))
    (Host.gather gather_S4x5000x4_S4x1000x1_S4x1000x4_2_1_0_0_1_2_114 tb (starts2 ix))
    (broadcastInDim S4x1000x4 ![] bcast_S_S4x1000x4 (constant S_ .f32 0x7FC00000#32))

theorem post5_v53 : after (hostOps0_5 (F := Ideal)) V (Proc.devRef .tc main_v53) = extui 32 (noti (V (Proc.devRef .tc main_v51_4) : IVec S4x5000 1)) natLt_1_32 := by
  unfold hostOps0_5; after_results
theorem post5_v51_4 : after (hostOps0_5 (F := Ideal)) V (Proc.devRef .tc main_v51_4) = V (Proc.devRef .tc main_v51_4) := by
  unfold hostOps0_5; after_results
theorem post5_v0 : after (hostOps0_5 (F := Ideal)) V (Proc.devRef .tc main_v0) = V (Proc.devRef .tc main_v0) := by
  unfold hostOps0_5; after_results
theorem post5_arg0 : after (hostOps0_5 (F := Ideal)) V (Proc.devRef .tc main_arg0) = V (Proc.devRef .tc main_arg0) := by
  unfold hostOps0_5; after_results
theorem post5_arg1 : after (hostOps0_5 (F := Ideal)) V (Proc.devRef .tc main_arg1) = V (Proc.devRef .tc main_arg1) := by
  unfold hostOps0_5; after_results

theorem post6_v54 : after (hostOps0_6 (F := Ideal)) V (Proc.devRef .tc main_v54)
    = (Host.sort2 S4x5000 1 comparator_i32_i32_d1 (V (Proc.devRef .tc main_v53) : IVec S4x5000 32) (iotaInDim S4x5000 32 1)).2 := by
  unfold hostOps0_6; after_results; rfl
theorem post6_v51_4 : after (hostOps0_6 (F := Ideal)) V (Proc.devRef .tc main_v51_4) = V (Proc.devRef .tc main_v51_4) := by
  unfold hostOps0_6; after_results
theorem post6_v0 : after (hostOps0_6 (F := Ideal)) V (Proc.devRef .tc main_v0) = V (Proc.devRef .tc main_v0) := by
  unfold hostOps0_6; after_results
theorem post6_arg0 : after (hostOps0_6 (F := Ideal)) V (Proc.devRef .tc main_arg0) = V (Proc.devRef .tc main_arg0) := by
  unfold hostOps0_6; after_results
theorem post6_arg1 : after (hostOps0_6 (F := Ideal)) V (Proc.devRef .tc main_arg1) = V (Proc.devRef .tc main_arg1) := by
  unfold hostOps0_6; after_results

theorem post7_v55 : after (hostOps0_7 (F := Ideal)) V (Proc.devRef .tc main_v55)
    = extractStridedSlice S4x1000 ![0, 0] (V (Proc.devRef .tc main_v54) : IVec S4x5000 32) slices_S4x5000_S4x1000_0_0 := by
  unfold hostOps0_7; after_results
theorem post7_v59 : after (hostOps0_7 (F := Ideal)) V (Proc.devRef .tc main_v59)
    = masked (V (Proc.devRef .tc main_v0)) (V (Proc.devRef .tc main_v51_4)) := by
  unfold hostOps0_7; after_results
theorem post7_arg0 : after (hostOps0_7 (F := Ideal)) V (Proc.devRef .tc main_arg0) = V (Proc.devRef .tc main_arg0) := by
  unfold hostOps0_7; after_results
theorem post7_arg1 : after (hostOps0_7 (F := Ideal)) V (Proc.devRef .tc main_arg1) = V (Proc.devRef .tc main_arg1) := by
  unfold hostOps0_7; after_results

theorem post8_v60 : after (hostOps0_8 (F := Ideal)) V (Proc.devRef .tc main_v60)
    = taken (V (Proc.devRef .tc main_v59)) (V (Proc.devRef .tc main_v55)) := by
  unfold hostOps0_8; after_results; rfl
theorem post8_arg0 : after (hostOps0_8 (F := Ideal)) V (Proc.devRef .tc main_arg0) = V (Proc.devRef .tc main_arg0) := by
  unfold hostOps0_8; after_results
theorem post8_arg1 : after (hostOps0_8 (F := Ideal)) V (Proc.devRef .tc main_arg1) = V (Proc.devRef .tc main_arg1) := by
  unfold hostOps0_8; after_results

/-! ## The loop's entry -/

variable (m : (ℓ : Loc nD τ sig) → Buf (Elt Ideal) ℓ) (c : Dev nD)

abbrev words : IVec S4x20000 32 := m ((c.tc : Thread nD τ).loc main_arg0)
abbrev boxes : FVec Ideal S4x20000x4 .f32 := m ((c.tc : Thread nD τ).loc main_arg1)

/-- The boxes of the greatest scores. -/
abbrev best : FVec Ideal S4x5000x4 .f32 := boxesAt (boxes m c) (picks (words m c))

theorem entry_v51_0 : entryContents preI m c (Proc.devRef .tc main_v51_0) = ious (best m c) := by
  unfold entryContents
  simp only [preI, afterL_cons, afterL_nil]
  rw [pre4_v51_0, pre3_v48, pre2_v46, pre2_v47, pre2_cst_2, pre1_v0, pre0_indices, pre0_arg1]
theorem entry_v51_1 : entryContents preI m c (Proc.devRef .tc main_v51_1) = (iotaInDim S5000 32 0 : IVec S5000 32) := by
  unfold entryContents
  simp only [preI, afterL_cons, afterL_nil]
  rw [pre4_v51_1]
theorem entry_v51_3 : entryContents preI m c (Proc.devRef .tc main_v51_3) = (constantI S_ 32 0#32 : IVec S_ 32) := by
  unfold entryContents
  simp only [preI, afterL_cons, afterL_nil]
  rw [pre4_v51_3]
theorem entry_v51_4 : entryContents preI m c (Proc.devRef .tc main_v51_4)
    = (broadcastInDim S4x5000 ![] bcast_S_S4x5000 (constantI S_ 1 1#1) : IVec S4x5000 1) := by
  unfold entryContents
  simp only [preI, afterL_cons, afterL_nil]
  rw [pre4_v51_4]
theorem entry_v0 : entryContents preI m c (Proc.devRef .tc main_v0) = best m c := by
  unfold entryContents
  simp only [preI, afterL_cons, afterL_nil]
  rw [pre4_v0, pre3_v0, pre2_v0, pre1_v0, pre0_indices, pre0_arg1]
theorem entry_arg0 : entryContents preI m c (Proc.devRef .tc main_arg0) = words m c := by
  unfold entryContents
  simp only [preI, afterL_cons, afterL_nil]
  rw [pre4_arg0, pre3_arg0, pre2_arg0, pre1_arg0, pre0_arg0]
theorem entry_arg1 : entryContents preI m c (Proc.devRef .tc main_arg1) = boxes m c := by
  unfold entryContents
  simp only [preI, afterL_cons, afterL_nil]
  rw [pre4_arg1, pre3_arg1, pre2_arg1, pre1_arg1, pre0_arg1]

/-! ## What the loop keeps -/

/-- A buffer that no operation of the loop writes is as the loop found it. -/
theorem loop_keeps (b : Ref sig .tc) (h : b ∉ condOps_W)
    (h0 : b ∉ while0Ops0_W) (h1 : b ∉ while0Ops0_1_W)
    (h2 : b ∉ while0Ops0_2_W) (h3 : b ∉ while0Ops0_3_W) :
    ∀ k, atK m k c (Proc.devRef .tc b) = entryContents preI m c (Proc.devRef .tc b)
      ∧ after condOps (atK m k c) (Proc.devRef .tc b) = entryContents preI m c (Proc.devRef .tc b)
  | 0 => ⟨rfl, after_of_writes_sub condOps _ condOps_writes h⟩
  | k + 1 => by
    have e := (loop_keeps b h h0 h1 h2 h3 k).2
    have e' : atK m (k + 1) c (Proc.devRef .tc b) = entryContents preI m c (Proc.devRef .tc b) := by
      refine Eq.trans ?_ e
      show afterL bodyI _ _ = _
      simp only [bodyI, afterL_cons, afterL_nil]
      exact (after_of_writes_sub while0Ops0_3 _ while0Ops0_3_writes h3).trans ((after_of_writes_sub while0Ops0_2 _ while0Ops0_2_writes h2).trans
        ((after_of_writes_sub while0Ops0_1 _ while0Ops0_1_writes h1).trans (after_of_writes_sub while0Ops0 _ while0Ops0_writes h0)))
    exact ⟨e', (after_of_writes_sub condOps _ condOps_writes h).trans e'⟩

theorem loop_v0 : after condOps (atK m 5000 c) (Proc.devRef .tc main_v0) = best m c :=
  (loop_keeps m c main_v0 (by decide +kernel) (by decide +kernel) (by decide +kernel) (by decide +kernel) (by decide +kernel) 5000).2.trans (entry_v0 m c)
theorem loop_arg0 : after condOps (atK m 5000 c) (Proc.devRef .tc main_arg0) = words m c :=
  (loop_keeps m c main_arg0 (by decide +kernel) (by decide +kernel) (by decide +kernel) (by decide +kernel) (by decide +kernel) 5000).2.trans (entry_arg0 m c)
theorem loop_arg1 : after condOps (atK m 5000 c) (Proc.devRef .tc main_arg1) = boxes m c :=
  (loop_keeps m c main_arg1 (by decide +kernel) (by decide +kernel) (by decide +kernel) (by decide +kernel) (by decide +kernel) 5000).2.trans (entry_arg1 m c)

/-- The program's result, of the selected boxes and of what the loop left. -/
theorem final_v60 (kp : IVec S4x5000 1) (hk : atK m 5000 c (Proc.devRef .tc main_v51_4) = kp) :
    finalContents condOps preI bodyI postI 5000 m c (Proc.devRef .tc main_v60)
      = taken (masked (best m c) kp) (extractStridedSlice S4x1000 ![0, 0] (sorted kp) slices_S4x5000_S4x1000_0_0) := by
  have h4 : after condOps (atK m 5000 c) (Proc.devRef .tc main_v51_4) = kp := (cond_keeps _ main_v51_4 (by decide)).trans hk
  unfold finalContents
  simp only [postI, afterL_cons, afterL_nil]
  rw [post8_v60, post7_v59, post7_v55, post6_v54, post6_v0, post6_v51_4, post5_v53, post5_v0, post5_v51_4, h4, loop_v0]

/-- The program leaves its arguments as they were. -/
theorem final_arg0 : finalContents condOps preI bodyI postI 5000 m c (Proc.devRef .tc main_arg0) = words m c := by
  unfold finalContents
  simp only [postI, afterL_cons, afterL_nil]
  rw [post8_arg0, post7_arg0, post6_arg0, post5_arg0]
  exact loop_arg0 m c
theorem final_arg1 : finalContents condOps preI bodyI postI 5000 m c (Proc.devRef .tc main_arg1) = boxes m c := by
  unfold finalContents
  simp only [postI, afterL_cons, afterL_nil]
  rw [post8_arg1, post7_arg1, post6_arg1, post5_arg1]
  exact loop_arg1 m c

end Cert.Proof.WholeRef

end
-- ==== Proof.WholeRefVal.lean ====
/-
  The whole reference program against the reference of the suppression: from the selected boxes on, the two do the same, so
  what is known of the one's result is known of the other's.
-/
module

public import proofs.«01_k».proof.Proof.WholeRefRun
public import proofs.«01_k».proof.Proof.NmsRefRes

@[expose] public section

set_option maxRecDepth 8192

noncomputable section

namespace Cert.Proof.WholeRef

open Cert.WholeReferenceIdeal Cert.WholeReferenceIdeal.Gen Cert.WholeReferenceIdeal.Value
open Idealize.ShloMosaic Idealize.ShloMosaic.StableHlo Idealize.ShloMosaic.TcCoe Idealize.SL.Sem

/-! ## The two programs' values -/

theorem ious_bx (x : FVec Ideal Cert.NmsReferenceIdeal.S20480x4 .f32) : ious (NmsRef.bx x) = NmsRef.ious x := rfl
theorem masked_bx (x : FVec Ideal Cert.NmsReferenceIdeal.S20480x4 .f32) (kp : IVec S4x5000 1) : masked (NmsRef.bx x) kp = NmsRef.masked x kp := rfl
theorem sorted_bx (kp : IVec S4x5000 1) : sorted kp = NmsRef.sorted kp := rfl
theorem taken_bx (tb : FVec Ideal S4x5000x4 .f32) (ix : IVec S4x1000 32) : taken tb ix = NmsRef.taken tb ix := rfl

/-- The carried buffers of the one program hold what those of the other do. -/
def Same (V : Valuation τ sig (Elt Ideal)) (V' : Valuation Cert.NmsReferenceIdeal.τ Cert.NmsReferenceIdeal.sig (Elt Ideal)) : Prop :=
  (V (Proc.devRef .tc main_v51_0) : FVec Ideal S4x5000x5000 .f32) = V' (Proc.devRef .tc Cert.NmsReferenceIdeal.main_v52_0)
  ∧ (V (Proc.devRef .tc main_v51_1) : IVec S5000 32) = V' (Proc.devRef .tc Cert.NmsReferenceIdeal.main_v52_1)
  ∧ (V (Proc.devRef .tc main_v51_3) : IVec S_ 32) = V' (Proc.devRef .tc Cert.NmsReferenceIdeal.main_v52_3)
  ∧ (V (Proc.devRef .tc main_v51_4) : IVec S4x5000 1) = V' (Proc.devRef .tc Cert.NmsReferenceIdeal.main_v52_4)

variable {V : Valuation τ sig (Elt Ideal)} {V' : Valuation Cert.NmsReferenceIdeal.τ Cert.NmsReferenceIdeal.sig (Elt Ideal)}

/-- What one trip leaves in the keep bits, of the carried values. -/
abbrev stepBits (R : FVec Ideal S4x5000x5000 .f32) (io : IVec S5000 32) (ii : IVec S_ 32) (κ : IVec S4x5000 1) : IVec S4x5000 1 :=
  id (andi κ (noti (andi (andi (cmpf .ogt (shapeCast S4x5000 (Host.dynamicSlice S4x1x5000 R (fun k => (((![constantI S_ 32 0#32, select (cmpi .slt ii (constantI S_ 32 0#32)) (addi (id ii) (constantI S_ 32 5000#32)) ii, constantI S_ 32 0#32] : Fin 3 → (⟨S_, .i32⟩ : BufTy).Contents (Elt Ideal))) k (Shape.Idx.first h_S_)).toInt) sliceFits_S4x5000x5000_S4x1x5000) shapeCasts_S4x1x5000_S4x5000) (broadcastInDim S4x5000 ![] bcast_S_S4x5000 (constant S_ .f32 0x3F333333#32))) (broadcastInDim S4x5000 ![0, 1] bcast_S1x5000_S4x5000_0_1 (cmpi .sgt (broadcastInDim S1x5000 ![1] bcast_S5000_S1x5000_1 io) (broadcastInDim S1x5000 ![] bcast_S_S1x5000 (id ii))))) (broadcastInDim S4x5000 ![0, 1] bcast_S4x1_S4x5000_0_1 (Host.dynamicSlice S4x1 κ (fun k => (((![constantI S_ 32 0#32, select (cmpi .slt ii (constantI S_ 32 0#32)) (addi (id ii) (constantI S_ 32 5000#32)) ii] : Fin 2 → (⟨S_, .i32⟩ : BufTy).Contents (Elt Ideal))) k (Shape.Idx.first h_S_)).toInt) sliceFits_S4x5000_S4x1)))))

theorem step_eq (V : Valuation τ sig (Elt Ideal)) : (step_main_v51_4 V : IVec S4x5000 1)
    = stepBits (V (Proc.devRef .tc main_v51_0)) (V (Proc.devRef .tc main_v51_1)) (V (Proc.devRef .tc main_v51_3)) (V (Proc.devRef .tc main_v51_4)) := rfl

theorem step_eq' (V' : Valuation Cert.NmsReferenceIdeal.τ Cert.NmsReferenceIdeal.sig (Elt Ideal)) :
    (Cert.NmsReferenceIdeal.Value.step_main_v52_4 V' : IVec S4x5000 1)
    = stepBits (V' (Proc.devRef .tc Cert.NmsReferenceIdeal.main_v52_0)) (V' (Proc.devRef .tc Cert.NmsReferenceIdeal.main_v52_1))
        (V' (Proc.devRef .tc Cert.NmsReferenceIdeal.main_v52_3)) (V' (Proc.devRef .tc Cert.NmsReferenceIdeal.main_v52_4)) := rfl

/-- One trip keeps them the same. -/
theorem same_step (h : Same V V') : Same (STEP V) (Cert.NmsReferenceIdeal.Value.STEP V') := by
  obtain ⟨h0, h1, h3, h4⟩ := h
  refine ⟨(STEP_main_v51_0 V).trans (h0.trans (Cert.NmsReferenceIdeal.Value.STEP_main_v52_0 V').symm),
    (STEP_main_v51_1 V).trans (h1.trans (Cert.NmsReferenceIdeal.Value.STEP_main_v52_1 V').symm), ?_, ?_⟩
  · refine (STEP_main_v51_3 V).trans (Eq.trans ?_ (Cert.NmsReferenceIdeal.Value.STEP_main_v52_3 V').symm)
    exact congrArg (fun ii : IVec S_ 32 => id (addi ii (constantI S_ 32 1#32))) h3
  · refine (STEP_main_v51_4 V).trans (Eq.trans ?_ (Cert.NmsReferenceIdeal.Value.STEP_main_v52_4 V').symm)
    refine (step_eq V).trans (Eq.trans ?_ (step_eq' V').symm)
    rw [h0, h1, h3, h4]

/-- Any number of trips keeps them the same. -/
theorem same_iter (h : Same V V') : ∀ k, Same (STEP^[k] V) (Cert.NmsReferenceIdeal.Value.STEP^[k] V')
  | 0 => h
  | k + 1 => by
    rw [Function.iterate_succ_apply', Function.iterate_succ_apply']
    exact same_step (same_iter h k)

/-! ## The result -/

variable (m : (ℓ : Loc nD τ sig) → Buf (Elt Ideal) ℓ) (c : Dev nD)

/-- A memory of the suppression's reference with the given boxes in its argument. -/
def memOf (x : FVec Ideal Cert.NmsReferenceIdeal.S20480x4 .f32) :
    (ℓ : Loc Cert.NmsReferenceIdeal.nD Cert.NmsReferenceIdeal.τ Cert.NmsReferenceIdeal.sig) → Buf (Elt Ideal) ℓ :=
  Function.update (fun _ => Classical.arbitrary _)
    (((0 : Dev Cert.NmsReferenceIdeal.nD).tc : Thread Cert.NmsReferenceIdeal.nD Cert.NmsReferenceIdeal.τ).loc Cert.NmsReferenceIdeal.main_arg0) x

theorem memOf_boxes (x : FVec Ideal Cert.NmsReferenceIdeal.S20480x4 .f32) : NmsRef.boxes (memOf x) 0 = x := by
  unfold memOf NmsRef.boxes
  exact Function.update_self ..

/-- Where the selected boxes are the first rows of an array of boxes, the program leaves what the suppression leaves of
    that array. -/
theorem final_eq (x : FVec Ideal Cert.NmsReferenceIdeal.S20480x4 .f32) (hx : best m c = NmsRef.bx x) :
    finalContents condOps preI bodyI postI 5000 m c (Proc.devRef .tc main_v60) = Cert.Proof.Nms.res x := by
  have hs : Same (entryContents preI m c) (entryContents Cert.NmsReferenceIdeal.Value.preI (memOf x) 0) :=
    ⟨(entry_v51_0 m c).trans ((congrArg ious hx).trans ((ious_bx x).trans ((congrArg NmsRef.ious (memOf_boxes x)).symm.trans (NmsRef.entry_v52_0 (memOf x) 0).symm))),
      (entry_v51_1 m c).trans (NmsRef.entry_v52_1 (memOf x) 0).symm, (entry_v51_3 m c).trans (NmsRef.entry_v52_3 (memOf x) 0).symm,
      (entry_v51_4 m c).trans (NmsRef.entry_v52_4 (memOf x) 0).symm⟩
  have hk : atK m 5000 c (Proc.devRef .tc main_v51_4) = NmsRef.kp (memOf x) 0 :=
    (atK_agree m c 5000 main_v51_4 (by decide)).trans ((same_iter hs 5000).2.2.2.trans
      (Cert.NmsReferenceIdeal.Value.atK_agree (memOf x) 0 5000 Cert.NmsReferenceIdeal.main_v52_4 (by decide)).symm)
  have h1 := NmsRef.final_eq (memOf x) 0
  rw [NmsRef.final_v63 (memOf x) 0 (NmsRef.kp (memOf x) 0) rfl, memOf_boxes] at h1
  rw [final_v60 m c _ hk, hx, masked_bx, sorted_bx, taken_bx]
  exact h1

/-- The reference's run: its result where the selected boxes are known, the arguments unchanged, every counter zero. -/
theorem run (g : Dev nD → PrngReg) : θ_run (defs (F := Ideal)) (onTc (τ := τ) (main (F := Ideal))) ⟨m, fun _ => 0, g⟩
    (fun r => (∀ c : Dev nD, (∀ x, best m c = NmsRef.bx x → r.2.mem ((c.tc : Thread nD τ).loc main_v60) = Cert.Proof.Nms.res x)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨fun x hx => (h c main_v60 (by decide)).trans (final_eq m c x hx),
    (h c main_arg0 (by decide)).trans (final_arg0 m c), (h c main_arg1 (by decide)).trans (final_arg1 m c)⟩,
    sem_eq_zero_of_no_sems (by decide) r.2⟩) (run_fold m g)

end Cert.Proof.WholeRef

end
-- ==== Proof.WholeValue.lean ====
/-
  What the whole program's arrays hold where no score's sign bit is set: the order the sort leaves, the boxes gathered in
  that order, and that the reference selects the same boxes.
-/
module

public import proofs.«01_k».proof.Proof.WholeMain
public import proofs.«01_k».proof.Proof.WholeRefVal
public import proofs.«01_k».proof.Proof.GatherValue
public import proofs.«01_k».proof.Proof.SortRef
public import proofs.«01_k».proof.Proof.Gen.Pre_bits_clear

@[expose] public section

set_option maxRecDepth 8192

noncomputable section

namespace Cert.Proof.WholeValue

open Idealize.ShloMosaic Idealize.ShloMosaic.ValueIdx Idealize.ShloMosaic.WordCmp Idealize.SL.Sem Idealize.ShloMosaic.TcCoe
open Cert.Proof.Bitonic (key Clear placed placed_eq)

/-! ## The order of the scores -/

/-- The scores' words in the form the sort has them in. -/
def scoresOf (w : IVec Cert.WholeReferenceIdeal.S4x20000 32) : FVec Bits Cert.Sort.S4x20000x1 .f32 := fun i => (w (ValueIdx.ix2 (i 0) (i 1)) : BitVec 32)

/-- The position of the score that is at place `f` of batch `b`'s order. -/
def pos (w : IVec Cert.WholeReferenceIdeal.S4x20000 32) (b : Fin 4) (f : Fin 20000) : Fin 20000 :=
  sortedFrom (fun i j => decide ((key (scoresOf w) b j.val).toNat < (key (scoresOf w) b i.val).toNat)) f

theorem key_scoresOf (w : IVec Cert.WholeReferenceIdeal.S4x20000 32) (b : Fin 4) (f : Fin 20000) : key (scoresOf w) b f.val = (w (ValueIdx.ix2 b f) : BitVec 32).toInt := by
  unfold key
  rw [dif_pos f.isLt]; rfl

/-- The precondition says that no score's sign bit is set. -/
theorem clear_of_pre (w : IVec Cert.Pre_bits_clear.S4x20000 32) (tb : FVec Ideal Cert.Pre_bits_clear.S4x20000x4 .f32)
    (h : Cert.Pre_bits_clear.fn (F := Ideal) w tb = fun _ => 1#1) : Clear (scoresOf w) := by
  intro b f
  haveI : Subsingleton Cert.Pre_bits_clear.S_.Idx := ⟨fun a b => funext fun k => k.elim0⟩
  have hj : IntOp.cmpi .sge (w (ValueIdx.ix2 b f)) 0#32 = 1#1 := Host.reduce_andi_all _ _ _ _ ValueIdx.ix0 (congrFun h ValueIdx.ix0) (ValueIdx.ix2 b f)
  rw [key_scoresOf]
  exact Bitonic.sge_zero _ hj

/-- A position is below the number of boxes, as a word too. -/
theorem toNat_pos (w : IVec Cert.WholeReferenceIdeal.S4x20000 32) (b : Fin 4) (f : Fin 20000) : (BitVec.ofNat 32 (pos w b f).val).toNat = (pos w b f).val := by
  have := (pos w b f).isLt
  rw [BitVec.toNat_ofNat]; omega

end Cert.Proof.WholeValue

/-! ## The program -/

namespace Cert.Proof.WholeValue

open Cert.WholeIdeal Cert.WholeIdeal.Gen
open Cert.Proof.WholeRun (words boxes keys cI cX V3_v4 V3_v5 V5_v7 V7 V7_v11 r)
open Cert.Proof.Gather (gathered at1 at1_eq)
open Idealize.ShloMosaic Idealize.ShloMosaic.ValueIdx Idealize.SL.Sem Idealize.ShloMosaic.TcCoe
open Cert.Proof.Bitonic (key Clear)

variable (m : (ℓ : Loc nD τ sig) → Buf (Elt Ideal) ℓ) (d : Dev nD)

/-- The sorted positions, flat: row `q` has the position at place `q % 5120` of batch `q / 5120`. -/
theorem cI_apply (hc : Clear (scoresOf (words m d))) (q : ℕ) (hq : q < 20480) :
    (cI m d (ValueIdx.ix1 ⟨q, hq⟩ : S20480.Idx) : BitVec 32)
      = BitVec.ofNat 32 (pos (words m d) ⟨q / 5120, by omega⟩ ⟨q % 5120, by omega⟩).val := by
  refine (congrFun (V3_v4 m d) _).trans ?_
  refine (shapeCast_apply _ _ _ (ValueIdx.ix3 (⟨q / 5120, by omega⟩ : Fin 4) (⟨q % 5120 / 128, by omega⟩ : Fin 40) (⟨q % 128, by omega⟩ : Fin 128) : S4x40x128.Idx) ?_).trans ?_
  · rw [Shape.rowMajor_val_one, Shape.rowMajor_val_three]
    show (q / 5120 * 40 + q % 5120 / 128) * 128 + q % 128 = q
    omega
  · show Bitonic.placed (scoresOf (words m d)) (⟨q / 5120, by omega⟩ : Fin 4) (128 * (q % 5120 / 128) + q % 128) = _
    rw [show 128 * (q % 5120 / 128) + q % 128 = q % 5120 by omega]
    exact Bitonic.placed_eq hc (⟨q / 5120, by omega⟩ : Fin 4) (⟨q % 5120, by omega⟩ : Fin 20000)

/-- Every position the gather reads is the number of a box. -/
theorem cI_below (hc : Clear (scoresOf (words m d))) (j : S20480.Idx) : (cI m d j : BitVec 32).toNat < 20000 := by
  have hj : j = (ValueIdx.ix1 ⟨(j 0).val, (j 0).isLt⟩ : S20480.Idx) := funext fun a => match a with | ⟨0, _⟩ => rfl
  rw [hj, cI_apply m d hc _ (j 0).isLt, toNat_pos]
  exact Fin.isLt _

/-- A gathered box is the one at its position. -/
theorem taken_apply (hc : Clear (scoresOf (words m d))) (b : Fin 4) (j : Fin 5000) (k : Fin 4) (hlt : b.val * 5120 + j.val < 20480) :
    WholeRun.taken m d (ValueIdx.ix2 (⟨b.val * 5120 + j.val, hlt⟩ : Fin 20480) k : S20480x4.Idx)
      = boxes m d (ValueIdx.ix3 b (pos (words m d) b ⟨j.val, by have := j.isLt; omega⟩) k) := by
  have hb := b.isLt
  have hj := j.isLt
  have hk := k.isLt
  have hn := (pos (words m d) b ⟨j.val, by omega⟩).isLt
  have eb : (⟨(b.val * 5120 + j.val) / 5120, by omega⟩ : Fin 4) = b := Fin.ext (by show (b.val * 5120 + j.val) / 5120 = b.val; omega)
  have ej : (⟨(b.val * 5120 + j.val) % 5120, by omega⟩ : Fin 20000) = ⟨j.val, by omega⟩ := Fin.ext (by show (b.val * 5120 + j.val) % 5120 = j.val; omega)
  rw [V5_v7, shapeCast_apply _ _ _ (ValueIdx.ix1 ⟨4 * (b.val * 5120 + j.val) + k.val, by omega⟩ : S81920.Idx)
    (by rw [Shape.rowMajor_val_one, Shape.rowMajor_val_two]; show 4 * (b.val * 5120 + j.val) + k.val = (b.val * 5120 + j.val) * 4 + k.val; omega)]
  unfold gathered
  have e0 : at1 (N := 20480) (by decide) (cI m d) ((4 * (b.val * 5120 + j.val) + k.val) / 4) = BitVec.ofNat 32 (pos (words m d) b ⟨j.val, by omega⟩).val := by
    rw [at1_eq _ _ (ValueIdx.ix1 ⟨b.val * 5120 + j.val, hlt⟩ : S20480.Idx) _ (by show (4 * (b.val * 5120 + j.val) + k.val) / 4 = b.val * 5120 + j.val; omega)]
    refine (cI_apply m d hc _ hlt).trans ?_
    rw [eb, ej]
  have hx : 80000 * ((4 * (b.val * 5120 + j.val) + k.val) / 20480) + 4 * (pos (words m d) b ⟨j.val, by omega⟩).val + (4 * (b.val * 5120 + j.val) + k.val) % 4 < 320000 := by omega
  show at1 (N := 320000) _ (cX m d) (80000 * ((4 * (b.val * 5120 + j.val) + k.val) / 20480) + 4 * (at1 (N := 20480) _ (cI m d) ((4 * (b.val * 5120 + j.val) + k.val) / 4)).toNat + (4 * (b.val * 5120 + j.val) + k.val) % 4) = _
  rw [e0, toNat_pos, at1_eq _ _ (ValueIdx.ix1 ⟨_, hx⟩ : S320000.Idx) _ rfl]
  refine (congrFun (V3_v5 m d) _).trans ?_
  refine shapeCast_apply _ _ _ (ValueIdx.ix3 b (pos (words m d) b ⟨j.val, by omega⟩) k : S4x20000x4.Idx) ?_
  rw [Shape.rowMajor_val_one, Shape.rowMajor_val_three]
  show (b.val * 20000 + (pos (words m d) b ⟨j.val, by omega⟩).val) * 4 + k.val
    = 80000 * ((4 * (b.val * 5120 + j.val) + k.val) / 20480) + 4 * (pos (words m d) b ⟨j.val, by omega⟩).val + (4 * (b.val * 5120 + j.val) + k.val) % 4
  omega

/-- The program's result is the suppression's of the gathered boxes. -/
theorem result_eq : (V7 m d (r main_v11) : FVec Ideal S4x1000x4 .f32) = Nms.res (WholeRun.taken m d) :=
  (V7_v11 m d).trans (Nms.slice_res (WholeRun.taken m d))

end Cert.Proof.WholeValue

/-! ## The reference -/

namespace Cert.Proof.WholeValue

open Cert.WholeReferenceIdeal Cert.WholeReferenceIdeal.Gen
open Cert.Proof.WholeRef (picks wrapped starts boxesAt)
open Idealize.ShloMosaic Idealize.ShloMosaic.ValueIdx Idealize.SL.Sem Idealize.ShloMosaic.TcCoe
open Cert.Proof.Bitonic (key Clear)

/-- The order of the words as signed integers, where none is negative. -/
theorem before_eq (a b : BitVec 32) (ha : 0 ≤ a.toInt) (hb : 0 ≤ b.toInt) :
    (IntOp.cmpi .sgt a b == 1#1) = decide (b.toInt.toNat < a.toInt.toNat) := by
  show (BitVec.ofBool (b.slt a) == 1#1) = _
  rw [BitVec.slt_eq_decide]
  by_cases h : b.toInt < a.toInt
  · rw [decide_eq_true h, decide_eq_true (show b.toInt.toNat < a.toInt.toNat by omega)]; rfl
  · rw [decide_eq_false h, decide_eq_false (show ¬b.toInt.toNat < a.toInt.toNat by omega)]; rfl

/-- The reference's positions are those of the order. -/
theorem picks_apply (w : IVec S4x20000 32) (hc : Clear (scoresOf w)) (b : Fin 4) (p : Fin 5000) :
    picks w (ValueIdx.ix2 b p) = BitVec.ofNat 32 (pos w b ⟨p.val, by have := p.isLt; omega⟩).val := by
  have hp := p.isLt
  show extractStridedSlice S4x5000 (fun _ => 0) (Host.sort2 S4x20000 1 (fun l r => IntOp.cmpi .sgt l.1 r.1)
    w (fun i => if hd : 1 < S4x20000.rank then iotaInDim S4x20000 32 ⟨1, hd⟩ i else 0#32)).2
    sliceFits_S4x20000_S4x5000 (ValueIdx.ix2 b p) = _
  refine (extractStridedSlice_apply (fun _ => 0) _ _ (ValueIdx.ix2 b p) (ValueIdx.ix2 b (⟨p.val, by omega⟩ : Fin 20000) : S4x20000.Idx) (fun a => match a with
    | ⟨0, _⟩ => (Nat.zero_add _).symm | ⟨1, _⟩ => (Nat.zero_add _).symm)).trans ?_
  have al : ∀ k : Fin 20000, (ValueIdx.ix2 b (⟨p.val, by omega⟩ : Fin 20000) : S4x20000.Idx).along (1 : Fin 2) k = ValueIdx.ix2 b k := fun k => funext fun d => Fin.ext (match d with
    | ⟨0, _⟩ => rfl | ⟨1, _⟩ => rfl)
  have e : (fun k k' : Fin 20000 => IntOp.cmpi .sgt
        (w ((ValueIdx.ix2 b (⟨p.val, by omega⟩ : Fin 20000) : S4x20000.Idx).along (1 : Fin 2) k))
        (w ((ValueIdx.ix2 b (⟨p.val, by omega⟩ : Fin 20000) : S4x20000.Idx).along (1 : Fin 2) k')) == 1#1)
      = fun i j => decide ((key (scoresOf w) b j.val).toNat < (key (scoresOf w) b i.val).toNat) := by
    funext k k'
    rw [al, al]
    have h1 := hc b k
    have h2 := hc b k'
    rw [key_scoresOf] at h1 h2
    rw [key_scoresOf, key_scoresOf]
    exact before_eq _ _ h1 h2
  unfold Host.sort2
  rw [dif_pos (show 1 < S4x20000.rank by decide)]
  show (if hd : 1 < S4x20000.rank then iotaInDim S4x20000 32 ⟨1, hd⟩ ((ValueIdx.ix2 b (⟨p.val, by omega⟩ : Fin 20000) : S4x20000.Idx).along (1 : Fin 2)
      (sortedFrom (fun k k' : Fin 20000 => IntOp.cmpi .sgt
        (w ((ValueIdx.ix2 b (⟨p.val, by omega⟩ : Fin 20000) : S4x20000.Idx).along (1 : Fin 2) k))
        (w ((ValueIdx.ix2 b (⟨p.val, by omega⟩ : Fin 20000) : S4x20000.Idx).along (1 : Fin 2) k')) == 1#1)
        (⟨p.val, by omega⟩ : Fin 20000))) else 0#32) = _
  rw [e, dif_pos (show 1 < S4x20000.rank by decide)]
  exact Bitonic.iota_along b _ _

theorem picks_below (w : IVec S4x20000 32) (hc : Clear (scoresOf w)) (b : Fin 4) (p : Fin 5000) : (picks w (ValueIdx.ix2 b p)).toNat < 20000 := by
  rw [picks_apply w hc b p, toNat_pos]
  exact Fin.isLt _

/-- The batched gather at `(b, j, k)`: the operand of batch `b` at the row the start index names, where it names one. -/
theorem take_apply (x : FVec Ideal S4x20000x4 .f32) (s : IVec S4x5000x1 32) (b : Fin 4) (p : Fin 5000) (k : Fin 4) (n : Fin 20000)
    (hs : s (ValueIdx.ix3 b p (0 : Fin 1)) = BitVec.ofNat 32 n.val) :
    Host.gather gather_S4x20000x4_S4x5000x1_S4x5000x4_2_1_0_0_1_2_114 x s (ValueIdx.ix3 b p k) = x (ValueIdx.ix3 b n k) := by
  have hn := n.isLt
  unfold Host.gather
  refine congrArg x (funext fun a => Fin.ext ?_)
  show GatherDims.start _ _ s a + GatherDims.batchCoord _ _ a + GatherDims.offCoord _ _ a = _
  have ha : a = 0 ∨ a = 1 ∨ a = 2 := match a with
    | ⟨0, _⟩ => .inl rfl
    | ⟨1, _⟩ => .inr (.inl rfl)
    | ⟨2, _⟩ => .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S4x20000x4_S4x5000x1_S4x5000x4_2_1_0_0_1_2_114 from List.mem_singleton.mpr rfl)]
    rfl
  · rw [GatherDims.batchCoord_eq_zero _ _ _ (fun h => by simp [gather_S4x20000x4_S4x5000x1_S4x5000x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S4x20000x4_S4x5000x1_S4x5000x4_2_1_0_0_1_2_114 from List.mem_singleton.mpr rfl)]
    rw [show GatherDims.siIdx gather_S4x20000x4_S4x5000x1_S4x5000x4_2_1_0_0_1_2_114 (ValueIdx.ix3 b p k)
        ⟨List.idxOf (1 : Fin 3) (GatherDims.startIndexMap gather_S4x20000x4_S4x5000x1_S4x5000x4_2_1_0_0_1_2_114), List.idxOf_lt_length_iff.2 (List.mem_singleton.mpr rfl)⟩
          = (ValueIdx.ix3 b p (0 : Fin 1) : S4x5000x1.Idx) from
      funext fun d => Fin.ext (match d with
      | ⟨0, _⟩ => rfl
      | ⟨1, _⟩ => rfl
      | ⟨2, _⟩ => rfl), hs]
    show min (BitVec.ofNat 32 n.val).toInt.toNat (20000 - 1) = n.val
    rw [BitVec.toInt_eq_toNat_of_lt (by rw [BitVec.toNat_ofNat]; omega), BitVec.toNat_ofNat]
    omega
  · rw [GatherDims.batchCoord_eq_zero _ _ _ (fun h => by simp [gather_S4x20000x4_S4x5000x1_S4x5000x4_2_1_0_0_1_2_114] at h)]
    rw [show GatherDims.start gather_S4x20000x4_S4x5000x1_S4x5000x4_2_1_0_0_1_2_114 (ValueIdx.ix3 b p k) s (2 : Fin 3) = 0 from by
      unfold GatherDims.start; rw [dif_neg (by decide)]]
    simp only [Nat.zero_add]
    unfold GatherDims.offCoord
    rw [dif_pos (show (2 : Fin 3) ∈ GatherDims.sKept gather_S4x20000x4_S4x5000x1_S4x5000x4_2_1_0_0_1_2_114 from (GatherDims.mem_sKept _ _).mpr ⟨by decide, by decide⟩)]
    rfl

/-- No position is negative, so none is wrapped. -/
theorem wrapped_apply (ix : IVec S4x5000 32) (h : ∀ z, (ix z).toNat < 20000) : wrapped ix = ix := by
  funext z
  show Scalar.select (IntOp.cmpi .slt (ix z) 0#32) _ _ = _
  rw [(Gather.Ref.bits_of_below (ix z) (h z)).1]
  rfl

/-- The start index at an entry is the position there. -/
theorem starts_apply (ix : IVec S4x5000 32) (h : ∀ z, (ix z).toNat < 20000) (b : Fin 4) (p : Fin 5000) (o : Fin 1) :
    starts ix (ValueIdx.ix3 b p o) = ix (ValueIdx.ix2 b p) := by
  unfold starts
  rw [broadcastInDim_apply _ _ _ _ (ValueIdx.ix2 b p : S4x5000.Idx) (fun a => match a with | ⟨0, _⟩ => rfl | ⟨1, _⟩ => rfl), wrapped_apply ix h]

/-- A selected box is the one its position names. -/
theorem boxesAt_apply (tb : FVec Ideal S4x20000x4 .f32) (ix : IVec S4x5000 32) (h : ∀ z, (ix z).toNat < 20000)
    (b : Fin 4) (p : Fin 5000) (k : Fin 4) (n : Fin 20000) (hn : ix (ValueIdx.ix2 b p) = BitVec.ofNat 32 n.val) :
    boxesAt tb ix (ValueIdx.ix3 b p k) = tb (ValueIdx.ix3 b n k) := by
  show Scalar.select (Host.reduce IntOp.andi _ _ reducesTo_S4x5000x1_S4x5000_d2 h_S_ _) _ _ = _
  rw [Host.reduce_andi_one _ _ _ _ _ rfl fun q => by
    have hq : (starts ix q).toNat < 20000 := by
      rw [ValueIdx.eq_ix3 q]
      exact lt_of_eq_of_lt (congrArg BitVec.toNat (starts_apply ix h (q 0) (q 1) (q 2))) (h _)
    show IntOp.andi (IntOp.cmpi .sge (starts ix q) 0#32) (IntOp.cmpi .sle (starts ix q) 19999#32) = 1#1
    rw [(Gather.Ref.bits_of_below _ hq).2.1, (Gather.Ref.bits_of_below _ hq).2.2]; rfl]
  rw [ValueIdx.select_one]
  exact take_apply tb (starts ix) b p k n ((starts_apply ix h b p 0).trans hn)

/-- The reference's selected boxes are the first of each batch's gathered ones. -/
theorem best_eq (m : (ℓ : Loc Cert.WholeIdeal.nD Cert.WholeIdeal.τ Cert.WholeIdeal.sig) → Buf (Elt Ideal) ℓ) (d : Dev Cert.WholeIdeal.nD)
    (hc : Clear (scoresOf (WholeRun.words m d))) :
    boxesAt (WholeRun.boxes m d) (picks (WholeRun.words m d)) = NmsRef.bx (WholeRun.taken m d) := by
  have hp : ∀ z, (picks (WholeRun.words m d) z).toNat < 20000 := fun z => by
    rw [ValueIdx.eq_ix2 z]
    exact picks_below _ hc (z 0) (z 1)
  funext i
  rw [ValueIdx.eq_ix3 i]
  refine (boxesAt_apply _ _ hp (i 0) (i 1) (i 2) _ (picks_apply _ hc (i 0) (i 1))).trans ?_
  refine Eq.trans ?_ (NmsRef.bx_apply (WholeRun.taken m d) (i 0) (i 1) (i 2)).symm
  have h0 : (i 0).val < 4 := (i 0).isLt
  have h1 : (i 1).val < 5000 := (i 1).isLt
  have hlt : (i 0).val * 5120 + (i 1).val < 20480 := by omega
  unfold Nms.rows
  rw [dif_pos hlt]
  exact (taken_apply m d hc (i 0) (i 1) (i 2) hlt).symm

end Cert.Proof.WholeValue

end
-- ==== Proof.lean ====
/-
  The proof of `Cert.Claim`: the runs of the gather, of the suppression, of the sort and of the whole program, and of their references, put together claim by claim.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_rows
public import proofs.«01_k».proof.Proof.Gen.NmsIdeal
public import proofs.«01_k».proof.Proof.Gen.NmsIdeal.Skeleton
public import proofs.«01_k».proof.Proof.Gen.NmsIdeal.Launch
public import proofs.«01_k».proof.Proof.Gen.NmsIdeal.Points
public import proofs.«01_k».proof.Proof.Gen.NmsReferenceIdeal
public import proofs.«01_k».proof.Proof.Gen.NmsReferenceIdeal.Run
public import proofs.«01_k».proof.Proof.Gen.Sort
public import proofs.«01_k».proof.Proof.Gen.Sort.Skeleton
public import proofs.«01_k».proof.Proof.Gen.Sort.Launch
public import proofs.«01_k».proof.Proof.Gen.Sort.Points
public import proofs.«01_k».proof.Proof.Gen.SortReference
public import proofs.«01_k».proof.Proof.Gen.SortReference.Run
public import proofs.«01_k».proof.Proof.Gen.Pre_sign_clear
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeReferenceIdeal
public import proofs.«01_k».proof.Proof.Gen.WholeReferenceIdeal.Run
public import proofs.«01_k».proof.Proof.Gen.Pre_bits_clear
public import proofs.«01_k».proof.Proof.GatherValue
public import proofs.«01_k».proof.Proof.NmsRun
public import proofs.«01_k».proof.Proof.NmsRefRes
public import proofs.«01_k».proof.Proof.SortRun
public import proofs.«01_k».proof.Proof.SortRef
public import proofs.«01_k».proof.Proof.WholeValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run with its counters: it has no semaphore. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- The sort reference's run with its counters, the positions named. -/
theorem sort_reference_run (m : (ℓ : Loc Cert.SortReference.nD Cert.SortReference.τ Cert.SortReference.sig) → Buf (Elt Bits) ℓ) (g : Dev Cert.SortReference.nD → PrngReg) :
    θ_run (Cert.SortReference.defs (F := Bits)) (onTc (τ := Cert.SortReference.τ) (Cert.SortReference.main (F := Bits))) ⟨m, fun _ => 0, g⟩ (fun r => (∀ c : Dev Cert.SortReference.nD,
      r.2.mem ((c.tc : Thread Cert.SortReference.nD Cert.SortReference.τ).loc Cert.SortReference.main_v1)
        = Bitonic.refRes (m ((c.tc : Thread Cert.SortReference.nD Cert.SortReference.τ).loc Cert.SortReference.main_arg0))
      ∧ r.2.mem ((c.tc : Thread Cert.SortReference.nD Cert.SortReference.τ).loc Cert.SortReference.main_arg0) = m ((c.tc : Thread Cert.SortReference.nD Cert.SortReference.τ).loc Cert.SortReference.main_arg0))
      ∧ r.2.sem = fun _ => 0) :=
  (θ_run _ _ _).mono (fun r h => ⟨fun c => h c, sem_eq_zero_of_no_sems (by decide) r.2⟩) (Cert.SortReference.Value.run m g)

/-- The whole program's run where no score's sign bit is set: the suppression's result of the boxes gathered in the scores'
    order, the arguments unchanged, every counter zero. -/
theorem whole_run (m : (ℓ : Loc Cert.WholeIdeal.nD Cert.WholeIdeal.τ Cert.WholeIdeal.sig) → Buf (Elt Ideal) ℓ) (g : Dev Cert.WholeIdeal.nD → PrngReg)
    (hpre : Pre_WholeIdeal m) :
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_v11) = Nms.res (WholeRun.taken m c)
      ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0) :=
  (θ_run _ _ _).mono (fun _ h => ⟨fun c => ⟨(h.1 c).2.2.trans (WholeValue.result_eq m c), (h.1 c).1, (h.1 c).2.1⟩, h.2⟩)
    (WholeRun.run_main m g fun d => WholeValue.cI_below m d (WholeValue.clear_of_pre _ _ (hpre d)))

theorem claim : Cert.Claim := ⟨Cert.Kernel.Gen.facts, Cert.KernelIdeal.Gen.facts, Cert.ReferenceIdeal.Gen.facts, Cert.NmsIdeal.Gen.facts, Cert.NmsReferenceIdeal.Gen.facts,
  Cert.Sort.Gen.facts, Cert.SortReference.Gen.facts, Cert.WholeIdeal.Gen.facts, Cert.WholeReferenceIdeal.Gen.facts, Cert.Pre_idx_in_rows.Gen.facts, Cert.Pre_sign_clear.Gen.facts,
  Cert.Pre_bits_clear.Gen.facts,
  (fun m g hpre => (θ_run Cert.KernelIdeal.defs _ _).mono (fun _ h => ⟨fun c => ⟨(h.1 c).1, (h.1 c).2.1⟩, h.2⟩)
    (Gather.run_main (F := Bits) m g fun d j => by
      rw [Gather.cI_eq]; exact Gather.flat_below _ (Gather.below_of_pre _ _ (hpre d)) j)),
  (fun m g hpre => (θ_run Cert.KernelIdeal.defs _ _).mono (fun _ h => ⟨fun c => ⟨(h.1 c).1, (h.1 c).2.1⟩, h.2⟩)
    (Gather.run_main (F := Ideal) m g fun d j => by
      rw [Gather.cI_eq]; exact Gather.flat_below _ (Gather.below_of_pre _ _ (hpre d)) j)),
  (fun m g _ => reference_run m g),
  (fun m g _ => reference_run m g),
  (fun m g _ => (θ_run Cert.NmsIdeal.defs _ _).mono (fun _ h => ⟨fun c => (h.1 c).2, h.2⟩) (Nms.run m g)),
  (fun m g _ => (θ_run Cert.NmsReferenceIdeal.defs _ _).mono (fun _ h => ⟨fun c => (h.1 c).2, h.2⟩) (NmsRef.run m g)),
  (fun m g _ => (θ_run Cert.Sort.defs _ _).mono (fun _ h => ⟨fun c => (h.1 c).2, h.2⟩) (Bitonic.run m g)),
  (fun m g _ => (θ_run Cert.Sort.defs _ _).mono (fun _ h => ⟨fun c => (h.1 c).2, h.2⟩) (Bitonic.run m g)),
  (fun m g _ => (θ_run Cert.SortReference.defs _ _).mono (fun _ h => ⟨fun c => (h.1 c).2, h.2⟩) (sort_reference_run m g)),
  (fun m g _ => (θ_run Cert.SortReference.defs _ _).mono (fun _ h => ⟨fun c => (h.1 c).2, h.2⟩) (sort_reference_run m g)),
  (fun m g hpre => (θ_run Cert.WholeIdeal.defs _ _).mono (fun _ h => ⟨fun c => (h.1 c).2, h.2⟩) (whole_run m g hpre)),
  (fun m g _ => (θ_run Cert.WholeReferenceIdeal.defs _ _).mono (fun _ h => ⟨fun c => (h.1 c).2, h.2⟩) (WholeRef.run m g)),
  (fun m g _ => (θ_run Cert.WholeReferenceIdeal.defs _ _).mono (fun _ h => ⟨fun c => (h.1 c).2, h.2⟩) (WholeRef.run m g)),
  trivial,
  (fun m g m' g' hpre hagree => ⟨fun c => Gather.res m c,
    (θ_run Cert.KernelIdeal.defs _ _).mono (fun _ h c => ⟨(h.1 c).2.2, (h.1 c).1, (h.1 c).2.1⟩)
      (Gather.run_main (F := Ideal) m g fun d j => by
        rw [Gather.cI_eq]; exact Gather.flat_below _ (Gather.below_of_pre _ _ (hpre d)) j),
    (θ_run Cert.ReferenceIdeal.defs _ _).mono (fun _ h c => ⟨(h c).1.trans
        ((congrArg₂ (Gather.Ref.takeRows (F := Ideal)) (hagree c).1 (hagree c).2).trans (Gather.res_eq_takeRows m c (Gather.below_of_pre _ _ (hpre c))).symm), (h c).2⟩)
      (Cert.ReferenceIdeal.Value.run m' g')⟩),
  (fun m g m' g' _ hagree => ⟨fun c => Nms.res (Nms.boxes m c),
    (θ_run Cert.NmsIdeal.defs _ _).mono (fun _ h => h.1) (Nms.run m g),
    (θ_run Cert.NmsReferenceIdeal.defs _ _).mono (fun _ h c => ⟨(h.1 c).1.trans (congrArg Nms.res (hagree c)), (h.1 c).2⟩) (NmsRef.run m' g')⟩),
  (fun m g m' g' hpre hagree => ⟨fun c => Bitonic.res (Bitonic.scores m c),
    (θ_run Cert.Sort.defs _ _).mono (fun _ h => h.1) (Bitonic.run m g),
    (θ_run Cert.SortReference.defs _ _).mono (fun _ h c => ⟨(h.1 c).1.trans
      ((congrArg Bitonic.refRes (hagree c)).trans (Bitonic.refRes_eq (Bitonic.clear_of_pre _ (hpre c)))), (h.1 c).2⟩) (sort_reference_run m' g')⟩),
  (fun m g m' g' hpre hagree => ⟨fun c => Nms.res (WholeRun.taken m c),
    (θ_run Cert.WholeIdeal.defs _ _).mono (fun _ h => h.1) (whole_run m g hpre),
    (θ_run Cert.WholeReferenceIdeal.defs _ _).mono (fun _ h c => ⟨(h.1 c).1 _
      ((congrArg₂ (fun w tb => WholeRef.boxesAt tb (WholeRef.picks w)) (hagree c).1 (hagree c).2).trans
        (WholeValue.best_eq m c (WholeValue.clear_of_pre _ _ (hpre c)))), (h.1 c).2⟩) (WholeRef.run m' g')⟩)⟩

end Cert.Proof

end
